-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnIdeal_none (m : (ℓ : Loc Cert.FfnIdeal.nD Cert.FfnIdeal.τ Cert.FfnIdeal.sig) → Buf (Elt Ideal) ℓ) : Prop :=
  True

def Pre_FfnReferenceIdeal [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_GluOut (m : (ℓ : Loc Cert.GluOut.nD Cert.GluOut.τ Cert.GluOut.sig) → Buf (Elt Bits) ℓ) : Prop :=
  True

def Pre_GluOutIdeal (m : (ℓ : Loc Cert.GluOutIdeal.nD Cert.GluOutIdeal.τ Cert.GluOutIdeal.sig) → Buf (Elt Ideal) ℓ) : Prop :=
  True

def Pre_GluOutReferenceIdeal (m : (ℓ : Loc Cert.GluOutReferenceIdeal.nD Cert.GluOutReferenceIdeal.τ Cert.GluOutReferenceIdeal.sig) → Buf (Elt Ideal) ℓ) : Prop :=
  True

def Pre_AdamwOne (m : (ℓ : Loc Cert.AdamwOne.nD Cert.AdamwOne.τ Cert.AdamwOne.sig) → Buf (Elt Bits) ℓ) : Prop :=
  True

def Pre_AdamwOneIdeal (m : (ℓ : Loc Cert.AdamwOneIdeal.nD Cert.AdamwOneIdeal.τ Cert.AdamwOneIdeal.sig) → Buf (Elt Ideal) ℓ) : Prop :=
  True

def Pre_AdamwOneReferenceIdeal (m : (ℓ : Loc Cert.AdamwOneReferenceIdeal.nD Cert.AdamwOneReferenceIdeal.τ Cert.AdamwOneReferenceIdeal.sig) → Buf (Elt Ideal) ℓ) : Prop :=
  True

def Pre_AdamwTwo (m : (ℓ : Loc Cert.AdamwTwo.nD Cert.AdamwTwo.τ Cert.AdamwTwo.sig) → Buf (Elt Bits) ℓ) : Prop :=
  True

def Pre_AdamwTwoIdeal (m : (ℓ : Loc Cert.AdamwTwoIdeal.nD Cert.AdamwTwoIdeal.τ Cert.AdamwTwoIdeal.sig) → Buf (Elt Ideal) ℓ) : Prop :=
  True

def Pre_AdamwTwoReferenceIdeal (m : (ℓ : Loc Cert.AdamwTwoReferenceIdeal.nD Cert.AdamwTwoReferenceIdeal.τ Cert.AdamwTwoReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_none [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_none m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_GluOut [hGluOut : Cert.GluOut.Facts] : Prop :=
  ∀ (m : (ℓ : Loc Cert.GluOut.nD Cert.GluOut.τ Cert.GluOut.sig) → Buf (Elt Bits) ℓ) (g : Dev Cert.GluOut.nD → PrngReg), Pre_GluOut m →
    θ_run (Cert.GluOut.defs (F := Bits)) (onTc (τ := Cert.GluOut.τ) (Cert.GluOut.main (F := Bits))) ⟨m, fun _ => 0, g⟩ (fun r => (∀ c : Dev Cert.GluOut.nD,
      r.2.mem ((c.tc : Thread Cert.GluOut.nD Cert.GluOut.τ).loc Cert.GluOut.main_arg0) = m ((c.tc : Thread Cert.GluOut.nD Cert.GluOut.τ).loc Cert.GluOut.main_arg0)
      ∧ r.2.mem ((c.tc : Thread Cert.GluOut.nD Cert.GluOut.τ).loc Cert.GluOut.main_arg1) = m ((c.tc : Thread Cert.GluOut.nD Cert.GluOut.τ).loc Cert.GluOut.main_arg1)
      ∧ r.2.mem ((c.tc : Thread Cert.GluOut.nD Cert.GluOut.τ).loc Cert.GluOut.main_arg2) = m ((c.tc : Thread Cert.GluOut.nD Cert.GluOut.τ).loc Cert.GluOut.main_arg2)
      ∧ r.2.mem ((c.tc : Thread Cert.GluOut.nD Cert.GluOut.τ).loc Cert.GluOut.main_arg3) = m ((c.tc : Thread Cert.GluOut.nD Cert.GluOut.τ).loc Cert.GluOut.main_arg3)
      ∧ r.2.mem ((c.tc : Thread Cert.GluOut.nD Cert.GluOut.τ).loc Cert.GluOut.main_arg4) = m ((c.tc : Thread Cert.GluOut.nD Cert.GluOut.τ).loc Cert.GluOut.main_arg4)
      ∧ r.2.mem ((c.tc : Thread Cert.GluOut.nD Cert.GluOut.τ).loc Cert.GluOut.main_arg5) = m ((c.tc : Thread Cert.GluOut.nD Cert.GluOut.τ).loc Cert.GluOut.main_arg5))
      ∧ r.2.sem = fun _ => 0)

def quiescent_GluOutIdeal [hGluOutIdeal : Cert.GluOutIdeal.Facts] : Prop :=
  ∀ (m : (ℓ : Loc Cert.GluOutIdeal.nD Cert.GluOutIdeal.τ Cert.GluOutIdeal.sig) → Buf (Elt Ideal) ℓ) (g : Dev Cert.GluOutIdeal.nD → PrngReg), Pre_GluOutIdeal m →
    θ_run (Cert.GluOutIdeal.defs (F := Ideal)) (onTc (τ := Cert.GluOutIdeal.τ) (Cert.GluOutIdeal.main (F := Ideal))) ⟨m, fun _ => 0, g⟩ (fun r => (∀ c : Dev Cert.GluOutIdeal.nD,
      r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
      ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
      ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2)
      ∧ r.2.mem ((c.tc : Thread Cert.GluOutIdeal.nD Cert.GluOutIdeal.τ).loc Cert.GluOutIdeal.main_arg3) = m ((c.tc : Thread Cert.GluOutIdeal.nD Cert.GluOutIdeal.τ).loc Cert.GluOutIdeal.main_arg3)
      ∧ r.2.mem ((c.tc : Thread Cert.GluOutIdeal.nD Cert.GluOutIdeal.τ).loc Cert.GluOutIdeal.main_arg4) = m ((c.tc : Thread Cert.GluOutIdeal.nD Cert.GluOutIdeal.τ).loc Cert.GluOutIdeal.main_arg4)
      ∧ r.2.mem ((c.tc : Thread Cert.GluOutIdeal.nD Cert.GluOutIdeal.τ).loc Cert.GluOutIdeal.main_arg5) = m ((c.tc : Thread Cert.GluOutIdeal.nD Cert.GluOutIdeal.τ).loc Cert.GluOutIdeal.main_arg5))
      ∧ r.2.sem = fun _ => 0)

def quiescent_GluOutReferenceIdeal [hGluOutReferenceIdeal : Cert.GluOutReferenceIdeal.Facts] : Prop :=
  ∀ (m : (ℓ : Loc Cert.GluOutReferenceIdeal.nD Cert.GluOutReferenceIdeal.τ Cert.GluOutReferenceIdeal.sig) → Buf (Elt Ideal) ℓ) (g : Dev Cert.GluOutReferenceIdeal.nD → PrngReg), Pre_GluOutReferenceIdeal m →
    θ_run (Cert.GluOutReferenceIdeal.defs (F := Ideal)) (onTc (τ := Cert.GluOutReferenceIdeal.τ) (Cert.GluOutReferenceIdeal.main (F := Ideal))) ⟨m, fun _ => 0, g⟩ (fun r => (∀ c : Dev Cert.GluOutReferenceIdeal.nD,
      r.2.mem ((c.tc : Thread Cert.GluOutReferenceIdeal.nD Cert.GluOutReferenceIdeal.τ).loc Cert.GluOutReferenceIdeal.main_arg0) = m ((c.tc : Thread Cert.GluOutReferenceIdeal.nD Cert.GluOutReferenceIdeal.τ).loc Cert.GluOutReferenceIdeal.main_arg0)
      ∧ r.2.mem ((c.tc : Thread Cert.GluOutReferenceIdeal.nD Cert.GluOutReferenceIdeal.τ).loc Cert.GluOutReferenceIdeal.main_arg1) = m ((c.tc : Thread Cert.GluOutReferenceIdeal.nD Cert.GluOutReferenceIdeal.τ).loc Cert.GluOutReferenceIdeal.main_arg1)
      ∧ r.2.mem ((c.tc : Thread Cert.GluOutReferenceIdeal.nD Cert.GluOutReferenceIdeal.τ).loc Cert.GluOutReferenceIdeal.main_arg2) = m ((c.tc : Thread Cert.GluOutReferenceIdeal.nD Cert.GluOutReferenceIdeal.τ).loc Cert.GluOutReferenceIdeal.main_arg2)
      ∧ r.2.mem ((c.tc : Thread Cert.GluOutReferenceIdeal.nD Cert.GluOutReferenceIdeal.τ).loc Cert.GluOutReferenceIdeal.main_arg3) = m ((c.tc : Thread Cert.GluOutReferenceIdeal.nD Cert.GluOutReferenceIdeal.τ).loc Cert.GluOutReferenceIdeal.main_arg3)
      ∧ r.2.mem ((c.tc : Thread Cert.GluOutReferenceIdeal.nD Cert.GluOutReferenceIdeal.τ).loc Cert.GluOutReferenceIdeal.main_arg4) = m ((c.tc : Thread Cert.GluOutReferenceIdeal.nD Cert.GluOutReferenceIdeal.τ).loc Cert.GluOutReferenceIdeal.main_arg4)
      ∧ r.2.mem ((c.tc : Thread Cert.GluOutReferenceIdeal.nD Cert.GluOutReferenceIdeal.τ).loc Cert.GluOutReferenceIdeal.main_arg5) = m ((c.tc : Thread Cert.GluOutReferenceIdeal.nD Cert.GluOutReferenceIdeal.τ).loc Cert.GluOutReferenceIdeal.main_arg5))
      ∧ r.2.sem = fun _ => 0)

def quiescent_AdamwOne [hAdamwOne : Cert.AdamwOne.Facts] : Prop :=
  ∀ (m : (ℓ : Loc Cert.AdamwOne.nD Cert.AdamwOne.τ Cert.AdamwOne.sig) → Buf (Elt Bits) ℓ) (g : Dev Cert.AdamwOne.nD → PrngReg), Pre_AdamwOne m →
    θ_run (Cert.AdamwOne.defs (F := Bits)) (onTc (τ := Cert.AdamwOne.τ) (Cert.AdamwOne.main (F := Bits))) ⟨m, fun _ => 0, g⟩ (fun r => (∀ c : Dev Cert.AdamwOne.nD,
      r.2.mem ((c.tc : Thread Cert.AdamwOne.nD Cert.AdamwOne.τ).loc Cert.AdamwOne.main_arg0) = m ((c.tc : Thread Cert.AdamwOne.nD Cert.AdamwOne.τ).loc Cert.AdamwOne.main_arg0)
      ∧ r.2.mem ((c.tc : Thread Cert.AdamwOne.nD Cert.AdamwOne.τ).loc Cert.AdamwOne.main_arg1) = m ((c.tc : Thread Cert.AdamwOne.nD Cert.AdamwOne.τ).loc Cert.AdamwOne.main_arg1)
      ∧ r.2.mem ((c.tc : Thread Cert.AdamwOne.nD Cert.AdamwOne.τ).loc Cert.AdamwOne.main_arg2) = m ((c.tc : Thread Cert.AdamwOne.nD Cert.AdamwOne.τ).loc Cert.AdamwOne.main_arg2)
      ∧ r.2.mem ((c.tc : Thread Cert.AdamwOne.nD Cert.AdamwOne.τ).loc Cert.AdamwOne.main_arg3) = m ((c.tc : Thread Cert.AdamwOne.nD Cert.AdamwOne.τ).loc Cert.AdamwOne.main_arg3)
      ∧ r.2.mem ((c.tc : Thread Cert.AdamwOne.nD Cert.AdamwOne.τ).loc Cert.AdamwOne.main_arg4) = m ((c.tc : Thread Cert.AdamwOne.nD Cert.AdamwOne.τ).loc Cert.AdamwOne.main_arg4)
      ∧ r.2.mem ((c.tc : Thread Cert.AdamwOne.nD Cert.AdamwOne.τ).loc Cert.AdamwOne.main_arg5) = m ((c.tc : Thread Cert.AdamwOne.nD Cert.AdamwOne.τ).loc Cert.AdamwOne.main_arg5)
      ∧ r.2.mem ((c.tc : Thread Cert.AdamwOne.nD Cert.AdamwOne.τ).loc Cert.AdamwOne.main_arg6) = m ((c.tc : Thread Cert.AdamwOne.nD Cert.AdamwOne.τ).loc Cert.AdamwOne.main_arg6)
      ∧ r.2.mem ((c.tc : Thread Cert.AdamwOne.nD Cert.AdamwOne.τ).loc Cert.AdamwOne.main_arg7) = m ((c.tc : Thread Cert.AdamwOne.nD Cert.AdamwOne.τ).loc Cert.AdamwOne.main_arg7)
      ∧ r.2.mem ((c.tc : Thread Cert.AdamwOne.nD Cert.AdamwOne.τ).loc Cert.AdamwOne.main_arg8) = m ((c.tc : Thread Cert.AdamwOne.nD Cert.AdamwOne.τ).loc Cert.AdamwOne.main_arg8)
      ∧ r.2.mem ((c.tc : Thread Cert.AdamwOne.nD Cert.AdamwOne.τ).loc Cert.AdamwOne.main_arg9) = m ((c.tc : Thread Cert.AdamwOne.nD Cert.AdamwOne.τ).loc Cert.AdamwOne.main_arg9)
      ∧ r.2.mem ((c.tc : Thread Cert.AdamwOne.nD Cert.AdamwOne.τ).loc Cert.AdamwOne.main_arg10) = m ((c.tc : Thread Cert.AdamwOne.nD Cert.AdamwOne.τ).loc Cert.AdamwOne.main_arg10)
      ∧ r.2.mem ((c.tc : Thread Cert.AdamwOne.nD Cert.AdamwOne.τ).loc Cert.AdamwOne.main_arg11) = m ((c.tc : Thread Cert.AdamwOne.nD Cert.AdamwOne.τ).loc Cert.AdamwOne.main_arg11)
      ∧ r.2.mem ((c.tc : Thread Cert.AdamwOne.nD Cert.AdamwOne.τ).loc Cert.AdamwOne.main_arg12) = m ((c.tc : Thread Cert.AdamwOne.nD Cert.AdamwOne.τ).loc Cert.AdamwOne.main_arg12)
      ∧ r.2.mem ((c.tc : Thread Cert.AdamwOne.nD Cert.AdamwOne.τ).loc Cert.AdamwOne.main_arg13) = m ((c.tc : Thread Cert.AdamwOne.nD Cert.AdamwOne.τ).loc Cert.AdamwOne.main_arg13)
      ∧ r.2.mem ((c.tc : Thread Cert.AdamwOne.nD Cert.AdamwOne.τ).loc Cert.AdamwOne.main_arg14) = m ((c.tc : Thread Cert.AdamwOne.nD Cert.AdamwOne.τ).loc Cert.AdamwOne.main_arg14)
      ∧ r.2.mem ((c.tc : Thread Cert.AdamwOne.nD Cert.AdamwOne.τ).loc Cert.AdamwOne.main_arg15) = m ((c.tc : Thread Cert.AdamwOne.nD Cert.AdamwOne.τ).loc Cert.AdamwOne.main_arg15)
      ∧ r.2.mem ((c.tc : Thread Cert.AdamwOne.nD Cert.AdamwOne.τ).loc Cert.AdamwOne.main_arg16) = m ((c.tc : Thread Cert.AdamwOne.nD Cert.AdamwOne.τ).loc Cert.AdamwOne.main_arg16)
      ∧ r.2.mem ((c.tc : Thread Cert.AdamwOne.nD Cert.AdamwOne.τ).loc Cert.AdamwOne.main_arg17) = m ((c.tc : Thread Cert.AdamwOne.nD Cert.AdamwOne.τ).loc Cert.AdamwOne.main_arg17)
      ∧ r.2.mem ((c.tc : Thread Cert.AdamwOne.nD Cert.AdamwOne.τ).loc Cert.AdamwOne.main_arg18) = m ((c.tc : Thread Cert.AdamwOne.nD Cert.AdamwOne.τ).loc Cert.AdamwOne.main_arg18)
      ∧ r.2.mem ((c.tc : Thread Cert.AdamwOne.nD Cert.AdamwOne.τ).loc Cert.AdamwOne.main_arg19) = m ((c.tc : Thread Cert.AdamwOne.nD Cert.AdamwOne.τ).loc Cert.AdamwOne.main_arg19))
      ∧ r.2.sem = fun _ => 0)

def quiescent_AdamwOneIdeal [hAdamwOneIdeal : Cert.AdamwOneIdeal.Facts] : Prop :=
  ∀ (m : (ℓ : Loc Cert.AdamwOneIdeal.nD Cert.AdamwOneIdeal.τ Cert.AdamwOneIdeal.sig) → Buf (Elt Ideal) ℓ) (g : Dev Cert.AdamwOneIdeal.nD → PrngReg), Pre_AdamwOneIdeal m →
    θ_run (Cert.AdamwOneIdeal.defs (F := Ideal)) (onTc (τ := Cert.AdamwOneIdeal.τ) (Cert.AdamwOneIdeal.main (F := Ideal))) ⟨m, fun _ => 0, g⟩ (fun r => (∀ c : Dev Cert.AdamwOneIdeal.nD,
      r.2.mem ((c.tc : Thread Cert.AdamwOneIdeal.nD Cert.AdamwOneIdeal.τ).loc Cert.AdamwOneIdeal.main_arg0) = m ((c.tc : Thread Cert.AdamwOneIdeal.nD Cert.AdamwOneIdeal.τ).loc Cert.AdamwOneIdeal.main_arg0)
      ∧ r.2.mem ((c.tc : Thread Cert.AdamwOneIdeal.nD Cert.AdamwOneIdeal.τ).loc Cert.AdamwOneIdeal.main_arg1) = m ((c.tc : Thread Cert.AdamwOneIdeal.nD Cert.AdamwOneIdeal.τ).loc Cert.AdamwOneIdeal.main_arg1)
      ∧ r.2.mem ((c.tc : Thread Cert.AdamwOneIdeal.nD Cert.AdamwOneIdeal.τ).loc Cert.AdamwOneIdeal.main_arg2) = m ((c.tc : Thread Cert.AdamwOneIdeal.nD Cert.AdamwOneIdeal.τ).loc Cert.AdamwOneIdeal.main_arg2)
      ∧ r.2.mem ((c.tc : Thread Cert.AdamwOneIdeal.nD Cert.AdamwOneIdeal.τ).loc Cert.AdamwOneIdeal.main_arg3) = m ((c.tc : Thread Cert.AdamwOneIdeal.nD Cert.AdamwOneIdeal.τ).loc Cert.AdamwOneIdeal.main_arg3)
      ∧ r.2.mem ((c.tc : Thread Cert.AdamwOneIdeal.nD Cert.AdamwOneIdeal.τ).loc Cert.AdamwOneIdeal.main_arg4) = m ((c.tc : Thread Cert.AdamwOneIdeal.nD Cert.AdamwOneIdeal.τ).loc Cert.AdamwOneIdeal.main_arg4)
      ∧ r.2.mem ((c.tc : Thread Cert.AdamwOneIdeal.nD Cert.AdamwOneIdeal.τ).loc Cert.AdamwOneIdeal.main_arg5) = m ((c.tc : Thread Cert.AdamwOneIdeal.nD Cert.AdamwOneIdeal.τ).loc Cert.AdamwOneIdeal.main_arg5)
      ∧ r.2.mem ((c.tc : Thread Cert.AdamwOneIdeal.nD Cert.AdamwOneIdeal.τ).loc Cert.AdamwOneIdeal.main_arg6) = m ((c.tc : Thread Cert.AdamwOneIdeal.nD Cert.AdamwOneIdeal.τ).loc Cert.AdamwOneIdeal.main_arg6)
      ∧ r.2.mem ((c.tc : Thread Cert.AdamwOneIdeal.nD Cert.AdamwOneIdeal.τ).loc Cert.AdamwOneIdeal.main_arg7) = m ((c.tc : Thread Cert.AdamwOneIdeal.nD Cert.AdamwOneIdeal.τ).loc Cert.AdamwOneIdeal.main_arg7)
      ∧ r.2.mem ((c.tc : Thread Cert.AdamwOneIdeal.nD Cert.AdamwOneIdeal.τ).loc Cert.AdamwOneIdeal.main_arg8) = m ((c.tc : Thread Cert.AdamwOneIdeal.nD Cert.AdamwOneIdeal.τ).loc Cert.AdamwOneIdeal.main_arg8)
      ∧ r.2.mem ((c.tc : Thread Cert.AdamwOneIdeal.nD Cert.AdamwOneIdeal.τ).loc Cert.AdamwOneIdeal.main_arg9) = m ((c.tc : Thread Cert.AdamwOneIdeal.nD Cert.AdamwOneIdeal.τ).loc Cert.AdamwOneIdeal.main_arg9)
      ∧ r.2.mem ((c.tc : Thread Cert.AdamwOneIdeal.nD Cert.AdamwOneIdeal.τ).loc Cert.AdamwOneIdeal.main_arg10) = m ((c.tc : Thread Cert.AdamwOneIdeal.nD Cert.AdamwOneIdeal.τ).loc Cert.AdamwOneIdeal.main_arg10)
      ∧ r.2.mem ((c.tc : Thread Cert.AdamwOneIdeal.nD Cert.AdamwOneIdeal.τ).loc Cert.AdamwOneIdeal.main_arg11) = m ((c.tc : Thread Cert.AdamwOneIdeal.nD Cert.AdamwOneIdeal.τ).loc Cert.AdamwOneIdeal.main_arg11)
      ∧ r.2.mem ((c.tc : Thread Cert.AdamwOneIdeal.nD Cert.AdamwOneIdeal.τ).loc Cert.AdamwOneIdeal.main_arg12) = m ((c.tc : Thread Cert.AdamwOneIdeal.nD Cert.AdamwOneIdeal.τ).loc Cert.AdamwOneIdeal.main_arg12)
      ∧ r.2.mem ((c.tc : Thread Cert.AdamwOneIdeal.nD Cert.AdamwOneIdeal.τ).loc Cert.AdamwOneIdeal.main_arg13) = m ((c.tc : Thread Cert.AdamwOneIdeal.nD Cert.AdamwOneIdeal.τ).loc Cert.AdamwOneIdeal.main_arg13)
      ∧ r.2.mem ((c.tc : Thread Cert.AdamwOneIdeal.nD Cert.AdamwOneIdeal.τ).loc Cert.AdamwOneIdeal.main_arg14) = m ((c.tc : Thread Cert.AdamwOneIdeal.nD Cert.AdamwOneIdeal.τ).loc Cert.AdamwOneIdeal.main_arg14)
      ∧ r.2.mem ((c.tc : Thread Cert.AdamwOneIdeal.nD Cert.AdamwOneIdeal.τ).loc Cert.AdamwOneIdeal.main_arg15) = m ((c.tc : Thread Cert.AdamwOneIdeal.nD Cert.AdamwOneIdeal.τ).loc Cert.AdamwOneIdeal.main_arg15)
      ∧ r.2.mem ((c.tc : Thread Cert.AdamwOneIdeal.nD Cert.AdamwOneIdeal.τ).loc Cert.AdamwOneIdeal.main_arg16) = m ((c.tc : Thread Cert.AdamwOneIdeal.nD Cert.AdamwOneIdeal.τ).loc Cert.AdamwOneIdeal.main_arg16)
      ∧ r.2.mem ((c.tc : Thread Cert.AdamwOneIdeal.nD Cert.AdamwOneIdeal.τ).loc Cert.AdamwOneIdeal.main_arg17) = m ((c.tc : Thread Cert.AdamwOneIdeal.nD Cert.AdamwOneIdeal.τ).loc Cert.AdamwOneIdeal.main_arg17)
      ∧ r.2.mem ((c.tc : Thread Cert.AdamwOneIdeal.nD Cert.AdamwOneIdeal.τ).loc Cert.AdamwOneIdeal.main_arg18) = m ((c.tc : Thread Cert.AdamwOneIdeal.nD Cert.AdamwOneIdeal.τ).loc Cert.AdamwOneIdeal.main_arg18)
      ∧ r.2.mem ((c.tc : Thread Cert.AdamwOneIdeal.nD Cert.AdamwOneIdeal.τ).loc Cert.AdamwOneIdeal.main_arg19) = m ((c.tc : Thread Cert.AdamwOneIdeal.nD Cert.AdamwOneIdeal.τ).loc Cert.AdamwOneIdeal.main_arg19))
      ∧ r.2.sem = fun _ => 0)

def quiescent_AdamwOneReferenceIdeal [hAdamwOneReferenceIdeal : Cert.AdamwOneReferenceIdeal.Facts] : Prop :=
  ∀ (m : (ℓ : Loc Cert.AdamwOneReferenceIdeal.nD Cert.AdamwOneReferenceIdeal.τ Cert.AdamwOneReferenceIdeal.sig) → Buf (Elt Ideal) ℓ) (g : Dev Cert.AdamwOneReferenceIdeal.nD → PrngReg), Pre_AdamwOneReferenceIdeal m →
    θ_run (Cert.AdamwOneReferenceIdeal.defs (F := Ideal)) (onTc (τ := Cert.AdamwOneReferenceIdeal.τ) (Cert.AdamwOneReferenceIdeal.main (F := Ideal))) ⟨m, fun _ => 0, g⟩ (fun r => (∀ c : Dev Cert.AdamwOneReferenceIdeal.nD,
      r.2.mem ((c.tc : Thread Cert.AdamwOneReferenceIdeal.nD Cert.AdamwOneReferenceIdeal.τ).loc Cert.AdamwOneReferenceIdeal.main_arg0) = m ((c.tc : Thread Cert.AdamwOneReferenceIdeal.nD Cert.AdamwOneReferenceIdeal.τ).loc Cert.AdamwOneReferenceIdeal.main_arg0)
      ∧ r.2.mem ((c.tc : Thread Cert.AdamwOneReferenceIdeal.nD Cert.AdamwOneReferenceIdeal.τ).loc Cert.AdamwOneReferenceIdeal.main_arg1) = m ((c.tc : Thread Cert.AdamwOneReferenceIdeal.nD Cert.AdamwOneReferenceIdeal.τ).loc Cert.AdamwOneReferenceIdeal.main_arg1)
      ∧ r.2.mem ((c.tc : Thread Cert.AdamwOneReferenceIdeal.nD Cert.AdamwOneReferenceIdeal.τ).loc Cert.AdamwOneReferenceIdeal.main_arg2) = m ((c.tc : Thread Cert.AdamwOneReferenceIdeal.nD Cert.AdamwOneReferenceIdeal.τ).loc Cert.AdamwOneReferenceIdeal.main_arg2)
      ∧ r.2.mem ((c.tc : Thread Cert.AdamwOneReferenceIdeal.nD Cert.AdamwOneReferenceIdeal.τ).loc Cert.AdamwOneReferenceIdeal.main_arg3) = m ((c.tc : Thread Cert.AdamwOneReferenceIdeal.nD Cert.AdamwOneReferenceIdeal.τ).loc Cert.AdamwOneReferenceIdeal.main_arg3)
      ∧ r.2.mem ((c.tc : Thread Cert.AdamwOneReferenceIdeal.nD Cert.AdamwOneReferenceIdeal.τ).loc Cert.AdamwOneReferenceIdeal.main_arg4) = m ((c.tc : Thread Cert.AdamwOneReferenceIdeal.nD Cert.AdamwOneReferenceIdeal.τ).loc Cert.AdamwOneReferenceIdeal.main_arg4)
      ∧ r.2.mem ((c.tc : Thread Cert.AdamwOneReferenceIdeal.nD Cert.AdamwOneReferenceIdeal.τ).loc Cert.AdamwOneReferenceIdeal.main_arg5) = m ((c.tc : Thread Cert.AdamwOneReferenceIdeal.nD Cert.AdamwOneReferenceIdeal.τ).loc Cert.AdamwOneReferenceIdeal.main_arg5)
      ∧ r.2.mem ((c.tc : Thread Cert.AdamwOneReferenceIdeal.nD Cert.AdamwOneReferenceIdeal.τ).loc Cert.AdamwOneReferenceIdeal.main_arg6) = m ((c.tc : Thread Cert.AdamwOneReferenceIdeal.nD Cert.AdamwOneReferenceIdeal.τ).loc Cert.AdamwOneReferenceIdeal.main_arg6)
      ∧ r.2.mem ((c.tc : Thread Cert.AdamwOneReferenceIdeal.nD Cert.AdamwOneReferenceIdeal.τ).loc Cert.AdamwOneReferenceIdeal.main_arg7) = m ((c.tc : Thread Cert.AdamwOneReferenceIdeal.nD Cert.AdamwOneReferenceIdeal.τ).loc Cert.AdamwOneReferenceIdeal.main_arg7)
      ∧ r.2.mem ((c.tc : Thread Cert.AdamwOneReferenceIdeal.nD Cert.AdamwOneReferenceIdeal.τ).loc Cert.AdamwOneReferenceIdeal.main_arg8) = m ((c.tc : Thread Cert.AdamwOneReferenceIdeal.nD Cert.AdamwOneReferenceIdeal.τ).loc Cert.AdamwOneReferenceIdeal.main_arg8)
      ∧ r.2.mem ((c.tc : Thread Cert.AdamwOneReferenceIdeal.nD Cert.AdamwOneReferenceIdeal.τ).loc Cert.AdamwOneReferenceIdeal.main_arg9) = m ((c.tc : Thread Cert.AdamwOneReferenceIdeal.nD Cert.AdamwOneReferenceIdeal.τ).loc Cert.AdamwOneReferenceIdeal.main_arg9)
      ∧ r.2.mem ((c.tc : Thread Cert.AdamwOneReferenceIdeal.nD Cert.AdamwOneReferenceIdeal.τ).loc Cert.AdamwOneReferenceIdeal.main_arg10) = m ((c.tc : Thread Cert.AdamwOneReferenceIdeal.nD Cert.AdamwOneReferenceIdeal.τ).loc Cert.AdamwOneReferenceIdeal.main_arg10)
      ∧ r.2.mem ((c.tc : Thread Cert.AdamwOneReferenceIdeal.nD Cert.AdamwOneReferenceIdeal.τ).loc Cert.AdamwOneReferenceIdeal.main_arg11) = m ((c.tc : Thread Cert.AdamwOneReferenceIdeal.nD Cert.AdamwOneReferenceIdeal.τ).loc Cert.AdamwOneReferenceIdeal.main_arg11)
      ∧ r.2.mem ((c.tc : Thread Cert.AdamwOneReferenceIdeal.nD Cert.AdamwOneReferenceIdeal.τ).loc Cert.AdamwOneReferenceIdeal.main_arg12) = m ((c.tc : Thread Cert.AdamwOneReferenceIdeal.nD Cert.AdamwOneReferenceIdeal.τ).loc Cert.AdamwOneReferenceIdeal.main_arg12)
      ∧ r.2.mem ((c.tc : Thread Cert.AdamwOneReferenceIdeal.nD Cert.AdamwOneReferenceIdeal.τ).loc Cert.AdamwOneReferenceIdeal.main_arg13) = m ((c.tc : Thread Cert.AdamwOneReferenceIdeal.nD Cert.AdamwOneReferenceIdeal.τ).loc Cert.AdamwOneReferenceIdeal.main_arg13)
      ∧ r.2.mem ((c.tc : Thread Cert.AdamwOneReferenceIdeal.nD Cert.AdamwOneReferenceIdeal.τ).loc Cert.AdamwOneReferenceIdeal.main_arg14) = m ((c.tc : Thread Cert.AdamwOneReferenceIdeal.nD Cert.AdamwOneReferenceIdeal.τ).loc Cert.AdamwOneReferenceIdeal.main_arg14)
      ∧ r.2.mem ((c.tc : Thread Cert.AdamwOneReferenceIdeal.nD Cert.AdamwOneReferenceIdeal.τ).loc Cert.AdamwOneReferenceIdeal.main_arg15) = m ((c.tc : Thread Cert.AdamwOneReferenceIdeal.nD Cert.AdamwOneReferenceIdeal.τ).loc Cert.AdamwOneReferenceIdeal.main_arg15)
      ∧ r.2.mem ((c.tc : Thread Cert.AdamwOneReferenceIdeal.nD Cert.AdamwOneReferenceIdeal.τ).loc Cert.AdamwOneReferenceIdeal.main_arg16) = m ((c.tc : Thread Cert.AdamwOneReferenceIdeal.nD Cert.AdamwOneReferenceIdeal.τ).loc Cert.AdamwOneReferenceIdeal.main_arg16)
      ∧ r.2.mem ((c.tc : Thread Cert.AdamwOneReferenceIdeal.nD Cert.AdamwOneReferenceIdeal.τ).loc Cert.AdamwOneReferenceIdeal.main_arg17) = m ((c.tc : Thread Cert.AdamwOneReferenceIdeal.nD Cert.AdamwOneReferenceIdeal.τ).loc Cert.AdamwOneReferenceIdeal.main_arg17)
      ∧ r.2.mem ((c.tc : Thread Cert.AdamwOneReferenceIdeal.nD Cert.AdamwOneReferenceIdeal.τ).loc Cert.AdamwOneReferenceIdeal.main_arg18) = m ((c.tc : Thread Cert.AdamwOneReferenceIdeal.nD Cert.AdamwOneReferenceIdeal.τ).loc Cert.AdamwOneReferenceIdeal.main_arg18)
      ∧ r.2.mem ((c.tc : Thread Cert.AdamwOneReferenceIdeal.nD Cert.AdamwOneReferenceIdeal.τ).loc Cert.AdamwOneReferenceIdeal.main_arg19) = m ((c.tc : Thread Cert.AdamwOneReferenceIdeal.nD Cert.AdamwOneReferenceIdeal.τ).loc Cert.AdamwOneReferenceIdeal.main_arg19))
      ∧ r.2.sem = fun _ => 0)

def quiescent_AdamwTwo [hAdamwTwo : Cert.AdamwTwo.Facts] : Prop :=
  ∀ (m : (ℓ : Loc Cert.AdamwTwo.nD Cert.AdamwTwo.τ Cert.AdamwTwo.sig) → Buf (Elt Bits) ℓ) (g : Dev Cert.AdamwTwo.nD → PrngReg), Pre_AdamwTwo m →
    θ_run (Cert.AdamwTwo.defs (F := Bits)) (onTc (τ := Cert.AdamwTwo.τ) (Cert.AdamwTwo.main (F := Bits))) ⟨m, fun _ => 0, g⟩ (fun r => (∀ c : Dev Cert.AdamwTwo.nD,
      r.2.mem ((c.tc : Thread Cert.AdamwTwo.nD Cert.AdamwTwo.τ).loc Cert.AdamwTwo.main_arg0) = m ((c.tc : Thread Cert.AdamwTwo.nD Cert.AdamwTwo.τ).loc Cert.AdamwTwo.main_arg0)
      ∧ r.2.mem ((c.tc : Thread Cert.AdamwTwo.nD Cert.AdamwTwo.τ).loc Cert.AdamwTwo.main_arg1) = m ((c.tc : Thread Cert.AdamwTwo.nD Cert.AdamwTwo.τ).loc Cert.AdamwTwo.main_arg1)
      ∧ r.2.mem ((c.tc : Thread Cert.AdamwTwo.nD Cert.AdamwTwo.τ).loc Cert.AdamwTwo.main_arg2) = m ((c.tc : Thread Cert.AdamwTwo.nD Cert.AdamwTwo.τ).loc Cert.AdamwTwo.main_arg2)
      ∧ r.2.mem ((c.tc : Thread Cert.AdamwTwo.nD Cert.AdamwTwo.τ).loc Cert.AdamwTwo.main_arg3) = m ((c.tc : Thread Cert.AdamwTwo.nD Cert.AdamwTwo.τ).loc Cert.AdamwTwo.main_arg3)
      ∧ r.2.mem ((c.tc : Thread Cert.AdamwTwo.nD Cert.AdamwTwo.τ).loc Cert.AdamwTwo.main_arg4) = m ((c.tc : Thread Cert.AdamwTwo.nD Cert.AdamwTwo.τ).loc Cert.AdamwTwo.main_arg4)
      ∧ r.2.mem ((c.tc : Thread Cert.AdamwTwo.nD Cert.AdamwTwo.τ).loc Cert.AdamwTwo.main_arg5) = m ((c.tc : Thread Cert.AdamwTwo.nD Cert.AdamwTwo.τ).loc Cert.AdamwTwo.main_arg5)
      ∧ r.2.mem ((c.tc : Thread Cert.AdamwTwo.nD Cert.AdamwTwo.τ).loc Cert.AdamwTwo.main_arg6) = m ((c.tc : Thread Cert.AdamwTwo.nD Cert.AdamwTwo.τ).loc Cert.AdamwTwo.main_arg6)
      ∧ r.2.mem ((c.tc : Thread Cert.AdamwTwo.nD Cert.AdamwTwo.τ).loc Cert.AdamwTwo.main_arg7) = m ((c.tc : Thread Cert.AdamwTwo.nD Cert.AdamwTwo.τ).loc Cert.AdamwTwo.main_arg7)
      ∧ r.2.mem ((c.tc : Thread Cert.AdamwTwo.nD Cert.AdamwTwo.τ).loc Cert.AdamwTwo.main_arg8) = m ((c.tc : Thread Cert.AdamwTwo.nD Cert.AdamwTwo.τ).loc Cert.AdamwTwo.main_arg8)
      ∧ r.2.mem ((c.tc : Thread Cert.AdamwTwo.nD Cert.AdamwTwo.τ).loc Cert.AdamwTwo.main_arg9) = m ((c.tc : Thread Cert.AdamwTwo.nD Cert.AdamwTwo.τ).loc Cert.AdamwTwo.main_arg9)
      ∧ r.2.mem ((c.tc : Thread Cert.AdamwTwo.nD Cert.AdamwTwo.τ).loc Cert.AdamwTwo.main_arg10) = m ((c.tc : Thread Cert.AdamwTwo.nD Cert.AdamwTwo.τ).loc Cert.AdamwTwo.main_arg10)
      ∧ r.2.mem ((c.tc : Thread Cert.AdamwTwo.nD Cert.AdamwTwo.τ).loc Cert.AdamwTwo.main_arg11) = m ((c.tc : Thread Cert.AdamwTwo.nD Cert.AdamwTwo.τ).loc Cert.AdamwTwo.main_arg11)
      ∧ r.2.mem ((c.tc : Thread Cert.AdamwTwo.nD Cert.AdamwTwo.τ).loc Cert.AdamwTwo.main_arg12) = m ((c.tc : Thread Cert.AdamwTwo.nD Cert.AdamwTwo.τ).loc Cert.AdamwTwo.main_arg12)
      ∧ r.2.mem ((c.tc : Thread Cert.AdamwTwo.nD Cert.AdamwTwo.τ).loc Cert.AdamwTwo.main_arg13) = m ((c.tc : Thread Cert.AdamwTwo.nD Cert.AdamwTwo.τ).loc Cert.AdamwTwo.main_arg13))
      ∧ r.2.sem = fun _ => 0)

def quiescent_AdamwTwoIdeal [hAdamwTwoIdeal : Cert.AdamwTwoIdeal.Facts] : Prop :=
  ∀ (m : (ℓ : Loc Cert.AdamwTwoIdeal.nD Cert.AdamwTwoIdeal.τ Cert.AdamwTwoIdeal.sig) → Buf (Elt Ideal) ℓ) (g : Dev Cert.AdamwTwoIdeal.nD → PrngReg), Pre_AdamwTwoIdeal m →
    θ_run (Cert.AdamwTwoIdeal.defs (F := Ideal)) (onTc (τ := Cert.AdamwTwoIdeal.τ) (Cert.AdamwTwoIdeal.main (F := Ideal))) ⟨m, fun _ => 0, g⟩ (fun r => (∀ c : Dev Cert.AdamwTwoIdeal.nD,
      r.2.mem ((c.tc : Thread Cert.AdamwTwoIdeal.nD Cert.AdamwTwoIdeal.τ).loc Cert.AdamwTwoIdeal.main_arg0) = m ((c.tc : Thread Cert.AdamwTwoIdeal.nD Cert.AdamwTwoIdeal.τ).loc Cert.AdamwTwoIdeal.main_arg0)
      ∧ r.2.mem ((c.tc : Thread Cert.AdamwTwoIdeal.nD Cert.AdamwTwoIdeal.τ).loc Cert.AdamwTwoIdeal.main_arg1) = m ((c.tc : Thread Cert.AdamwTwoIdeal.nD Cert.AdamwTwoIdeal.τ).loc Cert.AdamwTwoIdeal.main_arg1)
      ∧ r.2.mem ((c.tc : Thread Cert.AdamwTwoIdeal.nD Cert.AdamwTwoIdeal.τ).loc Cert.AdamwTwoIdeal.main_arg2) = m ((c.tc : Thread Cert.AdamwTwoIdeal.nD Cert.AdamwTwoIdeal.τ).loc Cert.AdamwTwoIdeal.main_arg2)
      ∧ r.2.mem ((c.tc : Thread Cert.AdamwTwoIdeal.nD Cert.AdamwTwoIdeal.τ).loc Cert.AdamwTwoIdeal.main_arg3) = m ((c.tc : Thread Cert.AdamwTwoIdeal.nD Cert.AdamwTwoIdeal.τ).loc Cert.AdamwTwoIdeal.main_arg3)
      ∧ r.2.mem ((c.tc : Thread Cert.AdamwTwoIdeal.nD Cert.AdamwTwoIdeal.τ).loc Cert.AdamwTwoIdeal.main_arg4) = m ((c.tc : Thread Cert.AdamwTwoIdeal.nD Cert.AdamwTwoIdeal.τ).loc Cert.AdamwTwoIdeal.main_arg4)
      ∧ r.2.mem ((c.tc : Thread Cert.AdamwTwoIdeal.nD Cert.AdamwTwoIdeal.τ).loc Cert.AdamwTwoIdeal.main_arg5) = m ((c.tc : Thread Cert.AdamwTwoIdeal.nD Cert.AdamwTwoIdeal.τ).loc Cert.AdamwTwoIdeal.main_arg5)
      ∧ r.2.mem ((c.tc : Thread Cert.AdamwTwoIdeal.nD Cert.AdamwTwoIdeal.τ).loc Cert.AdamwTwoIdeal.main_arg6) = m ((c.tc : Thread Cert.AdamwTwoIdeal.nD Cert.AdamwTwoIdeal.τ).loc Cert.AdamwTwoIdeal.main_arg6)
      ∧ r.2.mem ((c.tc : Thread Cert.AdamwTwoIdeal.nD Cert.AdamwTwoIdeal.τ).loc Cert.AdamwTwoIdeal.main_arg7) = m ((c.tc : Thread Cert.AdamwTwoIdeal.nD Cert.AdamwTwoIdeal.τ).loc Cert.AdamwTwoIdeal.main_arg7)
      ∧ r.2.mem ((c.tc : Thread Cert.AdamwTwoIdeal.nD Cert.AdamwTwoIdeal.τ).loc Cert.AdamwTwoIdeal.main_arg8) = m ((c.tc : Thread Cert.AdamwTwoIdeal.nD Cert.AdamwTwoIdeal.τ).loc Cert.AdamwTwoIdeal.main_arg8)
      ∧ r.2.mem ((c.tc : Thread Cert.AdamwTwoIdeal.nD Cert.AdamwTwoIdeal.τ).loc Cert.AdamwTwoIdeal.main_arg9) = m ((c.tc : Thread Cert.AdamwTwoIdeal.nD Cert.AdamwTwoIdeal.τ).loc Cert.AdamwTwoIdeal.main_arg9)
      ∧ r.2.mem ((c.tc : Thread Cert.AdamwTwoIdeal.nD Cert.AdamwTwoIdeal.τ).loc Cert.AdamwTwoIdeal.main_arg10) = m ((c.tc : Thread Cert.AdamwTwoIdeal.nD Cert.AdamwTwoIdeal.τ).loc Cert.AdamwTwoIdeal.main_arg10)
      ∧ r.2.mem ((c.tc : Thread Cert.AdamwTwoIdeal.nD Cert.AdamwTwoIdeal.τ).loc Cert.AdamwTwoIdeal.main_arg11) = m ((c.tc : Thread Cert.AdamwTwoIdeal.nD Cert.AdamwTwoIdeal.τ).loc Cert.AdamwTwoIdeal.main_arg11)
      ∧ r.2.mem ((c.tc : Thread Cert.AdamwTwoIdeal.nD Cert.AdamwTwoIdeal.τ).loc Cert.AdamwTwoIdeal.main_arg12) = m ((c.tc : Thread Cert.AdamwTwoIdeal.nD Cert.AdamwTwoIdeal.τ).loc Cert.AdamwTwoIdeal.main_arg12)
      ∧ r.2.mem ((c.tc : Thread Cert.AdamwTwoIdeal.nD Cert.AdamwTwoIdeal.τ).loc Cert.AdamwTwoIdeal.main_arg13) = m ((c.tc : Thread Cert.AdamwTwoIdeal.nD Cert.AdamwTwoIdeal.τ).loc Cert.AdamwTwoIdeal.main_arg13))
      ∧ r.2.sem = fun _ => 0)

def quiescent_AdamwTwoReferenceIdeal [hAdamwTwoReferenceIdeal : Cert.AdamwTwoReferenceIdeal.Facts] : Prop :=
  ∀ (m : (ℓ : Loc Cert.AdamwTwoReferenceIdeal.nD Cert.AdamwTwoReferenceIdeal.τ Cert.AdamwTwoReferenceIdeal.sig) → Buf (Elt Ideal) ℓ) (g : Dev Cert.AdamwTwoReferenceIdeal.nD → PrngReg), Pre_AdamwTwoReferenceIdeal m →
    θ_run (Cert.AdamwTwoReferenceIdeal.defs (F := Ideal)) (onTc (τ := Cert.AdamwTwoReferenceIdeal.τ) (Cert.AdamwTwoReferenceIdeal.main (F := Ideal))) ⟨m, fun _ => 0, g⟩ (fun r => (∀ c : Dev Cert.AdamwTwoReferenceIdeal.nD,
      r.2.mem ((c.tc : Thread Cert.AdamwTwoReferenceIdeal.nD Cert.AdamwTwoReferenceIdeal.τ).loc Cert.AdamwTwoReferenceIdeal.main_arg0) = m ((c.tc : Thread Cert.AdamwTwoReferenceIdeal.nD Cert.AdamwTwoReferenceIdeal.τ).loc Cert.AdamwTwoReferenceIdeal.main_arg0)
      ∧ r.2.mem ((c.tc : Thread Cert.AdamwTwoReferenceIdeal.nD Cert.AdamwTwoReferenceIdeal.τ).loc Cert.AdamwTwoReferenceIdeal.main_arg1) = m ((c.tc : Thread Cert.AdamwTwoReferenceIdeal.nD Cert.AdamwTwoReferenceIdeal.τ).loc Cert.AdamwTwoReferenceIdeal.main_arg1)
      ∧ r.2.mem ((c.tc : Thread Cert.AdamwTwoReferenceIdeal.nD Cert.AdamwTwoReferenceIdeal.τ).loc Cert.AdamwTwoReferenceIdeal.main_arg2) = m ((c.tc : Thread Cert.AdamwTwoReferenceIdeal.nD Cert.AdamwTwoReferenceIdeal.τ).loc Cert.AdamwTwoReferenceIdeal.main_arg2)
      ∧ r.2.mem ((c.tc : Thread Cert.AdamwTwoReferenceIdeal.nD Cert.AdamwTwoReferenceIdeal.τ).loc Cert.AdamwTwoReferenceIdeal.main_arg3) = m ((c.tc : Thread Cert.AdamwTwoReferenceIdeal.nD Cert.AdamwTwoReferenceIdeal.τ).loc Cert.AdamwTwoReferenceIdeal.main_arg3)
      ∧ r.2.mem ((c.tc : Thread Cert.AdamwTwoReferenceIdeal.nD Cert.AdamwTwoReferenceIdeal.τ).loc Cert.AdamwTwoReferenceIdeal.main_arg4) = m ((c.tc : Thread Cert.AdamwTwoReferenceIdeal.nD Cert.AdamwTwoReferenceIdeal.τ).loc Cert.AdamwTwoReferenceIdeal.main_arg4)
      ∧ r.2.mem ((c.tc : Thread Cert.AdamwTwoReferenceIdeal.nD Cert.AdamwTwoReferenceIdeal.τ).loc Cert.AdamwTwoReferenceIdeal.main_arg5) = m ((c.tc : Thread Cert.AdamwTwoReferenceIdeal.nD Cert.AdamwTwoReferenceIdeal.τ).loc Cert.AdamwTwoReferenceIdeal.main_arg5)
      ∧ r.2.mem ((c.tc : Thread Cert.AdamwTwoReferenceIdeal.nD Cert.AdamwTwoReferenceIdeal.τ).loc Cert.AdamwTwoReferenceIdeal.main_arg6) = m ((c.tc : Thread Cert.AdamwTwoReferenceIdeal.nD Cert.AdamwTwoReferenceIdeal.τ).loc Cert.AdamwTwoReferenceIdeal.main_arg6)
      ∧ r.2.mem ((c.tc : Thread Cert.AdamwTwoReferenceIdeal.nD Cert.AdamwTwoReferenceIdeal.τ).loc Cert.AdamwTwoReferenceIdeal.main_arg7) = m ((c.tc : Thread Cert.AdamwTwoReferenceIdeal.nD Cert.AdamwTwoReferenceIdeal.τ).loc Cert.AdamwTwoReferenceIdeal.main_arg7)
      ∧ r.2.mem ((c.tc : Thread Cert.AdamwTwoReferenceIdeal.nD Cert.AdamwTwoReferenceIdeal.τ).loc Cert.AdamwTwoReferenceIdeal.main_arg8) = m ((c.tc : Thread Cert.AdamwTwoReferenceIdeal.nD Cert.AdamwTwoReferenceIdeal.τ).loc Cert.AdamwTwoReferenceIdeal.main_arg8)
      ∧ r.2.mem ((c.tc : Thread Cert.AdamwTwoReferenceIdeal.nD Cert.AdamwTwoReferenceIdeal.τ).loc Cert.AdamwTwoReferenceIdeal.main_arg9) = m ((c.tc : Thread Cert.AdamwTwoReferenceIdeal.nD Cert.AdamwTwoReferenceIdeal.τ).loc Cert.AdamwTwoReferenceIdeal.main_arg9)
      ∧ r.2.mem ((c.tc : Thread Cert.AdamwTwoReferenceIdeal.nD Cert.AdamwTwoReferenceIdeal.τ).loc Cert.AdamwTwoReferenceIdeal.main_arg10) = m ((c.tc : Thread Cert.AdamwTwoReferenceIdeal.nD Cert.AdamwTwoReferenceIdeal.τ).loc Cert.AdamwTwoReferenceIdeal.main_arg10)
      ∧ r.2.mem ((c.tc : Thread Cert.AdamwTwoReferenceIdeal.nD Cert.AdamwTwoReferenceIdeal.τ).loc Cert.AdamwTwoReferenceIdeal.main_arg11) = m ((c.tc : Thread Cert.AdamwTwoReferenceIdeal.nD Cert.AdamwTwoReferenceIdeal.τ).loc Cert.AdamwTwoReferenceIdeal.main_arg11)
      ∧ r.2.mem ((c.tc : Thread Cert.AdamwTwoReferenceIdeal.nD Cert.AdamwTwoReferenceIdeal.τ).loc Cert.AdamwTwoReferenceIdeal.main_arg12) = m ((c.tc : Thread Cert.AdamwTwoReferenceIdeal.nD Cert.AdamwTwoReferenceIdeal.τ).loc Cert.AdamwTwoReferenceIdeal.main_arg12)
      ∧ r.2.mem ((c.tc : Thread Cert.AdamwTwoReferenceIdeal.nD Cert.AdamwTwoReferenceIdeal.τ).loc Cert.AdamwTwoReferenceIdeal.main_arg13) = m ((c.tc : Thread Cert.AdamwTwoReferenceIdeal.nD Cert.AdamwTwoReferenceIdeal.τ).loc Cert.AdamwTwoReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)) (v1 : (c : Dev Cert.FfnIdeal.nD) → Buf (Elt Ideal) ((c.tc : Thread Cert.FfnIdeal.nD Cert.FfnIdeal.τ).loc Cert.FfnIdeal.main_v5)) (v2 : (c : Dev Cert.FfnIdeal.nD) → Buf (Elt Ideal) ((c.tc : Thread Cert.FfnIdeal.nD Cert.FfnIdeal.τ).loc Cert.FfnIdeal.main_v4)) (v3 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_v5) = v1 c
          ∧ r.2.mem ((c.tc : Thread Cert.FfnIdeal.nD Cert.FfnIdeal.τ).loc Cert.FfnIdeal.main_v4) = v2 c
          ∧ r.2.mem ((c.tc : Thread Cert.FfnIdeal.nD Cert.FfnIdeal.τ).loc Cert.FfnIdeal.main_v2) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v11) = v0 c
          ∧ r.2.mem ((c.tc : Thread Cert.FfnReferenceIdeal.nD Cert.FfnReferenceIdeal.τ).loc Cert.FfnReferenceIdeal.main_v23) = v1 c
          ∧ r.2.mem ((c.tc : Thread Cert.FfnReferenceIdeal.nD Cert.FfnReferenceIdeal.τ).loc Cert.FfnReferenceIdeal.main_v26) = v2 c
          ∧ r.2.mem ((c.tc : Thread Cert.FfnReferenceIdeal.nD Cert.FfnReferenceIdeal.τ).loc Cert.FfnReferenceIdeal.main_v27) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v1)) (v1 : (c : Dev Cert.QkvIdeal.nD) → Buf (Elt Ideal) ((c.tc : Thread Cert.QkvIdeal.nD Cert.QkvIdeal.τ).loc Cert.QkvIdeal.main_v4)) (v2 : (c : Dev Cert.QkvIdeal.nD) → Buf (Elt Ideal) ((c.tc : Thread Cert.QkvIdeal.nD Cert.QkvIdeal.τ).loc Cert.QkvIdeal.main_v2)) (v3 : (c : Dev Cert.QkvIdeal.nD) → Buf (Elt Ideal) ((c.tc : Thread Cert.QkvIdeal.nD Cert.QkvIdeal.τ).loc Cert.QkvIdeal.main_v0)) (v4 : (c : Dev Cert.QkvIdeal.nD) → Buf (Elt Ideal) ((c.tc : Thread Cert.QkvIdeal.nD Cert.QkvIdeal.τ).loc Cert.QkvIdeal.main_v5)) (v5 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_v4) = v1 c
          ∧ r.2.mem ((c.tc : Thread Cert.QkvIdeal.nD Cert.QkvIdeal.τ).loc Cert.QkvIdeal.main_v2) = v2 c
          ∧ r.2.mem ((c.tc : Thread Cert.QkvIdeal.nD Cert.QkvIdeal.τ).loc Cert.QkvIdeal.main_v0) = v3 c
          ∧ r.2.mem ((c.tc : Thread Cert.QkvIdeal.nD Cert.QkvIdeal.τ).loc Cert.QkvIdeal.main_v5) = v4 c
          ∧ r.2.mem ((c.tc : Thread Cert.QkvIdeal.nD Cert.QkvIdeal.τ).loc Cert.QkvIdeal.main_v3) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v22) = v0 c
          ∧ r.2.mem ((c.tc : Thread Cert.QkvReferenceIdeal.nD Cert.QkvReferenceIdeal.τ).loc Cert.QkvReferenceIdeal.main_v8) = v1 c
          ∧ r.2.mem ((c.tc : Thread Cert.QkvReferenceIdeal.nD Cert.QkvReferenceIdeal.τ).loc Cert.QkvReferenceIdeal.main_v23) = v2 c
          ∧ r.2.mem ((c.tc : Thread Cert.QkvReferenceIdeal.nD Cert.QkvReferenceIdeal.τ).loc Cert.QkvReferenceIdeal.main_v24) = v3 c
          ∧ r.2.mem ((c.tc : Thread Cert.QkvReferenceIdeal.nD Cert.QkvReferenceIdeal.τ).loc Cert.QkvReferenceIdeal.main_v19) = v4 c
          ∧ r.2.mem ((c.tc : Thread Cert.QkvReferenceIdeal.nD Cert.QkvReferenceIdeal.τ).loc Cert.QkvReferenceIdeal.main_v25) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_GluOut_GluOutIdeal : Prop :=
  True

def algebraic_GluOutIdeal_GluOutReferenceIdeal [hGluOutIdeal : Cert.GluOutIdeal.Facts] [hGluOutReferenceIdeal : Cert.GluOutReferenceIdeal.Facts] : Prop :=
  ∀ (m : (ℓ : Loc Cert.GluOutIdeal.nD Cert.GluOutIdeal.τ Cert.GluOutIdeal.sig) → Buf (Elt Ideal) ℓ) (g : Dev Cert.GluOutIdeal.nD → PrngReg)
    (m' : (ℓ : Loc Cert.GluOutReferenceIdeal.nD Cert.GluOutReferenceIdeal.τ Cert.GluOutReferenceIdeal.sig) → Buf (Elt Ideal) ℓ) (g' : Dev Cert.GluOutReferenceIdeal.nD → PrngReg), Pre_GluOutIdeal m →
    (∀ c : Dev Cert.GluOutIdeal.nD,
      m' ((c.tc : Thread Cert.GluOutReferenceIdeal.nD Cert.GluOutReferenceIdeal.τ).loc Cert.GluOutReferenceIdeal.main_arg0) = m ((c.tc : Thread Cert.GluOutIdeal.nD Cert.GluOutIdeal.τ).loc Cert.GluOutIdeal.main_arg0)
      ∧ m' ((c.tc : Thread Cert.GluOutReferenceIdeal.nD Cert.GluOutReferenceIdeal.τ).loc Cert.GluOutReferenceIdeal.main_arg1) = m ((c.tc : Thread Cert.GluOutIdeal.nD Cert.GluOutIdeal.τ).loc Cert.GluOutIdeal.main_arg1)
      ∧ m' ((c.tc : Thread Cert.GluOutReferenceIdeal.nD Cert.GluOutReferenceIdeal.τ).loc Cert.GluOutReferenceIdeal.main_arg2) = m ((c.tc : Thread Cert.GluOutIdeal.nD Cert.GluOutIdeal.τ).loc Cert.GluOutIdeal.main_arg2)
      ∧ m' ((c.tc : Thread Cert.GluOutReferenceIdeal.nD Cert.GluOutReferenceIdeal.τ).loc Cert.GluOutReferenceIdeal.main_arg3) = m ((c.tc : Thread Cert.GluOutIdeal.nD Cert.GluOutIdeal.τ).loc Cert.GluOutIdeal.main_arg3)
      ∧ m' ((c.tc : Thread Cert.GluOutReferenceIdeal.nD Cert.GluOutReferenceIdeal.τ).loc Cert.GluOutReferenceIdeal.main_arg4) = m ((c.tc : Thread Cert.GluOutIdeal.nD Cert.GluOutIdeal.τ).loc Cert.GluOutIdeal.main_arg4)
      ∧ m' ((c.tc : Thread Cert.GluOutReferenceIdeal.nD Cert.GluOutReferenceIdeal.τ).loc Cert.GluOutReferenceIdeal.main_arg5) = m ((c.tc : Thread Cert.GluOutIdeal.nD Cert.GluOutIdeal.τ).loc Cert.GluOutIdeal.main_arg5)) →
    ∃ (v0 : (c : Dev Cert.GluOutIdeal.nD) → Buf (Elt Ideal) ((c.tc : Thread Cert.GluOutIdeal.nD Cert.GluOutIdeal.τ).loc Cert.GluOutIdeal.main_v0)) (v1 : (c : Dev Cert.GluOutIdeal.nD) → Buf (Elt Ideal) ((c.tc : Thread Cert.GluOutIdeal.nD Cert.GluOutIdeal.τ).loc Cert.GluOutIdeal.main_v4)) (v2 : (c : Dev Cert.GluOutIdeal.nD) → Buf (Elt Ideal) ((c.tc : Thread Cert.GluOutIdeal.nD Cert.GluOutIdeal.τ).loc Cert.GluOutIdeal.main_v3)) (v3 : (c : Dev Cert.GluOutIdeal.nD) → Buf (Elt Ideal) ((c.tc : Thread Cert.GluOutIdeal.nD Cert.GluOutIdeal.τ).loc Cert.GluOutIdeal.main_v2)) (v4 : (c : Dev Cert.GluOutIdeal.nD) → Buf (Elt Ideal) ((c.tc : Thread Cert.GluOutIdeal.nD Cert.GluOutIdeal.τ).loc Cert.GluOutIdeal.main_v1)),
      θ_run (Cert.GluOutIdeal.defs (F := Ideal)) (onTc (τ := Cert.GluOutIdeal.τ) (Cert.GluOutIdeal.main (F := Ideal))) ⟨m, fun _ => 0, g⟩ (fun r => ∀ c : Dev Cert.GluOutIdeal.nD,
          r.2.mem ((c.tc : Thread Cert.GluOutIdeal.nD Cert.GluOutIdeal.τ).loc Cert.GluOutIdeal.main_v0) = v0 c
          ∧ r.2.mem ((c.tc : Thread Cert.GluOutIdeal.nD Cert.GluOutIdeal.τ).loc Cert.GluOutIdeal.main_v4) = v1 c
          ∧ r.2.mem ((c.tc : Thread Cert.GluOutIdeal.nD Cert.GluOutIdeal.τ).loc Cert.GluOutIdeal.main_v3) = v2 c
          ∧ r.2.mem ((c.tc : Thread Cert.GluOutIdeal.nD Cert.GluOutIdeal.τ).loc Cert.GluOutIdeal.main_v2) = v3 c
          ∧ r.2.mem ((c.tc : Thread Cert.GluOutIdeal.nD Cert.GluOutIdeal.τ).loc Cert.GluOutIdeal.main_v1) = v4 c
          ∧ r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
          ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
          ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2)
          ∧ r.2.mem ((c.tc : Thread Cert.GluOutIdeal.nD Cert.GluOutIdeal.τ).loc Cert.GluOutIdeal.main_arg3) = m ((c.tc : Thread Cert.GluOutIdeal.nD Cert.GluOutIdeal.τ).loc Cert.GluOutIdeal.main_arg3)
          ∧ r.2.mem ((c.tc : Thread Cert.GluOutIdeal.nD Cert.GluOutIdeal.τ).loc Cert.GluOutIdeal.main_arg4) = m ((c.tc : Thread Cert.GluOutIdeal.nD Cert.GluOutIdeal.τ).loc Cert.GluOutIdeal.main_arg4)
          ∧ r.2.mem ((c.tc : Thread Cert.GluOutIdeal.nD Cert.GluOutIdeal.τ).loc Cert.GluOutIdeal.main_arg5) = m ((c.tc : Thread Cert.GluOutIdeal.nD Cert.GluOutIdeal.τ).loc Cert.GluOutIdeal.main_arg5))
      ∧ θ_run (Cert.GluOutReferenceIdeal.defs (F := Ideal)) (onTc (τ := Cert.GluOutReferenceIdeal.τ) (Cert.GluOutReferenceIdeal.main (F := Ideal))) ⟨m', fun _ => 0, g'⟩ (fun r => ∀ c : Dev Cert.GluOutReferenceIdeal.nD,
          r.2.mem ((c.tc : Thread Cert.GluOutReferenceIdeal.nD Cert.GluOutReferenceIdeal.τ).loc Cert.GluOutReferenceIdeal.main_v4) = v0 c
          ∧ r.2.mem ((c.tc : Thread Cert.GluOutReferenceIdeal.nD Cert.GluOutReferenceIdeal.τ).loc Cert.GluOutReferenceIdeal.main_v8) = v1 c
          ∧ r.2.mem ((c.tc : Thread Cert.GluOutReferenceIdeal.nD Cert.GluOutReferenceIdeal.τ).loc Cert.GluOutReferenceIdeal.main_v22) = v2 c
          ∧ r.2.mem ((c.tc : Thread Cert.GluOutReferenceIdeal.nD Cert.GluOutReferenceIdeal.τ).loc Cert.GluOutReferenceIdeal.main_v19) = v3 c
          ∧ r.2.mem ((c.tc : Thread Cert.GluOutReferenceIdeal.nD Cert.GluOutReferenceIdeal.τ).loc Cert.GluOutReferenceIdeal.main_v23) = v4 c
          ∧ r.2.mem ((c.tc : Thread Cert.GluOutReferenceIdeal.nD Cert.GluOutReferenceIdeal.τ).loc Cert.GluOutReferenceIdeal.main_arg0) = m' ((c.tc : Thread Cert.GluOutReferenceIdeal.nD Cert.GluOutReferenceIdeal.τ).loc Cert.GluOutReferenceIdeal.main_arg0)
          ∧ r.2.mem ((c.tc : Thread Cert.GluOutReferenceIdeal.nD Cert.GluOutReferenceIdeal.τ).loc Cert.GluOutReferenceIdeal.main_arg1) = m' ((c.tc : Thread Cert.GluOutReferenceIdeal.nD Cert.GluOutReferenceIdeal.τ).loc Cert.GluOutReferenceIdeal.main_arg1)
          ∧ r.2.mem ((c.tc : Thread Cert.GluOutReferenceIdeal.nD Cert.GluOutReferenceIdeal.τ).loc Cert.GluOutReferenceIdeal.main_arg2) = m' ((c.tc : Thread Cert.GluOutReferenceIdeal.nD Cert.GluOutReferenceIdeal.τ).loc Cert.GluOutReferenceIdeal.main_arg2)
          ∧ r.2.mem ((c.tc : Thread Cert.GluOutReferenceIdeal.nD Cert.GluOutReferenceIdeal.τ).loc Cert.GluOutReferenceIdeal.main_arg3) = m' ((c.tc : Thread Cert.GluOutReferenceIdeal.nD Cert.GluOutReferenceIdeal.τ).loc Cert.GluOutReferenceIdeal.main_arg3)
          ∧ r.2.mem ((c.tc : Thread Cert.GluOutReferenceIdeal.nD Cert.GluOutReferenceIdeal.τ).loc Cert.GluOutReferenceIdeal.main_arg4) = m' ((c.tc : Thread Cert.GluOutReferenceIdeal.nD Cert.GluOutReferenceIdeal.τ).loc Cert.GluOutReferenceIdeal.main_arg4)
          ∧ r.2.mem ((c.tc : Thread Cert.GluOutReferenceIdeal.nD Cert.GluOutReferenceIdeal.τ).loc Cert.GluOutReferenceIdeal.main_arg5) = m' ((c.tc : Thread Cert.GluOutReferenceIdeal.nD Cert.GluOutReferenceIdeal.τ).loc Cert.GluOutReferenceIdeal.main_arg5))

def preserves_AdamwOne_AdamwOneIdeal : Prop :=
  True

def algebraic_AdamwOneIdeal_AdamwOneReferenceIdeal [hAdamwOneIdeal : Cert.AdamwOneIdeal.Facts] [hAdamwOneReferenceIdeal : Cert.AdamwOneReferenceIdeal.Facts] : Prop :=
  ∀ (m : (ℓ : Loc Cert.AdamwOneIdeal.nD Cert.AdamwOneIdeal.τ Cert.AdamwOneIdeal.sig) → Buf (Elt Ideal) ℓ) (g : Dev Cert.AdamwOneIdeal.nD → PrngReg)
    (m' : (ℓ : Loc Cert.AdamwOneReferenceIdeal.nD Cert.AdamwOneReferenceIdeal.τ Cert.AdamwOneReferenceIdeal.sig) → Buf (Elt Ideal) ℓ) (g' : Dev Cert.AdamwOneReferenceIdeal.nD → PrngReg), Pre_AdamwOneIdeal m →
    (∀ c : Dev Cert.AdamwOneIdeal.nD,
      m' ((c.tc : Thread Cert.AdamwOneReferenceIdeal.nD Cert.AdamwOneReferenceIdeal.τ).loc Cert.AdamwOneReferenceIdeal.main_arg0) = m ((c.tc : Thread Cert.AdamwOneIdeal.nD Cert.AdamwOneIdeal.τ).loc Cert.AdamwOneIdeal.main_arg0)
      ∧ m' ((c.tc : Thread Cert.AdamwOneReferenceIdeal.nD Cert.AdamwOneReferenceIdeal.τ).loc Cert.AdamwOneReferenceIdeal.main_arg1) = m ((c.tc : Thread Cert.AdamwOneIdeal.nD Cert.AdamwOneIdeal.τ).loc Cert.AdamwOneIdeal.main_arg1)
      ∧ m' ((c.tc : Thread Cert.AdamwOneReferenceIdeal.nD Cert.AdamwOneReferenceIdeal.τ).loc Cert.AdamwOneReferenceIdeal.main_arg2) = m ((c.tc : Thread Cert.AdamwOneIdeal.nD Cert.AdamwOneIdeal.τ).loc Cert.AdamwOneIdeal.main_arg2)
      ∧ m' ((c.tc : Thread Cert.AdamwOneReferenceIdeal.nD Cert.AdamwOneReferenceIdeal.τ).loc Cert.AdamwOneReferenceIdeal.main_arg3) = m ((c.tc : Thread Cert.AdamwOneIdeal.nD Cert.AdamwOneIdeal.τ).loc Cert.AdamwOneIdeal.main_arg3)
      ∧ m' ((c.tc : Thread Cert.AdamwOneReferenceIdeal.nD Cert.AdamwOneReferenceIdeal.τ).loc Cert.AdamwOneReferenceIdeal.main_arg4) = m ((c.tc : Thread Cert.AdamwOneIdeal.nD Cert.AdamwOneIdeal.τ).loc Cert.AdamwOneIdeal.main_arg4)
      ∧ m' ((c.tc : Thread Cert.AdamwOneReferenceIdeal.nD Cert.AdamwOneReferenceIdeal.τ).loc Cert.AdamwOneReferenceIdeal.main_arg5) = m ((c.tc : Thread Cert.AdamwOneIdeal.nD Cert.AdamwOneIdeal.τ).loc Cert.AdamwOneIdeal.main_arg5)
      ∧ m' ((c.tc : Thread Cert.AdamwOneReferenceIdeal.nD Cert.AdamwOneReferenceIdeal.τ).loc Cert.AdamwOneReferenceIdeal.main_arg6) = m ((c.tc : Thread Cert.AdamwOneIdeal.nD Cert.AdamwOneIdeal.τ).loc Cert.AdamwOneIdeal.main_arg6)
      ∧ m' ((c.tc : Thread Cert.AdamwOneReferenceIdeal.nD Cert.AdamwOneReferenceIdeal.τ).loc Cert.AdamwOneReferenceIdeal.main_arg7) = m ((c.tc : Thread Cert.AdamwOneIdeal.nD Cert.AdamwOneIdeal.τ).loc Cert.AdamwOneIdeal.main_arg7)
      ∧ m' ((c.tc : Thread Cert.AdamwOneReferenceIdeal.nD Cert.AdamwOneReferenceIdeal.τ).loc Cert.AdamwOneReferenceIdeal.main_arg8) = m ((c.tc : Thread Cert.AdamwOneIdeal.nD Cert.AdamwOneIdeal.τ).loc Cert.AdamwOneIdeal.main_arg8)
      ∧ m' ((c.tc : Thread Cert.AdamwOneReferenceIdeal.nD Cert.AdamwOneReferenceIdeal.τ).loc Cert.AdamwOneReferenceIdeal.main_arg9) = m ((c.tc : Thread Cert.AdamwOneIdeal.nD Cert.AdamwOneIdeal.τ).loc Cert.AdamwOneIdeal.main_arg9)
      ∧ m' ((c.tc : Thread Cert.AdamwOneReferenceIdeal.nD Cert.AdamwOneReferenceIdeal.τ).loc Cert.AdamwOneReferenceIdeal.main_arg10) = m ((c.tc : Thread Cert.AdamwOneIdeal.nD Cert.AdamwOneIdeal.τ).loc Cert.AdamwOneIdeal.main_arg10)
      ∧ m' ((c.tc : Thread Cert.AdamwOneReferenceIdeal.nD Cert.AdamwOneReferenceIdeal.τ).loc Cert.AdamwOneReferenceIdeal.main_arg11) = m ((c.tc : Thread Cert.AdamwOneIdeal.nD Cert.AdamwOneIdeal.τ).loc Cert.AdamwOneIdeal.main_arg11)
      ∧ m' ((c.tc : Thread Cert.AdamwOneReferenceIdeal.nD Cert.AdamwOneReferenceIdeal.τ).loc Cert.AdamwOneReferenceIdeal.main_arg12) = m ((c.tc : Thread Cert.AdamwOneIdeal.nD Cert.AdamwOneIdeal.τ).loc Cert.AdamwOneIdeal.main_arg12)
      ∧ m' ((c.tc : Thread Cert.AdamwOneReferenceIdeal.nD Cert.AdamwOneReferenceIdeal.τ).loc Cert.AdamwOneReferenceIdeal.main_arg13) = m ((c.tc : Thread Cert.AdamwOneIdeal.nD Cert.AdamwOneIdeal.τ).loc Cert.AdamwOneIdeal.main_arg13)
      ∧ m' ((c.tc : Thread Cert.AdamwOneReferenceIdeal.nD Cert.AdamwOneReferenceIdeal.τ).loc Cert.AdamwOneReferenceIdeal.main_arg14) = m ((c.tc : Thread Cert.AdamwOneIdeal.nD Cert.AdamwOneIdeal.τ).loc Cert.AdamwOneIdeal.main_arg14)
      ∧ m' ((c.tc : Thread Cert.AdamwOneReferenceIdeal.nD Cert.AdamwOneReferenceIdeal.τ).loc Cert.AdamwOneReferenceIdeal.main_arg15) = m ((c.tc : Thread Cert.AdamwOneIdeal.nD Cert.AdamwOneIdeal.τ).loc Cert.AdamwOneIdeal.main_arg15)
      ∧ m' ((c.tc : Thread Cert.AdamwOneReferenceIdeal.nD Cert.AdamwOneReferenceIdeal.τ).loc Cert.AdamwOneReferenceIdeal.main_arg16) = m ((c.tc : Thread Cert.AdamwOneIdeal.nD Cert.AdamwOneIdeal.τ).loc Cert.AdamwOneIdeal.main_arg16)
      ∧ m' ((c.tc : Thread Cert.AdamwOneReferenceIdeal.nD Cert.AdamwOneReferenceIdeal.τ).loc Cert.AdamwOneReferenceIdeal.main_arg17) = m ((c.tc : Thread Cert.AdamwOneIdeal.nD Cert.AdamwOneIdeal.τ).loc Cert.AdamwOneIdeal.main_arg17)
      ∧ m' ((c.tc : Thread Cert.AdamwOneReferenceIdeal.nD Cert.AdamwOneReferenceIdeal.τ).loc Cert.AdamwOneReferenceIdeal.main_arg18) = m ((c.tc : Thread Cert.AdamwOneIdeal.nD Cert.AdamwOneIdeal.τ).loc Cert.AdamwOneIdeal.main_arg18)
      ∧ m' ((c.tc : Thread Cert.AdamwOneReferenceIdeal.nD Cert.AdamwOneReferenceIdeal.τ).loc Cert.AdamwOneReferenceIdeal.main_arg19) = m ((c.tc : Thread Cert.AdamwOneIdeal.nD Cert.AdamwOneIdeal.τ).loc Cert.AdamwOneIdeal.main_arg19)) →
    ∃ (v0 : (c : Dev Cert.AdamwOneIdeal.nD) → Buf (Elt Ideal) ((c.tc : Thread Cert.AdamwOneIdeal.nD Cert.AdamwOneIdeal.τ).loc Cert.AdamwOneIdeal.main_v0_0)) (v1 : (c : Dev Cert.AdamwOneIdeal.nD) → Buf (Elt Ideal) ((c.tc : Thread Cert.AdamwOneIdeal.nD Cert.AdamwOneIdeal.τ).loc Cert.AdamwOneIdeal.main_v0_1)) (v2 : (c : Dev Cert.AdamwOneIdeal.nD) → Buf (Elt Ideal) ((c.tc : Thread Cert.AdamwOneIdeal.nD Cert.AdamwOneIdeal.τ).loc Cert.AdamwOneIdeal.main_v0_2)) (v3 : (c : Dev Cert.AdamwOneIdeal.nD) → Buf (Elt Ideal) ((c.tc : Thread Cert.AdamwOneIdeal.nD Cert.AdamwOneIdeal.τ).loc Cert.AdamwOneIdeal.main_v0_3)) (v4 : (c : Dev Cert.AdamwOneIdeal.nD) → Buf (Elt Ideal) ((c.tc : Thread Cert.AdamwOneIdeal.nD Cert.AdamwOneIdeal.τ).loc Cert.AdamwOneIdeal.main_v1_0)) (v5 : (c : Dev Cert.AdamwOneIdeal.nD) → Buf (Elt Ideal) ((c.tc : Thread Cert.AdamwOneIdeal.nD Cert.AdamwOneIdeal.τ).loc Cert.AdamwOneIdeal.main_v1_1)) (v6 : (c : Dev Cert.AdamwOneIdeal.nD) → Buf (Elt Ideal) ((c.tc : Thread Cert.AdamwOneIdeal.nD Cert.AdamwOneIdeal.τ).loc Cert.AdamwOneIdeal.main_v1_2)) (v7 : (c : Dev Cert.AdamwOneIdeal.nD) → Buf (Elt Ideal) ((c.tc : Thread Cert.AdamwOneIdeal.nD Cert.AdamwOneIdeal.τ).loc Cert.AdamwOneIdeal.main_v1_3)) (v8 : (c : Dev Cert.AdamwOneIdeal.nD) → Buf (Elt Ideal) ((c.tc : Thread Cert.AdamwOneIdeal.nD Cert.AdamwOneIdeal.τ).loc Cert.AdamwOneIdeal.main_v2_0)) (v9 : (c : Dev Cert.AdamwOneIdeal.nD) → Buf (Elt Ideal) ((c.tc : Thread Cert.AdamwOneIdeal.nD Cert.AdamwOneIdeal.τ).loc Cert.AdamwOneIdeal.main_v2_1)) (v10 : (c : Dev Cert.AdamwOneIdeal.nD) → Buf (Elt Ideal) ((c.tc : Thread Cert.AdamwOneIdeal.nD Cert.AdamwOneIdeal.τ).loc Cert.AdamwOneIdeal.main_v2_2)) (v11 : (c : Dev Cert.AdamwOneIdeal.nD) → Buf (Elt Ideal) ((c.tc : Thread Cert.AdamwOneIdeal.nD Cert.AdamwOneIdeal.τ).loc Cert.AdamwOneIdeal.main_v2_3)) (v12 : (c : Dev Cert.AdamwOneIdeal.nD) → Buf (Elt Ideal) ((c.tc : Thread Cert.AdamwOneIdeal.nD Cert.AdamwOneIdeal.τ).loc Cert.AdamwOneIdeal.main_v3_0)) (v13 : (c : Dev Cert.AdamwOneIdeal.nD) → Buf (Elt Ideal) ((c.tc : Thread Cert.AdamwOneIdeal.nD Cert.AdamwOneIdeal.τ).loc Cert.AdamwOneIdeal.main_v3_1)) (v14 : (c : Dev Cert.AdamwOneIdeal.nD) → Buf (Elt Ideal) ((c.tc : Thread Cert.AdamwOneIdeal.nD Cert.AdamwOneIdeal.τ).loc Cert.AdamwOneIdeal.main_v3_2)) (v15 : (c : Dev Cert.AdamwOneIdeal.nD) → Buf (Elt Ideal) ((c.tc : Thread Cert.AdamwOneIdeal.nD Cert.AdamwOneIdeal.τ).loc Cert.AdamwOneIdeal.main_v3_3)),
      θ_run (Cert.AdamwOneIdeal.defs (F := Ideal)) (onTc (τ := Cert.AdamwOneIdeal.τ) (Cert.AdamwOneIdeal.main (F := Ideal))) ⟨m, fun _ => 0, g⟩ (fun r => ∀ c : Dev Cert.AdamwOneIdeal.nD,
          r.2.mem ((c.tc : Thread Cert.AdamwOneIdeal.nD Cert.AdamwOneIdeal.τ).loc Cert.AdamwOneIdeal.main_v0_0) = v0 c
          ∧ r.2.mem ((c.tc : Thread Cert.AdamwOneIdeal.nD Cert.AdamwOneIdeal.τ).loc Cert.AdamwOneIdeal.main_v0_1) = v1 c
          ∧ r.2.mem ((c.tc : Thread Cert.AdamwOneIdeal.nD Cert.AdamwOneIdeal.τ).loc Cert.AdamwOneIdeal.main_v0_2) = v2 c
          ∧ r.2.mem ((c.tc : Thread Cert.AdamwOneIdeal.nD Cert.AdamwOneIdeal.τ).loc Cert.AdamwOneIdeal.main_v0_3) = v3 c
          ∧ r.2.mem ((c.tc : Thread Cert.AdamwOneIdeal.nD Cert.AdamwOneIdeal.τ).loc Cert.AdamwOneIdeal.main_v1_0) = v4 c
          ∧ r.2.mem ((c.tc : Thread Cert.AdamwOneIdeal.nD Cert.AdamwOneIdeal.τ).loc Cert.AdamwOneIdeal.main_v1_1) = v5 c
          ∧ r.2.mem ((c.tc : Thread Cert.AdamwOneIdeal.nD Cert.AdamwOneIdeal.τ).loc Cert.AdamwOneIdeal.main_v1_2) = v6 c
          ∧ r.2.mem ((c.tc : Thread Cert.AdamwOneIdeal.nD Cert.AdamwOneIdeal.τ).loc Cert.AdamwOneIdeal.main_v1_3) = v7 c
          ∧ r.2.mem ((c.tc : Thread Cert.AdamwOneIdeal.nD Cert.AdamwOneIdeal.τ).loc Cert.AdamwOneIdeal.main_v2_0) = v8 c
          ∧ r.2.mem ((c.tc : Thread Cert.AdamwOneIdeal.nD Cert.AdamwOneIdeal.τ).loc Cert.AdamwOneIdeal.main_v2_1) = v9 c
          ∧ r.2.mem ((c.tc : Thread Cert.AdamwOneIdeal.nD Cert.AdamwOneIdeal.τ).loc Cert.AdamwOneIdeal.main_v2_2) = v10 c
          ∧ r.2.mem ((c.tc : Thread Cert.AdamwOneIdeal.nD Cert.AdamwOneIdeal.τ).loc Cert.AdamwOneIdeal.main_v2_3) = v11 c
          ∧ r.2.mem ((c.tc : Thread Cert.AdamwOneIdeal.nD Cert.AdamwOneIdeal.τ).loc Cert.AdamwOneIdeal.main_v3_0) = v12 c
          ∧ r.2.mem ((c.tc : Thread Cert.AdamwOneIdeal.nD Cert.AdamwOneIdeal.τ).loc Cert.AdamwOneIdeal.main_v3_1) = v13 c
          ∧ r.2.mem ((c.tc : Thread Cert.AdamwOneIdeal.nD Cert.AdamwOneIdeal.τ).loc Cert.AdamwOneIdeal.main_v3_2) = v14 c
          ∧ r.2.mem ((c.tc : Thread Cert.AdamwOneIdeal.nD Cert.AdamwOneIdeal.τ).loc Cert.AdamwOneIdeal.main_v3_3) = v15 c
          ∧ r.2.mem ((c.tc : Thread Cert.AdamwOneIdeal.nD Cert.AdamwOneIdeal.τ).loc Cert.AdamwOneIdeal.main_arg0) = m ((c.tc : Thread Cert.AdamwOneIdeal.nD Cert.AdamwOneIdeal.τ).loc Cert.AdamwOneIdeal.main_arg0)
          ∧ r.2.mem ((c.tc : Thread Cert.AdamwOneIdeal.nD Cert.AdamwOneIdeal.τ).loc Cert.AdamwOneIdeal.main_arg1) = m ((c.tc : Thread Cert.AdamwOneIdeal.nD Cert.AdamwOneIdeal.τ).loc Cert.AdamwOneIdeal.main_arg1)
          ∧ r.2.mem ((c.tc : Thread Cert.AdamwOneIdeal.nD Cert.AdamwOneIdeal.τ).loc Cert.AdamwOneIdeal.main_arg2) = m ((c.tc : Thread Cert.AdamwOneIdeal.nD Cert.AdamwOneIdeal.τ).loc Cert.AdamwOneIdeal.main_arg2)
          ∧ r.2.mem ((c.tc : Thread Cert.AdamwOneIdeal.nD Cert.AdamwOneIdeal.τ).loc Cert.AdamwOneIdeal.main_arg3) = m ((c.tc : Thread Cert.AdamwOneIdeal.nD Cert.AdamwOneIdeal.τ).loc Cert.AdamwOneIdeal.main_arg3)
          ∧ r.2.mem ((c.tc : Thread Cert.AdamwOneIdeal.nD Cert.AdamwOneIdeal.τ).loc Cert.AdamwOneIdeal.main_arg4) = m ((c.tc : Thread Cert.AdamwOneIdeal.nD Cert.AdamwOneIdeal.τ).loc Cert.AdamwOneIdeal.main_arg4)
          ∧ r.2.mem ((c.tc : Thread Cert.AdamwOneIdeal.nD Cert.AdamwOneIdeal.τ).loc Cert.AdamwOneIdeal.main_arg5) = m ((c.tc : Thread Cert.AdamwOneIdeal.nD Cert.AdamwOneIdeal.τ).loc Cert.AdamwOneIdeal.main_arg5)
          ∧ r.2.mem ((c.tc : Thread Cert.AdamwOneIdeal.nD Cert.AdamwOneIdeal.τ).loc Cert.AdamwOneIdeal.main_arg6) = m ((c.tc : Thread Cert.AdamwOneIdeal.nD Cert.AdamwOneIdeal.τ).loc Cert.AdamwOneIdeal.main_arg6)
          ∧ r.2.mem ((c.tc : Thread Cert.AdamwOneIdeal.nD Cert.AdamwOneIdeal.τ).loc Cert.AdamwOneIdeal.main_arg7) = m ((c.tc : Thread Cert.AdamwOneIdeal.nD Cert.AdamwOneIdeal.τ).loc Cert.AdamwOneIdeal.main_arg7)
          ∧ r.2.mem ((c.tc : Thread Cert.AdamwOneIdeal.nD Cert.AdamwOneIdeal.τ).loc Cert.AdamwOneIdeal.main_arg8) = m ((c.tc : Thread Cert.AdamwOneIdeal.nD Cert.AdamwOneIdeal.τ).loc Cert.AdamwOneIdeal.main_arg8)
          ∧ r.2.mem ((c.tc : Thread Cert.AdamwOneIdeal.nD Cert.AdamwOneIdeal.τ).loc Cert.AdamwOneIdeal.main_arg9) = m ((c.tc : Thread Cert.AdamwOneIdeal.nD Cert.AdamwOneIdeal.τ).loc Cert.AdamwOneIdeal.main_arg9)
          ∧ r.2.mem ((c.tc : Thread Cert.AdamwOneIdeal.nD Cert.AdamwOneIdeal.τ).loc Cert.AdamwOneIdeal.main_arg10) = m ((c.tc : Thread Cert.AdamwOneIdeal.nD Cert.AdamwOneIdeal.τ).loc Cert.AdamwOneIdeal.main_arg10)
          ∧ r.2.mem ((c.tc : Thread Cert.AdamwOneIdeal.nD Cert.AdamwOneIdeal.τ).loc Cert.AdamwOneIdeal.main_arg11) = m ((c.tc : Thread Cert.AdamwOneIdeal.nD Cert.AdamwOneIdeal.τ).loc Cert.AdamwOneIdeal.main_arg11)
          ∧ r.2.mem ((c.tc : Thread Cert.AdamwOneIdeal.nD Cert.AdamwOneIdeal.τ).loc Cert.AdamwOneIdeal.main_arg12) = m ((c.tc : Thread Cert.AdamwOneIdeal.nD Cert.AdamwOneIdeal.τ).loc Cert.AdamwOneIdeal.main_arg12)
          ∧ r.2.mem ((c.tc : Thread Cert.AdamwOneIdeal.nD Cert.AdamwOneIdeal.τ).loc Cert.AdamwOneIdeal.main_arg13) = m ((c.tc : Thread Cert.AdamwOneIdeal.nD Cert.AdamwOneIdeal.τ).loc Cert.AdamwOneIdeal.main_arg13)
          ∧ r.2.mem ((c.tc : Thread Cert.AdamwOneIdeal.nD Cert.AdamwOneIdeal.τ).loc Cert.AdamwOneIdeal.main_arg14) = m ((c.tc : Thread Cert.AdamwOneIdeal.nD Cert.AdamwOneIdeal.τ).loc Cert.AdamwOneIdeal.main_arg14)
          ∧ r.2.mem ((c.tc : Thread Cert.AdamwOneIdeal.nD Cert.AdamwOneIdeal.τ).loc Cert.AdamwOneIdeal.main_arg15) = m ((c.tc : Thread Cert.AdamwOneIdeal.nD Cert.AdamwOneIdeal.τ).loc Cert.AdamwOneIdeal.main_arg15)
          ∧ r.2.mem ((c.tc : Thread Cert.AdamwOneIdeal.nD Cert.AdamwOneIdeal.τ).loc Cert.AdamwOneIdeal.main_arg16) = m ((c.tc : Thread Cert.AdamwOneIdeal.nD Cert.AdamwOneIdeal.τ).loc Cert.AdamwOneIdeal.main_arg16)
          ∧ r.2.mem ((c.tc : Thread Cert.AdamwOneIdeal.nD Cert.AdamwOneIdeal.τ).loc Cert.AdamwOneIdeal.main_arg17) = m ((c.tc : Thread Cert.AdamwOneIdeal.nD Cert.AdamwOneIdeal.τ).loc Cert.AdamwOneIdeal.main_arg17)
          ∧ r.2.mem ((c.tc : Thread Cert.AdamwOneIdeal.nD Cert.AdamwOneIdeal.τ).loc Cert.AdamwOneIdeal.main_arg18) = m ((c.tc : Thread Cert.AdamwOneIdeal.nD Cert.AdamwOneIdeal.τ).loc Cert.AdamwOneIdeal.main_arg18)
          ∧ r.2.mem ((c.tc : Thread Cert.AdamwOneIdeal.nD Cert.AdamwOneIdeal.τ).loc Cert.AdamwOneIdeal.main_arg19) = m ((c.tc : Thread Cert.AdamwOneIdeal.nD Cert.AdamwOneIdeal.τ).loc Cert.AdamwOneIdeal.main_arg19))
      ∧ θ_run (Cert.AdamwOneReferenceIdeal.defs (F := Ideal)) (onTc (τ := Cert.AdamwOneReferenceIdeal.τ) (Cert.AdamwOneReferenceIdeal.main (F := Ideal))) ⟨m', fun _ => 0, g'⟩ (fun r => ∀ c : Dev Cert.AdamwOneReferenceIdeal.nD,
          r.2.mem ((c.tc : Thread Cert.AdamwOneReferenceIdeal.nD Cert.AdamwOneReferenceIdeal.τ).loc Cert.AdamwOneReferenceIdeal.main_v1) = v0 c
          ∧ r.2.mem ((c.tc : Thread Cert.AdamwOneReferenceIdeal.nD Cert.AdamwOneReferenceIdeal.τ).loc Cert.AdamwOneReferenceIdeal.main_v25) = v1 c
          ∧ r.2.mem ((c.tc : Thread Cert.AdamwOneReferenceIdeal.nD Cert.AdamwOneReferenceIdeal.τ).loc Cert.AdamwOneReferenceIdeal.main_v6) = v2 c
          ∧ r.2.mem ((c.tc : Thread Cert.AdamwOneReferenceIdeal.nD Cert.AdamwOneReferenceIdeal.τ).loc Cert.AdamwOneReferenceIdeal.main_v12) = v3 c
          ∧ r.2.mem ((c.tc : Thread Cert.AdamwOneReferenceIdeal.nD Cert.AdamwOneReferenceIdeal.τ).loc Cert.AdamwOneReferenceIdeal.main_v27) = v4 c
          ∧ r.2.mem ((c.tc : Thread Cert.AdamwOneReferenceIdeal.nD Cert.AdamwOneReferenceIdeal.τ).loc Cert.AdamwOneReferenceIdeal.main_v51) = v5 c
          ∧ r.2.mem ((c.tc : Thread Cert.AdamwOneReferenceIdeal.nD Cert.AdamwOneReferenceIdeal.τ).loc Cert.AdamwOneReferenceIdeal.main_v32) = v6 c
          ∧ r.2.mem ((c.tc : Thread Cert.AdamwOneReferenceIdeal.nD Cert.AdamwOneReferenceIdeal.τ).loc Cert.AdamwOneReferenceIdeal.main_v38) = v7 c
          ∧ r.2.mem ((c.tc : Thread Cert.AdamwOneReferenceIdeal.nD Cert.AdamwOneReferenceIdeal.τ).loc Cert.AdamwOneReferenceIdeal.main_v53) = v8 c
          ∧ r.2.mem ((c.tc : Thread Cert.AdamwOneReferenceIdeal.nD Cert.AdamwOneReferenceIdeal.τ).loc Cert.AdamwOneReferenceIdeal.main_v77) = v9 c
          ∧ r.2.mem ((c.tc : Thread Cert.AdamwOneReferenceIdeal.nD Cert.AdamwOneReferenceIdeal.τ).loc Cert.AdamwOneReferenceIdeal.main_v58) = v10 c
          ∧ r.2.mem ((c.tc : Thread Cert.AdamwOneReferenceIdeal.nD Cert.AdamwOneReferenceIdeal.τ).loc Cert.AdamwOneReferenceIdeal.main_v64) = v11 c
          ∧ r.2.mem ((c.tc : Thread Cert.AdamwOneReferenceIdeal.nD Cert.AdamwOneReferenceIdeal.τ).loc Cert.AdamwOneReferenceIdeal.main_v79) = v12 c
          ∧ r.2.mem ((c.tc : Thread Cert.AdamwOneReferenceIdeal.nD Cert.AdamwOneReferenceIdeal.τ).loc Cert.AdamwOneReferenceIdeal.main_v103) = v13 c
          ∧ r.2.mem ((c.tc : Thread Cert.AdamwOneReferenceIdeal.nD Cert.AdamwOneReferenceIdeal.τ).loc Cert.AdamwOneReferenceIdeal.main_v84) = v14 c
          ∧ r.2.mem ((c.tc : Thread Cert.AdamwOneReferenceIdeal.nD Cert.AdamwOneReferenceIdeal.τ).loc Cert.AdamwOneReferenceIdeal.main_v90) = v15 c
          ∧ r.2.mem ((c.tc : Thread Cert.AdamwOneReferenceIdeal.nD Cert.AdamwOneReferenceIdeal.τ).loc Cert.AdamwOneReferenceIdeal.main_arg0) = m' ((c.tc : Thread Cert.AdamwOneReferenceIdeal.nD Cert.AdamwOneReferenceIdeal.τ).loc Cert.AdamwOneReferenceIdeal.main_arg0)
          ∧ r.2.mem ((c.tc : Thread Cert.AdamwOneReferenceIdeal.nD Cert.AdamwOneReferenceIdeal.τ).loc Cert.AdamwOneReferenceIdeal.main_arg1) = m' ((c.tc : Thread Cert.AdamwOneReferenceIdeal.nD Cert.AdamwOneReferenceIdeal.τ).loc Cert.AdamwOneReferenceIdeal.main_arg1)
          ∧ r.2.mem ((c.tc : Thread Cert.AdamwOneReferenceIdeal.nD Cert.AdamwOneReferenceIdeal.τ).loc Cert.AdamwOneReferenceIdeal.main_arg2) = m' ((c.tc : Thread Cert.AdamwOneReferenceIdeal.nD Cert.AdamwOneReferenceIdeal.τ).loc Cert.AdamwOneReferenceIdeal.main_arg2)
          ∧ r.2.mem ((c.tc : Thread Cert.AdamwOneReferenceIdeal.nD Cert.AdamwOneReferenceIdeal.τ).loc Cert.AdamwOneReferenceIdeal.main_arg3) = m' ((c.tc : Thread Cert.AdamwOneReferenceIdeal.nD Cert.AdamwOneReferenceIdeal.τ).loc Cert.AdamwOneReferenceIdeal.main_arg3)
          ∧ r.2.mem ((c.tc : Thread Cert.AdamwOneReferenceIdeal.nD Cert.AdamwOneReferenceIdeal.τ).loc Cert.AdamwOneReferenceIdeal.main_arg4) = m' ((c.tc : Thread Cert.AdamwOneReferenceIdeal.nD Cert.AdamwOneReferenceIdeal.τ).loc Cert.AdamwOneReferenceIdeal.main_arg4)
          ∧ r.2.mem ((c.tc : Thread Cert.AdamwOneReferenceIdeal.nD Cert.AdamwOneReferenceIdeal.τ).loc Cert.AdamwOneReferenceIdeal.main_arg5) = m' ((c.tc : Thread Cert.AdamwOneReferenceIdeal.nD Cert.AdamwOneReferenceIdeal.τ).loc Cert.AdamwOneReferenceIdeal.main_arg5)
          ∧ r.2.mem ((c.tc : Thread Cert.AdamwOneReferenceIdeal.nD Cert.AdamwOneReferenceIdeal.τ).loc Cert.AdamwOneReferenceIdeal.main_arg6) = m' ((c.tc : Thread Cert.AdamwOneReferenceIdeal.nD Cert.AdamwOneReferenceIdeal.τ).loc Cert.AdamwOneReferenceIdeal.main_arg6)
          ∧ r.2.mem ((c.tc : Thread Cert.AdamwOneReferenceIdeal.nD Cert.AdamwOneReferenceIdeal.τ).loc Cert.AdamwOneReferenceIdeal.main_arg7) = m' ((c.tc : Thread Cert.AdamwOneReferenceIdeal.nD Cert.AdamwOneReferenceIdeal.τ).loc Cert.AdamwOneReferenceIdeal.main_arg7)
          ∧ r.2.mem ((c.tc : Thread Cert.AdamwOneReferenceIdeal.nD Cert.AdamwOneReferenceIdeal.τ).loc Cert.AdamwOneReferenceIdeal.main_arg8) = m' ((c.tc : Thread Cert.AdamwOneReferenceIdeal.nD Cert.AdamwOneReferenceIdeal.τ).loc Cert.AdamwOneReferenceIdeal.main_arg8)
          ∧ r.2.mem ((c.tc : Thread Cert.AdamwOneReferenceIdeal.nD Cert.AdamwOneReferenceIdeal.τ).loc Cert.AdamwOneReferenceIdeal.main_arg9) = m' ((c.tc : Thread Cert.AdamwOneReferenceIdeal.nD Cert.AdamwOneReferenceIdeal.τ).loc Cert.AdamwOneReferenceIdeal.main_arg9)
          ∧ r.2.mem ((c.tc : Thread Cert.AdamwOneReferenceIdeal.nD Cert.AdamwOneReferenceIdeal.τ).loc Cert.AdamwOneReferenceIdeal.main_arg10) = m' ((c.tc : Thread Cert.AdamwOneReferenceIdeal.nD Cert.AdamwOneReferenceIdeal.τ).loc Cert.AdamwOneReferenceIdeal.main_arg10)
          ∧ r.2.mem ((c.tc : Thread Cert.AdamwOneReferenceIdeal.nD Cert.AdamwOneReferenceIdeal.τ).loc Cert.AdamwOneReferenceIdeal.main_arg11) = m' ((c.tc : Thread Cert.AdamwOneReferenceIdeal.nD Cert.AdamwOneReferenceIdeal.τ).loc Cert.AdamwOneReferenceIdeal.main_arg11)
          ∧ r.2.mem ((c.tc : Thread Cert.AdamwOneReferenceIdeal.nD Cert.AdamwOneReferenceIdeal.τ).loc Cert.AdamwOneReferenceIdeal.main_arg12) = m' ((c.tc : Thread Cert.AdamwOneReferenceIdeal.nD Cert.AdamwOneReferenceIdeal.τ).loc Cert.AdamwOneReferenceIdeal.main_arg12)
          ∧ r.2.mem ((c.tc : Thread Cert.AdamwOneReferenceIdeal.nD Cert.AdamwOneReferenceIdeal.τ).loc Cert.AdamwOneReferenceIdeal.main_arg13) = m' ((c.tc : Thread Cert.AdamwOneReferenceIdeal.nD Cert.AdamwOneReferenceIdeal.τ).loc Cert.AdamwOneReferenceIdeal.main_arg13)
          ∧ r.2.mem ((c.tc : Thread Cert.AdamwOneReferenceIdeal.nD Cert.AdamwOneReferenceIdeal.τ).loc Cert.AdamwOneReferenceIdeal.main_arg14) = m' ((c.tc : Thread Cert.AdamwOneReferenceIdeal.nD Cert.AdamwOneReferenceIdeal.τ).loc Cert.AdamwOneReferenceIdeal.main_arg14)
          ∧ r.2.mem ((c.tc : Thread Cert.AdamwOneReferenceIdeal.nD Cert.AdamwOneReferenceIdeal.τ).loc Cert.AdamwOneReferenceIdeal.main_arg15) = m' ((c.tc : Thread Cert.AdamwOneReferenceIdeal.nD Cert.AdamwOneReferenceIdeal.τ).loc Cert.AdamwOneReferenceIdeal.main_arg15)
          ∧ r.2.mem ((c.tc : Thread Cert.AdamwOneReferenceIdeal.nD Cert.AdamwOneReferenceIdeal.τ).loc Cert.AdamwOneReferenceIdeal.main_arg16) = m' ((c.tc : Thread Cert.AdamwOneReferenceIdeal.nD Cert.AdamwOneReferenceIdeal.τ).loc Cert.AdamwOneReferenceIdeal.main_arg16)
          ∧ r.2.mem ((c.tc : Thread Cert.AdamwOneReferenceIdeal.nD Cert.AdamwOneReferenceIdeal.τ).loc Cert.AdamwOneReferenceIdeal.main_arg17) = m' ((c.tc : Thread Cert.AdamwOneReferenceIdeal.nD Cert.AdamwOneReferenceIdeal.τ).loc Cert.AdamwOneReferenceIdeal.main_arg17)
          ∧ r.2.mem ((c.tc : Thread Cert.AdamwOneReferenceIdeal.nD Cert.AdamwOneReferenceIdeal.τ).loc Cert.AdamwOneReferenceIdeal.main_arg18) = m' ((c.tc : Thread Cert.AdamwOneReferenceIdeal.nD Cert.AdamwOneReferenceIdeal.τ).loc Cert.AdamwOneReferenceIdeal.main_arg18)
          ∧ r.2.mem ((c.tc : Thread Cert.AdamwOneReferenceIdeal.nD Cert.AdamwOneReferenceIdeal.τ).loc Cert.AdamwOneReferenceIdeal.main_arg19) = m' ((c.tc : Thread Cert.AdamwOneReferenceIdeal.nD Cert.AdamwOneReferenceIdeal.τ).loc Cert.AdamwOneReferenceIdeal.main_arg19))

def preserves_AdamwTwo_AdamwTwoIdeal : Prop :=
  True

def algebraic_AdamwTwoIdeal_AdamwTwoReferenceIdeal [hAdamwTwoIdeal : Cert.AdamwTwoIdeal.Facts] [hAdamwTwoReferenceIdeal : Cert.AdamwTwoReferenceIdeal.Facts] : Prop :=
  ∀ (m : (ℓ : Loc Cert.AdamwTwoIdeal.nD Cert.AdamwTwoIdeal.τ Cert.AdamwTwoIdeal.sig) → Buf (Elt Ideal) ℓ) (g : Dev Cert.AdamwTwoIdeal.nD → PrngReg)
    (m' : (ℓ : Loc Cert.AdamwTwoReferenceIdeal.nD Cert.AdamwTwoReferenceIdeal.τ Cert.AdamwTwoReferenceIdeal.sig) → Buf (Elt Ideal) ℓ) (g' : Dev Cert.AdamwTwoReferenceIdeal.nD → PrngReg), Pre_AdamwTwoIdeal m →
    (∀ c : Dev Cert.AdamwTwoIdeal.nD,
      m' ((c.tc : Thread Cert.AdamwTwoReferenceIdeal.nD Cert.AdamwTwoReferenceIdeal.τ).loc Cert.AdamwTwoReferenceIdeal.main_arg0) = m ((c.tc : Thread Cert.AdamwTwoIdeal.nD Cert.AdamwTwoIdeal.τ).loc Cert.AdamwTwoIdeal.main_arg0)
      ∧ m' ((c.tc : Thread Cert.AdamwTwoReferenceIdeal.nD Cert.AdamwTwoReferenceIdeal.τ).loc Cert.AdamwTwoReferenceIdeal.main_arg1) = m ((c.tc : Thread Cert.AdamwTwoIdeal.nD Cert.AdamwTwoIdeal.τ).loc Cert.AdamwTwoIdeal.main_arg1)
      ∧ m' ((c.tc : Thread Cert.AdamwTwoReferenceIdeal.nD Cert.AdamwTwoReferenceIdeal.τ).loc Cert.AdamwTwoReferenceIdeal.main_arg2) = m ((c.tc : Thread Cert.AdamwTwoIdeal.nD Cert.AdamwTwoIdeal.τ).loc Cert.AdamwTwoIdeal.main_arg2)
      ∧ m' ((c.tc : Thread Cert.AdamwTwoReferenceIdeal.nD Cert.AdamwTwoReferenceIdeal.τ).loc Cert.AdamwTwoReferenceIdeal.main_arg3) = m ((c.tc : Thread Cert.AdamwTwoIdeal.nD Cert.AdamwTwoIdeal.τ).loc Cert.AdamwTwoIdeal.main_arg3)
      ∧ m' ((c.tc : Thread Cert.AdamwTwoReferenceIdeal.nD Cert.AdamwTwoReferenceIdeal.τ).loc Cert.AdamwTwoReferenceIdeal.main_arg4) = m ((c.tc : Thread Cert.AdamwTwoIdeal.nD Cert.AdamwTwoIdeal.τ).loc Cert.AdamwTwoIdeal.main_arg4)
      ∧ m' ((c.tc : Thread Cert.AdamwTwoReferenceIdeal.nD Cert.AdamwTwoReferenceIdeal.τ).loc Cert.AdamwTwoReferenceIdeal.main_arg5) = m ((c.tc : Thread Cert.AdamwTwoIdeal.nD Cert.AdamwTwoIdeal.τ).loc Cert.AdamwTwoIdeal.main_arg5)
      ∧ m' ((c.tc : Thread Cert.AdamwTwoReferenceIdeal.nD Cert.AdamwTwoReferenceIdeal.τ).loc Cert.AdamwTwoReferenceIdeal.main_arg6) = m ((c.tc : Thread Cert.AdamwTwoIdeal.nD Cert.AdamwTwoIdeal.τ).loc Cert.AdamwTwoIdeal.main_arg6)
      ∧ m' ((c.tc : Thread Cert.AdamwTwoReferenceIdeal.nD Cert.AdamwTwoReferenceIdeal.τ).loc Cert.AdamwTwoReferenceIdeal.main_arg7) = m ((c.tc : Thread Cert.AdamwTwoIdeal.nD Cert.AdamwTwoIdeal.τ).loc Cert.AdamwTwoIdeal.main_arg7)
      ∧ m' ((c.tc : Thread Cert.AdamwTwoReferenceIdeal.nD Cert.AdamwTwoReferenceIdeal.τ).loc Cert.AdamwTwoReferenceIdeal.main_arg8) = m ((c.tc : Thread Cert.AdamwTwoIdeal.nD Cert.AdamwTwoIdeal.τ).loc Cert.AdamwTwoIdeal.main_arg8)
      ∧ m' ((c.tc : Thread Cert.AdamwTwoReferenceIdeal.nD Cert.AdamwTwoReferenceIdeal.τ).loc Cert.AdamwTwoReferenceIdeal.main_arg9) = m ((c.tc : Thread Cert.AdamwTwoIdeal.nD Cert.AdamwTwoIdeal.τ).loc Cert.AdamwTwoIdeal.main_arg9)
      ∧ m' ((c.tc : Thread Cert.AdamwTwoReferenceIdeal.nD Cert.AdamwTwoReferenceIdeal.τ).loc Cert.AdamwTwoReferenceIdeal.main_arg10) = m ((c.tc : Thread Cert.AdamwTwoIdeal.nD Cert.AdamwTwoIdeal.τ).loc Cert.AdamwTwoIdeal.main_arg10)
      ∧ m' ((c.tc : Thread Cert.AdamwTwoReferenceIdeal.nD Cert.AdamwTwoReferenceIdeal.τ).loc Cert.AdamwTwoReferenceIdeal.main_arg11) = m ((c.tc : Thread Cert.AdamwTwoIdeal.nD Cert.AdamwTwoIdeal.τ).loc Cert.AdamwTwoIdeal.main_arg11)
      ∧ m' ((c.tc : Thread Cert.AdamwTwoReferenceIdeal.nD Cert.AdamwTwoReferenceIdeal.τ).loc Cert.AdamwTwoReferenceIdeal.main_arg12) = m ((c.tc : Thread Cert.AdamwTwoIdeal.nD Cert.AdamwTwoIdeal.τ).loc Cert.AdamwTwoIdeal.main_arg12)
      ∧ m' ((c.tc : Thread Cert.AdamwTwoReferenceIdeal.nD Cert.AdamwTwoReferenceIdeal.τ).loc Cert.AdamwTwoReferenceIdeal.main_arg13) = m ((c.tc : Thread Cert.AdamwTwoIdeal.nD Cert.AdamwTwoIdeal.τ).loc Cert.AdamwTwoIdeal.main_arg13)) →
    ∃ (v0 : (c : Dev Cert.AdamwTwoIdeal.nD) → Buf (Elt Ideal) ((c.tc : Thread Cert.AdamwTwoIdeal.nD Cert.AdamwTwoIdeal.τ).loc Cert.AdamwTwoIdeal.main_v0_0)) (v1 : (c : Dev Cert.AdamwTwoIdeal.nD) → Buf (Elt Ideal) ((c.tc : Thread Cert.AdamwTwoIdeal.nD Cert.AdamwTwoIdeal.τ).loc Cert.AdamwTwoIdeal.main_v0_1)) (v2 : (c : Dev Cert.AdamwTwoIdeal.nD) → Buf (Elt Ideal) ((c.tc : Thread Cert.AdamwTwoIdeal.nD Cert.AdamwTwoIdeal.τ).loc Cert.AdamwTwoIdeal.main_v0_2)) (v3 : (c : Dev Cert.AdamwTwoIdeal.nD) → Buf (Elt Ideal) ((c.tc : Thread Cert.AdamwTwoIdeal.nD Cert.AdamwTwoIdeal.τ).loc Cert.AdamwTwoIdeal.main_v0_3)) (v4 : (c : Dev Cert.AdamwTwoIdeal.nD) → Buf (Elt Ideal) ((c.tc : Thread Cert.AdamwTwoIdeal.nD Cert.AdamwTwoIdeal.τ).loc Cert.AdamwTwoIdeal.main_v1_0)) (v5 : (c : Dev Cert.AdamwTwoIdeal.nD) → Buf (Elt Ideal) ((c.tc : Thread Cert.AdamwTwoIdeal.nD Cert.AdamwTwoIdeal.τ).loc Cert.AdamwTwoIdeal.main_v1_1)) (v6 : (c : Dev Cert.AdamwTwoIdeal.nD) → Buf (Elt Ideal) ((c.tc : Thread Cert.AdamwTwoIdeal.nD Cert.AdamwTwoIdeal.τ).loc Cert.AdamwTwoIdeal.main_v1_2)) (v7 : (c : Dev Cert.AdamwTwoIdeal.nD) → Buf (Elt Ideal) ((c.tc : Thread Cert.AdamwTwoIdeal.nD Cert.AdamwTwoIdeal.τ).loc Cert.AdamwTwoIdeal.main_v1_3)),
      θ_run (Cert.AdamwTwoIdeal.defs (F := Ideal)) (onTc (τ := Cert.AdamwTwoIdeal.τ) (Cert.AdamwTwoIdeal.main (F := Ideal))) ⟨m, fun _ => 0, g⟩ (fun r => ∀ c : Dev Cert.AdamwTwoIdeal.nD,
          r.2.mem ((c.tc : Thread Cert.AdamwTwoIdeal.nD Cert.AdamwTwoIdeal.τ).loc Cert.AdamwTwoIdeal.main_v0_0) = v0 c
          ∧ r.2.mem ((c.tc : Thread Cert.AdamwTwoIdeal.nD Cert.AdamwTwoIdeal.τ).loc Cert.AdamwTwoIdeal.main_v0_1) = v1 c
          ∧ r.2.mem ((c.tc : Thread Cert.AdamwTwoIdeal.nD Cert.AdamwTwoIdeal.τ).loc Cert.AdamwTwoIdeal.main_v0_2) = v2 c
          ∧ r.2.mem ((c.tc : Thread Cert.AdamwTwoIdeal.nD Cert.AdamwTwoIdeal.τ).loc Cert.AdamwTwoIdeal.main_v0_3) = v3 c
          ∧ r.2.mem ((c.tc : Thread Cert.AdamwTwoIdeal.nD Cert.AdamwTwoIdeal.τ).loc Cert.AdamwTwoIdeal.main_v1_0) = v4 c
          ∧ r.2.mem ((c.tc : Thread Cert.AdamwTwoIdeal.nD Cert.AdamwTwoIdeal.τ).loc Cert.AdamwTwoIdeal.main_v1_1) = v5 c
          ∧ r.2.mem ((c.tc : Thread Cert.AdamwTwoIdeal.nD Cert.AdamwTwoIdeal.τ).loc Cert.AdamwTwoIdeal.main_v1_2) = v6 c
          ∧ r.2.mem ((c.tc : Thread Cert.AdamwTwoIdeal.nD Cert.AdamwTwoIdeal.τ).loc Cert.AdamwTwoIdeal.main_v1_3) = v7 c
          ∧ r.2.mem ((c.tc : Thread Cert.AdamwTwoIdeal.nD Cert.AdamwTwoIdeal.τ).loc Cert.AdamwTwoIdeal.main_arg0) = m ((c.tc : Thread Cert.AdamwTwoIdeal.nD Cert.AdamwTwoIdeal.τ).loc Cert.AdamwTwoIdeal.main_arg0)
          ∧ r.2.mem ((c.tc : Thread Cert.AdamwTwoIdeal.nD Cert.AdamwTwoIdeal.τ).loc Cert.AdamwTwoIdeal.main_arg1) = m ((c.tc : Thread Cert.AdamwTwoIdeal.nD Cert.AdamwTwoIdeal.τ).loc Cert.AdamwTwoIdeal.main_arg1)
          ∧ r.2.mem ((c.tc : Thread Cert.AdamwTwoIdeal.nD Cert.AdamwTwoIdeal.τ).loc Cert.AdamwTwoIdeal.main_arg2) = m ((c.tc : Thread Cert.AdamwTwoIdeal.nD Cert.AdamwTwoIdeal.τ).loc Cert.AdamwTwoIdeal.main_arg2)
          ∧ r.2.mem ((c.tc : Thread Cert.AdamwTwoIdeal.nD Cert.AdamwTwoIdeal.τ).loc Cert.AdamwTwoIdeal.main_arg3) = m ((c.tc : Thread Cert.AdamwTwoIdeal.nD Cert.AdamwTwoIdeal.τ).loc Cert.AdamwTwoIdeal.main_arg3)
          ∧ r.2.mem ((c.tc : Thread Cert.AdamwTwoIdeal.nD Cert.AdamwTwoIdeal.τ).loc Cert.AdamwTwoIdeal.main_arg4) = m ((c.tc : Thread Cert.AdamwTwoIdeal.nD Cert.AdamwTwoIdeal.τ).loc Cert.AdamwTwoIdeal.main_arg4)
          ∧ r.2.mem ((c.tc : Thread Cert.AdamwTwoIdeal.nD Cert.AdamwTwoIdeal.τ).loc Cert.AdamwTwoIdeal.main_arg5) = m ((c.tc : Thread Cert.AdamwTwoIdeal.nD Cert.AdamwTwoIdeal.τ).loc Cert.AdamwTwoIdeal.main_arg5)
          ∧ r.2.mem ((c.tc : Thread Cert.AdamwTwoIdeal.nD Cert.AdamwTwoIdeal.τ).loc Cert.AdamwTwoIdeal.main_arg6) = m ((c.tc : Thread Cert.AdamwTwoIdeal.nD Cert.AdamwTwoIdeal.τ).loc Cert.AdamwTwoIdeal.main_arg6)
          ∧ r.2.mem ((c.tc : Thread Cert.AdamwTwoIdeal.nD Cert.AdamwTwoIdeal.τ).loc Cert.AdamwTwoIdeal.main_arg7) = m ((c.tc : Thread Cert.AdamwTwoIdeal.nD Cert.AdamwTwoIdeal.τ).loc Cert.AdamwTwoIdeal.main_arg7)
          ∧ r.2.mem ((c.tc : Thread Cert.AdamwTwoIdeal.nD Cert.AdamwTwoIdeal.τ).loc Cert.AdamwTwoIdeal.main_arg8) = m ((c.tc : Thread Cert.AdamwTwoIdeal.nD Cert.AdamwTwoIdeal.τ).loc Cert.AdamwTwoIdeal.main_arg8)
          ∧ r.2.mem ((c.tc : Thread Cert.AdamwTwoIdeal.nD Cert.AdamwTwoIdeal.τ).loc Cert.AdamwTwoIdeal.main_arg9) = m ((c.tc : Thread Cert.AdamwTwoIdeal.nD Cert.AdamwTwoIdeal.τ).loc Cert.AdamwTwoIdeal.main_arg9)
          ∧ r.2.mem ((c.tc : Thread Cert.AdamwTwoIdeal.nD Cert.AdamwTwoIdeal.τ).loc Cert.AdamwTwoIdeal.main_arg10) = m ((c.tc : Thread Cert.AdamwTwoIdeal.nD Cert.AdamwTwoIdeal.τ).loc Cert.AdamwTwoIdeal.main_arg10)
          ∧ r.2.mem ((c.tc : Thread Cert.AdamwTwoIdeal.nD Cert.AdamwTwoIdeal.τ).loc Cert.AdamwTwoIdeal.main_arg11) = m ((c.tc : Thread Cert.AdamwTwoIdeal.nD Cert.AdamwTwoIdeal.τ).loc Cert.AdamwTwoIdeal.main_arg11)
          ∧ r.2.mem ((c.tc : Thread Cert.AdamwTwoIdeal.nD Cert.AdamwTwoIdeal.τ).loc Cert.AdamwTwoIdeal.main_arg12) = m ((c.tc : Thread Cert.AdamwTwoIdeal.nD Cert.AdamwTwoIdeal.τ).loc Cert.AdamwTwoIdeal.main_arg12)
          ∧ r.2.mem ((c.tc : Thread Cert.AdamwTwoIdeal.nD Cert.AdamwTwoIdeal.τ).loc Cert.AdamwTwoIdeal.main_arg13) = m ((c.tc : Thread Cert.AdamwTwoIdeal.nD Cert.AdamwTwoIdeal.τ).loc Cert.AdamwTwoIdeal.main_arg13))
      ∧ θ_run (Cert.AdamwTwoReferenceIdeal.defs (F := Ideal)) (onTc (τ := Cert.AdamwTwoReferenceIdeal.τ) (Cert.AdamwTwoReferenceIdeal.main (F := Ideal))) ⟨m', fun _ => 0, g'⟩ (fun r => ∀ c : Dev Cert.AdamwTwoReferenceIdeal.nD,
          r.2.mem ((c.tc : Thread Cert.AdamwTwoReferenceIdeal.nD Cert.AdamwTwoReferenceIdeal.τ).loc Cert.AdamwTwoReferenceIdeal.main_v4) = v0 c
          ∧ r.2.mem ((c.tc : Thread Cert.AdamwTwoReferenceIdeal.nD Cert.AdamwTwoReferenceIdeal.τ).loc Cert.AdamwTwoReferenceIdeal.main_v28) = v1 c
          ∧ r.2.mem ((c.tc : Thread Cert.AdamwTwoReferenceIdeal.nD Cert.AdamwTwoReferenceIdeal.τ).loc Cert.AdamwTwoReferenceIdeal.main_v9) = v2 c
          ∧ r.2.mem ((c.tc : Thread Cert.AdamwTwoReferenceIdeal.nD Cert.AdamwTwoReferenceIdeal.τ).loc Cert.AdamwTwoReferenceIdeal.main_v15) = v3 c
          ∧ r.2.mem ((c.tc : Thread Cert.AdamwTwoReferenceIdeal.nD Cert.AdamwTwoReferenceIdeal.τ).loc Cert.AdamwTwoReferenceIdeal.main_v33) = v4 c
          ∧ r.2.mem ((c.tc : Thread Cert.AdamwTwoReferenceIdeal.nD Cert.AdamwTwoReferenceIdeal.τ).loc Cert.AdamwTwoReferenceIdeal.main_v57) = v5 c
          ∧ r.2.mem ((c.tc : Thread Cert.AdamwTwoReferenceIdeal.nD Cert.AdamwTwoReferenceIdeal.τ).loc Cert.AdamwTwoReferenceIdeal.main_v38) = v6 c
          ∧ r.2.mem ((c.tc : Thread Cert.AdamwTwoReferenceIdeal.nD Cert.AdamwTwoReferenceIdeal.τ).loc Cert.AdamwTwoReferenceIdeal.main_v44) = v7 c
          ∧ r.2.mem ((c.tc : Thread Cert.AdamwTwoReferenceIdeal.nD Cert.AdamwTwoReferenceIdeal.τ).loc Cert.AdamwTwoReferenceIdeal.main_arg0) = m' ((c.tc : Thread Cert.AdamwTwoReferenceIdeal.nD Cert.AdamwTwoReferenceIdeal.τ).loc Cert.AdamwTwoReferenceIdeal.main_arg0)
          ∧ r.2.mem ((c.tc : Thread Cert.AdamwTwoReferenceIdeal.nD Cert.AdamwTwoReferenceIdeal.τ).loc Cert.AdamwTwoReferenceIdeal.main_arg1) = m' ((c.tc : Thread Cert.AdamwTwoReferenceIdeal.nD Cert.AdamwTwoReferenceIdeal.τ).loc Cert.AdamwTwoReferenceIdeal.main_arg1)
          ∧ r.2.mem ((c.tc : Thread Cert.AdamwTwoReferenceIdeal.nD Cert.AdamwTwoReferenceIdeal.τ).loc Cert.AdamwTwoReferenceIdeal.main_arg2) = m' ((c.tc : Thread Cert.AdamwTwoReferenceIdeal.nD Cert.AdamwTwoReferenceIdeal.τ).loc Cert.AdamwTwoReferenceIdeal.main_arg2)
          ∧ r.2.mem ((c.tc : Thread Cert.AdamwTwoReferenceIdeal.nD Cert.AdamwTwoReferenceIdeal.τ).loc Cert.AdamwTwoReferenceIdeal.main_arg3) = m' ((c.tc : Thread Cert.AdamwTwoReferenceIdeal.nD Cert.AdamwTwoReferenceIdeal.τ).loc Cert.AdamwTwoReferenceIdeal.main_arg3)
          ∧ r.2.mem ((c.tc : Thread Cert.AdamwTwoReferenceIdeal.nD Cert.AdamwTwoReferenceIdeal.τ).loc Cert.AdamwTwoReferenceIdeal.main_arg4) = m' ((c.tc : Thread Cert.AdamwTwoReferenceIdeal.nD Cert.AdamwTwoReferenceIdeal.τ).loc Cert.AdamwTwoReferenceIdeal.main_arg4)
          ∧ r.2.mem ((c.tc : Thread Cert.AdamwTwoReferenceIdeal.nD Cert.AdamwTwoReferenceIdeal.τ).loc Cert.AdamwTwoReferenceIdeal.main_arg5) = m' ((c.tc : Thread Cert.AdamwTwoReferenceIdeal.nD Cert.AdamwTwoReferenceIdeal.τ).loc Cert.AdamwTwoReferenceIdeal.main_arg5)
          ∧ r.2.mem ((c.tc : Thread Cert.AdamwTwoReferenceIdeal.nD Cert.AdamwTwoReferenceIdeal.τ).loc Cert.AdamwTwoReferenceIdeal.main_arg6) = m' ((c.tc : Thread Cert.AdamwTwoReferenceIdeal.nD Cert.AdamwTwoReferenceIdeal.τ).loc Cert.AdamwTwoReferenceIdeal.main_arg6)
          ∧ r.2.mem ((c.tc : Thread Cert.AdamwTwoReferenceIdeal.nD Cert.AdamwTwoReferenceIdeal.τ).loc Cert.AdamwTwoReferenceIdeal.main_arg7) = m' ((c.tc : Thread Cert.AdamwTwoReferenceIdeal.nD Cert.AdamwTwoReferenceIdeal.τ).loc Cert.AdamwTwoReferenceIdeal.main_arg7)
          ∧ r.2.mem ((c.tc : Thread Cert.AdamwTwoReferenceIdeal.nD Cert.AdamwTwoReferenceIdeal.τ).loc Cert.AdamwTwoReferenceIdeal.main_arg8) = m' ((c.tc : Thread Cert.AdamwTwoReferenceIdeal.nD Cert.AdamwTwoReferenceIdeal.τ).loc Cert.AdamwTwoReferenceIdeal.main_arg8)
          ∧ r.2.mem ((c.tc : Thread Cert.AdamwTwoReferenceIdeal.nD Cert.AdamwTwoReferenceIdeal.τ).loc Cert.AdamwTwoReferenceIdeal.main_arg9) = m' ((c.tc : Thread Cert.AdamwTwoReferenceIdeal.nD Cert.AdamwTwoReferenceIdeal.τ).loc Cert.AdamwTwoReferenceIdeal.main_arg9)
          ∧ r.2.mem ((c.tc : Thread Cert.AdamwTwoReferenceIdeal.nD Cert.AdamwTwoReferenceIdeal.τ).loc Cert.AdamwTwoReferenceIdeal.main_arg10) = m' ((c.tc : Thread Cert.AdamwTwoReferenceIdeal.nD Cert.AdamwTwoReferenceIdeal.τ).loc Cert.AdamwTwoReferenceIdeal.main_arg10)
          ∧ r.2.mem ((c.tc : Thread Cert.AdamwTwoReferenceIdeal.nD Cert.AdamwTwoReferenceIdeal.τ).loc Cert.AdamwTwoReferenceIdeal.main_arg11) = m' ((c.tc : Thread Cert.AdamwTwoReferenceIdeal.nD Cert.AdamwTwoReferenceIdeal.τ).loc Cert.AdamwTwoReferenceIdeal.main_arg11)
          ∧ r.2.mem ((c.tc : Thread Cert.AdamwTwoReferenceIdeal.nD Cert.AdamwTwoReferenceIdeal.τ).loc Cert.AdamwTwoReferenceIdeal.main_arg12) = m' ((c.tc : Thread Cert.AdamwTwoReferenceIdeal.nD Cert.AdamwTwoReferenceIdeal.τ).loc Cert.AdamwTwoReferenceIdeal.main_arg12)
          ∧ r.2.mem ((c.tc : Thread Cert.AdamwTwoReferenceIdeal.nD Cert.AdamwTwoReferenceIdeal.τ).loc Cert.AdamwTwoReferenceIdeal.main_arg13) = m' ((c.tc : Thread Cert.AdamwTwoReferenceIdeal.nD Cert.AdamwTwoReferenceIdeal.τ).loc Cert.AdamwTwoReferenceIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hQkv : Cert.Qkv.Facts) (hQkvIdeal : Cert.QkvIdeal.Facts) (hQkvReferenceIdeal : Cert.QkvReferenceIdeal.Facts) (hGluOut : Cert.GluOut.Facts) (hGluOutIdeal : Cert.GluOutIdeal.Facts) (hGluOutReferenceIdeal : Cert.GluOutReferenceIdeal.Facts) (hAdamwOne : Cert.AdamwOne.Facts) (hAdamwOneIdeal : Cert.AdamwOneIdeal.Facts) (hAdamwOneReferenceIdeal : Cert.AdamwOneReferenceIdeal.Facts) (hAdamwTwo : Cert.AdamwTwo.Facts) (hAdamwTwoIdeal : Cert.AdamwTwoIdeal.Facts) (hAdamwTwoReferenceIdeal : Cert.AdamwTwoReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Ffn (hFfn := hFfn)
    ∧ quiescent_FfnIdeal (hFfnIdeal := hFfnIdeal) (hPre_ffn_finite := hPre_ffn_finite)
    ∧ quiescent_FfnIdeal_pre_none (hFfnIdeal := hFfnIdeal)
    ∧ quiescent_FfnReferenceIdeal (hFfnReferenceIdeal := hFfnReferenceIdeal) (hPre_ffn_finite := hPre_ffn_finite)
    ∧ quiescent_Qkv (hQkv := hQkv)
    ∧ quiescent_QkvIdeal (hQkvIdeal := hQkvIdeal)
    ∧ quiescent_QkvReferenceIdeal (hQkvReferenceIdeal := hQkvReferenceIdeal)
    ∧ quiescent_GluOut (hGluOut := hGluOut)
    ∧ quiescent_GluOutIdeal (hGluOutIdeal := hGluOutIdeal)
    ∧ quiescent_GluOutReferenceIdeal (hGluOutReferenceIdeal := hGluOutReferenceIdeal)
    ∧ quiescent_AdamwOne (hAdamwOne := hAdamwOne)
    ∧ quiescent_AdamwOneIdeal (hAdamwOneIdeal := hAdamwOneIdeal)
    ∧ quiescent_AdamwOneReferenceIdeal (hAdamwOneReferenceIdeal := hAdamwOneReferenceIdeal)
    ∧ quiescent_AdamwTwo (hAdamwTwo := hAdamwTwo)
    ∧ quiescent_AdamwTwoIdeal (hAdamwTwoIdeal := hAdamwTwoIdeal)
    ∧ quiescent_AdamwTwoReferenceIdeal (hAdamwTwoReferenceIdeal := hAdamwTwoReferenceIdeal)
    ∧ preserves_Kernel_KernelIdeal
    ∧ algebraic_KernelIdeal_ReferenceIdeal (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal) (hPre_ffn_finite := hPre_ffn_finite)
    ∧ preserves_Qkv_QkvIdeal
    ∧ algebraic_QkvIdeal_QkvReferenceIdeal (hQkvIdeal := hQkvIdeal) (hQkvReferenceIdeal := hQkvReferenceIdeal)
    ∧ preserves_GluOut_GluOutIdeal
    ∧ algebraic_GluOutIdeal_GluOutReferenceIdeal (hGluOutIdeal := hGluOutIdeal) (hGluOutReferenceIdeal := hGluOutReferenceIdeal)
    ∧ preserves_AdamwOne_AdamwOneIdeal
    ∧ algebraic_AdamwOneIdeal_AdamwOneReferenceIdeal (hAdamwOneIdeal := hAdamwOneIdeal) (hAdamwOneReferenceIdeal := hAdamwOneReferenceIdeal)
    ∧ preserves_AdamwTwo_AdamwTwoIdeal
    ∧ algebraic_AdamwTwoIdeal_AdamwTwoReferenceIdeal (hAdamwTwoIdeal := hAdamwTwoIdeal) (hAdamwTwoReferenceIdeal := hAdamwTwoReferenceIdeal)
-- ==== Pre_ffn_finite.lean ====
abbrev S4096x2048 : Shape := ⟨2, ![4096, 2048]⟩
abbrev S4x2048x2816 : Shape := ⟨3, ![4, 2048, 2816]⟩
abbrev S1x5632x2048 : Shape := ⟨3, ![1, 5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2816 : S_.BroadcastsInDim S4x2048x2816 (![] : Fin 0 → Fin S4x2048x2816.rank)
  reducesTo_S4x2048x2816_S_d0_1_2 : S4x2048x2816.ReducesTo [0, 1, 2] S_
  bcast_S_S1x5632x2048 : S_.BroadcastsInDim S1x5632x2048 (![] : Fin 0 → Fin S1x5632x2048.rank)
  reducesTo_S1x5632x2048_S_d0_1_2 : S1x5632x2048.ReducesTo [0, 1, 2] S_

variable [Facts]

def fn_part1 {F : FTy → Type} [FloatOps F] (main_v4 : IVec S_ 1) (main_v9 : IVec S_ 1) (main_v14 : IVec S_ 1) (main_v16 : FVec F S4096x2048 .f32) (main_cst_4 : FVec F S_ .f32) : IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S4096x2048 .bf16) (main_arg1 : FVec F S4x2048x2816 .bf16) (main_arg2 : FVec F S1x5632x2048 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x2048x2816 .f32 := (extf .f32 · bitsLt_bf16_f32) main_arg1
  let main_v6 : FVec F S4x2048x2816 .f32 := Host.absf main_v5
  let main_cst_0 : FVec F S_ .f32 := constant S_ .f32 0x7F800000#32
  let main_v7 : FVec F S4x2048x2816 .f32 := broadcastInDim S4x2048x2816 ![] bcast_S_S4x2048x2816 main_cst_0
  let main_v8 : IVec S4x2048x2816 1 := cmpf .olt main_v6 main_v7
  let main_c_1 : IVec S_ 1 := constantI S_ 1 1#1
  let main_v9 : IVec S_ 1 := (fun x v => Host.reduce IntOp.andi x v reducesTo_S4x2048x2816_S_d0_1_2 h_S_) main_v8 main_c_1
  let main_v10 : FVec F S1x5632x2048 .f32 := (extf .f32 · bitsLt_bf16_f32) main_arg2
  let main_v11 : FVec F S1x5632x2048 .f32 := Host.absf main_v10
  let main_cst_2 : FVec F S_ .f32 := constant S_ .f32 0x7F800000#32
  let main_v12 : FVec F S1x5632x2048 .f32 := broadcastInDim S1x5632x2048 ![] bcast_S_S1x5632x2048 main_cst_2
  let main_v13 : IVec S1x5632x2048 1 := cmpf .olt main_v11 main_v12
  let main_c_3 : IVec S_ 1 := constantI S_ 1 1#1
  let main_v14 : IVec S_ 1 := (fun x v => Host.reduce IntOp.andi x v reducesTo_S1x5632x2048_S_d0_1_2 h_S_) main_v13 main_c_3
  let main_v15 : FVec F S4096x2048 .f32 := (extf .f32 · bitsLt_bf16_f32) main_arg3
  let main_v16 : FVec F S4096x2048 .f32 := Host.absf main_v15
  let main_cst_4 : FVec F S_ .f32 := constant S_ .f32 0x7F800000#32
  fn_part1 (F := F) main_v4 main_v9 main_v14 main_v16 main_cst_4
-- ==== Pre_finite.lean ====
abbrev S4096x6144 : Shape := ⟨2, ![4096, 6144]⟩
abbrev S4096x1024 : Shape := ⟨2, ![4096, 1024]⟩
abbrev S4096x2048 : Shape := ⟨2, ![4096, 2048]⟩
abbrev S4096x16 : Shape := ⟨2, ![4096, 16]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_v18 : IVec S_ 1) (main_v23 : IVec S_ 1) (main_v27 : IVec S_ 1) (main_v31 : IVec S_ 1) (main_v33 : IVec S_ 1) : IVec S_ 1 :=
  let main_v34 : IVec S_ 1 := andi main_v33 main_v18
  let main_v35 : IVec S_ 1 := andi main_v34 main_v23
  let main_v36 : IVec S_ 1 := andi main_v35 main_v27
  let main_v37 : IVec S_ 1 := andi main_v36 main_v31
  main_v37

def fn_part1 {F : FTy → Type} [FloatOps F] (main_arg4 : FVec F S4096x2048 .bf16) (main_arg5 : FVec F S4096x16 .f32) (main_arg6 : FVec F S4096x16 .f32) (main_v4 : IVec S_ 1) (main_v9 : IVec S_ 1) (main_v13 : IVec S_ 1) (main_v15 : FVec F S4096x2048 .f32) (main_v16 : FVec F S4096x2048 .f32) : IVec S_ 1 :=
  let main_v17 : IVec S4096x2048 1 := cmpf .olt main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : FVec F S4096x2048 .f32 := (extf .f32 · bitsLt_bf16_f32) main_arg4
  let main_v20 : FVec F S4096x2048 .f32 := Host.absf main_v19
  let main_cst_6 : FVec F S_ .f32 := constant S_ .f32 0x7F800000#32
  let main_v21 : FVec F S4096x2048 .f32 := broadcastInDim S4096x2048 ![] bcast_S_S4096x2048 main_cst_6
  let main_v22 : IVec S4096x2048 1 := cmpf .olt main_v20 main_v21
  let main_c_7 : IVec S_ 1 := constantI S_ 1 1#1
  let main_v23 : IVec S_ 1 := (fun x v => Host.reduce IntOp.andi x v reducesTo_S4096x2048_S_d0_1 h_S_) main_v22 main_c_7
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : FVec F S4096x16 .f32 := Host.absf main_arg6
  let main_cst_10 : FVec F S_ .f32 := constant S_ .f32 0x7F800000#32
  let main_v29 : FVec F S4096x16 .f32 := broadcastInDim S4096x16 ![] bcast_S_S4096x16 main_cst_10
  let main_v30 : IVec S4096x16 1 := cmpf .olt main_v28 main_v29
  let main_c_11 : IVec S_ 1 := constantI S_ 1 1#1
  let main_v31 : IVec S_ 1 := (fun x v => Host.reduce IntOp.andi x v reducesTo_S4096x16_S_d0_1 h_S_) main_v30 main_c_11
  let main_v32 : IVec S_ 1 := andi main_v4 main_v9
  let main_v33 : IVec S_ 1 := andi main_v32 main_v13
  fn_part2 (F := F) main_v18 main_v23 main_v27 main_v31 main_v33

def fn {F : FTy → Type} [FloatOps F] (main_arg0 : FVec F S4096x6144 .bf16) (main_arg1 : FVec F S4096x1024 .bf16) (main_arg2 : FVec F S4096x2048 .f32) (main_arg3 : FVec F S4096x2048 .bf16) (main_arg4 : FVec F S4096x2048 .bf16) (main_arg5 : FVec F S4096x16 .f32) (main_arg6 : FVec F S4096x16 .f32) (main_arg7 : FVec F S4096x6144 .bf16) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4096x2048 .f32 := Host.absf main_arg2
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : FVec F S4096x2048 .f32 := (extf .f32 · bitsLt_bf16_f32) main_arg3
  let main_v15 : FVec F S4096x2048 .f32 := Host.absf main_v14
  let main_cst_4 : FVec F S_ .f32 := constant S_ .f32 0x7F800000#32
  let main_v16 : FVec F S4096x2048 .f32 := broadcastInDim S4096x2048 ![] bcast_S_S4096x2048 main_cst_4
  fn_part1 (F := F) main_arg4 main_arg5 main_arg6 main_v4 main_v9 main_v13 main_v15 main_v16
-- ==== Kernel.lean ====
abbrev S4096x6144 : Shape := ⟨2, ![4096, 6144]⟩
abbrev S4096x1024 : Shape := ⟨2, ![4096, 1024]⟩
abbrev S4096x2048 : Shape := ⟨2, ![4096, 2048]⟩
abbrev S4096x16 : Shape := ⟨2, ![4096, 16]⟩
abbrev S4096x512 : Shape := ⟨2, ![4096, 512]⟩
abbrev S16x256x4x4x128 : Shape := ⟨5, ![16, 256, 4, 4, 128]⟩
abbrev S16x256x4x128 : Shape := ⟨4, ![16, 256, 4, 128]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4x4x256 : Shape := ⟨4, ![16, 4, 4, 256]⟩
abbrev S16x4x4x256x1 : Shape := ⟨5, ![16, 4, 4, 256, 1]⟩
abbrev S16x4x128x4x256 : Shape := ⟨5, ![16, 4, 128, 4, 256]⟩
abbrev S4096x16x128 : Shape := ⟨3, ![4096, 16, 128]⟩
abbrev S16x256x4x4 : Shape := ⟨4, ![16, 256, 4, 4]⟩
abbrev S4096x16x1 : Shape := ⟨3, ![4096, 16, 1]⟩
abbrev S16x256x6144 : Shape := ⟨3, ![16, 256, 6144]⟩
abbrev S16x256x1024 : Shape := ⟨3, ![16, 256, 1024]⟩
abbrev S16x256x2048 : Shape := ⟨3, ![16, 256, 2048]⟩
abbrev S16x256x512 : Shape := ⟨3, ![16, 256, 512]⟩
abbrev S1x128x2048 : Shape := ⟨3, ![1, 128, 2048]⟩
abbrev S1x128x512 : Shape := ⟨3, ![1, 128, 512]⟩
abbrev S128x512 : Shape := ⟨2, ![128, 512]⟩
abbrev S512x256 : Shape := ⟨2, ![512, 256]⟩
abbrev S1x128x128 : Shape := ⟨3, ![1, 128, 128]⟩
abbrev S128x128 : Shape := ⟨2, ![128, 128]⟩
abbrev S256x128 : Shape := ⟨2, ![256, 128]⟩
abbrev S512x128 : Shape := ⟨2, ![512, 128]⟩
abbrev S512x1 : Shape := ⟨2, ![512, 1]⟩
abbrev S512 : Shape := ⟨1, ![512]⟩

abbrev nBuf : Space → Nat
  | .hbm => 112
  | .vmem => 28
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S4096x16, .f32⟩
  | .hbm, ⟨6, _⟩ => ⟨S4096x16, .f32⟩
  | .hbm, ⟨7, _⟩ => ⟨S4096x6144, .bf16⟩
  | .hbm, ⟨8, _⟩ => ⟨S4096x2048, .bf16⟩
  | .hbm, ⟨9, _⟩ => ⟨S4096x512, .bf16⟩
  | .hbm, ⟨10, _⟩ => ⟨S4096x512, .bf16⟩
  | .hbm, ⟨11, _⟩ => ⟨S4096x2048, .f32⟩
  | .hbm, ⟨12, _⟩ => ⟨S16x256x4x4x128, .f32⟩
  | .hbm, ⟨13, _⟩ => ⟨S4096x512, .f32⟩
  | .hbm, ⟨14, _⟩ => ⟨S16x256x4x128, .f32⟩
  | .hbm, ⟨15, _⟩ => ⟨S4096x512, .f32⟩
  | .hbm, ⟨16, _⟩ => ⟨S16x256x4x128, .f32⟩
  | .hbm, ⟨17, _⟩ => ⟨S16x4x256x256x4, .f32⟩
  | .hbm, ⟨18, _⟩ => ⟨S16x4x4x256x256, .f32⟩
  | .hbm, ⟨19, _⟩ => ⟨S_, .f32⟩
  | .hbm, ⟨20, _⟩ => ⟨S16x4x4x256x256, .f32⟩
  | .hbm, ⟨21, _⟩ => ⟨S16x4x4x256x256, .f32⟩
  | .hbm, ⟨22, _⟩ => ⟨S256, .i32⟩
  | .hbm, ⟨23, _⟩ => ⟨S256x1, .i32⟩
  | .hbm, ⟨24, _⟩ => ⟨S256, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i1⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .i1⟩
  | .hbm, ⟨36, _⟩ => ⟨S_, .f32⟩
  | .hbm, ⟨37, _⟩ => ⟨S_, .f32⟩
  | .hbm, ⟨38, _⟩ => ⟨S16x4x4x256x256, .i1⟩
  | .hbm, ⟨39, _⟩ => ⟨S16x4x4x256x256, .f32⟩
  | .hbm, ⟨40, _⟩ => ⟨S16x4x4x256x256, .f32⟩
  | .hbm, ⟨41, _⟩ => ⟨S_, .f32⟩
  | .hbm, ⟨42, _⟩ => ⟨S16x4x4x256, .f32⟩
  | .hbm, ⟨43, _⟩ => ⟨S16x4x4x256x1, .f32⟩
  | .hbm, ⟨44, _⟩ => ⟨S16x4x4x256x256, .f32⟩
  | .hbm, ⟨45, _⟩ => ⟨S16x4x4x256x256, .f32⟩
  | .hbm, ⟨46, _⟩ => ⟨S16x4x4x256x256, .f32⟩
  | .hbm, ⟨47, _⟩ => ⟨S_, .f32⟩
  | .hbm, ⟨48, _⟩ => ⟨S16x4x4x256, .f32⟩
  | .hbm, ⟨49, _⟩ => ⟨S16x4x4x256x1, .f32⟩
  | .hbm, ⟨50, _⟩ => ⟨S16x4x4x256x256, .f32⟩
  | .hbm, ⟨51, _⟩ => ⟨S16x4x4x256x256, .f32⟩
  | .hbm, ⟨52, _⟩ => ⟨S16x4x128x4x256, .f32⟩
  | .hbm, ⟨53, _⟩ => ⟨S16x256x4x4x128, .f32⟩
  | .hbm, ⟨54, _⟩ => ⟨S16x4x4x256x1, .f32⟩
  | .hbm, ⟨55, _⟩ => ⟨S16x4x4x256x1, .f32⟩
  | .hbm, ⟨56, _⟩ => ⟨S16x4x4x256, .f32⟩
  | .hbm, ⟨57, _⟩ => ⟨S4096x16x128, .f32⟩
  | .hbm, ⟨58, _⟩ => ⟨S16x256x4x4, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16x1, .f32⟩
  | .hbm, ⟨69, _⟩ => ⟨S4096x2048, .f32⟩
  | .hbm, ⟨70, _⟩ => ⟨S4096x16x128, .f32⟩
  | .hbm, ⟨71, _⟩ => ⟨S4096x16x128, .f32⟩
  | .hbm, ⟨72, _⟩ => ⟨S4096x16x128, .f32⟩
  | .hbm, ⟨73, _⟩ => ⟨S4096x16x1, .f32⟩
  | .hbm, ⟨74, _⟩ => ⟨S4096x2048, .f32⟩
  | .hbm, ⟨75, _⟩ => ⟨S4096x16x128, .f32⟩
  | .hbm, ⟨76, _⟩ => ⟨S4096x16x128, .f32⟩
  | .hbm, ⟨77, _⟩ => ⟨S4096x16x128, .f32⟩
  | .hbm, ⟨78, _⟩ => ⟨S4096x16x128, .f32⟩
  | .hbm, ⟨79, _⟩ => ⟨S4096x16x1, .f32⟩
  | .hbm, ⟨80, _⟩ => ⟨S4096x16x128, .f32⟩
  | .hbm, ⟨81, _⟩ => ⟨S4096x16x128, .f32⟩
  | .hbm, ⟨82, _⟩ => ⟨S4096x16x128, .f32⟩
  | .hbm, ⟨83, _⟩ => ⟨S4096x16, .f32⟩
  | .hbm, ⟨84, _⟩ => ⟨S4096x16, .f32⟩
  | .hbm, ⟨85, _⟩ => ⟨S4096x16x1, .f32⟩
  | .hbm, ⟨86, _⟩ => ⟨S4096x16x128, .f32⟩
  | .hbm, ⟨87, _⟩ => ⟨S4096x16x128, .f32⟩
  | .hbm, ⟨88, _⟩ => ⟨S4096x2048, .f32⟩
  | .hbm, ⟨89, _⟩ => ⟨S4096x16x1, .f32⟩
  | .hbm, ⟨90, _⟩ => ⟨S4096x16x128, .f32⟩
  | .hbm, ⟨91, _⟩ => ⟨S4096x2048, .f32⟩
  | .hbm, ⟨92, _⟩ => ⟨S4096x16x1, .f32⟩
  | .hbm, ⟨93, _⟩ => ⟨S4096x16x128, .f32⟩
  | .hbm, ⟨94, _⟩ => ⟨S4096x2048, .f32⟩
  | .hbm, ⟨95, _⟩ => ⟨S4096x16x1, .f32⟩
  | .hbm, ⟨96, _⟩ => ⟨S4096x16x128, .f32⟩
  | .hbm, ⟨97, _⟩ => ⟨S4096x2048, .f32⟩
  | .hbm, ⟨98, _⟩ => ⟨S16x256x6144, .bf16⟩
  | .hbm, ⟨99, _⟩ => ⟨S16x256x1024, .bf16⟩
  | .hbm, ⟨100, _⟩ => ⟨S16x256x2048, .f32⟩
  | .hbm, ⟨101, _⟩ => ⟨S16x256x2048, .f32⟩
  | .hbm, ⟨102, _⟩ => ⟨S16x256x2048, .f32⟩
  | .hbm, ⟨103, _⟩ => ⟨S16x256x2048, .f32⟩
  | .hbm, ⟨104, _⟩ => ⟨S16x256x2048, .f32⟩
  | .hbm, ⟨105, _⟩ => ⟨S16x256x6144, .bf16⟩
  | .hbm, ⟨106, _⟩ => ⟨S16x256x6144, .bf16⟩
  | .hbm, ⟨107, _⟩ => ⟨S16x256x512, .f32⟩
  | .hbm, ⟨108, _⟩ => ⟨S16x256x512, .f32⟩
  | .hbm, ⟨109, _⟩ => ⟨S4096x6144, .bf16⟩
  | .hbm, ⟨110, _⟩ => ⟨S4096x512, .f32⟩
  | .hbm, ⟨111, _⟩ => ⟨S4096x512, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .bf16⟩
  | .local _ .vmem, ⟨21, _⟩ => ⟨S1x128x2048, .bf16⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S128x512, .f32⟩
  | .local _ .vmem, ⟨27, _⟩ => ⟨S128x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89_0 : Ref sig .tc := ⟨.hbm, 106, rfl⟩
abbrev main_v89_1 : Ref sig .tc := ⟨.hbm, 107, rfl⟩
abbrev main_v89_2 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let c0_i32 : BitVec 32 := 0#32
  ![arg0.toNat, v0.toNat, c2_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c1_i32_0 : BitVec 32 := 1#32
  let c0_i32 : BitVec 32 := 0#32
  ![arg0.toNat, v0.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let c0_i32_2 : BitVec 32 := 0#32
  ![arg0.toNat, v2.toNat, c1_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let c0_i32 : BitVec 32 := 0#32
  ![arg0.toNat, v0.toNat, c2_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x6144 : Shape := ⟨2, ![4096, 6144]⟩
abbrev S4096x1024 : Shape := ⟨2, ![4096, 1024]⟩
abbrev S4096x2048 : Shape := ⟨2, ![4096, 2048]⟩
abbrev S4096x16 : Shape := ⟨2, ![4096, 16]⟩
abbrev S4096x512 : Shape := ⟨2, ![4096, 512]⟩
abbrev S16x256x4x4x128 : Shape := ⟨5, ![16, 256, 4, 4, 128]⟩
abbrev S16x256x4x128 : Shape := ⟨4, ![16, 256, 4, 128]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x4x4x256 : Shape := ⟨4, ![16, 4, 4, 256]⟩
abbrev S16x4x4x256x1 : Shape := ⟨5, ![16, 4, 4, 256, 1]⟩
abbrev S16x4x128x4x256 : Shape := ⟨5, ![16, 4, 128, 4, 256]⟩
abbrev S4096x16x128 : Shape := ⟨3, ![4096, 16, 128]⟩
abbrev S16x256x4x4 : Shape := ⟨4, ![16, 256, 4, 4]⟩
abbrev S1x4096x16 : Shape := ⟨3, ![1, 4096, 16]⟩
abbrev S3x4096x16 : Shape := ⟨3, ![3, 4096, 16]⟩
abbrev S3x4096x16x1 : Shape := ⟨4, ![3, 4096, 16, 1]⟩
abbrev S1x4096x16x128 : Shape := ⟨4, ![1, 4096, 16, 128]⟩
abbrev S3x4096x16x128 : Shape := ⟨4, ![3, 4096, 16, 128]⟩
abbrev S16x4x128x256 : Shape := ⟨4, ![16, 4, 128, 256]⟩
abbrev S16x4x256x4x128 : Shape := ⟨5, ![16, 4, 256, 4, 128]⟩
abbrev S16x4x256x128 : Shape := ⟨4, ![16, 4, 256, 128]⟩
abbrev S4096x4096 : Shape := ⟨2, ![4096, 4096]⟩

abbrev nBuf : Space → Nat
  | .hbm => 224
  | .vmem => 0
  | .smem => 0
  | _ => 0

abbrev hbmTy0_0 (i : Nat) : BufTy := match i % 128 with
  | 0 => ⟨S4096x6144, .bf16⟩
  | 1 => ⟨S4096x1024, .bf16⟩
  | 2 => ⟨S4096x2048, .f32⟩
  | 3 => ⟨S4096x2048, .bf16⟩
  | 4 => ⟨S4096x2048, .bf16⟩
  | 5 => ⟨S4096x16, .f32⟩
  | 6 => ⟨S4096x16, .f32⟩
  | 7 => ⟨S4096x6144, .bf16⟩
  | 8 => ⟨S4096x2048, .bf16⟩
  | 9 => ⟨S4096x2048, .f32⟩
  | 10 => ⟨S4096x512, .bf16⟩
  | 11 => ⟨S4096x512, .f32⟩
  | 12 => ⟨S4096x512, .bf16⟩
  | 13 => ⟨S4096x512, .f32⟩
  | 14 => ⟨S16x256x4x4x128, .f32⟩
  | 15 => ⟨S16x256x4x128, .f32⟩
  | 16 => ⟨S16x256x4x128, .f32⟩
  | 17 => ⟨S16x4x256x256x4, .f32⟩
  | 18 => ⟨S16x4x4x256x256, .f32⟩
  | 19 => ⟨S_, .f32⟩
  | 20 => ⟨S16x4x4x256x256, .f32⟩
  | 21 => ⟨S16x4x4x256x256, .f32⟩
  | 22 => ⟨S256, .i32⟩
  | 23 => ⟨S256x1, .i32⟩
  | 24 => ⟨S256, .i32⟩
  | 25 => ⟨S1x256, .i32⟩
  | 26 => ⟨S256x256, .i32⟩
  | 27 => ⟨S256x256, .i32⟩
  | 28 => ⟨S256x256, .i32⟩
  | 29 => ⟨S_, .i32⟩
  | 30 => ⟨S256x256, .i32⟩
  | 31 => ⟨S256x256, .i1⟩
  | 32 => ⟨S_, .i32⟩
  | 33 => ⟨S256x256, .i32⟩
  | 34 => ⟨S256x256, .i1⟩
  | 35 => ⟨S256x256, .i1⟩
  | 36 => ⟨S_, .f32⟩
  | 37 => ⟨S_, .f32⟩
  | 38 => ⟨S16x4x4x256x256, .i1⟩
  | 39 => ⟨S16x4x4x256x256, .f32⟩
  | 40 => ⟨S16x4x4x256x256, .f32⟩
  | 41 => ⟨S_, .f32⟩
  | 42 => ⟨S16x4x4x256x256, .f32⟩
  | 43 => ⟨S_, .f32⟩
  | 44 => ⟨S16x4x4x256, .f32⟩
  | 45 => ⟨S16x4x4x256x1, .f32⟩
  | 46 => ⟨S16x4x4x256x256, .f32⟩
  | 47 => ⟨S16x4x4x256x256, .i1⟩
  | 48 => ⟨S16x4x4x256x256, .f32⟩
  | 49 => ⟨S_, .f32⟩
  | 50 => ⟨S16x4x4x256, .f32⟩
  | 51 => ⟨S16x4x4x256x1, .f32⟩
  | 52 => ⟨S16x4x4x256x256, .f32⟩
  | 53 => ⟨S16x4x4x256x256, .f32⟩
  | 54 => ⟨S16x4x4x256x256, .f32⟩
  | 55 => ⟨S_, .f32⟩
  | 56 => ⟨S16x4x4x256, .f32⟩
  | 57 => ⟨S16x4x4x256x1, .f32⟩
  | 58 => ⟨S16x4x4x256x256, .f32⟩
  | 59 => ⟨S16x4x4x256x256, .f32⟩
  | 60 => ⟨S16x4x4x256x1, .f32⟩
  | 61 => ⟨S_, .f32⟩
  | 62 => ⟨S16x4x4x256x1, .f32⟩
  | 63 => ⟨S16x4x4x256x1, .f32⟩
  | 64 => ⟨S16x4x128x4x256, .f32⟩
  | 65 => ⟨S16x256x4x4x128, .f32⟩
  | 66 => ⟨S16x4x4x256x1, .f32⟩
  | 67 => ⟨S16x4x4x256x1, .f32⟩
  | 68 => ⟨S16x4x4x256, .f32⟩
  | 69 => ⟨S4096x16x128, .f32⟩
  | 70 => ⟨S16x256x4x4, .f32⟩
  | 71 => ⟨S4096x16, .f32⟩
  | 72 => ⟨S1x4096x16, .f32⟩
  | 73 => ⟨S1x4096x16, .f32⟩
  | 74 => ⟨S1x4096x16, .f32⟩
  | 75 => ⟨S3x4096x16, .f32⟩
  | 76 => ⟨S_, .f32⟩
  | 77 => ⟨S4096x16, .f32⟩
  | 78 => ⟨S_, .f32⟩
  | 79 => ⟨S4096x16, .f32⟩
  | 80 => ⟨S_, .f32⟩
  | 81 => ⟨S4096x16, .f32⟩
  | 82 => ⟨S1x4096x16, .f32⟩
  | 83 => ⟨S3x4096x16, .f32⟩
  | 84 => ⟨S3x4096x16, .i1⟩
  | 85 => ⟨S3x4096x16, .f32⟩
  | 86 => ⟨S_, .f32⟩
  | 87 => ⟨S4096x16, .f32⟩
  | 88 => ⟨S_, .f32⟩
  | 89 => ⟨S4096x16, .f32⟩
  | 90 => ⟨S4096x16, .f32⟩
  | 91 => ⟨S_, .f32⟩
  | 92 => ⟨S4096x16, .f32⟩
  | 93 => ⟨S4096x16, .i1⟩
  | 94 => ⟨S_, .f32⟩
  | 95 => ⟨S4096x16, .f32⟩
  | 96 => ⟨S4096x16, .i1⟩
  | 97 => ⟨S_, .f32⟩
  | 98 => ⟨S4096x16, .f32⟩
  | 99 => ⟨S_, .f32⟩
  | 100 => ⟨S4096x16, .f32⟩
  | 101 => ⟨S_, .f32⟩
  | 102 => ⟨S4096x16, .f32⟩
  | 103 => ⟨S4096x16, .f32⟩
  | 104 => ⟨S4096x16, .f32⟩
  | 105 => ⟨S1x4096x16, .f32⟩
  | 106 => ⟨S3x4096x16, .f32⟩
  | 107 => ⟨S3x4096x16, .f32⟩
  | 108 => ⟨S3x4096x16, .f32⟩
  | 109 => ⟨S_, .f32⟩
  | 110 => ⟨S4096x16, .f32⟩
  | 111 => ⟨S1x4096x16, .f32⟩
  | 112 => ⟨S3x4096x16, .f32⟩
  | 113 => ⟨S3x4096x16, .f32⟩
  | 114 => ⟨S1x4096x16, .f32⟩
  | 115 => ⟨S_, .f32⟩
  | 116 => ⟨S1x4096x16, .f32⟩
  | 117 => ⟨S1x4096x16, .f32⟩
  | 118 => ⟨S3x4096x16x1, .f32⟩
  | 119 => ⟨S4096x2048, .f32⟩
  | 120 => ⟨S4096x16x128, .f32⟩
  | 121 => ⟨S4096x2048, .f32⟩
  | 122 => ⟨S4096x16x128, .f32⟩
  | 123 => ⟨S1x4096x16x128, .f32⟩
  | 124 => ⟨S1x4096x16x128, .f32⟩
  | 125 => ⟨S1x4096x16x128, .f32⟩
  | 126 => ⟨S3x4096x16x128, .f32⟩
  | 127 => ⟨S_, .f32⟩
  | _ => ⟨S4096x6144, .bf16⟩

abbrev hbmTy0_1 (i : Nat) : BufTy := match i % 128 with
  | 0 => ⟨S4096x16x128, .f32⟩
  | 1 => ⟨S_, .f32⟩
  | 2 => ⟨S4096x16x128, .f32⟩
  | 3 => ⟨S3x4096x16x128, .f32⟩
  | 4 => ⟨S3x4096x16x128, .f32⟩
  | 5 => ⟨S_, .f32⟩
  | 6 => ⟨S4096x16x128, .f32⟩
  | 7 => ⟨S4096x2048, .f32⟩
  | 8 => ⟨S4096x16x128, .f32⟩
  | 9 => ⟨S3x4096x16x128, .f32⟩
  | 10 => ⟨S3x4096x16x128, .f32⟩
  | 11 => ⟨S3x4096x16x128, .f32⟩
  | 12 => ⟨S3x4096x16x128, .f32⟩
  | 13 => ⟨S_, .f32⟩
  | 14 => ⟨S3x4096x16, .f32⟩
  | 15 => ⟨S3x4096x16x1, .f32⟩
  | 16 => ⟨S1x4096x16x128, .f32⟩
  | 17 => ⟨S4096x16x128, .f32⟩
  | 18 => ⟨S1x4096x16x128, .f32⟩
  | 19 => ⟨S4096x16x128, .f32⟩
  | 20 => ⟨S1x4096x16x128, .f32⟩
  | 21 => ⟨S4096x16x128, .f32⟩
  | 22 => ⟨S_, .f32⟩
  | 23 => ⟨S3x4096x16, .f32⟩
  | 24 => ⟨S3x4096x16, .f32⟩
  | 25 => ⟨S3x4096x16, .f32⟩
  | 26 => ⟨S3x4096x16, .f32⟩
  | 27 => ⟨S_, .f32⟩
  | 28 => ⟨S4096x16, .f32⟩
  | 29 => ⟨S1x4096x16, .f32⟩
  | 30 => ⟨S1x4096x16, .f32⟩
  | 31 => ⟨S3x4096x16, .f32⟩
  | 32 => ⟨S3x4096x16, .f32⟩
  | 33 => ⟨S_, .f32⟩
  | 34 => ⟨S4096x16, .f32⟩
  | 35 => ⟨S3x4096x16, .f32⟩
  | 36 => ⟨S3x4096x16, .f32⟩
  | 37 => ⟨S3x4096x16, .f32⟩
  | 38 => ⟨S1x4096x16, .f32⟩
  | 39 => ⟨S4096x16, .f32⟩
  | 40 => ⟨S1x4096x16, .f32⟩
  | 41 => ⟨S4096x16, .f32⟩
  | 42 => ⟨S1x4096x16, .f32⟩
  | 43 => ⟨S4096x16, .f32⟩
  | 44 => ⟨S16x256x4x4, .f32⟩
  | 45 => ⟨S16x4x4x256, .f32⟩
  | 46 => ⟨S16x256x4x4x128, .f32⟩
  | 47 => ⟨S16x4x4x256x1, .f32⟩
  | 48 => ⟨S16x4x4x256x1, .f32⟩
  | 49 => ⟨S16x4x128x4x256, .f32⟩
  | 50 => ⟨S16x4x4x256x256, .f32⟩
  | 51 => ⟨S16x4x128x256, .f32⟩
  | 52 => ⟨S16x256x4x128, .f32⟩
  | 53 => ⟨S16x4x4x256x256, .f32⟩
  | 54 => ⟨S16x4x4x256x256, .f32⟩
  | 55 => ⟨S16x4x4x256x256, .f32⟩
  | 56 => ⟨S_, .f32⟩
  | 57 => ⟨S16x4x4x256, .f32⟩
  | 58 => ⟨S16x4x4x256x1, .f32⟩
  | 59 => ⟨S16x4x4x256x1, .f32⟩
  | 60 => ⟨S16x4x4x256x1, .f32⟩
  | 61 => ⟨S16x4x4x256x256, .f32⟩
  | 62 => ⟨S16x4x4x256x256, .f32⟩
  | 63 => ⟨S_, .f32⟩
  | 64 => ⟨S16x4x4x256, .f32⟩
  | 65 => ⟨S16x4x4x256x256, .f32⟩
  | 66 => ⟨S16x4x4x256x256, .f32⟩
  | 67 => ⟨S16x4x4x256x256, .f32⟩
  | 68 => ⟨S16x4x4x256x256, .f32⟩
  | 69 => ⟨S_, .f32⟩
  | 70 => ⟨S16x4x4x256, .f32⟩
  | 71 => ⟨S16x4x4x256x1, .f32⟩
  | 72 => ⟨S16x4x4x256x1, .f32⟩
  | 73 => ⟨S_, .f32⟩
  | 74 => ⟨S16x4x4x256, .f32⟩
  | 75 => ⟨S16x4x4x256, .f32⟩
  | 76 => ⟨S16x4x4x256x256, .f32⟩
  | 77 => ⟨S16x4x4x256x256, .f32⟩
  | 78 => ⟨S16x4x4x256x256, .f32⟩
  | 79 => ⟨S_, .f32⟩
  | 80 => ⟨S16x4x4x256x256, .f32⟩
  | 81 => ⟨S16x4x4x256x256, .f32⟩
  | 82 => ⟨S_, .f32⟩
  | 83 => ⟨S16x4x4x256x256, .f32⟩
  | 84 => ⟨S16x4x4x256x256, .f32⟩
  | 85 => ⟨S16x4x256x256x4, .f32⟩
  | 86 => ⟨S16x4x256x4x128, .f32⟩
  | 87 => ⟨S16x256x4x4x128, .f32⟩
  | 88 => ⟨S16x4x256x128, .f32⟩
  | 89 => ⟨S16x256x4x128, .f32⟩
  | 90 => ⟨S4096x512, .f32⟩
  | 91 => ⟨S4096x512, .f32⟩
  | 92 => ⟨S4096x2048, .f32⟩
  | 93 => ⟨S4096x4096, .bf16⟩
  | 94 => ⟨S4096x2048, .bf16⟩
  | 95 => ⟨S4096x6144, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_call0_v0 : Ref sig .tc := ⟨.hbm, 37, rfl⟩
abbrev main_v25_1 : Ref sig .tc := ⟨.hbm, 38, rfl⟩
abbrev main_call0_v2 : Ref sig .tc := ⟨.hbm, 39, rfl⟩
abbrev main_v25_0 : Ref sig .tc := ⟨.hbm, 40, rfl⟩
abbrev main_call0_cst : Ref sig .tc := ⟨.hbm, 41, rfl⟩
abbrev main_v25_2 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_22 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_23 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_24 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_25 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_26 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_27 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_28 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call1_cst : Ref sig .tc := ⟨.hbm, 207, rfl⟩
abbrev main_call1_v0 : Ref sig .tc := ⟨.hbm, 208, rfl⟩
abbrev main_v163 : Ref sig .tc := ⟨.hbm, 209, rfl⟩
abbrev main_cst_29 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩

abbrev nD : Nat := 1
abbrev τ : Topo := Topo.v7x

variable {F : FTy → Type} [FloatOps F]

def κ : String → Option EReal := fun
  | "mask" => some ⊥
  | _ => none
-- ==== Ffn.lean ====
abbrev S4096x2048 : Shape := ⟨2, ![4096, 2048]⟩
abbrev S4x2048x2816 : Shape := ⟨3, ![4, 2048, 2816]⟩
abbrev S1x5632x2048 : Shape := ⟨3, ![1, 5632, 2048]⟩
abbrev S4096x5632 : Shape := ⟨2, ![4096, 5632]⟩
abbrev S4096x11264 : Shape := ⟨2, ![4096, 11264]⟩
abbrev S512x2048 : Shape := ⟨2, ![512, 2048]⟩
abbrev S1x2048x1408 : Shape := ⟨3, ![1, 2048, 1408]⟩
abbrev S512x1408 : Shape := ⟨2, ![512, 1408]⟩
abbrev S512x2816 : Shape := ⟨2, ![512, 2816]⟩
abbrev S2048x1408 : Shape := ⟨2, ![2048, 1408]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩
abbrev S4096x512 : Shape := ⟨2, ![4096, 512]⟩
abbrev S4096x1024 : Shape := ⟨2, ![4096, 1024]⟩
abbrev S1x512x1024 : Shape := ⟨3, ![1, 512, 1024]⟩
abbrev S1x1408x2048 : Shape := ⟨3, ![1, 1408, 2048]⟩
abbrev S1408x2048 : Shape := ⟨2, ![1408, 2048]⟩
abbrev S4096x1408 : Shape := ⟨2, ![4096, 1408]⟩
abbrev S1x512x1408 : Shape := ⟨3, ![1, 512, 1408]⟩
abbrev S512x11264 : Shape := ⟨2, ![512, 11264]⟩
abbrev S4x512x2816 : Shape := ⟨3, ![4, 512, 2816]⟩
abbrev S512x512 : Shape := ⟨2, ![512, 512]⟩

abbrev nBuf : Space → Nat
  | .hbm => 11
  | .vmem => 42
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x5632x2048, .bf16⟩
  | .hbm, ⟨3, _⟩ => ⟨S4096x2048, .bf16⟩
  | .hbm, ⟨4, _⟩ => ⟨S4096x5632, .bf16⟩
  | .hbm, ⟨5, _⟩ => ⟨S4096x11264, .bf16⟩
  | .hbm, ⟨6, _⟩ => ⟨S4096x2048, .f32⟩
  | .hbm, ⟨7, _⟩ => ⟨S1x5632x2048, .bf16⟩
  | .hbm, ⟨8, _⟩ => ⟨S4096x11264, .bf16⟩
  | .hbm, ⟨9, _⟩ => ⟨S4x2048x2816, .bf16⟩
  | .hbm, ⟨10, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x2816, .bf16⟩
  | .local _ .vmem, ⟨9, _⟩ => ⟨S512x2816, .bf16⟩
  | .local _ .vmem, ⟨10, _⟩ => ⟨S512x5632, .bf16⟩
  | .local _ .vmem, ⟨11, _⟩ => ⟨S512x5632, .bf16⟩
  | .local _ .vmem, ⟨12, _⟩ => ⟨S1x5632x1024, .bf16⟩
  | .local _ .vmem, ⟨13, _⟩ => ⟨S1x5632x1024, .bf16⟩
  | .local _ .vmem, ⟨14, _⟩ => ⟨S512x1024, .f32⟩
  | .local _ .vmem, ⟨15, _⟩ => ⟨S512x1024, .f32⟩
  | .local _ .vmem, ⟨16, _⟩ => ⟨S4096x512, .bf16⟩
  | .local _ .vmem, ⟨17, _⟩ => ⟨S4096x512, .bf16⟩
  | .local _ .vmem, ⟨18, _⟩ => ⟨S4096x1024, .bf16⟩
  | .local _ .vmem, ⟨19, _⟩ => ⟨S4096x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S512x2048, .bf16⟩
  | .local _ .vmem, ⟨23, _⟩ => ⟨S512x2048, .bf16⟩
  | .local _ .vmem, ⟨24, _⟩ => ⟨S1x1408x2048, .bf16⟩
  | .local _ .vmem, ⟨25, _⟩ => ⟨S1x1408x2048, .bf16⟩
  | .local _ .vmem, ⟨26, _⟩ => ⟨S512x2816, .bf16⟩
  | .local _ .vmem, ⟨27, _⟩ => ⟨S512x2816, .bf16⟩
  | .local _ .vmem, ⟨28, _⟩ => ⟨S512x2816, .bf16⟩
  | .local _ .vmem, ⟨29, _⟩ => ⟨S512x2816, .bf16⟩
  | .local _ .vmem, ⟨30, _⟩ => ⟨S4096x512, .bf16⟩
  | .local _ .vmem, ⟨31, _⟩ => ⟨S4096x512, .bf16⟩
  | .local _ .vmem, ⟨32, _⟩ => ⟨S4096x1408, .bf16⟩
  | .local _ .vmem, ⟨33, _⟩ => ⟨S4096x1408, .bf16⟩
  | .local _ .vmem, ⟨34, _⟩ => ⟨S1x512x1408, .bf16⟩
  | .local _ .vmem, ⟨35, _⟩ => ⟨S1x512x1408, .bf16⟩
  | .local _ .vmem, ⟨36, _⟩ => ⟨S512x11264, .bf16⟩
  | .local _ .vmem, ⟨37, _⟩ => ⟨S512x11264, .bf16⟩
  | .local _ .vmem, ⟨38, _⟩ => ⟨S4x512x2816, .bf16⟩
  | .local _ .vmem, ⟨39, _⟩ => ⟨S4x512x2816, .bf16⟩
  | .local _ .vmem, ⟨40, _⟩ => ⟨S512x512, .f32⟩
  | .local _ .vmem, ⟨41, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg1.toNat, v53.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x2816 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c2_i32_18 : BitVec 32 := 2#32
  let c0_i32_19 : BitVec 32 := 0#32
  let v46 : BitVec 1 := Scalar.cmpi .eq c2_i32_18 c0_i32_19
  let c1_i32_20 : BitVec 32 := 1#32
  let v47 : BitVec 32 := Scalar.select v46 c1_i32_20 c2_i32_18
  let v48 : BitVec 32 := Scalar.remsi v16 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c2_i32_24 : BitVec 32 := 2#32
  let v56 : BitVec 32 := Scalar.divsi arg0 c2_i32_24
  let c0_i32_25 : BitVec 32 := 0#32
  let v57 : BitVec 1 := Scalar.cmpi .sgt arg0 c0_i32_25
  let v58 : BitVec 32 := Scalar.extui v57
  let c0_i32_26 : BitVec 32 := 0#32
  let v59 : BitVec 1 := Scalar.cmpi .slt arg0 c0_i32_26
  let v60 : BitVec 32 := Scalar.extui v59
  let v61 : BitVec 32 := Scalar.subi v58 v60
  let c0_i32_27 : BitVec 32 := 0#32
  let v62 : BitVec 1 := Scalar.cmpi .sgt c2_i32_24 c0_i32_27
  let v63 : BitVec 32 := Scalar.extui v62
  let c0_i32_28 : BitVec 32 := 0#32
  let v64 : BitVec 1 := Scalar.cmpi .slt c2_i32_24 c0_i32_28
  let v65 : BitVec 32 := Scalar.extui v64
  let v66 : BitVec 32 := Scalar.subi v63 v65
  let v67 : BitVec 1 := Scalar.cmpi .ne v61 v66
  let v68 : BitVec 32 := Scalar.remsi arg0 c2_i32_24
  let c0_i32_29 : BitVec 32 := 0#32
  let v69 : BitVec 1 := Scalar.cmpi .ne v68 c0_i32_29
  let v70 : BitVec 1 := Scalar.andi v67 v69
  let c1_i32_30 : BitVec 32 := 1#32
  let v71 : BitVec 32 := Scalar.subi v56 c1_i32_30
  let v72 : BitVec 32 := Scalar.select v70 v71 v56
  let c2_i32_31 : BitVec 32 := 2#32
  let c0_i32_32 : BitVec 32 := 0#32
  let v73 : BitVec 1 := Scalar.cmpi .eq c2_i32_31 c0_i32_32
  let c1_i32_33 : BitVec 32 := 1#32
  let v74 : BitVec 32 := Scalar.select v73 c1_i32_33 c2_i32_31
  let v75 : BitVec 32 := Scalar.remsi arg0 v74
  let c0_i32_34 : BitVec 32 := 0#32
  let v76 : BitVec 1 := Scalar.cmpi .ne v75 c0_i32_34
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let v80 : BitVec 1 := Scalar.andi v79 v76
  let v81 : BitVec 32 := Scalar.addi v75 v74
  let v82 : BitVec 32 := Scalar.select v80 v81 v75
  let c2_i32_37 : BitVec 32 := 2#32
  let v83 : BitVec 32 := Scalar.muli v82 c2_i32_37
  let c2_i32_38 : BitVec 32 := 2#32
  let v84 : BitVec 32 := Scalar.divsi v72 c2_i32_38
  let c0_i32_39 : BitVec 32 := 0#32
  let v85 : BitVec 1 := Scalar.cmpi .sgt v72 c0_i32_39
  let v86 : BitVec 32 := Scalar.extui v85
  let c0_i32_40 : BitVec 32 := 0#32
  let v87 : BitVec 1 := Scalar.cmpi .slt v72 c0_i32_40
  let v88 : BitVec 32 := Scalar.extui v87
  let v89 : BitVec 32 := Scalar.subi v86 v88
  let c0_i32_41 : BitVec 32 := 0#32
  let v90 : BitVec 1 := Scalar.cmpi .sgt c2_i32_38 c0_i32_41
  let v91 : BitVec 32 := Scalar.extui v90
  let c0_i32_42 : BitVec 32 := 0#32
  let v92 : BitVec 1 := Scalar.cmpi .slt c2_i32_38 c0_i32_42
  let v93 : BitVec 32 := Scalar.extui v92
  let v94 : BitVec 32 := Scalar.subi v91 v93
  let v95 : BitVec 1 := Scalar.cmpi .ne v89 v94
  let v96 : BitVec 32 := Scalar.remsi v72 c2_i32_38
  let c0_i32_43 : BitVec 32 := 0#32
  let v97 : BitVec 1 := Scalar.cmpi .ne v96 c0_i32_43
  let v98 : BitVec 1 := Scalar.andi v95 v97
  let c1_i32_44 : BitVec 32 := 1#32
  let v99 : BitVec 32 := Scalar.subi v84 c1_i32_44
  let v100 : BitVec 32 := Scalar.select v98 v99 v84
  let v101 : BitVec 32 := Scalar.addi v83 v100
  let c2_i32_45 : BitVec 32 := 2#32
  let c0_i32_46 : BitVec 32 := 0#32
  let v102 : BitVec 1 := Scalar.cmpi .eq c2_i32_45 c0_i32_46
  let c1_i32_47 : BitVec 32 := 1#32
  let v103 : BitVec 32 := Scalar.select v102 c1_i32_47 c2_i32_45
  let v104 : BitVec 32 := Scalar.remsi v72 v103
  let c0_i32_48 : BitVec 32 := 0#32
  let v105 : BitVec 1 := Scalar.cmpi .ne v104 c0_i32_48
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let v109 : BitVec 1 := Scalar.andi v108 v105
  let v110 : BitVec 32 := Scalar.addi v104 v103
  let v111 : BitVec 32 := Scalar.select v109 v110 v104
  let c0_i32_51 : BitVec 32 := 0#32
  ![v45.toNat, arg1.toNat, v111.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x11264 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4x512x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== FfnReferenceIdeal.lean ====
abbrev S4096x2048 : Shape := ⟨2, ![4096, 2048]⟩
abbrev S4x2048x2816 : Shape := ⟨3, ![4, 2048, 2816]⟩
abbrev S1x5632x2048 : Shape := ⟨3, ![1, 5632, 2048]⟩
abbrev S2048x4x2816 : Shape := ⟨3, ![2048, 4, 2816]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩
abbrev S5632x2048 : Shape := ⟨2, ![5632, 2048]⟩
abbrev S2048x5632 : Shape := ⟨2, ![2048, 5632]⟩
abbrev S11264x2048 : Shape := ⟨2, ![11264, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S1x5632x2048, .bf16⟩
  | .hbm, ⟨3, _⟩ => ⟨S4096x2048, .bf16⟩
  | .hbm, ⟨4, _⟩ => ⟨S4096x2048, .f32⟩
  | .hbm, ⟨5, _⟩ => ⟨S4x2048x2816, .f32⟩
  | .hbm, ⟨6, _⟩ => ⟨S1x5632x2048, .f32⟩
  | .hbm, ⟨7, _⟩ => ⟨S2048x4x2816, .f32⟩
  | .hbm, ⟨8, _⟩ => ⟨S2048x11264, .f32⟩
  | .hbm, ⟨9, _⟩ => ⟨S4096x11264, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S5632x2048, .f32⟩
  | .hbm, ⟨27, _⟩ => ⟨S4096x2048, .f32⟩
  | .hbm, ⟨28, _⟩ => ⟨S4096x2048, .f32⟩
  | .hbm, ⟨29, _⟩ => ⟨S2048x5632, .f32⟩
  | .hbm, ⟨30, _⟩ => ⟨S5632x2048, .f32⟩
  | .hbm, ⟨31, _⟩ => ⟨S4096x5632, .f32⟩
  | .hbm, ⟨32, _⟩ => ⟨S1x5632x2048, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x11264, .f32⟩
  | .hbm, ⟨40, _⟩ => ⟨S11264x2048, .f32⟩
  | .hbm, ⟨41, _⟩ => ⟨S2048x11264, .f32⟩
  | .hbm, ⟨42, _⟩ => ⟨S4096x2048, .f32⟩
  | .hbm, ⟨43, _⟩ => ⟨S2048x4x2816, .f32⟩
  | .hbm, ⟨44, _⟩ => ⟨S4x2048x2816, .f32⟩
  | .hbm, ⟨45, _⟩ => ⟨S4x2048x2816, .bf16⟩
  | .hbm, ⟨46, _⟩ => ⟨S1x5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Qkv.lean ====
abbrev S4096x2048 : Shape := ⟨2, ![4096, 2048]⟩
abbrev S4x2048x1536 : Shape := ⟨3, ![4, 2048, 1536]⟩
abbrev S4096x6144 : Shape := ⟨2, ![4096, 6144]⟩
abbrev S1x2048x1024 : Shape := ⟨3, ![1, 2048, 1024]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩
abbrev S1x2048x1536 : Shape := ⟨3, ![1, 2048, 1536]⟩
abbrev S512x1536 : Shape := ⟨2, ![512, 1536]⟩
abbrev S2048x1536 : Shape := ⟨2, ![2048, 1536]⟩
abbrev S4096x512 : Shape := ⟨2, ![4096, 512]⟩
abbrev S4096x1536 : Shape := ⟨2, ![4096, 1536]⟩
abbrev S1x512x1536 : Shape := ⟨3, ![1, 512, 1536]⟩
abbrev S1x512x1024 : Shape := ⟨3, ![1, 512, 1024]⟩
abbrev S512x6144 : Shape := ⟨2, ![512, 6144]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S1x1024x1024 : Shape := ⟨3, ![1, 1024, 1024]⟩
abbrev S1024x1024 : Shape := ⟨2, ![1024, 1024]⟩

abbrev nBuf : Space → Nat
  | .hbm => 12
  | .vmem => 34
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4096x2048, .bf16⟩
  | .hbm, ⟨4, _⟩ => ⟨S1x2048x1024, .bf16⟩
  | .hbm, ⟨5, _⟩ => ⟨S4096x1024, .bf16⟩
  | .hbm, ⟨6, _⟩ => ⟨S4096x1024, .bf16⟩
  | .hbm, ⟨7, _⟩ => ⟨S4096x6144, .bf16⟩
  | .hbm, ⟨8, _⟩ => ⟨S4x2048x1536, .bf16⟩
  | .hbm, ⟨9, _⟩ => ⟨S1x2048x1024, .bf16⟩
  | .hbm, ⟨10, _⟩ => ⟨S4096x2048, .f32⟩
  | .hbm, ⟨11, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .bf16⟩
  | .local _ .vmem, ⟨6, _⟩ => ⟨S512x2048, .bf16⟩
  | .local _ .vmem, ⟨7, _⟩ => ⟨S1x2048x1536, .bf16⟩
  | .local _ .vmem, ⟨8, _⟩ => ⟨S1x2048x1536, .bf16⟩
  | .local _ .vmem, ⟨9, _⟩ => ⟨S512x1536, .bf16⟩
  | .local _ .vmem, ⟨10, _⟩ => ⟨S512x1536, .bf16⟩
  | .local _ .vmem, ⟨11, _⟩ => ⟨S4096x512, .bf16⟩
  | .local _ .vmem, ⟨12, _⟩ => ⟨S4096x512, .bf16⟩
  | .local _ .vmem, ⟨13, _⟩ => ⟨S4096x1536, .bf16⟩
  | .local _ .vmem, ⟨14, _⟩ => ⟨S4096x1536, .bf16⟩
  | .local _ .vmem, ⟨15, _⟩ => ⟨S1x512x1536, .bf16⟩
  | .local _ .vmem, ⟨16, _⟩ => ⟨S1x512x1536, .bf16⟩
  | .local _ .vmem, ⟨17, _⟩ => ⟨S4096x512, .bf16⟩
  | .local _ .vmem, ⟨18, _⟩ => ⟨S4096x512, .bf16⟩
  | .local _ .vmem, ⟨19, _⟩ => ⟨S4096x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S512x6144, .bf16⟩
  | .local _ .vmem, ⟨23, _⟩ => ⟨S512x6144, .bf16⟩
  | .local _ .vmem, ⟨24, _⟩ => ⟨S4x1024x1536, .bf16⟩
  | .local _ .vmem, ⟨25, _⟩ => ⟨S4x1024x1536, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S512x1024, .f32⟩
  | .local _ .vmem, ⟨33, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x2048x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg0 c1_i32_11
  let c0_i32_12 : BitVec 32 := 0#32
  let v28 : BitVec 1 := Scalar.cmpi .sgt arg0 c0_i32_12
  let v29 : BitVec 32 := Scalar.extui v28
  let c0_i32_13 : BitVec 32 := 0#32
  let v30 : BitVec 1 := Scalar.cmpi .slt arg0 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg0 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg1.toNat, v53.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg0 c1_i32_11
  let c0_i32_12 : BitVec 32 := 0#32
  let v28 : BitVec 1 := Scalar.cmpi .sgt arg0 c0_i32_12
  let v29 : BitVec 32 := Scalar.extui v28
  let c0_i32_13 : BitVec 32 := 0#32
  let v30 : BitVec 1 := Scalar.cmpi .slt arg0 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg0 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg1.toNat, v53.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x6144 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4x1024x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== QkvReferenceIdeal.lean ====
abbrev S4096x2048 : Shape := ⟨2, ![4096, 2048]⟩
abbrev S4x2048x1536 : Shape := ⟨3, ![4, 2048, 1536]⟩
abbrev S4096x6144 : Shape := ⟨2, ![4096, 6144]⟩
abbrev S1x2048x1024 : Shape := ⟨3, ![1, 2048, 1024]⟩
abbrev S4096x1024 : Shape := ⟨2, ![4096, 1024]⟩
abbrev S2048x4x1536 : Shape := ⟨3, ![2048, 4, 1536]⟩
abbrev S2048x6144 : Shape := ⟨2, ![2048, 6144]⟩
abbrev S6144x2048 : Shape := ⟨2, ![6144, 2048]⟩
abbrev S2048x1x1024 : Shape := ⟨3, ![2048, 1, 1024]⟩
abbrev S2048x1024 : Shape := ⟨2, ![2048, 1024]⟩
abbrev S1024x2048 : Shape := ⟨2, ![1024, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .bf16⟩
  | .hbm, ⟨3, _⟩ => ⟨S4096x2048, .bf16⟩
  | .hbm, ⟨4, _⟩ => ⟨S1x2048x1024, .bf16⟩
  | .hbm, ⟨5, _⟩ => ⟨S4096x1024, .bf16⟩
  | .hbm, ⟨6, _⟩ => ⟨S4096x2048, .f32⟩
  | .hbm, ⟨7, _⟩ => ⟨S4x2048x1536, .f32⟩
  | .hbm, ⟨8, _⟩ => ⟨S2048x4x1536, .f32⟩
  | .hbm, ⟨9, _⟩ => ⟨S2048x6144, .f32⟩
  | .hbm, ⟨10, _⟩ => ⟨S4096x6144, .f32⟩
  | .hbm, ⟨11, _⟩ => ⟨S4096x6144, .f32⟩
  | .hbm, ⟨12, _⟩ => ⟨S6144x2048, .f32⟩
  | .hbm, ⟨13, _⟩ => ⟨S2048x6144, .f32⟩
  | .hbm, ⟨14, _⟩ => ⟨S4096x2048, .f32⟩
  | .hbm, ⟨15, _⟩ => ⟨S2048x4x1536, .f32⟩
  | .hbm, ⟨16, _⟩ => ⟨S4x2048x1536, .f32⟩
  | .hbm, ⟨17, _⟩ => ⟨S4096x2048, .f32⟩
  | .hbm, ⟨18, _⟩ => ⟨S1x2048x1024, .f32⟩
  | .hbm, ⟨19, _⟩ => ⟨S2048x1x1024, .f32⟩
  | .hbm, ⟨20, _⟩ => ⟨S2048x1024, .f32⟩
  | .hbm, ⟨21, _⟩ => ⟨S4096x1024, .f32⟩
  | .hbm, ⟨22, _⟩ => ⟨S4096x1024, .f32⟩
  | .hbm, ⟨23, _⟩ => ⟨S1024x2048, .f32⟩
  | .hbm, ⟨24, _⟩ => ⟨S2048x1024, .f32⟩
  | .hbm, ⟨25, _⟩ => ⟨S4096x2048, .f32⟩
  | .hbm, ⟨26, _⟩ => ⟨S2048x1x1024, .f32⟩
  | .hbm, ⟨27, _⟩ => ⟨S1x2048x1024, .f32⟩
  | .hbm, ⟨28, _⟩ => ⟨S4096x6144, .bf16⟩
  | .hbm, ⟨29, _⟩ => ⟨S4x2048x1536, .bf16⟩
  | .hbm, ⟨30, _⟩ => ⟨S4096x1024, .bf16⟩
  | .hbm, ⟨31, _⟩ => ⟨S1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== GluOut.lean ====
abbrev S4096x2048 : Shape := ⟨2, ![4096, 2048]⟩
abbrev S4x2048x1024 : Shape := ⟨3, ![4, 2048, 1024]⟩
abbrev S4096x4096 : Shape := ⟨2, ![4096, 4096]⟩
abbrev S1x2048x2048 : Shape := ⟨3, ![1, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S4096x512 : Shape := ⟨2, ![4096, 512]⟩
abbrev S4096x1024 : Shape := ⟨2, ![4096, 1024]⟩
abbrev S1x512x1024 : Shape := ⟨3, ![1, 512, 1024]⟩
abbrev S1x1024x2048 : Shape := ⟨3, ![1, 1024, 2048]⟩
abbrev S1024x2048 : Shape := ⟨2, ![1024, 2048]⟩
abbrev S512x4096 : Shape := ⟨2, ![512, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 11
  | .vmem => 30
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .bf16⟩
  | .hbm, ⟨3, _⟩ => ⟨S4096x2048, .bf16⟩
  | .hbm, ⟨4, _⟩ => ⟨S1x2048x2048, .bf16⟩
  | .hbm, ⟨5, _⟩ => ⟨S4096x2048, .bf16⟩
  | .hbm, ⟨6, _⟩ => ⟨S4096x4096, .f32⟩
  | .hbm, ⟨7, _⟩ => ⟨S1x2048x2048, .bf16⟩
  | .hbm, ⟨8, _⟩ => ⟨S4096x2048, .f32⟩
  | .hbm, ⟨9, _⟩ => ⟨S4x2048x1024, .bf16⟩
  | .hbm, ⟨10, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S4096x512, .bf16⟩
  | .local _ .vmem, ⟨7, _⟩ => ⟨S4096x512, .bf16⟩
  | .local _ .vmem, ⟨8, _⟩ => ⟨S4096x1024, .bf16⟩
  | .local _ .vmem, ⟨9, _⟩ => ⟨S4096x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x2048, .bf16⟩
  | .local _ .vmem, ⟨13, _⟩ => ⟨S512x2048, .bf16⟩
  | .local _ .vmem, ⟨14, _⟩ => ⟨S1x1024x2048, .bf16⟩
  | .local _ .vmem, ⟨15, _⟩ => ⟨S1x1024x2048, .bf16⟩
  | .local _ .vmem, ⟨16, _⟩ => ⟨S512x1024, .f32⟩
  | .local _ .vmem, ⟨17, _⟩ => ⟨S512x1024, .f32⟩
  | .local _ .vmem, ⟨18, _⟩ => ⟨S4096x512, .bf16⟩
  | .local _ .vmem, ⟨19, _⟩ => ⟨S4096x512, .bf16⟩
  | .local _ .vmem, ⟨20, _⟩ => ⟨S4096x1024, .bf16⟩
  | .local _ .vmem, ⟨21, _⟩ => ⟨S4096x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S512x4096, .bf16⟩
  | .local _ .vmem, ⟨25, _⟩ => ⟨S512x4096, .bf16⟩
  | .local _ .vmem, ⟨26, _⟩ => ⟨S4x1024x1024, .bf16⟩
  | .local _ .vmem, ⟨27, _⟩ => ⟨S4x1024x1024, .bf16⟩
  | .local _ .vmem, ⟨28, _⟩ => ⟨S512x1024, .f32⟩
  | .local _ .vmem, ⟨29, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg1.toNat, v53.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg0 c1_i32_11
  let c0_i32_12 : BitVec 32 := 0#32
  let v28 : BitVec 1 := Scalar.cmpi .sgt arg0 c0_i32_12
  let v29 : BitVec 32 := Scalar.extui v28
  let c0_i32_13 : BitVec 32 := 0#32
  let v30 : BitVec 1 := Scalar.cmpi .slt arg0 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg0 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg1.toNat, v53.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4x1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== GluOutReferenceIdeal.lean ====
abbrev S4096x2048 : Shape := ⟨2, ![4096, 2048]⟩
abbrev S4x2048x1024 : Shape := ⟨3, ![4, 2048, 1024]⟩
abbrev S4096x4096 : Shape := ⟨2, ![4096, 4096]⟩
abbrev S1x2048x2048 : Shape := ⟨3, ![1, 2048, 2048]⟩
abbrev S2048x4x1024 : Shape := ⟨3, ![2048, 4, 1024]⟩
abbrev S2048x4096 : Shape := ⟨2, ![2048, 4096]⟩
abbrev S2048x1x2048 : Shape := ⟨3, ![2048, 1, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .bf16⟩
  | .hbm, ⟨3, _⟩ => ⟨S4096x2048, .bf16⟩
  | .hbm, ⟨4, _⟩ => ⟨S1x2048x2048, .bf16⟩
  | .hbm, ⟨5, _⟩ => ⟨S4096x2048, .bf16⟩
  | .hbm, ⟨6, _⟩ => ⟨S4096x2048, .f32⟩
  | .hbm, ⟨7, _⟩ => ⟨S4x2048x1024, .f32⟩
  | .hbm, ⟨8, _⟩ => ⟨S2048x4x1024, .f32⟩
  | .hbm, ⟨9, _⟩ => ⟨S2048x4096, .f32⟩
  | .hbm, ⟨10, _⟩ => ⟨S4096x4096, .f32⟩
  | .hbm, ⟨11, _⟩ => ⟨S4096x4096, .f32⟩
  | .hbm, ⟨12, _⟩ => ⟨S4096x2048, .f32⟩
  | .hbm, ⟨13, _⟩ => ⟨S2048x4096, .f32⟩
  | .hbm, ⟨14, _⟩ => ⟨S4096x2048, .f32⟩
  | .hbm, ⟨15, _⟩ => ⟨S2048x4x1024, .f32⟩
  | .hbm, ⟨16, _⟩ => ⟨S4x2048x1024, .f32⟩
  | .hbm, ⟨17, _⟩ => ⟨S4096x2048, .f32⟩
  | .hbm, ⟨18, _⟩ => ⟨S1x2048x2048, .f32⟩
  | .hbm, ⟨19, _⟩ => ⟨S2048x1x2048, .f32⟩
  | .hbm, ⟨20, _⟩ => ⟨S2048x2048, .f32⟩
  | .hbm, ⟨21, _⟩ => ⟨S4096x2048, .f32⟩
  | .hbm, ⟨22, _⟩ => ⟨S4096x2048, .f32⟩
  | .hbm, ⟨23, _⟩ => ⟨S2048x2048, .f32⟩
  | .hbm, ⟨24, _⟩ => ⟨S2048x2048, .f32⟩
  | .hbm, ⟨25, _⟩ => ⟨S4096x2048, .f32⟩
  | .hbm, ⟨26, _⟩ => ⟨S2048x1x2048, .f32⟩
  | .hbm, ⟨27, _⟩ => ⟨S1x2048x2048, .f32⟩
  | .hbm, ⟨28, _⟩ => ⟨S4x2048x1024, .bf16⟩
  | .hbm, ⟨29, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== AdamwOne.lean ====
abbrev S2048x1024 : Shape := ⟨2, ![2048, 1024]⟩
abbrev S1x2048x1024 : Shape := ⟨3, ![1, 2048, 1024]⟩
abbrev S2048x1536 : Shape := ⟨2, ![2048, 1536]⟩
abbrev S1x2048x1536 : Shape := ⟨3, ![1, 2048, 1536]⟩
abbrev S512x2048 : Shape := ⟨2, ![512, 2048]⟩
abbrev S1x512x2048 : Shape := ⟨3, ![1, 512, 2048]⟩
abbrev S512x1024 : Shape := ⟨2, ![512, 1024]⟩
abbrev S1x512x1024 : Shape := ⟨3, ![1, 512, 1024]⟩
abbrev S128x1024 : Shape := ⟨2, ![128, 1024]⟩
abbrev S1x128x1024 : Shape := ⟨3, ![1, 128, 1024]⟩
abbrev S128x1536 : Shape := ⟨2, ![128, 1536]⟩
abbrev S1x128x1536 : Shape := ⟨3, ![1, 128, 1536]⟩
abbrev S128x2048 : Shape := ⟨2, ![128, 2048]⟩
abbrev S1x128x2048 : Shape := ⟨3, ![1, 128, 2048]⟩

abbrev nBuf : Space → Nat
  | .hbm => 36
  | .vmem => 72
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S2048x1536, .f32⟩
  | .hbm, ⟨6, _⟩ => ⟨S2048x1536, .f32⟩
  | .hbm, ⟨7, _⟩ => ⟨S1x2048x1536, .f32⟩
  | .hbm, ⟨8, _⟩ => ⟨S1x2048x1536, .f32⟩
  | .hbm, ⟨9, _⟩ => ⟨S1x2048x1536, .f32⟩
  | .hbm, ⟨10, _⟩ => ⟨S512x2048, .f32⟩
  | .hbm, ⟨11, _⟩ => ⟨S512x2048, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S512x1024, .f32⟩
  | .hbm, ⟨16, _⟩ => ⟨S512x1024, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1536, .f32⟩
  | .hbm, ⟨25, _⟩ => ⟨S1x2048x1536, .f32⟩
  | .hbm, ⟨26, _⟩ => ⟨S1x2048x1536, .f32⟩
  | .hbm, ⟨27, _⟩ => ⟨S1x2048x1536, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1536, .f32⟩
  | .local _ .vmem, ⟨19, _⟩ => ⟨S128x1536, .f32⟩
  | .local _ .vmem, ⟨20, _⟩ => ⟨S128x1536, .f32⟩
  | .local _ .vmem, ⟨21, _⟩ => ⟨S128x1536, .f32⟩
  | .local _ .vmem, ⟨22, _⟩ => ⟨S1x128x1536, .f32⟩
  | .local _ .vmem, ⟨23, _⟩ => ⟨S1x128x1536, .f32⟩
  | .local _ .vmem, ⟨24, _⟩ => ⟨S1x128x1536, .f32⟩
  | .local _ .vmem, ⟨25, _⟩ => ⟨S1x128x1536, .f32⟩
  | .local _ .vmem, ⟨26, _⟩ => ⟨S1x128x1536, .f32⟩
  | .local _ .vmem, ⟨27, _⟩ => ⟨S1x128x1536, .f32⟩
  | .local _ .vmem, ⟨28, _⟩ => ⟨S1x128x1536, .f32⟩
  | .local _ .vmem, ⟨29, _⟩ => ⟨S1x128x1536, .f32⟩
  | .local _ .vmem, ⟨30, _⟩ => ⟨S1x128x1536, .f32⟩
  | .local _ .vmem, ⟨31, _⟩ => ⟨S1x128x1536, .f32⟩
  | .local _ .vmem, ⟨32, _⟩ => ⟨S1x128x1536, .f32⟩
  | .local _ .vmem, ⟨33, _⟩ => ⟨S1x128x1536, .f32⟩
  | .local _ .vmem, ⟨34, _⟩ => ⟨S1x128x1536, .f32⟩
  | .local _ .vmem, ⟨35, _⟩ => ⟨S1x128x1536, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | .local _ .vmem, ⟨44, _⟩ => ⟨S1x128x2048, .f32⟩
  | .local _ .vmem, ⟨45, _⟩ => ⟨S1x128x2048, .f32⟩
  | .local _ .vmem, ⟨46, _⟩ => ⟨S1x128x2048, .f32⟩
  | .local _ .vmem, ⟨47, _⟩ => ⟨S1x128x2048, .f32⟩
  | .local _ .vmem, ⟨48, _⟩ => ⟨S1x128x2048, .f32⟩
  | .local _ .vmem, ⟨49, _⟩ => ⟨S1x128x2048, .f32⟩
  | .local _ .vmem, ⟨50, _⟩ => ⟨S1x128x2048, .f32⟩
  | .local _ .vmem, ⟨51, _⟩ => ⟨S1x128x2048, .f32⟩
  | .local _ .vmem, ⟨52, _⟩ => ⟨S1x128x2048, .f32⟩
  | .local _ .vmem, ⟨53, _⟩ => ⟨S1x128x2048, .f32⟩
  | .local _ .vmem, ⟨54, _⟩ => ⟨S128x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S1x128x1024, .f32⟩
  | .local _ .vmem, ⟨59, _⟩ => ⟨S1x128x1024, .f32⟩
  | .local _ .vmem, ⟨60, _⟩ => ⟨S1x128x1024, .f32⟩
  | .local _ .vmem, ⟨61, _⟩ => ⟨S1x128x1024, .f32⟩
  | .local _ .vmem, ⟨62, _⟩ => ⟨S1x128x1024, .f32⟩
  | .local _ .vmem, ⟨63, _⟩ => ⟨S1x128x1024, .f32⟩
  | .local _ .vmem, ⟨64, _⟩ => ⟨S1x128x1024, .f32⟩
  | .local _ .vmem, ⟨65, _⟩ => ⟨S1x128x1024, .f32⟩
  | .local _ .vmem, ⟨66, _⟩ => ⟨S1x128x1024, .f32⟩
  | .local _ .vmem, ⟨67, _⟩ => ⟨S1x128x1024, .f32⟩
  | .local _ .vmem, ⟨68, _⟩ => ⟨S1x128x1024, .f32⟩
  | .local _ .vmem, ⟨69, _⟩ => ⟨S1x128x1024, .f32⟩
  | .local _ .vmem, ⟨70, _⟩ => ⟨S1x128x1024, .f32⟩
  | .local _ .vmem, ⟨71, _⟩ => ⟨S1x128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x128x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x128x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x128x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== AdamwOneReferenceIdeal.lean ====
abbrev S2048x1024 : Shape := ⟨2, ![2048, 1024]⟩
abbrev S1x2048x1024 : Shape := ⟨3, ![1, 2048, 1024]⟩
abbrev S2048x1536 : Shape := ⟨2, ![2048, 1536]⟩
abbrev S1x2048x1536 : Shape := ⟨3, ![1, 2048, 1536]⟩
abbrev S512x2048 : Shape := ⟨2, ![512, 2048]⟩
abbrev S1x512x2048 : Shape := ⟨3, ![1, 512, 2048]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 160
  | .vmem => 0
  | .smem => 0
  | _ => 0

abbrev hbmTy0_0 (i : Nat) : BufTy := match i % 128 with
  | 0 => ⟨S2048x1024, .f32⟩
  | 1 => ⟨S2048x1024, .f32⟩
  | 2 => ⟨S1x2048x1024, .f32⟩
  | 3 => ⟨S1x2048x1024, .f32⟩
  | 4 => ⟨S1x2048x1024, .f32⟩
  | 5 => ⟨S2048x1536, .f32⟩
  | 6 => ⟨S2048x1536, .f32⟩
  | 7 => ⟨S1x2048x1536, .f32⟩
  | 8 => ⟨S1x2048x1536, .f32⟩
  | 9 => ⟨S1x2048x1536, .f32⟩
  | 10 => ⟨S512x2048, .f32⟩
  | 11 => ⟨S512x2048, .f32⟩
  | 12 => ⟨S1x512x2048, .f32⟩
  | 13 => ⟨S1x512x2048, .f32⟩
  | 14 => ⟨S1x512x2048, .f32⟩
  | 15 => ⟨S512x1024, .f32⟩
  | 16 => ⟨S512x1024, .f32⟩
  | 17 => ⟨S1x512x1024, .f32⟩
  | 18 => ⟨S1x512x1024, .f32⟩
  | 19 => ⟨S1x512x1024, .f32⟩
  | 20 => ⟨S2048x1024, .f32⟩
  | 21 => ⟨S1x2048x1024, .f32⟩
  | 22 => ⟨S_, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S1x2048x1024, .f32⟩
  | 29 => ⟨S_, .f32⟩
  | 30 => ⟨S1x2048x1024, .f32⟩
  | 31 => ⟨S1x2048x1024, .f32⟩
  | 32 => ⟨S1x2048x1024, .f32⟩
  | 33 => ⟨S_, .f32⟩
  | 34 => ⟨S1x2048x1024, .f32⟩
  | 35 => ⟨S1x2048x1024, .f32⟩
  | 36 => ⟨S1x2048x1024, .f32⟩
  | 37 => ⟨S_, .f32⟩
  | 38 => ⟨S1x2048x1024, .f32⟩
  | 39 => ⟨S1x2048x1024, .f32⟩
  | 40 => ⟨S_, .f32⟩
  | 41 => ⟨S1x2048x1024, .f32⟩
  | 42 => ⟨S1x2048x1024, .f32⟩
  | 43 => ⟨S1x2048x1024, .f32⟩
  | 44 => ⟨S_, .f32⟩
  | 45 => ⟨S1x2048x1024, .f32⟩
  | 46 => ⟨S1x2048x1024, .f32⟩
  | 47 => ⟨S1x2048x1024, .f32⟩
  | 48 => ⟨S_, .f32⟩
  | 49 => ⟨S1x2048x1024, .f32⟩
  | 50 => ⟨S1x2048x1024, .f32⟩
  | 51 => ⟨S1x2048x1024, .f32⟩
  | 52 => ⟨S_, .f32⟩
  | 53 => ⟨S1x2048x1024, .f32⟩
  | 54 => ⟨S1x2048x1024, .f32⟩
  | 55 => ⟨S2048x1536, .f32⟩
  | 56 => ⟨S1x2048x1536, .f32⟩
  | 57 => ⟨S_, .f32⟩
  | 58 => ⟨S1x2048x1536, .f32⟩
  | 59 => ⟨S1x2048x1536, .f32⟩
  | 60 => ⟨S_, .f32⟩
  | 61 => ⟨S1x2048x1536, .f32⟩
  | 62 => ⟨S1x2048x1536, .f32⟩
  | 63 => ⟨S1x2048x1536, .f32⟩
  | 64 => ⟨S_, .f32⟩
  | 65 => ⟨S1x2048x1536, .f32⟩
  | 66 => ⟨S1x2048x1536, .f32⟩
  | 67 => ⟨S1x2048x1536, .f32⟩
  | 68 => ⟨S_, .f32⟩
  | 69 => ⟨S1x2048x1536, .f32⟩
  | 70 => ⟨S1x2048x1536, .f32⟩
  | 71 => ⟨S1x2048x1536, .f32⟩
  | 72 => ⟨S_, .f32⟩
  | 73 => ⟨S1x2048x1536, .f32⟩
  | 74 => ⟨S1x2048x1536, .f32⟩
  | 75 => ⟨S_, .f32⟩
  | 76 => ⟨S1x2048x1536, .f32⟩
  | 77 => ⟨S1x2048x1536, .f32⟩
  | 78 => ⟨S1x2048x1536, .f32⟩
  | 79 => ⟨S_, .f32⟩
  | 80 => ⟨S1x2048x1536, .f32⟩
  | 81 => ⟨S1x2048x1536, .f32⟩
  | 82 => ⟨S1x2048x1536, .f32⟩
  | 83 => ⟨S_, .f32⟩
  | 84 => ⟨S1x2048x1536, .f32⟩
  | 85 => ⟨S1x2048x1536, .f32⟩
  | 86 => ⟨S1x2048x1536, .f32⟩
  | 87 => ⟨S_, .f32⟩
  | 88 => ⟨S1x2048x1536, .f32⟩
  | 89 => ⟨S1x2048x1536, .f32⟩
  | 90 => ⟨S512x2048, .f32⟩
  | 91 => ⟨S1x512x2048, .f32⟩
  | 92 => ⟨S_, .f32⟩
  | 93 => ⟨S1x512x2048, .f32⟩
  | 94 => ⟨S1x512x2048, .f32⟩
  | 95 => ⟨S_, .f32⟩
  | 96 => ⟨S1x512x2048, .f32⟩
  | 97 => ⟨S1x512x2048, .f32⟩
  | 98 => ⟨S1x512x2048, .f32⟩
  | 99 => ⟨S_, .f32⟩
  | 100 => ⟨S1x512x2048, .f32⟩
  | 101 => ⟨S1x512x2048, .f32⟩
  | 102 => ⟨S1x512x2048, .f32⟩
  | 103 => ⟨S_, .f32⟩
  | 104 => ⟨S1x512x2048, .f32⟩
  | 105 => ⟨S1x512x2048, .f32⟩
  | 106 => ⟨S1x512x2048, .f32⟩
  | 107 => ⟨S_, .f32⟩
  | 108 => ⟨S1x512x2048, .f32⟩
  | 109 => ⟨S1x512x2048, .f32⟩
  | 110 => ⟨S_, .f32⟩
  | 111 => ⟨S1x512x2048, .f32⟩
  | 112 => ⟨S1x512x2048, .f32⟩
  | 113 => ⟨S1x512x2048, .f32⟩
  | 114 => ⟨S_, .f32⟩
  | 115 => ⟨S1x512x2048, .f32⟩
  | 116 => ⟨S1x512x2048, .f32⟩
  | 117 => ⟨S1x512x2048, .f32⟩
  | 118 => ⟨S_, .f32⟩
  | 119 => ⟨S1x512x2048, .f32⟩
  | 120 => ⟨S1x512x2048, .f32⟩
  | 121 => ⟨S1x512x2048, .f32⟩
  | 122 => ⟨S_, .f32⟩
  | 123 => ⟨S1x512x2048, .f32⟩
  | 124 => ⟨S1x512x2048, .f32⟩
  | 125 => ⟨S512x1024, .f32⟩
  | 126 => ⟨S1x512x1024, .f32⟩
  | 127 => ⟨S_, .f32⟩
  | _ => ⟨S2048x1024, .f32⟩

abbrev hbmTy0_1 (i : Nat) : BufTy := match i % 128 with
  | 0 => ⟨S1x512x1024, .f32⟩
  | 1 => ⟨S1x512x1024, .f32⟩
  | 2 => ⟨S_, .f32⟩
  | 3 => ⟨S1x512x1024, .f32⟩
  | 4 => ⟨S1x512x1024, .f32⟩
  | 5 => ⟨S1x512x1024, .f32⟩
  | 6 => ⟨S_, .f32⟩
  | 7 => ⟨S1x512x1024, .f32⟩
  | 8 => ⟨S1x512x1024, .f32⟩
  | 9 => ⟨S1x512x1024, .f32⟩
  | 10 => ⟨S_, .f32⟩
  | 11 => ⟨S1x512x1024, .f32⟩
  | 12 => ⟨S1x512x1024, .f32⟩
  | 13 => ⟨S1x512x1024, .f32⟩
  | 14 => ⟨S_, .f32⟩
  | 15 => ⟨S1x512x1024, .f32⟩
  | 16 => ⟨S1x512x1024, .f32⟩
  | 17 => ⟨S_, .f32⟩
  | 18 => ⟨S1x512x1024, .f32⟩
  | 19 => ⟨S1x512x1024, .f32⟩
  | 20 => ⟨S1x512x1024, .f32⟩
  | 21 => ⟨S_, .f32⟩
  | 22 => ⟨S1x512x1024, .f32⟩
  | 23 => ⟨S1x512x1024, .f32⟩
  | 24 => ⟨S1x512x1024, .f32⟩
  | 25 => ⟨S_, .f32⟩
  | 26 => ⟨S1x512x1024, .f32⟩
  | 27 => ⟨S1x512x1024, .f32⟩
  | 28 => ⟨S1x512x1024, .f32⟩
  | 29 => ⟨S_, .f32⟩
  | 30 => ⟨S1x512x1024, .f32⟩
  | 31 => ⟨S1x512x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_8 : Ref sig .tc := ⟨.hbm, 57, rfl⟩
abbrev main_v28 : Ref sig .tc := ⟨.hbm, 58, rfl⟩
abbrev main_v29 : Ref sig .tc := ⟨.hbm, 59, rfl⟩
abbrev main_cst_9 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_11 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_12 : Ref sig .tc := ⟨.hbm, 72, rfl⟩
abbrev main_v39 : Ref sig .tc := ⟨.hbm, 73, rfl⟩
abbrev main_v40 : Ref sig .tc := ⟨.hbm, 74, rfl⟩
abbrev main_cst_13 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_14 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_15 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_16 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_17 : Ref sig .tc := ⟨.hbm, 92, rfl⟩
abbrev main_v54 : Ref sig .tc := ⟨.hbm, 93, rfl⟩
abbrev main_v55 : Ref sig .tc := ⟨.hbm, 94, rfl⟩
abbrev main_cst_18 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_19 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_20 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_21 : Ref sig .tc := ⟨.hbm, 107, rfl⟩
abbrev main_v65 : Ref sig .tc := ⟨.hbm, 108, rfl⟩
abbrev main_v66 : Ref sig .tc := ⟨.hbm, 109, rfl⟩
abbrev main_cst_22 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_23 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_24 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_25 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_26 : Ref sig .tc := ⟨.hbm, 127, rfl⟩
abbrev main_v80 : Ref sig .tc := ⟨.hbm, 128, rfl⟩
abbrev main_v81 : Ref sig .tc := ⟨.hbm, 129, rfl⟩
abbrev main_cst_27 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_28 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_29 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_30 : Ref sig .tc := ⟨.hbm, 142, rfl⟩
abbrev main_v91 : Ref sig .tc := ⟨.hbm, 143, rfl⟩
abbrev main_v92 : Ref sig .tc := ⟨.hbm, 144, rfl⟩
abbrev main_cst_31 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_32 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_33 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_34 : Ref sig .tc := ⟨.hbm, 157, rfl⟩
abbrev main_v102 : Ref sig .tc := ⟨.hbm, 158, rfl⟩
abbrev main_v103 : Ref sig .tc := ⟨.hbm, 159, rfl⟩

abbrev nD : Nat := 1
abbrev τ : Topo := Topo.v7x

variable {F : FTy → Type} [FloatOps F]
-- ==== AdamwTwo.lean ====
abbrev S2048x2816 : Shape := ⟨2, ![2048, 2816]⟩
abbrev S2x2048x2816 : Shape := ⟨3, ![2, 2048, 2816]⟩
abbrev S1408x2048 : Shape := ⟨2, ![1408, 2048]⟩
abbrev S2x1408x2048 : Shape := ⟨3, ![2, 1408, 2048]⟩
abbrev S128x2816 : Shape := ⟨2, ![128, 2816]⟩
abbrev S1x128x2816 : Shape := ⟨3, ![1, 128, 2816]⟩
abbrev S128x2048 : Shape := ⟨2, ![128, 2048]⟩
abbrev S1x128x2048 : Shape := ⟨3, ![1, 128, 2048]⟩

abbrev nBuf : Space → Nat
  | .hbm => 22
  | .vmem => 44
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S1408x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S2x1408x2048, .f32⟩
  | .hbm, ⟨12, _⟩ => ⟨S2x1408x2048, .f32⟩
  | .hbm, ⟨13, _⟩ => ⟨S2x1408x2048, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x1408x2048, .f32⟩
  | .hbm, ⟨19, _⟩ => ⟨S2x1408x2048, .f32⟩
  | .hbm, ⟨20, _⟩ => ⟨S2x1408x2048, .f32⟩
  | .hbm, ⟨21, _⟩ => ⟨S2x1408x2048, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S1x128x2816, .f32⟩
  | .local _ .vmem, ⟨9, _⟩ => ⟨S1x128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | .local _ .vmem, ⟨16, _⟩ => ⟨S1x128x2816, .f32⟩
  | .local _ .vmem, ⟨17, _⟩ => ⟨S1x128x2816, .f32⟩
  | .local _ .vmem, ⟨18, _⟩ => ⟨S1x128x2816, .f32⟩
  | .local _ .vmem, ⟨19, _⟩ => ⟨S1x128x2816, .f32⟩
  | .local _ .vmem, ⟨20, _⟩ => ⟨S1x128x2816, .f32⟩
  | .local _ .vmem, ⟨21, _⟩ => ⟨S1x128x2816, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | .local _ .vmem, ⟨33, _⟩ => ⟨S1x128x2048, .f32⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== AdamwTwoReferenceIdeal.lean ====
abbrev S2048x2816 : Shape := ⟨2, ![2048, 2816]⟩
abbrev S2x2048x2816 : Shape := ⟨3, ![2, 2048, 2816]⟩
abbrev S1408x2048 : Shape := ⟨2, ![1408, 2048]⟩
abbrev S2x1408x2048 : Shape := ⟨3, ![2, 1408, 2048]⟩
abbrev S1x2048x2816 : Shape := ⟨3, ![1, 2048, 2816]⟩
abbrev S_ : Shape := ⟨0, ![]⟩
abbrev S1x1408x2048 : Shape := ⟨3, ![1, 1408, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S1408x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S2x1408x2048, .f32⟩
  | .hbm, ⟨12, _⟩ => ⟨S2x1408x2048, .f32⟩
  | .hbm, ⟨13, _⟩ => ⟨S2x1408x2048, .f32⟩
  | .hbm, ⟨14, _⟩ => ⟨S2048x2816, .f32⟩
  | .hbm, ⟨15, _⟩ => ⟨S2048x2816, .f32⟩
  | .hbm, ⟨16, _⟩ => ⟨S1x2048x2816, .f32⟩
  | .hbm, ⟨17, _⟩ => ⟨S1x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S_, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S_, .f32⟩
  | .hbm, ⟨50, _⟩ => ⟨S2x2048x2816, .f32⟩
  | .hbm, ⟨51, _⟩ => ⟨S2x2048x2816, .f32⟩
  | .hbm, ⟨52, _⟩ => ⟨S1408x2048, .f32⟩
  | .hbm, ⟨53, _⟩ => ⟨S1408x2048, .f32⟩
  | .hbm, ⟨54, _⟩ => ⟨S1x1408x2048, .f32⟩
  | .hbm, ⟨55, _⟩ => ⟨S1x1408x2048, .f32⟩
  | .hbm, ⟨56, _⟩ => ⟨S2x1408x2048, .f32⟩
  | .hbm, ⟨57, _⟩ => ⟨S_, .f32⟩
  | .hbm, ⟨58, _⟩ => ⟨S2x1408x2048, .f32⟩
  | .hbm, ⟨59, _⟩ => ⟨S2x1408x2048, .f32⟩
  | .hbm, ⟨60, _⟩ => ⟨S_, .f32⟩
  | .hbm, ⟨61, _⟩ => ⟨S2x1408x2048, .f32⟩
  | .hbm, ⟨62, _⟩ => ⟨S2x1408x2048, .f32⟩
  | .hbm, ⟨63, _⟩ => ⟨S2x1408x2048, .f32⟩
  | .hbm, ⟨64, _⟩ => ⟨S_, .f32⟩
  | .hbm, ⟨65, _⟩ => ⟨S2x1408x2048, .f32⟩
  | .hbm, ⟨66, _⟩ => ⟨S2x1408x2048, .f32⟩
  | .hbm, ⟨67, _⟩ => ⟨S2x1408x2048, .f32⟩
  | .hbm, ⟨68, _⟩ => ⟨S_, .f32⟩
  | .hbm, ⟨69, _⟩ => ⟨S2x1408x2048, .f32⟩
  | .hbm, ⟨70, _⟩ => ⟨S2x1408x2048, .f32⟩
  | .hbm, ⟨71, _⟩ => ⟨S2x1408x2048, .f32⟩
  | .hbm, ⟨72, _⟩ => ⟨S_, .f32⟩
  | .hbm, ⟨73, _⟩ => ⟨S2x1408x2048, .f32⟩
  | .hbm, ⟨74, _⟩ => ⟨S2x1408x2048, .f32⟩
  | .hbm, ⟨75, _⟩ => ⟨S_, .f32⟩
  | .hbm, ⟨76, _⟩ => ⟨S2x1408x2048, .f32⟩
  | .hbm, ⟨77, _⟩ => ⟨S2x1408x2048, .f32⟩
  | .hbm, ⟨78, _⟩ => ⟨S2x1408x2048, .f32⟩
  | .hbm, ⟨79, _⟩ => ⟨S_, .f32⟩
  | .hbm, ⟨80, _⟩ => ⟨S2x1408x2048, .f32⟩
  | .hbm, ⟨81, _⟩ => ⟨S2x1408x2048, .f32⟩
  | .hbm, ⟨82, _⟩ => ⟨S2x1408x2048, .f32⟩
  | .hbm, ⟨83, _⟩ => ⟨S_, .f32⟩
  | .hbm, ⟨84, _⟩ => ⟨S2x1408x2048, .f32⟩
  | .hbm, ⟨85, _⟩ => ⟨S2x1408x2048, .f32⟩
  | .hbm, ⟨86, _⟩ => ⟨S2x1408x2048, .f32⟩
  | .hbm, ⟨87, _⟩ => ⟨S_, .f32⟩
  | .hbm, ⟨88, _⟩ => ⟨S2x1408x2048, .f32⟩
  | .hbm, ⟨89, _⟩ => ⟨S2x1408x2048, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Proof.FfnRun.lean ====
module

public import proofs.«01_k».proof.Proof.Gen.FfnIdeal
public import proofs.«01_k».proof.Proof.Gen.FfnIdeal.Frame
public import proofs.«01_k».proof.Proof.Gen.Ffn
public import proofs.«01_k».proof.Proof.Gen.Ffn.Frame
public import proofs.«01_k».proof.Proof.Gen.FfnReferenceIdeal.Read
public import proofs.«01_k».proof.Proof.Gen.FfnReferenceIdeal.Run
public import proofs.«01_k».proof.Proof.Gen.FfnReferenceIdeal
public import proofs.«01_k».proof.Proof.Gen.Pre_ffn_finite

@[expose] public section

set_option maxRecDepth 16384

noncomputable section

namespace Cert.Ff

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

/-! ## The run of the six calls: every array ends with the contents its last call leaves -/

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = W6 m ρ c (Proc.devRef .tc main_v1)
      ∧ r.2.mem ((c.tc : Thread nD τ).loc main_v5) = W6 m ρ c (Proc.devRef .tc main_v5)
      ∧ r.2.mem ((c.tc : Thread nD τ).loc main_v4) = W6 m ρ c (Proc.devRef .tc main_v4)
      ∧ r.2.mem ((c.tc : Thread nD τ).loc main_v2) = W6 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v1 (by decide)), h c _ (mem_uc main_v5 (by decide)), h c _ (mem_uc main_v4 (by decide)), h c _ (mem_uc main_v2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

end Cert.Ff

end
-- ==== Proof.Maths.lean ====
module

public import Idealize.ShloMosaic.Lib.Pointwise
public import Idealize.ShloMosaic.Lib.IdealHost

@[expose] public section

noncomputable section

namespace Cert.Att

open Idealize.ShloMosaic
open scoped BigOperators

/-! ## Extended reals that are real -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul]; congr 1; ring

theorem log_real (x : ℝ) (h : 0 < x) : Ideal.log (x : EReal) = ((Real.log x : ℝ) : EReal) := by
  rw [Ideal.log_coe, if_neg (not_le.mpr h)]

theorem max_real (x y : ℝ) : max (x : EReal) (y : EReal) = ((max x y : ℝ) : EReal) :=
  (Monotone.map_max EReal.coe_strictMono.monotone).symm

/-- The scale of the scores, as the number the constant denotes. -/
def kap : ℝ := (Ideal.ofBits .f32 0x3DB504F3#32).toReal

theorem kap_eq : Ideal.ofBits .f32 0x3DB504F3#32 = (kap : EReal) := by
  unfold kap
  have : ∃ r : ℝ, Ideal.ofBits .f32 0x3DB504F3#32 = (r : EReal) := by
    unfold Ideal.ofBits Ideal.ieee
    simp only []
    rw [if_neg (by decide), if_neg (by decide)]
    exact ⟨_, rfl⟩
  obtain ⟨r, hr⟩ := this
  rw [hr, EReal.toReal_coe]

theorem bot_eq : Ideal.ofBits .f32 0xFF800000#32 = (⊥ : EReal) := by
  unfold Ideal.ofBits Ideal.ieee
  simp only []
  rw [if_pos (by decide), if_pos (by decide), if_pos (by decide)]

/-- The largest of some extended reals, none of them `⊤`, one of them real: it is real, and one of them is it. -/
theorem fold_max_attained {ι : Type*} [Fintype ι] (f : ι → EReal) (i₀ : ι) :
    ∃ i, Finset.univ.fold max (⊥ : EReal) f = f i := by
  have h : Finset.univ.fold max (⊥ : EReal) f = Finset.univ.sup f := rfl
  obtain ⟨i, _, hi⟩ := Finset.exists_mem_eq_sup Finset.univ ⟨i₀, Finset.mem_univ _⟩ f
  exact ⟨i, h.trans hi⟩
theorem fold_max_ge {ι : Type*} [Fintype ι] (f : ι → EReal) (i : ι) : f i ≤ Finset.univ.fold max (⊥ : EReal) f := by
  have h : Finset.univ.fold max (⊥ : EReal) f = Finset.univ.sup f := rfl
  rw [h]; exact Finset.le_sup (Finset.mem_univ i)
theorem fold_max_real {ι : Type*} [Fintype ι] (f : ι → EReal) (hf : ∀ i, f i ≠ ⊤) (i₀ : ι) (h₀ : f i₀ ≠ ⊥) :
    ((Finset.univ.fold max (⊥ : EReal) f).toReal : EReal) = Finset.univ.fold max (⊥ : EReal) f := by
  obtain ⟨i, hi⟩ := fold_max_attained f i₀
  refine EReal.coe_toReal (by rw [hi]; exact hf i) fun hb => h₀ ?_
  exact le_bot_iff.mp (hb ▸ fold_max_ge f i₀)

/-! ## The attention of one class, in the reals -/

/-- The arguments as reals: the class, the position in the class, the key head, the query head of that key head, the
    lane. -/
structure Data where
  Q : Fin 16 → Fin 256 → Fin 4 → Fin 4 → Fin 128 → ℝ
  K : Fin 16 → Fin 256 → Fin 4 → Fin 128 → ℝ
  V : Fin 16 → Fin 256 → Fin 4 → Fin 128 → ℝ
  D : Fin 16 → Fin 256 → Fin 4 → Fin 4 → Fin 128 → ℝ
  O0 : Fin 16 → Fin 256 → Fin 4 → Fin 4 → Fin 128 → ℝ
  O1 : Fin 16 → Fin 256 → Fin 4 → Fin 4 → Fin 128 → ℝ
  L0 : Fin 16 → Fin 256 → Fin 4 → Fin 4 → ℝ
  L1 : Fin 16 → Fin 256 → Fin 4 → Fin 4 → ℝ

/-- Query `t` attends to key `s`. -/
abbrev sees (t s : Fin 256) : Prop := s.val ≤ t.val ∧ t.val ≤ s.val + 128

variable (X : Data) (c : Fin 16) (t : Fin 256) (g r : Fin 4)

/-- The score of a query and a key. -/
def sc (s : Fin 256) : ℝ := (∑ e, X.K c s g e * X.Q c t g r e) * kap
/-- The score where the query sees the key. -/
def scm (s : Fin 256) : EReal := if sees t s then ((sc X c t g r s : ℝ) : EReal) else ⊥
/-- The largest score of a query. -/
def mx : ℝ := (Finset.univ.fold max (⊥ : EReal) (scm X c t g r)).toReal
/-- The exponential of a score less the largest. -/
def ex (s : Fin 256) : ℝ := if sees t s then Real.exp (sc X c t g r s - mx X c t g r) else 0
/-- Their sum. -/
def sm : ℝ := ∑ s, ex X c t g r s
/-- The probability of a key. -/
def pr (s : Fin 256) : ℝ := ex X c t g r s / sm X c t g r
/-- The output of the pattern. -/
def ou (e : Fin 128) : ℝ := ∑ s, X.V c s g e * pr X c t g r s
/-- The logarithm of the sum of the scores' exponentials. -/
def ls : ℝ := mx X c t g r + Real.log (sm X c t g r)
/-- The largest of the three patterns' logarithms. -/
def tp : ℝ := max (max (X.L0 c t g r) (X.L1 c t g r)) (ls X c t g r)
def e0 : ℝ := Real.exp (X.L0 c t g r - tp X c t g r)
def e1 : ℝ := Real.exp (X.L1 c t g r - tp X c t g r)
def e2 : ℝ := Real.exp (ls X c t g r - tp X c t g r)
def dn : ℝ := e0 X c t g r + e1 X c t g r + e2 X c t g r
/-- The weight of this pattern. -/
def wt : ℝ := e2 X c t g r / dn X c t g r
/-- The sum of the three patterns' outputs by their weights. -/
def co (e : Fin 128) : ℝ := (e0 X c t g r * X.O0 c t g r e + e1 X c t g r * X.O1 c t g r e + e2 X c t g r * ou X c t g r e) / dn X c t g r
def ct : ℝ := wt X c t g r * ∑ e, X.D c t g r e * co X c t g r e
/-- The gradient of a probability. -/
def dp (s : Fin 256) : ℝ := ∑ e, (wt X c t g r * X.D c t g r e) * X.V c s g e
/-- The gradient of a score before the scale. -/
def ds (s : Fin 256) : ℝ := pr X c t g r s * (dp X c t g r s - ct X c t g r) * kap
/-- The gradients of the queries, the keys and the values. -/
def gq (e : Fin 128) : ℝ := ∑ s, ds X c t g r s * X.K c s g e
def gk (s : Fin 256) (e : Fin 128) : ℝ := ∑ t, ∑ r, ds X c t g r s * X.Q c t g r e
def gv (s : Fin 256) (e : Fin 128) : ℝ := ∑ t, ∑ r, pr X c t g r s * (wt X c t g r * X.D c t g r e)

theorem scm_ne_top (s : Fin 256) : scm X c t g r s ≠ ⊤ := by
  unfold scm; split
  · exact EReal.coe_ne_top _
  · exact bot_ne_top
theorem sees_self : sees t t := ⟨le_refl _, Nat.le_add_right _ _⟩
theorem scm_self : scm X c t g r t ≠ ⊥ := by
  unfold scm; rw [if_pos (sees_self t)]; exact EReal.coe_ne_bot _
theorem mx_eq : ((mx X c t g r : ℝ) : EReal) = Finset.univ.fold max (⊥ : EReal) (scm X c t g r) :=
  fold_max_real _ (scm_ne_top X c t g r) t (scm_self X c t g r)
theorem mx_attained : ∃ s, scm X c t g r s = ((mx X c t g r : ℝ) : EReal) := by
  obtain ⟨s, hs⟩ := fold_max_attained (scm X c t g r) t
  exact ⟨s, hs.symm.trans (mx_eq X c t g r).symm⟩
theorem ex_nonneg (s : Fin 256) : 0 ≤ ex X c t g r s := by
  unfold ex; split
  · exact (Real.exp_pos _).le
  · exact le_refl _
theorem sm_pos : 0 < sm X c t g r := by
  refine Finset.sum_pos' (fun s _ => ex_nonneg X c t g r s) ⟨t, Finset.mem_univ _, ?_⟩
  unfold ex; rw [if_pos (sees_self t)]; exact Real.exp_pos _
theorem dn_pos : 0 < dn X c t g r := by
  unfold dn e0 e1 e2
  have h0 := Real.exp_pos (X.L0 c t g r - tp X c t g r)
  have h1 := Real.exp_pos (X.L1 c t g r - tp X c t g r)
  have h2 := Real.exp_pos (ls X c t g r - tp X c t g r)
  linarith
theorem exp_scm (s : Fin 256) : Ideal.exp (scm X c t g r s - ((mx X c t g r : ℝ) : EReal)) = ((ex X c t g r s : ℝ) : EReal) := by
  unfold scm ex; split
  · rw [← EReal.coe_sub, Ideal.exp_coe]
  · rw [EReal.bot_sub]; rfl
theorem exp_ls (s : Fin 256) : Ideal.exp (scm X c t g r s - ((ls X c t g r : ℝ) : EReal)) = ((pr X c t g r s : ℝ) : EReal) := by
  unfold scm pr ex; split
  · rw [← EReal.coe_sub, Ideal.exp_coe]; congr 1
    unfold ls
    rw [← sub_sub, Real.exp_sub, Real.exp_log (sm_pos X c t g r)]
  · rw [EReal.bot_sub, zero_div]; rfl
theorem pr_unseen (s : Fin 256) (h : ¬sees t s) : pr X c t g r s = 0 := by
  unfold pr ex; rw [if_neg h, zero_div]
theorem ds_unseen (s : Fin 256) (h : ¬sees t s) : ds X c t g r s = 0 := by
  unfold ds; rw [pr_unseen X c t g r s h, zero_mul, zero_mul]

/-! ## The reference's gradients -/

def d0 : ℝ := ∑ e, X.D c t g r e * X.O0 c t g r e
def d1 : ℝ := ∑ e, X.D c t g r e * X.O1 c t g r e
def d2 : ℝ := ∑ e, X.D c t g r e * ou X c t g r e
/-- The gradient of the pattern's logarithm. -/
def dl : ℝ := (d2 X c t g r / dn X c t g r + -(d0 X c t g r * (1 / (dn X c t g r * dn X c t g r)) * e0 X c t g r
  + d1 X c t g r * (1 / (dn X c t g r * dn X c t g r)) * e1 X c t g r
  + d2 X c t g r * (1 / (dn X c t g r * dn X c t g r)) * e2 X c t g r)) * e2 X c t g r
/-- The gradient of the sum of the exponentials. -/
def dsm : ℝ := dl X c t g r / sm X c t g r + -∑ s, dp X c t g r s * (1 / (sm X c t g r * sm X c t g r)) * ex X c t g r s
/-- The gradient of a score less the largest. -/
def de (s : Fin 256) : ℝ := (dp X c t g r s / sm X c t g r + dsm X c t g r) * ex X c t g r s

theorem sum_co : ∑ e, X.D c t g r e * co X c t g r e
    = (e0 X c t g r * d0 X c t g r + e1 X c t g r * d1 X c t g r + e2 X c t g r * d2 X c t g r) / dn X c t g r := by
  unfold co d0 d1 d2
  rw [Finset.mul_sum, Finset.mul_sum, Finset.mul_sum, ← Finset.sum_add_distrib, ← Finset.sum_add_distrib, Finset.sum_div]
  exact Finset.sum_congr rfl fun e _ => by ring
theorem dl_eq : dl X c t g r = wt X c t g r * d2 X c t g r - ct X c t g r := by
  have h := (dn_pos X c t g r).ne'
  unfold ct; rw [sum_co]; unfold dl wt; field_simp; ring
theorem sum_dp : ∑ s, dp X c t g r s * ex X c t g r s = wt X c t g r * d2 X c t g r * sm X c t g r := by
  have h := (sm_pos X c t g r).ne'
  have e1 : ∀ s, dp X c t g r s * ex X c t g r s = ∑ e, wt X c t g r * X.D c t g r e * (X.V c s g e * pr X c t g r s) * sm X c t g r := fun s => by
    unfold dp pr; rw [Finset.sum_mul]; exact Finset.sum_congr rfl fun e _ => by field_simp
  rw [Finset.sum_congr rfl fun s _ => e1 s, Finset.sum_comm]
  unfold d2 ou
  rw [Finset.mul_sum, Finset.sum_mul]
  refine Finset.sum_congr rfl fun e _ => ?_
  rw [← Finset.sum_mul, ← Finset.mul_sum]; ring
theorem dsm_eq : dsm X c t g r = -ct X c t g r / sm X c t g r := by
  have h := (sm_pos X c t g r).ne'
  unfold dsm
  have : ∑ s, dp X c t g r s * (1 / (sm X c t g r * sm X c t g r)) * ex X c t g r s
      = (∑ s, dp X c t g r s * ex X c t g r s) * (1 / (sm X c t g r * sm X c t g r)) := by
    rw [Finset.sum_mul]; exact Finset.sum_congr rfl fun s _ => by ring
  rw [this, sum_dp, dl_eq]; field_simp; ring
theorem de_eq (s : Fin 256) : de X c t g r s = pr X c t g r s * (dp X c t g r s - ct X c t g r) := by
  have h := (sm_pos X c t g r).ne'
  unfold de; rw [dsm_eq]; unfold pr; field_simp; ring
/-- Nothing flows back through the largest score. -/
theorem no_mx : dl X c t g r + ∑ s, -de X c t g r s = 0 := by
  have h := (sm_pos X c t g r).ne'
  rw [Finset.sum_neg_distrib]
  have : ∑ s, de X c t g r s = (∑ s, dp X c t g r s * ex X c t g r s) / sm X c t g r + dsm X c t g r * sm X c t g r := by
    have hs : dsm X c t g r * sm X c t g r = ∑ s, dsm X c t g r * ex X c t g r s := by
      conv_lhs => arg 2; unfold sm
      rw [Finset.mul_sum]
    rw [hs, Finset.sum_div, ← Finset.sum_add_distrib]; unfold de
    exact Finset.sum_congr rfl fun s _ => by ring
  rw [this, sum_dp, dsm_eq, dl_eq]; field_simp; ring

end Cert.Att
-- ==== Proof.FfnMaths.lean ====
module

public import proofs.«01_k».proof.Proof.Maths
public import Idealize.ShloMosaic.Lib.Pipeline.ValueKit.Acc

@[expose] public section

set_option maxRecDepth 16384

noncomputable section

namespace Cert.Ff

open Idealize.ShloMosaic
open scoped BigOperators

/-! # The feed-forward layer and its gradients, over the extended reals -/

/-- The normed input, the first weight in its four blocks of columns, the second weight, and the output's gradient. -/
structure Arrs where
  H : Fin 4096 → Fin 2048 → EReal
  A : Fin 4 → Fin 2048 → Fin 2816 → EReal
  B : Fin 5632 → Fin 2048 → EReal
  D : Fin 4096 → Fin 2048 → EReal

/-- The logistic function. -/
def sg (x : EReal) : EReal := Ideal.div 1 (1 + Ideal.exp (-x))

/-- The column of the first product that gates column `f`, and the one it gates. -/
def ga (f : Fin 5632) : Fin 11264 := ⟨f.val, by omega⟩
def up (f : Fin 5632) : Fin 11264 := ⟨5632 + f.val, by omega⟩

section
variable (X : Arrs)

/-- The first weight, its blocks side by side. -/
def wc (c : Fin 11264) (k : Fin 2048) : EReal := X.A ⟨c.val / 2816, by omega⟩ k ⟨c.val % 2816, by omega⟩
/-- The first product. -/
def z (s : Fin 4096) (c : Fin 11264) : EReal := ∑ k, X.H s k * wc X c k
/-- The gate, the gated activation and the output. -/
def gt (s : Fin 4096) (f : Fin 5632) : EReal := z X s (ga f) * sg (z X s (ga f))
def act (s : Fin 4096) (f : Fin 5632) : EReal := gt X s f * z X s (up f)
def out (s : Fin 4096) (d : Fin 2048) : EReal := ∑ f, act X s f * X.B f d
/-- The activation's gradient, and what it is multiplied by on the gate's side. -/
def da (s : Fin 4096) (f : Fin 5632) : EReal := ∑ d, X.D s d * X.B f d
def gg (s : Fin 4096) (f : Fin 5632) : EReal :=
  z X s (up f) * (sg (z X s (ga f)) + gt X s f * (1 - sg (z X s (ga f))))
/-- The first product's gradient. -/
def dz (s : Fin 4096) (c : Fin 11264) : EReal :=
  if c.val < 5632 then da X s ⟨c.val % 5632, by omega⟩ * gg X s ⟨c.val % 5632, by omega⟩
  else da X s ⟨c.val % 5632, by omega⟩ * gt X s ⟨c.val % 5632, by omega⟩
/-- The gradients of the second weight, of the first, and of the input. -/
def dB (f : Fin 5632) (d : Fin 2048) : EReal := ∑ s, act X s f * X.D s d
def dA (b : Fin 4) (k : Fin 2048) (q : Fin 2816) : EReal := ∑ s, X.H s k * dz X s ⟨2816 * b.val + q.val, by omega⟩
def dH (s : Fin 4096) (k : Fin 2048) : EReal := ∑ c, dz X s c * wc X c k

/-! ## The same in pairs of tiles: 1408 gates, then the 1408 columns they gate -/

/-- The gated column of a column of the pairs of tiles. -/
def fo (c : Fin 11264) : Fin 5632 := ⟨1408 * (c.val / 2816) + c.val % 1408, by omega⟩
/-- The column of the first product at a column of the pairs of tiles, and back. -/
def gc (c : Fin 11264) : Fin 11264 := ⟨5632 * (c.val / 1408 % 2) + (1408 * (c.val / 2816) + c.val % 1408), by omega⟩
def lc (c : Fin 11264) : Fin 11264 := ⟨2816 * (c.val % 5632 / 1408) + 1408 * (c.val / 5632) + c.val % 1408, by omega⟩
theorem gc_at (j p n : ℕ) (hj : j < 4) (hp : p < 2) (hn : n < 1408) (c : Fin 11264) (hc : c.val = 2816 * j + 1408 * p + n) :
    (gc c).val = 5632 * p + 1408 * j + n := by
  have e1 : c.val / 1408 = 2 * j + p := by omega
  have e2 : c.val / 2816 = j := by omega
  have e3 : c.val % 1408 = n := by omega
  simp only [gc, e1, e2, e3]
  omega
theorem gc_lc (c : Fin 11264) : gc (lc c) = c := by
  refine Fin.ext ((gc_at (c.val % 5632 / 1408) (c.val / 5632) (c.val % 1408) (by omega) (by omega) (by omega) _ rfl).trans ?_)
  omega
/-- What the activation's gradient is multiplied by. -/
def gu (s : Fin 4096) (c : Fin 11264) : EReal := if c.val / 1408 % 2 = 0 then gg X s (fo c) else gt X s (fo c)
theorem dz_gc (s : Fin 4096) (c : Fin 11264) : da X s (fo c) * gu X s c = dz X s (gc c) := by
  have e : (⟨(gc c).val % 5632, by omega⟩ : Fin 5632) = fo c := by
    refine Fin.ext ?_
    simp only [gc, fo]
    omega
  unfold gu dz
  rw [e]
  rcases Nat.mod_two_eq_zero_or_one (c.val / 1408) with h | h
  · rw [if_pos h, if_pos (by simp only [gc]; omega)]
  · rw [if_neg (by omega), if_neg (by simp only [gc]; omega)]

/-- Eight sums over the pairs of tiles are one sum over the columns. -/
theorem sum_pairs (f : Fin 11264 → EReal) (t : Fin 8 → EReal)
    (ht : ∀ r : Fin 8, t r = ∑ n : Fin 1408, f (gc ⟨1408 * r.val + n.val, by omega⟩)) :
    t 0 + t 1 + t 2 + t 3 + t 4 + t 5 + t 6 + t 7 = ∑ c, f c := by
  have h8 : ∑ c, f c = ∑ r : Fin 8, ∑ n : Fin 1408, f ⟨1408 * r.val + n.val, by omega⟩ := by
    rw [← Fin.sum_mul_add_fin 8 1408 f]
    refine Finset.sum_congr rfl fun r _ => Finset.sum_congr rfl fun n _ => congrArg f (Fin.ext ?_)
    dsimp only
    omega
  have g (r q : Fin 8) (h : 5632 * (r.val % 2) + 1408 * (r.val / 2) = 1408 * q.val) :
      t r = ∑ n : Fin 1408, f ⟨1408 * q.val + n.val, by omega⟩ := by
    rw [ht r]
    refine Finset.sum_congr rfl fun n _ => congrArg f (Fin.ext ?_)
    refine (gc_at (r.val / 2) (r.val % 2) n.val (by omega) (by omega) n.isLt _ (by dsimp only; omega)).trans ?_
    dsimp only
    omega
  rw [h8, Fin.sum_univ_eight, g 0 0 (by decide), g 1 4 (by decide), g 2 1 (by decide), g 3 5 (by decide), g 4 2 (by decide),
    g 5 6 (by decide), g 6 3 (by decide), g 7 7 (by decide)]
  ac_rfl

/-! ## Finite arrays -/

/-- Every entry is a real number. -/
structure Real : Prop where
  H : ∀ s k, ∃ r : ℝ, X.H s k = (r : EReal)
  A : ∀ b k q, ∃ r : ℝ, X.A b k q = (r : EReal)
  B : ∀ f d, ∃ r : ℝ, X.B f d = (r : EReal)
  D : ∀ s d, ∃ r : ℝ, X.D s d = (r : EReal)

theorem real_dot {ι : Type*} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [← Cert.Att.coe_sum]
  refine Finset.sum_congr rfl fun i _ => ?_
  rw [ha, hb, EReal.coe_mul]

theorem real_z (R : Real X) (s : Fin 4096) (c : Fin 11264) : ∃ r : ℝ, z X s c = (r : EReal) :=
  real_dot _ _ (fun k => R.H s k) (fun k => R.A _ k _)
theorem real_da (R : Real X) (s : Fin 4096) (f : Fin 5632) : ∃ r : ℝ, da X s f = (r : EReal) :=
  real_dot _ _ (fun d => R.D s d) (fun d => R.B f d)

theorem sg_real (x : ℝ) : sg (x : EReal) = ((1 / (1 + Real.exp (-x)) : ℝ) : EReal) := by
  have h : (1 : ℝ) + Real.exp (-x) ≠ 0 := by positivity
  unfold sg
  rw [← Cert.Att.div_real 1 _ h, ← EReal.coe_neg]
  rfl

/-- The gate's gradient as the product and the sum rule give it. -/
theorem gate (R : Real X) (s : Fin 4096) (f : Fin 5632) :
    da X s f * z X s (up f) * sg (z X s (ga f)) + z X s (ga f) * (da X s f * z X s (up f)) * (sg (z X s (ga f)) * (1 - sg (z X s (ga f))))
      = da X s f * gg X s f := by
  obtain ⟨d, hd⟩ := real_da X R s f
  obtain ⟨g, hg⟩ := real_z X R s (ga f)
  obtain ⟨u, hu⟩ := real_z X R s (up f)
  unfold gg gt
  rw [hd, hg, hu, sg_real]
  rw [← EReal.coe_one]
  norm_cast
  ring
end

end Cert.Ff

end
-- ==== Proof.FfnRef.lean ====
module

public import proofs.«01_k».proof.Proof.Gen.FfnReferenceIdeal.Read
public import proofs.«01_k».proof.Proof.FfnMaths

@[expose] public section

set_option maxRecDepth 16384

noncomputable section

namespace Cert.Ff

/-- The numbers of the four arguments. -/
def arrs (x0 : Idealize.ShloMosaic.Vec Idealize.ShloMosaic.Ideal ⟨2, ![4096, 2048]⟩ .bf16) (x1 : Idealize.ShloMosaic.Vec Idealize.ShloMosaic.Ideal ⟨3, ![4, 2048, 2816]⟩ .bf16)
    (x2 : Idealize.ShloMosaic.Vec Idealize.ShloMosaic.Ideal ⟨3, ![1, 5632, 2048]⟩ .bf16) (x3 : Idealize.ShloMosaic.Vec Idealize.ShloMosaic.Ideal ⟨2, ![4096, 2048]⟩ .bf16) : Arrs where
  H s k := x0 (Idealize.ShloMosaic.ix2 s k)
  A b k q := x1 (Idealize.ShloMosaic.ix3 b k q)
  B f d := x2 (Idealize.ShloMosaic.ix3 0 f d)
  D s d := x3 (Idealize.ShloMosaic.ix2 s d)

open Cert.FfnReferenceIdeal Cert.FfnReferenceIdeal.Gen Cert.FfnReferenceIdeal.Read Idealize.ShloMosaic
open scoped BigOperators

/-! # The plain mathematics' values -/

theorem eq2 {a b : ℕ} (i : (⟨2, ![a, b]⟩ : Shape).Idx) (p : Fin a) (q : Fin b) (h0 : (i 0).val = p.val) (h1 : (i 1).val = q.val) : i = ix2 p q := by
  funext x
  match x with
  | ⟨0, _⟩ => exact Fin.ext h0
  | ⟨1, _⟩ => exact Fin.ext h1
theorem eq3 {a b c : ℕ} (i : (⟨3, ![a, b, c]⟩ : Shape).Idx) (p : Fin a) (q : Fin b) (r : Fin c) (h0 : (i 0).val = p.val) (h1 : (i 1).val = q.val) (h2 : (i 2).val = r.val) :
    i = ix3 p q r := by
  funext x
  match x with
  | ⟨0, _⟩ => exact Fin.ext h0
  | ⟨1, _⟩ => exact Fin.ext h1
  | ⟨2, _⟩ => exact Fin.ext h2

section
variable (x0 : (⟨S4096x2048, .bf16⟩ : BufTy).Contents (Elt Ideal)) (x1 : (⟨S4x2048x2816, .bf16⟩ : BufTy).Contents (Elt Ideal))
  (x2 : (⟨S1x5632x2048, .bf16⟩ : BufTy).Contents (Elt Ideal)) (x3 : (⟨S4096x2048, .bf16⟩ : BufTy).Contents (Elt Ideal))

theorem r0 (i : S4096x2048.Idx) (s : Fin 4096) (k : Fin 2048) (h0 : (i 0).val = s.val) (h1 : (i 1).val = k.val) :
    val_main_v0 (F := Ideal) x0 i = (arrs x0 x1 x2 x3).H s k := congrArg x0 (eq2 i s k h0 h1)
theorem r12 (i : S4096x2048.Idx) (s : Fin 4096) (k : Fin 2048) (h0 : (i 0).val = s.val) (h1 : (i 1).val = k.val) :
    val_main_v12 (F := Ideal) x3 i = (arrs x0 x1 x2 x3).D s k := congrArg x3 (eq2 i s k h0 h1)
theorem r4 (i : S2048x11264.Idx) (c : Fin 11264) (k : Fin 2048) (h0 : (i 0).val = k.val) (h1 : (i 1).val = c.val) :
    val_main_v4 (F := Ideal) x1 i = wc (arrs x0 x1 x2 x3) c k := by
  rw [val_main_v4_apply, val_main_v3_apply, val_main_v1_apply]
  refine congrArg x1 (eq3 _ _ _ _ ?_ ?_ ?_)
  · show ((i 0).val * 11264 + (i 1).val) / 2816 % 4 = c.val / 2816
    omega
  · show ((i 0).val * 11264 + (i 1).val) / 11264 = k.val
    omega
  · show ((i 0).val * 11264 + (i 1).val) % 2816 = c.val % 2816
    omega
theorem r10 (i : S5632x2048.Idx) (f : Fin 5632) (d : Fin 2048) (h0 : (i 0).val = f.val) (h1 : (i 1).val = d.val) :
    val_main_v10 (F := Ideal) x2 i = (arrs x0 x1 x2 x3).B f d := by
  rw [val_main_v10_apply, val_main_v2_apply]
  refine congrArg x2 (eq3 _ 0 f d rfl ?_ ?_)
  · show ((i 0).val * 2048 + (i 1).val) / 2048 % 5632 = f.val
    omega
  · show ((i 0).val * 2048 + (i 1).val) % 2048 = d.val
    omega
theorem r5 (i : S4096x11264.Idx) (s : Fin 4096) (c : Fin 11264) (h0 : (i 0).val = s.val) (h1 : (i 1).val = c.val) :
    val_main_v5 (F := Ideal) x0 x1 i = z (arrs x0 x1 x2 x3) s c := by
  rw [val_main_v5_apply]
  exact Finset.sum_congr rfl fun k _ => congrArg₂ (· * ·) (r0 x0 x1 x2 x3 _ s k h0 rfl) (r4 x0 x1 x2 x3 _ c k rfl h1)
theorem r6 (i : S4096x5632.Idx) (s : Fin 4096) (f : Fin 5632) (h0 : (i 0).val = s.val) (h1 : (i 1).val = f.val) :
    val_main_v6 (F := Ideal) x0 x1 i = z (arrs x0 x1 x2 x3) s (ga f) := by
  rw [val_main_v6_apply]
  exact r5 x0 x1 x2 x3 _ s _ h0 h1
theorem r7 (i : S4096x5632.Idx) (s : Fin 4096) (f : Fin 5632) (h0 : (i 0).val = s.val) (h1 : (i 1).val = f.val) :
    val_main_v7 (F := Ideal) x0 x1 i = z (arrs x0 x1 x2 x3) s (up f) := by
  rw [val_main_v7_apply]
  exact r5 x0 x1 x2 x3 _ s _ h0 (congrArg (5632 + ·) h1)
theorem r8_2 (i : S4096x5632.Idx) (s : Fin 4096) (f : Fin 5632) (h0 : (i 0).val = s.val) (h1 : (i 1).val = f.val) :
    val_main_v8_2 (F := Ideal) x0 x1 i = sg (z (arrs x0 x1 x2 x3) s (ga f)) := by
  rw [← r6 x0 x1 x2 x3 i s f h0 h1, val_main_v8_2_apply, val_main_call0_v4_apply, val_main_call0_cst_0_apply, val_main_call0_v3_apply, val_main_call0_v2_apply,
    val_main_call0_cst_apply, val_main_call0_v1_apply, val_main_call0_v0_apply]
  unfold sg
  rw [← Ideal.ofBits_one_f32]
  rfl
theorem r8_0 (i : S4096x5632.Idx) (s : Fin 4096) (f : Fin 5632) (h0 : (i 0).val = s.val) (h1 : (i 1).val = f.val) :
    val_main_v8_0 (F := Ideal) x0 x1 i = gt (arrs x0 x1 x2 x3) s f := by
  rw [val_main_v8_0_apply]
  exact congrArg₂ (· * ·) (r6 x0 x1 x2 x3 i s f h0 h1) (r8_2 x0 x1 x2 x3 i s f h0 h1)
theorem r8_1 (i : S4096x5632.Idx) (s : Fin 4096) (f : Fin 5632) (h0 : (i 0).val = s.val) (h1 : (i 1).val = f.val) :
    val_main_v8_1 (F := Ideal) x0 x1 i = sg (z (arrs x0 x1 x2 x3) s (ga f)) * (1 - sg (z (arrs x0 x1 x2 x3) s (ga f))) := by
  rw [val_main_v8_1_apply, val_main_call0_v7_apply, val_main_call0_v6_apply, val_main_call0_cst_1_apply, r8_2 x0 x1 x2 x3 i s f h0 h1, ← Ideal.ofBits_one_f32]
  rfl
theorem r9 (i : S4096x5632.Idx) (s : Fin 4096) (f : Fin 5632) (h0 : (i 0).val = s.val) (h1 : (i 1).val = f.val) :
    val_main_v9 (F := Ideal) x0 x1 i = act (arrs x0 x1 x2 x3) s f := by
  rw [val_main_v9_apply]
  exact congrArg₂ (· * ·) (r8_0 x0 x1 x2 x3 i s f h0 h1) (r7 x0 x1 x2 x3 i s f h0 h1)
/-- The output. -/
theorem r11 (i : S4096x2048.Idx) (s : Fin 4096) (d : Fin 2048) (h0 : (i 0).val = s.val) (h1 : (i 1).val = d.val) :
    val_main_v11 (F := Ideal) x0 x1 x2 i = out (arrs x0 x1 x2 x3) s d := by
  rw [val_main_v11_apply]
  exact Finset.sum_congr rfl fun k _ => congrArg₂ (· * ·) (r9 x0 x1 x2 x3 _ s k h0 rfl) (r10 x0 x1 x2 x3 _ k d rfl h1)
/-- The gradient of the second weight. -/
theorem r27 (i : S1x5632x2048.Idx) (f : Fin 5632) (d : Fin 2048) (h1 : (i 1).val = f.val) (h2 : (i 2).val = d.val) :
    val_main_v27 (F := Ideal) x0 x1 x3 i = dB (arrs x0 x1 x2 x3) f d := by
  rw [val_main_v27_apply, val_main_v16_apply, val_main_v14_apply, val_main_v13_apply]
  exact Finset.sum_congr rfl fun k _ => (mul_comm _ _).trans (congrArg₂ (· * ·) (r9 x0 x1 x2 x3 _ k f rfl h1) (r12 x0 x1 x2 x3 _ k d rfl h2))
theorem r15 (i : S4096x5632.Idx) (s : Fin 4096) (f : Fin 5632) (h0 : (i 0).val = s.val) (h1 : (i 1).val = f.val) :
    val_main_v15 (F := Ideal) x2 x3 i = da (arrs x0 x1 x2 x3) s f := by
  rw [val_main_v15_apply]
  exact Finset.sum_congr rfl fun k _ => congrArg₂ (· * ·) (r12 x0 x1 x2 x3 _ s k h0 rfl) (r10 x0 x1 x2 x3 _ f k h1 rfl)
theorem r17 (i : S4096x5632.Idx) (s : Fin 4096) (f : Fin 5632) (h0 : (i 0).val = s.val) (h1 : (i 1).val = f.val) :
    val_main_v17 (F := Ideal) x0 x1 x2 x3 i = da (arrs x0 x1 x2 x3) s f * gt (arrs x0 x1 x2 x3) s f := by
  rw [val_main_v17_apply, r8_0 x0 x1 x2 x3 i s f h0 h1, r15 x0 x1 x2 x3 i s f h0 h1]
  exact mul_comm _ _
theorem r19 (R : Real (arrs x0 x1 x2 x3)) (i : S4096x5632.Idx) (s : Fin 4096) (f : Fin 5632) (h0 : (i 0).val = s.val) (h1 : (i 1).val = f.val) :
    val_main_v19 (F := Ideal) x0 x1 x2 x3 i = da (arrs x0 x1 x2 x3) s f * gg (arrs x0 x1 x2 x3) s f := by
  rw [val_main_v19_apply, val_main_call1_v1_apply, val_main_call1_v2_apply, val_main_call1_v0_apply, val_main_v18_apply, r6 x0 x1 x2 x3 i s f h0 h1, r7 x0 x1 x2 x3 i s f h0 h1,
    r15 x0 x1 x2 x3 i s f h0 h1, r8_1 x0 x1 x2 x3 i s f h0 h1, r8_2 x0 x1 x2 x3 i s f h0 h1]
  exact gate _ R s f
theorem r20 (R : Real (arrs x0 x1 x2 x3)) (i : S4096x11264.Idx) (s : Fin 4096) (c : Fin 11264) (h0 : (i 0).val = s.val) (h1 : (i 1).val = c.val) :
    val_main_v20 (F := Ideal) x0 x1 x2 x3 i = dz (arrs x0 x1 x2 x3) s c := by
  rw [eq2 i s c h0 h1]
  have e19 := r19 x0 x1 x2 x3 R
  have e17 := r17 x0 x1 x2 x3
  unfold val_main_v20
  generalize val_main_v19 (F := Ideal) x0 x1 x2 x3 = a at *
  generalize val_main_v17 (F := Ideal) x0 x1 x2 x3 = b at *
  pointwise []
  unfold dz
  by_cases h : c.val < 5632
  · rw [dif_pos h, if_pos h]
    exact e19 _ _ _ rfl (by show c.val = c.val % 5632; omega)
  · rw [dif_neg h, if_neg h]
    exact e17 _ _ _ rfl (by show c.val - 5632 = c.val % 5632; omega)
/-- The gradient of the input. -/
theorem r23 (R : Real (arrs x0 x1 x2 x3)) (i : S4096x2048.Idx) (s : Fin 4096) (k : Fin 2048) (h0 : (i 0).val = s.val) (h1 : (i 1).val = k.val) :
    val_main_v23 (F := Ideal) x0 x1 x2 x3 i = dH (arrs x0 x1 x2 x3) s k := by
  rw [val_main_v23_apply]
  exact Finset.sum_congr rfl fun c _ => congrArg₂ (· * ·) (r20 x0 x1 x2 x3 R _ s c h0 rfl) (r4 x0 x1 x2 x3 _ c k h1 rfl)
/-- The gradient of the first weight. -/
theorem r26 (R : Real (arrs x0 x1 x2 x3)) (i : S4x2048x2816.Idx) (b : Fin 4) (k : Fin 2048) (q : Fin 2816) (h0 : (i 0).val = b.val) (h1 : (i 1).val = k.val) (h2 : (i 2).val = q.val) :
    val_main_v26 (F := Ideal) x0 x1 x2 x3 i = dA (arrs x0 x1 x2 x3) b k q := by
  rw [val_main_v26_apply, val_main_v25_apply, val_main_v24_apply, val_main_v22_apply, val_main_v21_apply]
  refine Finset.sum_congr rfl fun s _ => (mul_comm _ _).trans (congrArg₂ (· * ·) (r0 x0 x1 x2 x3 _ s k rfl ?_) (r20 x0 x1 x2 x3 R _ s _ rfl ?_))
  · show (((i 1).val * 4 + (i 0).val) * 2816 + (i 2).val) / 11264 = k.val
    omega
  · show (((i 1).val * 4 + (i 0).val) * 2816 + (i 2).val) % 11264 = 2816 * b.val + q.val
    omega
end

end Cert.Ff

end
-- ==== Proof.FfnKer.lean ====
module

public import proofs.«01_k».proof.Proof.FfnRun
public import proofs.«01_k».proof.Proof.FfnMaths
public import proofs.«01_k».proof.Proof.FfnRef
public import Idealize.ShloMosaic.Lib.Pipeline.ValueKit.Geometry
public import Idealize.ShloMosaic.Lib.Pipeline.ValueKit.Partial
public import Idealize.ShloMosaic.Lib.Pipeline.ValueKit.Point

@[expose] public section

set_option maxRecDepth 16384

noncomputable section

namespace Cert.Ff

open Idealize.ShloMosaic Idealize.ShloMosaic.TcCoe Idealize.SL.Sem Cert.FfnIdeal Cert.FfnIdeal.Gen
open Pipeline (Dat)
open scoped BigOperators

/-! # What the products' calls leave in their arrays -/

variable (V : (c : Dev nD) → (b : Ref sig .tc) → Buf (Elt Ideal) ((c : Thread nD τ).loc b)) (c : Dev nD)

/-! ## The output -/

theorem ind1 : ∀ t : Fin grid1.N,
    (win1_0.index t 0 = t.val % 8 ∧ win1_0.index t 1 = 0)
      ∧ (win1_1.index t 0 = 0 ∧ win1_1.index t 1 = 0 ∧ win1_1.index t 2 = t.val / 8)
      ∧ win1_2.index t 0 = t.val % 8 ∧ win1_2.index t 1 = t.val / 8 := by decide +kernel

/-- The rows of one array against the columns of the other. -/
def G1 (a : Vec Ideal S4096x5632 .bf16) (b : Vec Ideal S1x5632x2048 .bf16) (i : S4096x2048.Idx) : EReal :=
  ∑ f : Fin 5632, a (ix2 (i 0) f) * b (ix3 0 f (i 1))

theorem arr1 : (dat1 V c).arrAt 2 cfg1.N = G1 (V c main_v0_0) (V c main_arg2) := by
  refine (dat1 V c).arrAt_eq_of_covers 2 _ (by decide +kernel) fun t hf y => ?_
  have e := ind1 t
  blk_simp
  rw [after1_2]
  frame_out
  unfold G1
  pointwise [k1_pay1]
  blk_point [iblk1, e]

/-! ## The second weight's gradient -/

theorem ind2 : ∀ t : Fin grid2.N,
    (win2_0.index t 0 = 0 ∧ win2_0.index t 1 = t.val % 11)
      ∧ (win2_1.index t 0 = 0 ∧ win2_1.index t 1 = t.val / 11)
      ∧ win2_2.index t 0 = 0 ∧ win2_2.index t 1 = t.val % 11 ∧ win2_2.index t 2 = t.val / 11 := by decide +kernel

/-- The columns of one array against the columns of the other. -/
def G2 (a : Vec Ideal S4096x5632 .bf16) (d : Vec Ideal S4096x2048 .bf16) (i : S1x5632x2048.Idx) : EReal :=
  ∑ s : Fin 4096, a (ix2 s (i 1)) * d (ix2 s (i 2))

theorem arr2 : (dat2 V c).arrAt 2 cfg2.N = G2 (V c main_v0_0) (V c main_arg3) := by
  refine (dat2 V c).arrAt_eq_of_covers 2 _ (by decide +kernel) fun t hf y => ?_
  have e := ind2 t
  blk_simp
  rw [after2_2]
  frame_out
  unfold G2
  pointwise [k2_pay1]
  blk_point [iblk2, e]

/-! ## The first weight's gradient -/

theorem ind4 : ∀ t : Fin grid4.N,
    (win4_0.index t 0 = 0 ∧ win4_0.index t 1 = t.val % 4)
      ∧ (win4_1.index t 0 = 0 ∧ win4_1.index t 1 = t.val / 4)
      ∧ win4_2.index t 0 = 2 * (t.val / 4 % 2) + t.val / 16 ∧ win4_2.index t 1 = t.val % 4 ∧ win4_2.index t 2 = t.val / 8 % 2 := by decide +kernel

theorem lc_at (j p n : ℕ) (hj : j < 4) (hp : p < 2) (hn : n < 1408) (c : Fin 11264) (hc : c.val = 5632 * p + 1408 * j + n) :
    (lc c).val = 1408 * (2 * j + p) + n := by
  have e1 : c.val % 5632 / 1408 = j := by omega
  have e2 : c.val / 5632 = p := by omega
  have e3 : c.val % 1408 = n := by omega
  simp only [lc, e1, e2, e3]
  omega

/-- The columns of the input against the columns of the pairs of tiles, each where its weight's column is. -/
def G4 (h : Vec Ideal S4096x2048 .bf16) (d : Vec Ideal S4096x11264 .bf16) (i : S4x2048x2816.Idx) : EReal :=
  ∑ s : Fin 4096, h (ix2 s (i 1)) * d (ix2 s (lc ⟨2816 * (i 0).val + (i 2).val, by
    have h0 : (i 0).val < 4 := (i 0).isLt
    have h2 : (i 2).val < 2816 := (i 2).isLt
    omega⟩))

theorem lt4 (t : Fin cfg4.N) : t.val < 32 := lt_of_lt_of_eq t.isLt (by decide)

theorem arr4 : (dat4 V c).arrAt 2 cfg4.N = G4 (V c main_arg0) (V c main_v3) := by
  refine (dat4 V c).arrAt_eq_of_covers 2 _ (by decide +kernel) fun t hf y => ?_
  have e := ind4 t
  have ht := lt4 t
  blk_simp
  rw [after4_2]
  frame_out
  unfold G4
  pointwise [k4_pay1]
  reads_congr
  · blk_ext [iblk4, e]
  · unfold iblk4
    rw [View.read_apply]
    show V c main_v3 _ = V c main_v3 _
    have h0 : (y 0).val < 1 := (y 0).isLt
    have h2 : (y 2).val < 1408 := (y 2).isLt
    refine congrArg (V c main_v3) (funext fun a => Fin.ext ?_)
    match a with
    | ⟨0, _⟩ => show win4_1.index t 0 * 4096 + 1 * x.val = x.val; rw [e.2.1.1]; omega
    | ⟨1, _⟩ =>
      show win4_1.index t 1 * 1408 + 1 * (y 2).val = _
      refine Eq.trans ?_ (lc_at (t.val / 8) (t.val / 4 % 2) (y 2).val (by omega) (by omega) h2 _ ?_).symm
      · rw [e.2.1.2]; omega
      · show 2816 * (win4_2.index t 0 * 1 + 1 * (y 0).val) + (win4_2.index t 2 * 1408 + 1 * (y 2).val) = _
        rw [e.2.2.1, e.2.2.2.2]; omega

/-! ## The gated activation, and what its gradient is multiplied by -/

theorem ind0 : ∀ t : Fin grid0.N,
    (win0_0.index t 0 = t.val % 8 ∧ win0_0.index t 1 = 0)
      ∧ (win0_1.index t 0 = t.val / 16 ∧ win0_1.index t 1 = 0 ∧ win0_1.index t 2 = t.val / 8 % 2)
      ∧ (win0_2.index t 0 = 2 + t.val / 16 ∧ win0_2.index t 1 = 0 ∧ win0_2.index t 2 = t.val / 8 % 2)
      ∧ (win0_3.index t 0 = t.val % 8 ∧ win0_3.index t 1 = t.val / 8)
      ∧ win0_4.index t 0 = t.val % 8 ∧ win0_4.index t 1 = t.val / 8 := by decide +kernel
theorem lt0 (t : Fin cfg0.N) : t.val < 32 := lt_of_lt_of_eq t.isLt (by decide)

/-- The arrays at the calls' entry. -/
def at0 : Arrs := arrs (V c main_arg0) (V c main_arg1) (V c main_arg2) (V c main_arg3)

/-- The two products at a step. -/
theorem blk_g (t : Fin cfg0.N) (y : S512x1408.Idx) (s : Fin 4096) (f : Fin 5632) (hs : s.val = t.val % 8 * 512 + (y 0).val) (hf : f.val = t.val / 8 * 1408 + (y 1).val) :
    k0_pay1 (iblk0 V c 0 t) (iblk0 V c 1 t) y = z (at0 V c) s (ga f) := by
  have e := ind0 t
  have ht := lt0 t
  unfold z wc ga at0 arrs
  pointwise [k0_pay1]
  blk_point [iblk0, e]
theorem blk_u (t : Fin cfg0.N) (y : S512x1408.Idx) (s : Fin 4096) (f : Fin 5632) (hs : s.val = t.val % 8 * 512 + (y 0).val) (hf : f.val = t.val / 8 * 1408 + (y 1).val) :
    k0_pay2 (iblk0 V c 0 t) (iblk0 V c 2 t) y = z (at0 V c) s (up f) := by
  have e := ind0 t
  have ht := lt0 t
  unfold z wc up at0 arrs
  pointwise [k0_pay2]
  blk_point [iblk0, e]

theorem arr0a : (dat0 V c).arrAt 3 cfg0.N = fun i : S4096x5632.Idx => act (at0 V c) (i 0) (i 1) := by
  refine (dat0 V c).arrAt_eq_of_covers 3 _ (by decide +kernel) fun t hf y => ?_
  have e := ind0 t
  blk_simp
  rw [after0_3]
  frame_out
  have hs : (((View.whole main_v0_0).slice (win0_3.rect t)).emb y 0).val = t.val % 8 * 512 + (y 0).val := by
    show win0_3.index t 0 * 512 + 1 * (y 0).val = _
    rw [e.2.2.2.1.1]; omega
  have hc : (((View.whole main_v0_0).slice (win0_3.rect t)).emb y 1).val = t.val / 8 * 1408 + (y 1).val := by
    show win0_3.index t 1 * 1408 + 1 * (y 1).val = _
    rw [e.2.2.2.1.2]; omega
  pointwise [k0_pay5, k0_pay4, k0_pay3]
  rw [blk_g V c t y _ _ hs hc, blk_u V c t y _ _ hs hc, zero_sub]
  rfl

/-- The two sides of a block of pairs. -/
theorem pair_l (t : Fin cfg0.N) (y : S512x1408.Idx) (s : Fin 4096) (q : Fin 11264) (hs : s.val = t.val % 8 * 512 + (y 0).val) (hq : q.val = t.val / 8 * 2816 + (y 1).val) :
    k0_pay6 (iblk0 V c 0 t) (iblk0 V c 1 t) (iblk0 V c 2 t) y = gu (at0 V c) s q := by
  have h1 : (y 1).val < 1408 := (y 1).isLt
  have hf : (fo q).val = t.val / 8 * 1408 + (y 1).val := by
    show 1408 * (q.val / 2816) + q.val % 1408 = _
    omega
  unfold gu
  rw [if_pos (by omega)]
  pointwise [k0_pay6, k0_pay4, k0_pay3]
  rw [blk_g V c t y _ _ hs hf, blk_u V c t y _ _ hs hf, zero_sub]
  rfl
theorem pair_r (t : Fin cfg0.N) (y : S512x1408.Idx) (s : Fin 4096) (q : Fin 11264) (hs : s.val = t.val % 8 * 512 + (y 0).val) (hq : q.val = t.val / 8 * 2816 + (1408 + (y 1).val)) :
    k0_pay7 (iblk0 V c 0 t) (iblk0 V c 1 t) y = gu (at0 V c) s q := by
  have h1 : (y 1).val < 1408 := (y 1).isLt
  have hf : (fo q).val = t.val / 8 * 1408 + (y 1).val := by
    show 1408 * (q.val / 2816) + q.val % 1408 = _
    omega
  unfold gu
  rw [if_neg (by omega)]
  pointwise [k0_pay7, k0_pay4, k0_pay3]
  rw [blk_g V c t y _ _ hs hf, zero_sub]
  rfl

theorem arr0b : (dat0 V c).arrAt 4 cfg0.N = fun i : S4096x11264.Idx => gu (at0 V c) (i 0) (i 1) := by
  refine (dat0 V c).arrAt_eq_of_covers 4 _ (by decide +kernel) fun t hf y => ?_
  have e := ind0 t
  blk_simp
  rw [after0_4]
  frame_out
  refine View.canon_apply_of_pieces (S := S512x2816) (Val := Elt Ideal) (e := .bf16) (fun y => gu (at0 V c) (((View.whole main_v0_1).slice (win0_4.rect t)).emb y 0) (((View.whole main_v0_1).slice (win0_4.rect t)).emb y 1))
    _ (fun p hp x => ?_) y (cover0_4 _ _ y)
  rcases List.mem_cons.mp hp with rfl | hp
  · refine pair_r V c t x _ _ ?_ ?_
    · show win0_4.index t 0 * 512 + 1 * (0 + 1 * (x 0).val) = _
      rw [e.2.2.2.2.1]; omega
    · show win0_4.index t 1 * 2816 + 1 * (1408 + 1 * (x 1).val) = _
      rw [e.2.2.2.2.2]; omega
  · obtain rfl := List.mem_singleton.mp hp
    refine pair_l V c t x _ _ ?_ ?_
    · show win0_4.index t 0 * 512 + 1 * (0 + 1 * (x 0).val) = _
      rw [e.2.2.2.2.1]; omega
    · show win0_4.index t 1 * 2816 + 1 * (0 + 1 * (x 1).val) = _
      rw [e.2.2.2.2.2]; omega

end Cert.Ff

end
-- ==== Proof.FfnKerB.lean ====
module

public import proofs.«01_k».proof.Proof.FfnKer

@[expose] public section

set_option maxRecDepth 16384

noncomputable section

namespace Cert.Ff

open Idealize.ShloMosaic Idealize.ShloMosaic.TcCoe Idealize.SL.Sem Cert.FfnIdeal Cert.FfnIdeal.Gen
open Pipeline (Dat)
open scoped BigOperators

/-! # What the two calls on the first product's gradient leave -/

variable (V : (c : Dev nD) → (b : Ref sig .tc) → Buf (Elt Ideal) ((c : Thread nD τ).loc b)) (c : Dev nD)

/-! ## The first product's gradient, in pairs of tiles -/

theorem ind3 : ∀ t : Fin grid3.N,
    (win3_0.index t 0 = t.val % 8 ∧ win3_0.index t 1 = 0)
      ∧ (win3_1.index t 0 = 0 ∧ win3_1.index t 1 = t.val / 8 ∧ win3_1.index t 2 = 0)
      ∧ (win3_2.index t 0 = t.val % 8 ∧ win3_2.index t 1 = t.val / 8)
      ∧ win3_3.index t 0 = t.val % 8 ∧ win3_3.index t 1 = t.val / 8 := by decide +kernel

/-- The activation's gradient at each column of the pairs, times what the first call kept there. -/
def D3 (b : Vec Ideal S1x5632x2048 .bf16) (d : Vec Ideal S4096x2048 .bf16) (s : Fin 4096) (f : Fin 5632) : EReal :=
  ∑ k : Fin 2048, d (ix2 s k) * b (ix3 0 f k)
def G3 (b : Vec Ideal S1x5632x2048 .bf16) (d : Vec Ideal S4096x2048 .bf16) (g : Vec Ideal S4096x11264 .bf16) (i : S4096x11264.Idx) : EReal :=
  D3 b d (i 0) (fo (i 1)) * g i

theorem blk_d (t : Fin cfg3.N) (y : S512x1408.Idx) (s : Fin 4096) (f : Fin 5632) (hs : s.val = t.val % 8 * 512 + (y 0).val) (hf : f.val = t.val / 8 * 1408 + (y 1).val) :
    k3_pay1 (iblk3 V c 0 t) (iblk3 V c 1 t) y = D3 (V c main_arg2) (V c main_arg3) s f := by
  have e := ind3 t
  unfold D3
  pointwise [k3_pay1]
  blk_point [iblk3, e]
theorem blk_m (t : Fin cfg3.N) (y : S512x2816.Idx) (i : S4096x11264.Idx) (hs : (i 0).val = t.val % 8 * 512 + (y 0).val) (hq : (i 1).val = t.val / 8 * 2816 + (y 1).val) :
    iblk3 V c 2 t y = V c main_v0_1 i := by
  have e := ind3 t
  blk_ext [iblk3, e]

theorem arr3 : (dat3 V c).arrAt 3 cfg3.N = G3 (V c main_arg2) (V c main_arg3) (V c main_v0_1) := by
  refine (dat3 V c).arrAt_eq_of_covers 3 _ (by decide +kernel) fun t hf y => ?_
  have e := ind3 t
  blk_simp
  rw [after3_3]
  frame_out
  refine View.canon_apply_of_pieces (S := S512x2816) (Val := Elt Ideal) (e := .bf16) (fun y => G3 (V c main_arg2) (V c main_arg3) (V c main_v0_1) (((View.whole main_v3).slice (win3_3.rect t)).emb y))
    _ (fun p hp x => ?_) y (cover3_3 _ _ y)
  rcases List.mem_cons.mp hp with rfl | hp
  · have h1 : (x 1).val < 1408 := (x 1).isLt
    have hs : (((View.whole main_v3).slice (win3_3.rect t)).emb (r3_3.emb x) 0).val = t.val % 8 * 512 + (x 0).val := by
      show win3_3.index t 0 * 512 + 1 * (0 + 1 * (x 0).val) = _
      rw [e.2.2.2.1]; omega
    have hq : (((View.whole main_v3).slice (win3_3.rect t)).emb (r3_3.emb x) 1).val = t.val / 8 * 2816 + (1408 + (x 1).val) := by
      show win3_3.index t 1 * 2816 + 1 * (1408 + 1 * (x 1).val) = _
      rw [e.2.2.2.2]; omega
    have hf : (fo (((View.whole main_v3).slice (win3_3.rect t)).emb (r3_3.emb x) 1)).val = t.val / 8 * 1408 + (x 1).val := by
      simp only [fo, hq]; omega
    unfold G3
    pointwise [k3_pay3]
    refine congrArg₂ (· * ·) (blk_d V c t x _ _ hs hf) (blk_m V c t _ _ hs hq)
  · obtain rfl := List.mem_singleton.mp hp
    have h1 : (x 1).val < 1408 := (x 1).isLt
    have hs : (((View.whole main_v3).slice (win3_3.rect t)).emb (r3_2.emb x) 0).val = t.val % 8 * 512 + (x 0).val := by
      show win3_3.index t 0 * 512 + 1 * (0 + 1 * (x 0).val) = _
      rw [e.2.2.2.1]; omega
    have hq : (((View.whole main_v3).slice (win3_3.rect t)).emb (r3_2.emb x) 1).val = t.val / 8 * 2816 + (x 1).val := by
      show win3_3.index t 1 * 2816 + 1 * (0 + 1 * (x 1).val) = _
      rw [e.2.2.2.2]; omega
    have hf : (fo (((View.whole main_v3).slice (win3_3.rect t)).emb (r3_2.emb x) 1)).val = t.val / 8 * 1408 + (x 1).val := by
      simp only [fo, hq]; omega
    unfold G3
    pointwise [k3_pay2]
    refine congrArg₂ (· * ·) (blk_d V c t x _ _ hs hf) (blk_m V c t _ _ hs hq)

/-! ## The input's gradient -/

theorem ind5 : ∀ t : Fin grid5.N,
    (win5_0.index t 0 = t.val % 8 ∧ win5_0.index t 1 = 0)
      ∧ (win5_1.index t 0 = 0 ∧ win5_1.index t 1 = t.val / 8 ∧ win5_1.index t 2 = 0)
      ∧ win5_2.index t 0 = t.val % 8 ∧ win5_2.index t 1 = t.val / 8 := by decide +kernel

/-- The columns of the pairs, each against its weight's column. -/
def T5 (a : Vec Ideal S4x2048x2816 .bf16) (d : Vec Ideal S4096x11264 .bf16) (s : Fin 4096) (k : Fin 2048) (q : Fin 11264) : EReal :=
  d (ix2 s (lc q)) * a (ix3 ⟨q.val / 2816, by omega⟩ k ⟨q.val % 2816, by omega⟩)
def G5 (a : Vec Ideal S4x2048x2816 .bf16) (d : Vec Ideal S4096x11264 .bf16) (i : S4096x2048.Idx) : EReal :=
  ∑ q : Fin 11264, T5 a d (i 0) (i 1) q

theorem blk5_d (t : Fin cfg5.N) (y : S512x11264.Idx) (i : S4096x11264.Idx) (h0 : (i 0).val = t.val % 8 * 512 + (y 0).val) (h1 : (i 1).val = (y 1).val) :
    iblk5 V c 0 t y = V c main_v3 i := by
  have e := ind5 t
  blk_ext [iblk5, e]
theorem blk5_a (t : Fin cfg5.N) (y : S4x512x2816.Idx) (i : S4x2048x2816.Idx) (h0 : (i 0).val = (y 0).val) (h1 : (i 1).val = t.val / 8 * 512 + (y 1).val) (h2 : (i 2).val = (y 2).val) :
    iblk5 V c 1 t y = V c main_arg1 i := by
  have e := ind5 t
  blk_ext [iblk5, e]
theorem tile_at (u v p n : ℕ) (hu : u < 2) (hv : v < 2) (hp : p < 2) (hn : n < 1408) (q : ℕ) (hq : q = 5632 * p + 1408 * (2 * u + v) + n) :
    q / 2816 = 2 * p + u ∧ q % 2816 = 1408 * v + n := by omega

/-- One of the eight products at a step. -/
theorem term5 (t : Fin cfg5.N) (r : Fin 8) (y0 : Fin 512) (y1 : Fin 512) (s : Fin 4096) (k : Fin 2048) (hs : s.val = t.val % 8 * 512 + y0.val) (hk : k.val = t.val / 8 * 512 + y1.val)
    (x0 : Vec Ideal S512x11264 .bf16) (x1 : Vec Ideal S4x512x2816 .bf16) (h0 : x0 = iblk5 V c 0 t) (h1 : x1 = iblk5 V c 1 t)
    (p : Fin 1408 → Fin 11264) (b : Fin 4) (w : Fin 1408 → Fin 2816)
    (hp : ∀ n, (p n).val = 1408 * r.val + n.val) (hb : b.val = 2 * (r.val % 2) + r.val / 4)
    (hw : ∀ n, (w n).val = 1408 * (r.val / 2 % 2) + n.val) :
    ∑ n, x0 (ix2 y0 (p n)) * x1 (ix3 b y1 (w n))
      = ∑ n : Fin 1408, T5 (V c main_arg1) (V c main_v3) s k (gc ⟨1408 * r.val + n.val, by omega⟩) := by
  have e := ind5 t
  refine Finset.sum_congr rfl fun n _ => ?_
  have hg := gc_at (r.val / 2) (r.val % 2) n.val (by omega) (by omega) n.isLt ⟨1408 * r.val + n.val, by omega⟩ (by dsimp only; omega)
  have hl := lc_at (r.val / 2) (r.val % 2) n.val (by omega) (by omega) n.isLt _ hg
  have hpn := hp n
  have hwn := hw n
  generalize gc ⟨1408 * r.val + n.val, by omega⟩ = q at *
  have hq := tile_at (r.val / 4) (r.val / 2 % 2) (r.val % 2) n.val (by omega) (by omega) (by omega) n.isLt q.val (by rw [hg]; omega)
  subst h0 h1
  unfold T5
  refine congrArg₂ (· * ·) (blk5_d V c t _ _ hs ?_) (blk5_a V c t _ _ ?_ hk ?_)
  · exact hl.trans (Eq.trans (by omega) hpn.symm)
  · exact hq.1.trans hb.symm
  · exact hq.2.trans hwn.symm

theorem arr5 : (dat5 V c).arrAt 2 cfg5.N = G5 (V c main_arg1) (V c main_v3) := by
  refine (dat5 V c).arrAt_eq_of_covers 2 _ (by decide +kernel) fun t hf y => ?_
  have e := ind5 t
  blk_simp
  rw [after5_2]
  frame_out
  have hs : (((View.whole main_v5).slice (win5_2.rect t)).emb y 0).val = t.val % 8 * 512 + (y 0).val := by
    show win5_2.index t 0 * 512 + 1 * (y 0).val = _
    rw [e.2.2.1]; omega
  have hk : (((View.whole main_v5).slice (win5_2.rect t)).emb y 1).val = t.val / 8 * 512 + (y 1).val := by
    show win5_2.index t 1 * 512 + 1 * (y 1).val = _
    rw [e.2.2.2]; omega
  pointwise [k5_pay1, k5_pay2, k5_pay3]
  refine Eq.trans ?_ (sum_pairs (T5 (V c main_arg1) (V c main_v3) (((View.whole main_v5).slice (win5_2.rect t)).emb y 0) (((View.whole main_v5).slice (win5_2.rect t)).emb y 1))
    (fun r => ∑ n : Fin 1408, T5 (V c main_arg1) (V c main_v3) _ _ (gc ⟨1408 * r.val + n.val, by omega⟩)) (fun _ => rfl))
  generalize h0 : iblk5 V c 0 t = x0
  generalize h1 : iblk5 V c 1 t = x1
  have T := fun r => term5 V c t r (y 0) (y 1) _ _ hs hk x0 x1 h0.symm h1.symm
  refine congrArg₂ (· + ·) (congrArg₂ (· + ·) (congrArg₂ (· + ·) (congrArg₂ (· + ·) (congrArg₂ (· + ·) (congrArg₂ (· + ·) (congrArg₂ (· + ·)
    (T 0 _ _ _ (fun n => ?_) ?_ (fun n => ?_)) (T 1 _ _ _ (fun n => ?_) ?_ (fun n => ?_))) (T 2 _ _ _ (fun n => ?_) ?_ (fun n => ?_)))
    (T 3 _ _ _ (fun n => ?_) ?_ (fun n => ?_))) (T 4 _ _ _ (fun n => ?_) ?_ (fun n => ?_))) (T 5 _ _ _ (fun n => ?_) ?_ (fun n => ?_)))
    (T 6 _ _ _ (fun n => ?_) ?_ (fun n => ?_))) (T 7 _ _ _ (fun n => ?_) ?_ (fun n => ?_))
  all_goals (clear T h0 h1; first | decide | simp)

end Cert.Ff

end
-- ==== Proof.FfnRes.lean ====
module

public import proofs.«01_k».proof.Proof.FfnKerB

@[expose] public section

set_option maxRecDepth 16384

noncomputable section

namespace Cert.Ff

open Idealize.ShloMosaic Idealize.ShloMosaic.TcCoe Idealize.SL.Sem Cert.FfnIdeal Cert.FfnIdeal.Gen
open Pipeline (Dat)
open scoped BigOperators

/-! # The four results, from the arguments -/

variable (m : (ℓ : Loc nD τ sig) → Buf (Elt Ideal) ℓ) (ρ : Dev nD → PrngReg) (c : Dev nD)

/-- The numbers of the arguments. -/
abbrev XK : Arrs :=
  arrs (m ((c : Thread nD τ).loc main_arg0)) (m ((c : Thread nD τ).loc main_arg1)) (m ((c : Thread nD τ).loc main_arg2)) (m ((c : Thread nD τ).loc main_arg3))

theorem k_act : W1 m ρ c (Proc.devRef .tc main_v0_0) = fun i : S4096x5632.Idx => act (XK m c) (i 0) (i 1) :=
  (W1_arr m ρ c 3).trans (arr0a (V0 m ρ) c)
theorem k_gu : W1 m ρ c (Proc.devRef .tc main_v0_1) = fun i : S4096x11264.Idx => gu (XK m c) (i 0) (i 1) :=
  (W1_arr m ρ c 4).trans (arr0b (V0 m ρ) c)

theorem k_out : W6 m ρ c (Proc.devRef .tc main_v1) = fun i : S4096x2048.Idx => out (XK m c) (i 0) (i 1) := by
  rw [W6_of m ρ c main_v1 (by decide), W5_of m ρ c main_v1 (by decide), W4_of m ρ c main_v1 (by decide), W3_of m ρ c main_v1 (by decide)]
  refine (W2_arr m ρ c 2).trans ((arr1 (V1 m ρ) c).trans ?_)
  rw [show V1 m ρ c main_v0_0 = _ from k_act m ρ c, show V1 m ρ c main_arg2 = m ((c : Thread nD τ).loc main_arg2) from W1_of m ρ c main_arg2 (by decide)]
  rfl

theorem k_dB : W6 m ρ c (Proc.devRef .tc main_v2) = fun i : S1x5632x2048.Idx => dB (XK m c) (i 1) (i 2) := by
  rw [W6_of m ρ c main_v2 (by decide), W5_of m ρ c main_v2 (by decide), W4_of m ρ c main_v2 (by decide)]
  refine (W3_arr m ρ c 2).trans ((arr2 (V2 m ρ) c).trans ?_)
  rw [show V2 m ρ c main_v0_0 = _ from (W2_of m ρ c main_v0_0 (by decide)).trans (k_act m ρ c),
    show V2 m ρ c main_arg3 = m ((c : Thread nD τ).loc main_arg3) from (W2_of m ρ c main_arg3 (by decide)).trans (W1_of m ρ c main_arg3 (by decide))]
  rfl

theorem k_dz : W4 m ρ c (Proc.devRef .tc main_v3) = fun i : S4096x11264.Idx => dz (XK m c) (i 0) (gc (i 1)) := by
  refine (W4_arr m ρ c 3).trans ((arr3 (V3 m ρ) c).trans ?_)
  rw [show V3 m ρ c main_v0_1 = _ from (W3_of m ρ c main_v0_1 (by decide)).trans ((W2_of m ρ c main_v0_1 (by decide)).trans (k_gu m ρ c)),
    show V3 m ρ c main_arg3 = m ((c : Thread nD τ).loc main_arg3) from
      (W3_of m ρ c main_arg3 (by decide)).trans ((W2_of m ρ c main_arg3 (by decide)).trans (W1_of m ρ c main_arg3 (by decide))),
    show V3 m ρ c main_arg2 = m ((c : Thread nD τ).loc main_arg2) from
      (W3_of m ρ c main_arg2 (by decide)).trans ((W2_of m ρ c main_arg2 (by decide)).trans (W1_of m ρ c main_arg2 (by decide)))]
  exact funext fun i => dz_gc (XK m c) (i 0) (i 1)

theorem k_dA : W6 m ρ c (Proc.devRef .tc main_v4) = fun i : S4x2048x2816.Idx => dA (XK m c) (i 0) (i 1) (i 2) := by
  rw [W6_of m ρ c main_v4 (by decide)]
  refine (W5_arr m ρ c 2).trans ((arr4 (V4 m ρ) c).trans ?_)
  rw [show V4 m ρ c main_v3 = _ from k_dz m ρ c,
    show V4 m ρ c main_arg0 = m ((c : Thread nD τ).loc main_arg0) from (W4_of m ρ c main_arg0 (by decide)).trans
      ((W3_of m ρ c main_arg0 (by decide)).trans ((W2_of m ρ c main_arg0 (by decide)).trans (W1_of m ρ c main_arg0 (by decide))))]
  funext i
  unfold G4 dA
  refine Finset.sum_congr rfl fun s _ => ?_
  exact congrArg (fun q => (XK m c).H s (i 1) * dz (XK m c) s q) (gc_lc _)

theorem k_dH : W6 m ρ c (Proc.devRef .tc main_v5) = fun i : S4096x2048.Idx => dH (XK m c) (i 0) (i 1) := by
  refine (W6_arr m ρ c 2).trans ((arr5 (V5 m ρ) c).trans ?_)
  rw [show V5 m ρ c main_v3 = _ from (W5_of m ρ c main_v3 (by decide)).trans (k_dz m ρ c),
    show V5 m ρ c main_arg1 = m ((c : Thread nD τ).loc main_arg1) from (W5_of m ρ c main_arg1 (by decide)).trans ((W4_of m ρ c main_arg1 (by decide)).trans
      ((W3_of m ρ c main_arg1 (by decide)).trans ((W2_of m ρ c main_arg1 (by decide)).trans (W1_of m ρ c main_arg1 (by decide)))))]
  funext i
  unfold G5 dH
  refine Finset.sum_congr rfl fun q _ => ?_
  exact congrArg (fun p => dz (XK m c) (i 0) p * wc (XK m c) q (i 1)) (gc_lc q)

end Cert.Ff

end
-- ==== Proof.StepA.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.Exec

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The first step of a class. -/
abbrev isFirst (i : grid0.Coords) : Prop :=
  (Scalar.cmpi .ne (Scalar.extui (Scalar.cmpi .eq (BitVec.ofNat 32 (i 1).val) 0#32)) 0#32) = 1#1
/-- A step which computes. -/
abbrev isLive (i : grid0.Coords) : Prop := k0_cond2 i = 1#1
/-- The last step of a class, which only writes the carry out. -/
abbrev isLast (i : grid0.Coords) : Prop := k0_cond3 i = 1#1

set_option maxHeartbeats 1000000 in
/-- The body at the first step of a class: the carry is cleared first. It computes, from the blocks of the inputs, the gradients' blocks and
    the next carry; what each buffer ends with is a list of pieces, which the symbolic execution finds. -/
noncomputable def stepA (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) :
    Σ' (L10 : List (View.Piece (Elt F) S1x128x2048 .bf16)) (L11 : List (View.Piece (Elt F) S1x128x512 .f32)) (L12 : List (View.Piece (Elt F) S1x128x512 .f32)) (LS0 : List (View.Piece (Elt F) S128x512 .f32)), { LS1 : List (View.Piece (Elt F) S128x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a13.view.loc (c : Thread nD τ) ↦[a13.view.set]{fullShare} a13.view.writes (Elt F) f L10) ∗ (∃ f, a14.view.loc (c : Thread nD τ) ↦[a14.view.set]{fullShare} a14.view.writes (Elt F) f L11) ∗ (∃ f, a15.view.loc (c : Thread nD τ) ↦[a15.view.set]{fullShare} a15.view.writes (Elt F) f L12) ∗ (∃ f, a16.view.loc (c : Thread nD τ) ↦[a16.view.set]{fullShare} a16.view.writes (Elt F) f LS0) ∗ (∃ f, a17.view.loc (c : Thread nD τ) ↦[a17.view.set]{fullShare} a17.view.writes (Elt F) f LS1)) -∗ K ⟨⟩))
          ⊢ wp frame (wpE (defs₀ (F := F)) Variants.none c none) E (cc0_att_bwd2 i a2 h2 a3 h3 a4 h4 a5 h5 a6 h6 a7 h7 a8 h8 a9 h9 a10 h10 a11 h11 (Memref.whole main_v88) (Memref.isWhole_whole _) a13 h13 a14 h14 a15 h15 a16 h16 a17 h17) K } := by
  refine ⟨?_, ?_, ?_, ?_, ?_, fun E K => ?run⟩
  case run =>
    simp only [cc0_att_bwd2_eq_skeleton]; unfold cc0_att_bwd2_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9
    sl_exec (disch := first | sl_exact hc0 | sl_exact hc1 | sl_exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]; · iexists _; iexact H10
    isplitl [H11]; · iexists _; iexact H11
    isplitl [H12]; · iexists _; iexact H12
    isplitl [H13]; · iexists _; iexact H13
    iexists _; iexact H14

end Cert.Att
-- ==== Proof.StepB.lean ====
module

public import proofs.«01_k».proof.Proof.StepA
public import proofs.«01_k».proof.Proof.Gen.KernelIdeal.Skeleton
public import Idealize.ShloMosaic.Lib.Pipeline.Value
public import Idealize.ShloMosaic.Lib.Exec

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 1000000 in
/-- The body at the second step of a class: the carry is what the step before left. It computes, from the blocks of the inputs, the gradients' blocks and
    the next carry; what each buffer ends with is a list of pieces, which the symbolic execution finds. -/
noncomputable def stepB (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32) :
    Σ' (L10 : List (View.Piece (Elt F) S1x128x2048 .bf16)) (L11 : List (View.Piece (Elt F) S1x128x512 .f32)) (L12 : List (View.Piece (Elt F) S1x128x512 .f32)) (LS0 : List (View.Piece (Elt F) S128x512 .f32)), { LS1 : List (View.Piece (Elt F) S128x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a13 fullShare d) ∗ (∃ d, owns (c : Thread nD τ) a14 fullShare d) ∗ (∃ d, owns (c : Thread nD τ) a15 fullShare d) ∗ owns (c : Thread nD τ) a16 fullShare s0 ∗ owns (c : Thread nD τ) a17 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a13.view.loc (c : Thread nD τ) ↦[a13.view.set]{fullShare} a13.view.writes (Elt F) f L10) ∗ (∃ f, a14.view.loc (c : Thread nD τ) ↦[a14.view.set]{fullShare} a14.view.writes (Elt F) f L11) ∗ (∃ f, a15.view.loc (c : Thread nD τ) ↦[a15.view.set]{fullShare} a15.view.writes (Elt F) f L12) ∗ (∃ f, a16.view.loc (c : Thread nD τ) ↦[a16.view.set]{fullShare} a16.view.writes (Elt F) f LS0) ∗ (∃ f, a17.view.loc (c : Thread nD τ) ↦[a17.view.set]{fullShare} a17.view.writes (Elt F) f LS1)) -∗ K ⟨⟩))
          ⊢ wp frame (wpE (defs₀ (F := F)) Variants.none c none) E (cc0_att_bwd2 i a2 h2 a3 h3 a4 h4 a5 h5 a6 h6 a7 h7 a8 h8 a9 h9 a10 h10 a11 h11 (Memref.whole main_v88) (Memref.isWhole_whole _) a13 h13 a14 h14 a15 h15 a16 h16 a17 h17) K } := by
  refine ⟨?_, ?_, ?_, ?_, ?_, fun E K => ?run⟩
  case run =>
    simp only [cc0_att_bwd2_eq_skeleton]; unfold cc0_att_bwd2_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h16.eq_unread hf13; obtain rfl := h17.eq_unread hf14
    sl_exec (disch := first | sl_exact hc0 | sl_exact hc1 | sl_exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]; · iexists _; iexact H10
    isplitl [H11]; · iexists _; iexact H11
    isplitl [H12]; · iexists _; iexact H12
    isplitl [H13]; · iexists _; iexact H13
    iexists _; iexact H14

end Cert.Att
-- ==== Proof.StepC.lean ====
module

public import proofs.«01_k».proof.Proof.StepB
public import proofs.«01_k».proof.Proof.Gen.KernelIdeal.Skeleton
public import Idealize.ShloMosaic.Lib.Pipeline.Value
public import Idealize.ShloMosaic.Lib.Exec

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body at the last step of a class: it writes the carry out as the last blocks of the keys' and values' gradients
    and reads nothing else. -/
theorem stepC (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : ¬isLive i) (hc2 : isLast i)
    (s0 s1 : Vec F S128x512 .f32) (E : Set ℕ) (K : PUnit → sProp 𝕄) :
    iprop((∃ d, owns (c : Thread nD τ) a14 fullShare d) ∗ (∃ d, owns (c : Thread nD τ) a15 fullShare d) ∗ owns (c : Thread nD τ) a16 fullShare s0 ∗ owns (c : Thread nD τ) a17 fullShare s1
        ∗ (iprop(owns (c : Thread nD τ) a14 fullShare (k0_pay5 s0) ∗ owns (c : Thread nD τ) a15 fullShare (k0_pay6 s1)
          ∗ owns (c : Thread nD τ) a16 fullShare s0 ∗ owns (c : Thread nD τ) a17 fullShare s1) -∗ K ⟨⟩))
      ⊢ wp frame (wpE (defs₀ (F := F)) Variants.none c none) E (cc0_att_bwd2 i a2 h2 a3 h3 a4 h4 a5 h5 a6 h6 a7 h7 a8 h8 a9 h9 a10 h10 a11 h11 (Memref.whole main_v88) (Memref.isWhole_whole _) a13 h13 a14 h14 a15 h15 a16 h16 a17 h17) K := by
  simp only [cc0_att_bwd2_eq_skeleton]; unfold cc0_att_bwd2_skel
  unfold owns
  iintro ⟨⟨%d11, %f11, -, H11⟩, ⟨%d12, %f12, -, H12⟩, ⟨%f13, %hf13, H13⟩, ⟨%f14, %hf14, H14⟩, Hk⟩
  obtain rfl := h16.eq_unread hf13; obtain rfl := h17.eq_unread hf14
  sl_exec (disch := first | sl_exact hc0 | sl_exact hc1 | sl_exact hc2)
  sl_step
  iapply Hk
  isplitl [H11]
  · iexists _; isplitr
    swap; · iexact H11
    ipureintro
    rw [View.read_writes_eq_canon _ _ _ (View.cover_of_tiledL _ S1x128x512.size (by sl_kernel_rfl)), View.canon_unit_zero zeros3]
    simp only [View.readAt_eq_ld, h16.read_unread, View.ld_unit_zero (S := S128x512) zeros2]
  isplitl [H12]
  · iexists _; isplitr
    swap; · iexact H12
    ipureintro
    rw [View.read_writes_eq_canon _ _ _ (View.cover_of_tiledL _ S1x128x512.size (by sl_kernel_rfl)), View.canon_unit_zero zeros3]
    simp only [View.readAt_eq_ld, h17.read_unread, View.ld_unit_zero (S := S128x512) zeros2]
  isplitl [H13]
  · iexists _; isplitr; · ipureintro; exact h16.read_unread _
    iexact H13
  iexists _; isplitr; · ipureintro; exact h17.read_unread _
  iexact H14

end Cert.Att
-- ==== Proof.Tile.lean ====
module

public import proofs.«01_k».proof.Proof.StepC
public import Idealize.ShloMosaic.Lib.Pipeline.ReadBack
public import Idealize.ShloMosaic.Lib.Pipeline.ValueKit.Geometry
public import Idealize.ShloMosaic.Lib.PointwiseCore

@[expose] public section

set_option maxRecDepth 16384

noncomputable section

namespace Cert.Att

open Idealize.ShloMosaic Idealize.ShloMosaic.TcCoe Idealize.ShloMosaic.Tactic
open Cert.KernelIdeal Cert.KernelIdeal.Gen

variable {F : FTy → Type} [FloatOps F] [Named F]

/-- The ten input blocks of a step: queries, keys and values of this and of the previous block, the output's gradient, the output, and the
    three logarithms of the row sums. -/
structure Ins (F : FTy → Type) where
  q : Vec F S1x128x2048 .bf16
  kc : Vec F S1x128x512 .bf16
  kp : Vec F S1x128x512 .bf16
  vc : Vec F S1x128x512 .bf16
  vp : Vec F S1x128x512 .bf16
  dy : Vec F S1x128x2048 .f32
  o : Vec F S1x128x2048 .f32
  l0 : Vec F S1x128x2048 .f32
  l1 : Vec F S1x128x2048 .f32
  l2 : Vec F S1x128x2048 .f32

theorem inbK (h : Fin 4) : ∀ a, (![0, 0, 128 * h.val] : Fin 3 → ℕ) a + S1x128x128.size a ≤ S1x128x512.size a := by
  revert h; decide
theorem inbQ (h : Fin 4) : ∀ a, (![0, 0, 512 * h.val] : Fin 3 → ℕ) a + S1x128x512.size a ≤ S1x128x2048.size a := by
  revert h; decide

/-- The 128 columns of key head `h`. -/
def kcut (h : Fin 4) {e : EltTy} (x : Vec F S1x128x512 e) : Vec F S1x128x128 e :=
  View.ld x (Rect.unit (s := S1x128x512) ![0, 0, 128 * h.val] S1x128x128.size (inbK h))
/-- The 512 columns of the four query heads of key head `h`. -/
def qcut (h : Fin 4) {e : EltTy} (x : Vec F S1x128x2048 e) : Vec F S1x128x512 e :=
  View.ld x (Rect.unit (s := S1x128x2048) ![0, 0, 512 * h.val] S1x128x512.size (inbQ h))

/-- Which of the 256 keys each of the 512 stacked queries sees. -/
def maskT (i : grid0.Coords) : IVec S512x256 1 :=
  k0_pay10 (BitVec.ofNat 32 (i 1).val) k0_pay7
    (k0_pay9 (iota .tc S512x256 32 [1] iota_S512x256_d1_w32) k0_pay7 k0_pay8 (Scalar.select (Scalar.cmpi .eq 128#32 0#32) 1#32 128#32))
    (constantI S512x256 1 1#1)

/-- The gradient of the stacked queries of key head `h`. -/
def tq (M : IVec S512x256 1) (X : Ins F) (h : Fin 4) : FVec F S512x128 .bf16 :=
  k0_pay24 M (k0_pay11 (kcut h X.kc) (kcut h X.kp)) (k0_pay12 (kcut h X.vc) (kcut h X.vp)) (k0_pay13 (qcut h X.q)) (k0_pay16 (qcut h X.l2))
    (k0_pay18 (qcut h X.dy)) (k0_pay19 (k0_pay14 (qcut h X.l0)) (k0_pay15 (qcut h X.l1)) (qcut h X.l2) (qcut h X.dy) (qcut h X.o))
    (k0_pay20 (k0_pay14 (qcut h X.l0)) (k0_pay15 (qcut h X.l1)) (qcut h X.l2))
/-- The gradient of the 256 keys of key head `h`, from the stacked queries. -/
def tk (M : IVec S512x256 1) (X : Ins F) (h : Fin 4) : FVec F S256x128 .f32 :=
  k0_pay29 M (k0_pay11 (kcut h X.kc) (kcut h X.kp)) (k0_pay12 (kcut h X.vc) (kcut h X.vp)) (k0_pay13 (qcut h X.q)) (k0_pay16 (qcut h X.l2))
    (k0_pay18 (qcut h X.dy)) (k0_pay19 (k0_pay14 (qcut h X.l0)) (k0_pay15 (qcut h X.l1)) (qcut h X.l2) (qcut h X.dy) (qcut h X.o))
    (k0_pay20 (k0_pay14 (qcut h X.l0)) (k0_pay15 (qcut h X.l1)) (qcut h X.l2))
/-- The gradient of the 256 values of key head `h`, from the stacked queries. -/
def tv (M : IVec S512x256 1) (X : Ins F) (h : Fin 4) : FVec F S256x128 .f32 :=
  k0_pay30 M (k0_pay11 (kcut h X.kc) (kcut h X.kp)) (k0_pay13 (qcut h X.q)) (k0_pay16 (qcut h X.l2))
    (k0_pay18 (qcut h X.dy)) (k0_pay20 (k0_pay14 (qcut h X.l0)) (k0_pay15 (qcut h X.l1)) (qcut h X.l2))

theorem lt4 {n d : ℕ} (j : Fin n) (h : n = 4 * d) : j.val / d < 4 := by
  have := j.isLt; exact Nat.div_lt_of_lt_mul (by rw [Nat.mul_comm]; omega)

/-- The block of the queries' gradient, head by head. -/
def dqB (T : Fin 4 → FVec F S512x128 .bf16) : Vec F S1x128x2048 .bf16 := fun y =>
  T ⟨(y 2).val / 512, lt4 (y 2) rfl⟩ (ix2 ⟨128 * ((y 2).val % 512 / 128) + (y 1).val, by have := (y 1).isLt; change (y 1).val < 128 at this; omega⟩
    ⟨(y 2).val % 128, by omega⟩)
/-- The rows of this block, added to what the carry held. -/
def lowB (s : Vec F S128x512 .f32) (T : Fin 4 → FVec F S256x128 .f32) : Vec F S1x128x512 .f32 := fun y =>
  FloatOps.addf (s (ix2 (y 1) (y 2)))
    (T ⟨(y 2).val / 128, lt4 (y 2) rfl⟩ (ix2 ⟨(y 1).val, by have := (y 1).isLt; change (y 1).val < 128 at this; omega⟩ ⟨(y 2).val % 128, by omega⟩))
/-- The rows of the next block: the carry of the next step. -/
def highB (T : Fin 4 → FVec F S256x128 .f32) : Vec F S128x512 .f32 := fun y =>
  T ⟨(y 1).val / 128, lt4 (y 1) rfl⟩ (ix2 ⟨128 + (y 0).val, by have := (y 0).isLt; change (y 0).val < 128 at this; omega⟩ ⟨(y 1).val % 128, by omega⟩)

/-- The first query head of a stack. -/
def qrow0 (t : FVec F S512x128 .bf16) : FVec F S1x128x128 .bf16 :=
  shapeCast S1x128x128 (extractStridedSlice S128x128 ![0, 0] t slices_S512x128_o0_0_S128x128) shapeCasts_S128x128_S1x128x128
/-- The second query head of a stack. -/
def qrow1 (t : FVec F S512x128 .bf16) : FVec F S1x128x128 .bf16 :=
  shapeCast S1x128x128 (extractStridedSlice S128x128 ![128, 0] t slices_S512x128_o128_0_S128x128) shapeCasts_S128x128_S1x128x128
/-- The third query head of a stack. -/
def qrow2 (t : FVec F S512x128 .bf16) : FVec F S1x128x128 .bf16 :=
  shapeCast S1x128x128 (extractStridedSlice S128x128 ![256, 0] t slices_S512x128_o256_0_S128x128) shapeCasts_S128x128_S1x128x128
/-- The fourth query head of a stack. -/
def qrow3 (t : FVec F S512x128 .bf16) : FVec F S1x128x128 .bf16 :=
  shapeCast S1x128x128 (extractStridedSlice S128x128 ![384, 0] t slices_S512x128_o384_0_S128x128) shapeCasts_S128x128_S1x128x128

/-- The sixteen stores of the queries' gradient. -/
def dqL (T : Fin 4 → FVec F S512x128 .bf16) : List (View.Piece (Elt F) S1x128x2048 .bf16) :=
  [⟨Rect.unit ![0, 0, 1920] S1x128x128.size inb_S1x128x2048_S1x128x128_0_0_1920, qrow3 (T 3)⟩,
    ⟨Rect.unit ![0, 0, 1792] S1x128x128.size inb_S1x128x2048_S1x128x128_0_0_1792, qrow2 (T 3)⟩,
    ⟨Rect.unit ![0, 0, 1664] S1x128x128.size inb_S1x128x2048_S1x128x128_0_0_1664, qrow1 (T 3)⟩,
    ⟨Rect.unit ![0, 0, 1536] S1x128x128.size inb_S1x128x2048_S1x128x128_0_0_1536, qrow0 (T 3)⟩,
    ⟨Rect.unit ![0, 0, 1408] S1x128x128.size inb_S1x128x2048_S1x128x128_0_0_1408, qrow3 (T 2)⟩,
    ⟨Rect.unit ![0, 0, 1280] S1x128x128.size inb_S1x128x2048_S1x128x128_0_0_1280, qrow2 (T 2)⟩,
    ⟨Rect.unit ![0, 0, 1152] S1x128x128.size inb_S1x128x2048_S1x128x128_0_0_1152, qrow1 (T 2)⟩,
    ⟨Rect.unit ![0, 0, 1024] S1x128x128.size inb_S1x128x2048_S1x128x128_0_0_1024, qrow0 (T 2)⟩,
    ⟨Rect.unit ![0, 0, 896] S1x128x128.size inb_S1x128x2048_S1x128x128_0_0_896, qrow3 (T 1)⟩,
    ⟨Rect.unit ![0, 0, 768] S1x128x128.size inb_S1x128x2048_S1x128x128_0_0_768, qrow2 (T 1)⟩,
    ⟨Rect.unit ![0, 0, 640] S1x128x128.size inb_S1x128x2048_S1x128x128_0_0_640, qrow1 (T 1)⟩,
    ⟨Rect.unit ![0, 0, 512] S1x128x128.size inb_S1x128x2048_S1x128x128_0_0_512, qrow0 (T 1)⟩,
    ⟨Rect.unit ![0, 0, 384] S1x128x128.size inb_S1x128x2048_S1x128x128_0_0_384, qrow3 (T 0)⟩,
    ⟨Rect.unit ![0, 0, 256] S1x128x128.size inb_S1x128x2048_S1x128x128_0_0_256, qrow2 (T 0)⟩,
    ⟨Rect.unit ![0, 0, 128] S1x128x128.size inb_S1x128x2048_S1x128x128_0_0_128, qrow1 (T 0)⟩,
    ⟨Rect.unit ![0, 0, 0] S1x128x128.size inb_S1x128x2048_S1x128x128_0_0_0, qrow0 (T 0)⟩]

/-- The four stores of the carry. -/
def hiL (T : Fin 4 → FVec F S256x128 .f32) : List (View.Piece (Elt F) S128x512 .f32) :=
  [⟨Rect.unit ![0, 384] S128x128.size inb_S128x512_S128x128_0_384, k0_pay33 (T 3)⟩,
    ⟨Rect.unit ![0, 256] S128x128.size inb_S128x512_S128x128_0_256, k0_pay33 (T 2)⟩,
    ⟨Rect.unit ![0, 128] S128x128.size inb_S128x512_S128x128_0_128, k0_pay33 (T 1)⟩,
    ⟨Rect.unit ![0, 0] S128x128.size inb_S128x512_S128x128_0_0, k0_pay33 (T 0)⟩]
/-- The four stores of a gradient's block, from the four parts of the carry. -/
def loL4 (s0 s1 s2 s3 : Vec F S128x128 .f32) (T : Fin 4 → FVec F S256x128 .f32) : List (View.Piece (Elt F) S1x128x512 .f32) :=
  [⟨Rect.unit ![0, 0, 384] S1x128x128.size inb_S1x128x512_S1x128x128_0_0_384, k0_pay31 (T 3) s3⟩,
    ⟨Rect.unit ![0, 0, 256] S1x128x128.size inb_S1x128x512_S1x128x128_0_0_256, k0_pay31 (T 2) s2⟩,
    ⟨Rect.unit ![0, 0, 128] S1x128x128.size inb_S1x128x512_S1x128x128_0_0_128, k0_pay31 (T 1) s1⟩,
    ⟨Rect.unit ![0, 0, 0] S1x128x128.size inb_S1x128x512_S1x128x128_0_0_0, k0_pay31 (T 0) s0⟩]
/-- The same, the parts as a family. -/
def loL (s : Fin 4 → Vec F S128x128 .f32) (T : Fin 4 → FVec F S256x128 .f32) : List (View.Piece (Elt F) S1x128x512 .f32) :=
  loL4 (s 0) (s 1) (s 2) (s 3) T

theorem inbS (h : Fin 4) : ∀ a, (![0, 128 * h.val] : Fin 2 → ℕ) a + S128x128.size a ≤ S128x512.size a := by
  revert h; decide
/-- The 128 columns of key head `h` of a carry. -/
def scut (s : Vec F S128x512 .f32) (h : Fin 4) : Vec F S128x128 .f32 :=
  View.ld s (Rect.unit (s := S128x512) ![0, 128 * h.val] S128x128.size (inbS h))

open View in
theorem dqB_eq (T : Fin 4 → FVec F S512x128 .bf16) (y : S1x128x2048.Idx) (h : Fin 4) (r : Fin 4) (j : Fin 128) (hy : (y 2).val = 512 * h.val + 128 * r.val + j.val)
    (a : Fin 512) (ha : a.val = 128 * r.val + (y 1).val) : dqB T y = T h (ix2 a j) := by
  have hj := j.isLt; have hr := r.isLt
  unfold dqB
  have e1 : (⟨(y 2).val / 512, lt4 (y 2) rfl⟩ : Fin 4) = h := Fin.ext (by simp only; omega)
  rw [e1]; congr 1
  have e2 : (y 2).val % 512 / 128 = r.val := by omega
  have e3 : (y 2).val % 128 = j.val := by omega
  congr 1
  · exact Fin.ext (by simp only [e2]; omega)
  · exact Fin.ext (by simp only [e3])

theorem dq_pieces (T : Fin 4 → FVec F S512x128 .bf16) : View.PiecesOf (dqB T) (dqL T) := by
  refine ⟨?_, ?_, ?_, ?_, ?_, ?_, ?_, ?_, ?_, ?_, ?_, ?_, ?_, ?_, ?_, ?_, trivial⟩
  · intro x; refine Eq.trans (?_ : _ = T 3 (ix2 ⟨384 + (x 1).val, by have := (x 1).isLt; change (x 1).val < 128 at this; omega⟩ (x 2))) (dqB_eq T _ 3 3 (x 2) ?_ _ ?_).symm
    · change qrow3 (T 3) x = _; pointwise [qrow3]
    · exact ValueKit.rect_emb_unit_val (s := S1x128x2048) _ _ inb_S1x128x2048_S1x128x128_0_0_1920 x 2
    · exact congrArg (384 + ·) ((ValueKit.rect_emb_unit_val (s := S1x128x2048) _ _ inb_S1x128x2048_S1x128x128_0_0_1920 x 1).trans (Nat.zero_add _)).symm
  · intro x; refine Eq.trans (?_ : _ = T 3 (ix2 ⟨256 + (x 1).val, by have := (x 1).isLt; change (x 1).val < 128 at this; omega⟩ (x 2))) (dqB_eq T _ 3 2 (x 2) ?_ _ ?_).symm
    · change qrow2 (T 3) x = _; pointwise [qrow2]
    · exact ValueKit.rect_emb_unit_val (s := S1x128x2048) _ _ inb_S1x128x2048_S1x128x128_0_0_1792 x 2
    · exact congrArg (256 + ·) ((ValueKit.rect_emb_unit_val (s := S1x128x2048) _ _ inb_S1x128x2048_S1x128x128_0_0_1792 x 1).trans (Nat.zero_add _)).symm
  · intro x; refine Eq.trans (?_ : _ = T 3 (ix2 ⟨128 + (x 1).val, by have := (x 1).isLt; change (x 1).val < 128 at this; omega⟩ (x 2))) (dqB_eq T _ 3 1 (x 2) ?_ _ ?_).symm
    · change qrow1 (T 3) x = _; pointwise [qrow1]
    · exact ValueKit.rect_emb_unit_val (s := S1x128x2048) _ _ inb_S1x128x2048_S1x128x128_0_0_1664 x 2
    · exact congrArg (128 + ·) ((ValueKit.rect_emb_unit_val (s := S1x128x2048) _ _ inb_S1x128x2048_S1x128x128_0_0_1664 x 1).trans (Nat.zero_add _)).symm
  · intro x; refine Eq.trans (?_ : _ = T 3 (ix2 ⟨0 + (x 1).val, by have := (x 1).isLt; change (x 1).val < 128 at this; omega⟩ (x 2))) (dqB_eq T _ 3 0 (x 2) ?_ _ ?_).symm
    · change qrow0 (T 3) x = _; pointwise [qrow0]
    · exact ValueKit.rect_emb_unit_val (s := S1x128x2048) _ _ inb_S1x128x2048_S1x128x128_0_0_1536 x 2
    · exact congrArg (0 + ·) ((ValueKit.rect_emb_unit_val (s := S1x128x2048) _ _ inb_S1x128x2048_S1x128x128_0_0_1536 x 1).trans (Nat.zero_add _)).symm
  · intro x; refine Eq.trans (?_ : _ = T 2 (ix2 ⟨384 + (x 1).val, by have := (x 1).isLt; change (x 1).val < 128 at this; omega⟩ (x 2))) (dqB_eq T _ 2 3 (x 2) ?_ _ ?_).symm
    · change qrow3 (T 2) x = _; pointwise [qrow3]
    · exact ValueKit.rect_emb_unit_val (s := S1x128x2048) _ _ inb_S1x128x2048_S1x128x128_0_0_1408 x 2
    · exact congrArg (384 + ·) ((ValueKit.rect_emb_unit_val (s := S1x128x2048) _ _ inb_S1x128x2048_S1x128x128_0_0_1408 x 1).trans (Nat.zero_add _)).symm
  · intro x; refine Eq.trans (?_ : _ = T 2 (ix2 ⟨256 + (x 1).val, by have := (x 1).isLt; change (x 1).val < 128 at this; omega⟩ (x 2))) (dqB_eq T _ 2 2 (x 2) ?_ _ ?_).symm
    · change qrow2 (T 2) x = _; pointwise [qrow2]
    · exact ValueKit.rect_emb_unit_val (s := S1x128x2048) _ _ inb_S1x128x2048_S1x128x128_0_0_1280 x 2
    · exact congrArg (256 + ·) ((ValueKit.rect_emb_unit_val (s := S1x128x2048) _ _ inb_S1x128x2048_S1x128x128_0_0_1280 x 1).trans (Nat.zero_add _)).symm
  · intro x; refine Eq.trans (?_ : _ = T 2 (ix2 ⟨128 + (x 1).val, by have := (x 1).isLt; change (x 1).val < 128 at this; omega⟩ (x 2))) (dqB_eq T _ 2 1 (x 2) ?_ _ ?_).symm
    · change qrow1 (T 2) x = _; pointwise [qrow1]
    · exact ValueKit.rect_emb_unit_val (s := S1x128x2048) _ _ inb_S1x128x2048_S1x128x128_0_0_1152 x 2
    · exact congrArg (128 + ·) ((ValueKit.rect_emb_unit_val (s := S1x128x2048) _ _ inb_S1x128x2048_S1x128x128_0_0_1152 x 1).trans (Nat.zero_add _)).symm
  · intro x; refine Eq.trans (?_ : _ = T 2 (ix2 ⟨0 + (x 1).val, by have := (x 1).isLt; change (x 1).val < 128 at this; omega⟩ (x 2))) (dqB_eq T _ 2 0 (x 2) ?_ _ ?_).symm
    · change qrow0 (T 2) x = _; pointwise [qrow0]
    · exact ValueKit.rect_emb_unit_val (s := S1x128x2048) _ _ inb_S1x128x2048_S1x128x128_0_0_1024 x 2
    · exact congrArg (0 + ·) ((ValueKit.rect_emb_unit_val (s := S1x128x2048) _ _ inb_S1x128x2048_S1x128x128_0_0_1024 x 1).trans (Nat.zero_add _)).symm
  · intro x; refine Eq.trans (?_ : _ = T 1 (ix2 ⟨384 + (x 1).val, by have := (x 1).isLt; change (x 1).val < 128 at this; omega⟩ (x 2))) (dqB_eq T _ 1 3 (x 2) ?_ _ ?_).symm
    · change qrow3 (T 1) x = _; pointwise [qrow3]
    · exact ValueKit.rect_emb_unit_val (s := S1x128x2048) _ _ inb_S1x128x2048_S1x128x128_0_0_896 x 2
    · exact congrArg (384 + ·) ((ValueKit.rect_emb_unit_val (s := S1x128x2048) _ _ inb_S1x128x2048_S1x128x128_0_0_896 x 1).trans (Nat.zero_add _)).symm
  · intro x; refine Eq.trans (?_ : _ = T 1 (ix2 ⟨256 + (x 1).val, by have := (x 1).isLt; change (x 1).val < 128 at this; omega⟩ (x 2))) (dqB_eq T _ 1 2 (x 2) ?_ _ ?_).symm
    · change qrow2 (T 1) x = _; pointwise [qrow2]
    · exact ValueKit.rect_emb_unit_val (s := S1x128x2048) _ _ inb_S1x128x2048_S1x128x128_0_0_768 x 2
    · exact congrArg (256 + ·) ((ValueKit.rect_emb_unit_val (s := S1x128x2048) _ _ inb_S1x128x2048_S1x128x128_0_0_768 x 1).trans (Nat.zero_add _)).symm
  · intro x; refine Eq.trans (?_ : _ = T 1 (ix2 ⟨128 + (x 1).val, by have := (x 1).isLt; change (x 1).val < 128 at this; omega⟩ (x 2))) (dqB_eq T _ 1 1 (x 2) ?_ _ ?_).symm
    · change qrow1 (T 1) x = _; pointwise [qrow1]
    · exact ValueKit.rect_emb_unit_val (s := S1x128x2048) _ _ inb_S1x128x2048_S1x128x128_0_0_640 x 2
    · exact congrArg (128 + ·) ((ValueKit.rect_emb_unit_val (s := S1x128x2048) _ _ inb_S1x128x2048_S1x128x128_0_0_640 x 1).trans (Nat.zero_add _)).symm
  · intro x; refine Eq.trans (?_ : _ = T 1 (ix2 ⟨0 + (x 1).val, by have := (x 1).isLt; change (x 1).val < 128 at this; omega⟩ (x 2))) (dqB_eq T _ 1 0 (x 2) ?_ _ ?_).symm
    · change qrow0 (T 1) x = _; pointwise [qrow0]
    · exact ValueKit.rect_emb_unit_val (s := S1x128x2048) _ _ inb_S1x128x2048_S1x128x128_0_0_512 x 2
    · exact congrArg (0 + ·) ((ValueKit.rect_emb_unit_val (s := S1x128x2048) _ _ inb_S1x128x2048_S1x128x128_0_0_512 x 1).trans (Nat.zero_add _)).symm
  · intro x; refine Eq.trans (?_ : _ = T 0 (ix2 ⟨384 + (x 1).val, by have := (x 1).isLt; change (x 1).val < 128 at this; omega⟩ (x 2))) (dqB_eq T _ 0 3 (x 2) ?_ _ ?_).symm
    · change qrow3 (T 0) x = _; pointwise [qrow3]
    · exact ValueKit.rect_emb_unit_val (s := S1x128x2048) _ _ inb_S1x128x2048_S1x128x128_0_0_384 x 2
    · exact congrArg (384 + ·) ((ValueKit.rect_emb_unit_val (s := S1x128x2048) _ _ inb_S1x128x2048_S1x128x128_0_0_384 x 1).trans (Nat.zero_add _)).symm
  · intro x; refine Eq.trans (?_ : _ = T 0 (ix2 ⟨256 + (x 1).val, by have := (x 1).isLt; change (x 1).val < 128 at this; omega⟩ (x 2))) (dqB_eq T _ 0 2 (x 2) ?_ _ ?_).symm
    · change qrow2 (T 0) x = _; pointwise [qrow2]
    · exact ValueKit.rect_emb_unit_val (s := S1x128x2048) _ _ inb_S1x128x2048_S1x128x128_0_0_256 x 2
    · exact congrArg (256 + ·) ((ValueKit.rect_emb_unit_val (s := S1x128x2048) _ _ inb_S1x128x2048_S1x128x128_0_0_256 x 1).trans (Nat.zero_add _)).symm
  · intro x; refine Eq.trans (?_ : _ = T 0 (ix2 ⟨128 + (x 1).val, by have := (x 1).isLt; change (x 1).val < 128 at this; omega⟩ (x 2))) (dqB_eq T _ 0 1 (x 2) ?_ _ ?_).symm
    · change qrow1 (T 0) x = _; pointwise [qrow1]
    · exact ValueKit.rect_emb_unit_val (s := S1x128x2048) _ _ inb_S1x128x2048_S1x128x128_0_0_128 x 2
    · exact congrArg (128 + ·) ((ValueKit.rect_emb_unit_val (s := S1x128x2048) _ _ inb_S1x128x2048_S1x128x128_0_0_128 x 1).trans (Nat.zero_add _)).symm
  · intro x; refine Eq.trans (?_ : _ = T 0 (ix2 ⟨0 + (x 1).val, by have := (x 1).isLt; change (x 1).val < 128 at this; omega⟩ (x 2))) (dqB_eq T _ 0 0 (x 2) ?_ _ ?_).symm
    · change qrow0 (T 0) x = _; pointwise [qrow0]
    · exact ValueKit.rect_emb_unit_val (s := S1x128x2048) _ _ inb_S1x128x2048_S1x128x128_0_0_0 x 2
    · exact congrArg (0 + ·) ((ValueKit.rect_emb_unit_val (s := S1x128x2048) _ _ inb_S1x128x2048_S1x128x128_0_0_0 x 1).trans (Nat.zero_add _)).symm

theorem highB_eq (T : Fin 4 → FVec F S256x128 .f32) (y : S128x512.Idx) (h : Fin 4) (j : Fin 128) (hy : (y 1).val = 128 * h.val + j.val)
    (a : Fin 256) (ha : a.val = 128 + (y 0).val) : highB T y = T h (ix2 a j) := by
  have hj := j.isLt
  unfold highB
  have e1 : (⟨(y 1).val / 128, lt4 (y 1) rfl⟩ : Fin 4) = h := Fin.ext (by simp only; omega)
  have e3 : (y 1).val % 128 = j.val := by omega
  rw [e1]; congr 2
  · exact Fin.ext (by simp only; omega)
  · exact Fin.ext (by simp only [e3])

theorem lowB_eq (s : Vec F S128x512 .f32) (T : Fin 4 → FVec F S256x128 .f32) (y : S1x128x512.Idx) (h : Fin 4) (j : Fin 128) (hy : (y 2).val = 128 * h.val + j.val)
    (a : Fin 256) (ha : a.val = (y 1).val) : lowB s T y = FloatOps.addf (s (ix2 (y 1) (y 2))) (T h (ix2 a j)) := by
  have hj := j.isLt
  unfold lowB
  have e1 : (⟨(y 2).val / 128, lt4 (y 2) rfl⟩ : Fin 4) = h := Fin.ext (by simp only; omega)
  have e3 : (y 2).val % 128 = j.val := by omega
  rw [e1]; congr 3
  · exact Fin.ext (by simp only; omega)
  · exact Fin.ext (by simp only [e3])

theorem hi_pieces (T : Fin 4 → FVec F S256x128 .f32) : View.PiecesOf (highB T) (hiL T) := by
  refine ⟨?_, ?_, ?_, ?_, trivial⟩
  · intro x; refine Eq.trans (?_ : _ = T 3 (ix2 ⟨128 + (x 0).val, by have := (x 0).isLt; change (x 0).val < 128 at this; omega⟩ (x 1))) (highB_eq T _ 3 (x 1) ?_ _ ?_).symm
    · change k0_pay33 (T 3) x = _; pointwise [k0_pay33]
    · exact ValueKit.rect_emb_unit_val (s := S128x512) _ _ inb_S128x512_S128x128_0_384 x 1
    · exact congrArg (128 + ·) ((ValueKit.rect_emb_unit_val (s := S128x512) _ _ inb_S128x512_S128x128_0_384 x 0).trans (Nat.zero_add _)).symm
  · intro x; refine Eq.trans (?_ : _ = T 2 (ix2 ⟨128 + (x 0).val, by have := (x 0).isLt; change (x 0).val < 128 at this; omega⟩ (x 1))) (highB_eq T _ 2 (x 1) ?_ _ ?_).symm
    · change k0_pay33 (T 2) x = _; pointwise [k0_pay33]
    · exact ValueKit.rect_emb_unit_val (s := S128x512) _ _ inb_S128x512_S128x128_0_256 x 1
    · exact congrArg (128 + ·) ((ValueKit.rect_emb_unit_val (s := S128x512) _ _ inb_S128x512_S128x128_0_256 x 0).trans (Nat.zero_add _)).symm
  · intro x; refine Eq.trans (?_ : _ = T 1 (ix2 ⟨128 + (x 0).val, by have := (x 0).isLt; change (x 0).val < 128 at this; omega⟩ (x 1))) (highB_eq T _ 1 (x 1) ?_ _ ?_).symm
    · change k0_pay33 (T 1) x = _; pointwise [k0_pay33]
    · exact ValueKit.rect_emb_unit_val (s := S128x512) _ _ inb_S128x512_S128x128_0_128 x 1
    · exact congrArg (128 + ·) ((ValueKit.rect_emb_unit_val (s := S128x512) _ _ inb_S128x512_S128x128_0_128 x 0).trans (Nat.zero_add _)).symm
  · intro x; refine Eq.trans (?_ : _ = T 0 (ix2 ⟨128 + (x 0).val, by have := (x 0).isLt; change (x 0).val < 128 at this; omega⟩ (x 1))) (highB_eq T _ 0 (x 1) ?_ _ ?_).symm
    · change k0_pay33 (T 0) x = _; pointwise [k0_pay33]
    · exact ValueKit.rect_emb_unit_val (s := S128x512) _ _ inb_S128x512_S128x128_0_0 x 1
    · exact congrArg (128 + ·) ((ValueKit.rect_emb_unit_val (s := S128x512) _ _ inb_S128x512_S128x128_0_0 x 0).trans (Nat.zero_add _)).symm

theorem lo_pieces (s : Vec F S128x512 .f32) (T : Fin 4 → FVec F S256x128 .f32) : View.PiecesOf (lowB s T) (loL (scut s) T) := by
  refine ⟨?_, ?_, ?_, ?_, trivial⟩
  · intro x; refine Eq.trans (?_ : _ = FloatOps.addf (scut s 3 (ix2 (x 1) (x 2))) (T 3 (ix2 ⟨(x 1).val, by have := (x 1).isLt; change (x 1).val < 128 at this; omega⟩ (x 2))))
      (Eq.trans ?_ (lowB_eq s T _ 3 (x 2) ?_ ⟨(x 1).val, by have := (x 1).isLt; change (x 1).val < 128 at this; omega⟩ ?_).symm)
    · change k0_pay31 (T 3) (scut s 3) x = _; pointwise [k0_pay31]
    · congr 1; unfold scut; refine congrArg s (funext fun a => Fin.ext ?_); fin_cases a
      · exact (ValueKit.rect_emb_unit_val (s := S128x512) _ _ (inbS 3) (ix2 (x 1) (x 2)) 0).trans ((ValueKit.rect_emb_unit_val (s := S1x128x512) _ _ inb_S1x128x512_S1x128x128_0_0_384 x 1)).symm
      · exact (ValueKit.rect_emb_unit_val (s := S128x512) _ _ (inbS 3) (ix2 (x 1) (x 2)) 1).trans ((ValueKit.rect_emb_unit_val (s := S1x128x512) _ _ inb_S1x128x512_S1x128x128_0_0_384 x 2)).symm
    · exact ValueKit.rect_emb_unit_val (s := S1x128x512) _ _ inb_S1x128x512_S1x128x128_0_0_384 x 2
    · exact ((ValueKit.rect_emb_unit_val (s := S1x128x512) _ _ inb_S1x128x512_S1x128x128_0_0_384 x 1).trans (Nat.zero_add _)).symm
  · intro x; refine Eq.trans (?_ : _ = FloatOps.addf (scut s 2 (ix2 (x 1) (x 2))) (T 2 (ix2 ⟨(x 1).val, by have := (x 1).isLt; change (x 1).val < 128 at this; omega⟩ (x 2))))
      (Eq.trans ?_ (lowB_eq s T _ 2 (x 2) ?_ ⟨(x 1).val, by have := (x 1).isLt; change (x 1).val < 128 at this; omega⟩ ?_).symm)
    · change k0_pay31 (T 2) (scut s 2) x = _; pointwise [k0_pay31]
    · congr 1; unfold scut; refine congrArg s (funext fun a => Fin.ext ?_); fin_cases a
      · exact (ValueKit.rect_emb_unit_val (s := S128x512) _ _ (inbS 2) (ix2 (x 1) (x 2)) 0).trans ((ValueKit.rect_emb_unit_val (s := S1x128x512) _ _ inb_S1x128x512_S1x128x128_0_0_256 x 1)).symm
      · exact (ValueKit.rect_emb_unit_val (s := S128x512) _ _ (inbS 2) (ix2 (x 1) (x 2)) 1).trans ((ValueKit.rect_emb_unit_val (s := S1x128x512) _ _ inb_S1x128x512_S1x128x128_0_0_256 x 2)).symm
    · exact ValueKit.rect_emb_unit_val (s := S1x128x512) _ _ inb_S1x128x512_S1x128x128_0_0_256 x 2
    · exact ((ValueKit.rect_emb_unit_val (s := S1x128x512) _ _ inb_S1x128x512_S1x128x128_0_0_256 x 1).trans (Nat.zero_add _)).symm
  · intro x; refine Eq.trans (?_ : _ = FloatOps.addf (scut s 1 (ix2 (x 1) (x 2))) (T 1 (ix2 ⟨(x 1).val, by have := (x 1).isLt; change (x 1).val < 128 at this; omega⟩ (x 2))))
      (Eq.trans ?_ (lowB_eq s T _ 1 (x 2) ?_ ⟨(x 1).val, by have := (x 1).isLt; change (x 1).val < 128 at this; omega⟩ ?_).symm)
    · change k0_pay31 (T 1) (scut s 1) x = _; pointwise [k0_pay31]
    · congr 1; unfold scut; refine congrArg s (funext fun a => Fin.ext ?_); fin_cases a
      · exact (ValueKit.rect_emb_unit_val (s := S128x512) _ _ (inbS 1) (ix2 (x 1) (x 2)) 0).trans ((ValueKit.rect_emb_unit_val (s := S1x128x512) _ _ inb_S1x128x512_S1x128x128_0_0_128 x 1)).symm
      · exact (ValueKit.rect_emb_unit_val (s := S128x512) _ _ (inbS 1) (ix2 (x 1) (x 2)) 1).trans ((ValueKit.rect_emb_unit_val (s := S1x128x512) _ _ inb_S1x128x512_S1x128x128_0_0_128 x 2)).symm
    · exact ValueKit.rect_emb_unit_val (s := S1x128x512) _ _ inb_S1x128x512_S1x128x128_0_0_128 x 2
    · exact ((ValueKit.rect_emb_unit_val (s := S1x128x512) _ _ inb_S1x128x512_S1x128x128_0_0_128 x 1).trans (Nat.zero_add _)).symm
  · intro x; refine Eq.trans (?_ : _ = FloatOps.addf (scut s 0 (ix2 (x 1) (x 2))) (T 0 (ix2 ⟨(x 1).val, by have := (x 1).isLt; change (x 1).val < 128 at this; omega⟩ (x 2))))
      (Eq.trans ?_ (lowB_eq s T _ 0 (x 2) ?_ ⟨(x 1).val, by have := (x 1).isLt; change (x 1).val < 128 at this; omega⟩ ?_).symm)
    · change k0_pay31 (T 0) (scut s 0) x = _; pointwise [k0_pay31]
    · congr 1; unfold scut; refine congrArg s (funext fun a => Fin.ext ?_); fin_cases a
      · exact (ValueKit.rect_emb_unit_val (s := S128x512) _ _ (inbS 0) (ix2 (x 1) (x 2)) 0).trans ((ValueKit.rect_emb_unit_val (s := S1x128x512) _ _ inb_S1x128x512_S1x128x128_0_0_0 x 1)).symm
      · exact (ValueKit.rect_emb_unit_val (s := S128x512) _ _ (inbS 0) (ix2 (x 1) (x 2)) 1).trans ((ValueKit.rect_emb_unit_val (s := S1x128x512) _ _ inb_S1x128x512_S1x128x128_0_0_0 x 2)).symm
    · exact ValueKit.rect_emb_unit_val (s := S1x128x512) _ _ inb_S1x128x512_S1x128x128_0_0_0 x 2
    · exact ((ValueKit.rect_emb_unit_val (s := S1x128x512) _ _ inb_S1x128x512_S1x128x128_0_0_0 x 1).trans (Nat.zero_add _)).symm

theorem dq_cover (T : Fin 4 → FVec F S512x128 .bf16) : ∀ y, ∃ p ∈ dqL T, y ∈ p.1.set := View.cover_of_tiledL _ S1x128x128.size (by sl_kernel_rfl)
theorem hi_cover (T : Fin 4 → FVec F S256x128 .f32) : ∀ y, ∃ p ∈ hiL T, y ∈ p.1.set := View.cover_of_tiledL _ S128x128.size (by sl_kernel_rfl)
theorem lo_cover (s : Fin 4 → Vec F S128x128 .f32) (T : Fin 4 → FVec F S256x128 .f32) : ∀ y, ∃ p ∈ loL s T, y ∈ p.1.set := View.cover_of_tiledL _ S1x128x128.size (by sl_kernel_rfl)

end Cert.Att
-- ==== Proof.PiecesA.lean ====
module

public import proofs.«01_k».proof.Proof.Tile
public import proofs.«01_k».proof.Proof.StepA

@[expose] public section

set_option maxRecDepth 16384

noncomputable section

namespace Cert.Att

open Idealize.ShloMosaic Idealize.ShloMosaic.TcCoe Idealize.ShloMosaic.Tactic
open Cert.KernelIdeal Cert.KernelIdeal.Gen

variable {F : FTy → Type} [FloatOps F] [Named F]

theorem rd0 (a : Memref sig .tc .vmem S128x512 .f32) (z : Vec F S128x512 .f32) (L : List (View.Piece (Elt F) S128x512 .f32))
     (hL : L = [⟨Rect.unit ![0, 0] S128x512.size inb_S128x512_S128x512_0_0, z⟩]) :
    a.view.readCov L (Rect.unit (s := S128x512) ![0, 0] S128x128.size inb_S128x512_S128x128_0_0).toLoadRect = scut z 0 := by
  subst hL
  exact View.readCov_fill (s := S128x512) (off := ![0, 0]) a.view inb_S128x512_S128x512_0_0 z [] _ (by decide)

theorem rd1 (a : Memref sig .tc .vmem S128x512 .f32) (z : Vec F S128x512 .f32) (L : List (View.Piece (Elt F) S128x512 .f32))
    (w0 : Vec F S128x128 .f32) (hL : L = [⟨Rect.unit ![0, 0] S128x128.size inb_S128x512_S128x128_0_0, w0⟩, ⟨Rect.unit ![0, 0] S128x512.size inb_S128x512_S128x512_0_0, z⟩]) :
    a.view.readCov L (Rect.unit (s := S128x512) ![0, 128] S128x128.size inb_S128x512_S128x128_0_128).toLoadRect = scut z 1 := by
  subst hL
  rw [View.readCov_skip _ _ _ _ _ (by decide)]
  exact View.readCov_fill (s := S128x512) (off := ![0, 0]) a.view inb_S128x512_S128x512_0_0 z [] _ (by decide)

theorem rd2 (a : Memref sig .tc .vmem S128x512 .f32) (z : Vec F S128x512 .f32) (L : List (View.Piece (Elt F) S128x512 .f32))
    (w0 w1 : Vec F S128x128 .f32) (hL : L = [⟨Rect.unit ![0, 128] S128x128.size inb_S128x512_S128x128_0_128, w1⟩, ⟨Rect.unit ![0, 0] S128x128.size inb_S128x512_S128x128_0_0, w0⟩, ⟨Rect.unit ![0, 0] S128x512.size inb_S128x512_S128x512_0_0, z⟩]) :
    a.view.readCov L (Rect.unit (s := S128x512) ![0, 256] S128x128.size inb_S128x512_S128x128_0_256).toLoadRect = scut z 2 := by
  subst hL
  rw [View.readCov_skip _ _ _ _ _ (by decide)]
  rw [View.readCov_skip _ _ _ _ _ (by decide)]
  exact View.readCov_fill (s := S128x512) (off := ![0, 0]) a.view inb_S128x512_S128x512_0_0 z [] _ (by decide)

theorem rd3 (a : Memref sig .tc .vmem S128x512 .f32) (z : Vec F S128x512 .f32) (L : List (View.Piece (Elt F) S128x512 .f32))
    (w0 w1 w2 : Vec F S128x128 .f32) (hL : L = [⟨Rect.unit ![0, 256] S128x128.size inb_S128x512_S128x128_0_256, w2⟩, ⟨Rect.unit ![0, 128] S128x128.size inb_S128x512_S128x128_0_128, w1⟩, ⟨Rect.unit ![0, 0] S128x128.size inb_S128x512_S128x128_0_0, w0⟩, ⟨Rect.unit ![0, 0] S128x512.size inb_S128x512_S128x512_0_0, z⟩]) :
    a.view.readCov L (Rect.unit (s := S128x512) ![0, 384] S128x128.size inb_S128x512_S128x128_0_384).toLoadRect = scut z 3 := by
  subst hL
  rw [View.readCov_skip _ _ _ _ _ (by decide)]
  rw [View.readCov_skip _ _ _ _ _ (by decide)]
  rw [View.readCov_skip _ _ _ _ _ (by decide)]
  exact View.readCov_fill (s := S128x512) (off := ![0, 0]) a.view inb_S128x512_S128x512_0_0 z [] _ (by decide)

set_option maxHeartbeats 1000000 in
theorem stepA_dq  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32)  :
    (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).1 = dqL (tq (maskT i) (⟨x0, x1, x2, x3, x4, x5, x6, x7, x8, x9⟩)) := by
  refine Eq.trans (b := dqL (tq (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepA_dk  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32)  :
    (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.1 = loL (scut (k0_pay1)) (tk (maskT i)  (⟨x0, x1, x2, x3, x4, x5, x6, x7, x8, x9⟩)) := by
  refine (show (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.1 = loL4 _ _ _ _ (tk (maskT i)  (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩)) from rfl).trans ?_
  simp only [Memref.IsWhole.read_unread]
  unfold loL; congr 1
  · exact rd0 a16 (k0_pay1) _ rfl
  · exact rd1 a16 (k0_pay1) _ _ rfl
  · exact rd2 a16 (k0_pay1) _ _ _ rfl
  · exact rd3 a16 (k0_pay1) _ _ _ _ rfl

set_option maxHeartbeats 1000000 in
theorem stepA_dv  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32)  :
    (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.2.1 = loL (scut (k0_pay2)) (tv (maskT i)  (⟨x0, x1, x2, x3, x4, x5, x6, x7, x8, x9⟩)) := by
  refine (show (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.2.1 = loL4 _ _ _ _ (tv (maskT i)  (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩)) from rfl).trans ?_
  simp only [Memref.IsWhole.read_unread]
  unfold loL; congr 1
  · exact rd0 a17 (k0_pay2) _ rfl
  · exact rd1 a17 (k0_pay2) _ _ rfl
  · exact rd2 a17 (k0_pay2) _ _ _ rfl
  · exact rd3 a17 (k0_pay2) _ _ _ _ rfl

set_option maxHeartbeats 1000000 in
theorem stepA_c0  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32)  :
    (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.2.2.1 = hiL (tk (maskT i) (⟨x0, x1, x2, x3, x4, x5, x6, x7, x8, x9⟩)) ++ [⟨Rect.unit ![0, 0] S128x512.size inb_S128x512_S128x512_0_0, k0_pay1⟩] := by
  refine Eq.trans (b := hiL (tk (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩)) ++ [⟨Rect.unit ![0, 0] S128x512.size inb_S128x512_S128x512_0_0, k0_pay1⟩]) rfl ?_
  simp only [Memref.IsWhole.read_unread]

set_option maxHeartbeats 1000000 in
theorem stepA_c1  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32)  :
    (stepA c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9).2.2.2.2.1 = hiL (tv (maskT i) (⟨x0, x1, x2, x3, x4, x5, x6, x7, x8, x9⟩)) ++ [⟨Rect.unit ![0, 0] S128x512.size inb_S128x512_S128x512_0_0, k0_pay2⟩] := by
  refine Eq.trans (b := hiL (tv (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩)) ++ [⟨Rect.unit ![0, 0] S128x512.size inb_S128x512_S128x512_0_0, k0_pay2⟩]) rfl ?_
  simp only [Memref.IsWhole.read_unread]

end Cert.Att
-- ==== Proof.PiecesB.lean ====
module

public import proofs.«01_k».proof.Proof.Tile
public import proofs.«01_k».proof.Proof.StepB

@[expose] public section

set_option maxRecDepth 16384

noncomputable section

namespace Cert.Att

open Idealize.ShloMosaic Idealize.ShloMosaic.TcCoe Idealize.ShloMosaic.Tactic
open Cert.KernelIdeal Cert.KernelIdeal.Gen

variable {F : FTy → Type} [FloatOps F] [Named F]

set_option maxHeartbeats 1000000 in
theorem stepB_dq  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).1 = dqL (tq (maskT i) (⟨x0, x1, x2, x3, x4, x5, x6, x7, x8, x9⟩)) := by
  refine Eq.trans (b := dqL (tq (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_dk  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.1 = loL (scut s0) (tk (maskT i) (⟨x0, x1, x2, x3, x4, x5, x6, x7, x8, x9⟩)) := by
  refine Eq.trans (b := loL (scut (a16.view.read (Elt F) (h16.unread s0))) (tk (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_dv  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.1 = loL (scut s1) (tv (maskT i) (⟨x0, x1, x2, x3, x4, x5, x6, x7, x8, x9⟩)) := by
  refine Eq.trans (b := loL (scut (a17.view.read (Elt F) (h17.unread s1))) (tv (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_c0  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.2.1 = hiL (tk (maskT i) (⟨x0, x1, x2, x3, x4, x5, x6, x7, x8, x9⟩)) := by
  refine Eq.trans (b := hiL (tk (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_c1  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.2.2.1 = hiL (tv (maskT i) (⟨x0, x1, x2, x3, x4, x5, x6, x7, x8, x9⟩)) := by
  refine Eq.trans (b := hiL (tv (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

end Cert.Att
-- ==== Proof.Steps.lean ====
module

public import proofs.«01_k».proof.Proof.PiecesA
public import proofs.«01_k».proof.Proof.PiecesB
public import proofs.«01_k».proof.Proof.Gen.KernelIdeal.Frame
public import Idealize.ShloMosaic.Lib.Claim

@[expose] public section

set_option maxRecDepth 16384

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The three kinds of step, by the step's number -/

theorem isFirst_iff : ∀ t : Fin cfg0.N, isFirst (grid0.coords t) ↔ t.val % 3 = 0 :=
  (by decide +kernel : ∀ t : Fin grid0.N, isFirst (grid0.coords t) ↔ t.val % 3 = 0)
theorem isLive_iff : ∀ t : Fin cfg0.N, isLive (grid0.coords t) ↔ t.val % 3 ≤ 1 :=
  (by decide +kernel : ∀ t : Fin grid0.N, isLive (grid0.coords t) ↔ t.val % 3 ≤ 1)
theorem isLast_iff : ∀ t : Fin cfg0.N, isLast (grid0.coords t) ↔ t.val % 3 = 2 :=
  (by decide +kernel : ∀ t : Fin grid0.N, isLast (grid0.coords t) ↔ t.val % 3 = 2)

theorem live10 : ∀ t : Fin cfg0.N, t.val % 3 ≤ 1 → cfg0.idle 10 (grid0.coords t) = false := by decide +kernel
theorem idle10 : ∀ t : Fin cfg0.N, t.val % 3 = 2 → cfg0.idle 10 (grid0.coords t) = true := by decide +kernel
theorem live11 : ∀ t : Fin cfg0.N, cfg0.idle 11 (grid0.coords t) = false := by decide +kernel
theorem live12 : ∀ t : Fin cfg0.N, cfg0.idle 12 (grid0.coords t) = false := by decide +kernel
theorem flush10_last : ∀ t : Fin cfg0.N, t.val % 3 = 2 → (cfg0.win 10).flush t = true :=
  (by decide +kernel : ∀ t : Fin grid0.N, t.val % 3 = 2 → win0_10.flush t = true)
theorem flush10_mid : ∀ t : Fin cfg0.N, t.val % 3 = 1 → (cfg0.win 10).flush t = false :=
  (by decide +kernel : ∀ t : Fin grid0.N, t.val % 3 = 1 → win0_10.flush t = false)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl

/-! ## The buffers of a step -/

abbrev ms0 (t : Fin cfg0.N) : Memref sig .tc .vmem S1x128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128x2048 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128x512 .f32 := win0_12.stage (cfg0.slots t 12)
abbrev hs12 (t : Fin cfg0.N) : (ms12 t).IsWhole := hstage0_12 ((cfg0.slots t 12).cast nbuf0_12)
abbrev sc0 : Memref sig .tc .vmem S128x512 .f32 := Memref.whole cc0_scratch0
abbrev sc1 : Memref sig .tc .vmem S128x512 .f32 := Memref.whole cc0_scratch1

theorem scratch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What each step leaves -/

/-- The input blocks of a step. -/
def blk (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- What a step leaves: the block of the queries' gradient, the blocks of the keys' and the values', and the two carries. -/
structure Outs (F : FTy → Type) where
  dq : Vec F S1x128x2048 .bf16
  dk : Vec F S1x128x512 .f32
  dv : Vec F S1x128x512 .f32
  s0 : Vec F S128x512 .f32
  s1 : Vec F S128x512 .f32

/-- A step that computes, from the carries it starts with. -/
def live (M : IVec S512x256 1) (X : Ins F) (s0 s1 : Vec F S128x512 .f32) : Outs F :=
  ⟨dqB (tq M X), lowB s0 (tk M X), lowB s1 (tv M X), highB (tk M X), highB (tv M X)⟩
/-- The last step of a class, from what the one before left. -/
def last (o : Outs F) : Outs F := ⟨o.dq, k0_pay5 o.s0, k0_pay6 o.s1, o.s0, o.s1⟩

/-- What step `n` leaves. -/
def outs (c : Dev nD) : (n : ℕ) → n < cfg0.N → Outs F
  | 0, hn => live (maskT (grid0.coords ⟨0, hn⟩)) (blk m c ⟨0, hn⟩) k0_pay1 k0_pay2
  | n + 1, hn =>
    if (n + 1) % 3 = 0 then live (maskT (grid0.coords ⟨n + 1, hn⟩)) (blk m c ⟨n + 1, hn⟩) k0_pay1 k0_pay2
    else if (n + 1) % 3 = 1 then live (maskT (grid0.coords ⟨n + 1, hn⟩)) (blk m c ⟨n + 1, hn⟩) (outs c n (by omega)).s0 (outs c n (by omega)).s1
    else last (outs c n (by omega))

theorem outs_A (c : Dev nD) (t : Fin cfg0.N) (h : t.val % 3 = 0) :
    outs m c t.val t.isLt = live (maskT (grid0.coords t)) (blk m c t) k0_pay1 k0_pay2 := by
  obtain ⟨n, hn⟩ := t
  cases n with
  | zero => rfl
  | succ n => exact if_pos h
theorem outs_B (c : Dev nD) (t : Fin cfg0.N) (h : t.val % 3 = 1) :
    outs m c t.val t.isLt = live (maskT (grid0.coords t)) (blk m c t) (outs m c (t.val - 1) (Nat.lt_of_le_of_lt (Nat.sub_le _ _) t.isLt)).s0 (outs m c (t.val - 1) (Nat.lt_of_le_of_lt (Nat.sub_le _ _) t.isLt)).s1 := by
  obtain ⟨n, hn⟩ := t
  cases n with
  | zero => dsimp only at h; omega
  | succ n => exact (if_neg (by dsimp only at h; omega)).trans (if_pos h)
theorem outs_C (c : Dev nD) (t : Fin cfg0.N) (h : t.val % 3 = 2) :
    outs m c t.val t.isLt = last (outs m c (t.val - 1) (Nat.lt_of_le_of_lt (Nat.sub_le _ _) t.isLt)) := by
  obtain ⟨n, hn⟩ := t
  cases n with
  | zero => dsimp only at h; omega
  | succ n => exact (if_neg (by dsimp only at h; omega)).trans (if_neg (by dsimp only at h; omega))

/-- What holds before step `n`: at the start the scratch holds anything, afterwards the carries of the step before. -/
def PhiS (c : Dev nD) : (n : ℕ) → n ≤ cfg0.N → sProp 𝕄
  | 0, _ => Pipeline.ΦA spec0 c
  | n + 1, hn => iprop(iprop(owns (c : Thread nD τ) sc0 fullShare (outs m c n hn).s0 ∗ owns (c : Thread nD τ) sc1 fullShare (outs m c n hn).s1) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (outs m c n hn).s0 ∗ owns (c : Thread nD τ) sc1 fullShare (outs m c n hn).s1) ∗ (∃ r, prngReg c r)) := rfl
theorem PhiS_pos (c : Dev nD) (n : ℕ) (h : n ≤ cfg0.N) (hz : n ≠ 0) :
    PhiS m c n h = iprop(iprop(owns (c : Thread nD τ) sc0 fullShare (outs m c (n - 1) (by omega)).s0 ∗ owns (c : Thread nD τ) sc1 fullShare (outs m c (n - 1) (by omega)).s1) ∗ (∃ r, prngReg c r)) := by
  cases n with
  | zero => exact absurd rfl hz
  | succ n => rfl

/-- The data of the loop over the steps: every input's buffer keeps its block, the outputs' hold `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).dq
    | ⟨11, _⟩ => (outs m c t.val t.isLt).dk
    | ⟨12, _⟩ => (outs m c t.val t.isLt).dv
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outs m c t.val t.isLt).dq := by dsimp only [dats]
theorem after_11 (c : Dev nD) (t : Fin cfg0.N) : (dats m 0 c).after 11 t = (outs m c t.val t.isLt).dk := by dsimp only [dats]
theorem after_12 (c : Dev nD) (t : Fin cfg0.N) : (dats m 0 c).after 12 t = (outs m c t.val t.isLt).dv := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem fetch10 : ∀ t : Fin cfg0.N, (cfg0.win 10).fetch t = false := fun t => rfl
/-- The last step of a class finds the queries' gradient block of the step before in its buffer. -/
theorem before_10 (c : Dev nD) (t : Fin cfg0.N) (h : t.val % 3 = 2) (d) :
    (dats m 0 c).before 10 t d = (outs m c (t.val - 1) (Nat.lt_of_le_of_lt (Nat.sub_le _ _) t.isLt)).dq := by
  have hN : t.val < 48 := lt_of_lt_of_eq t.isLt (show cfg0.N = 48 from N_0)
  have hp : (⟨t.val - 1, Nat.lt_of_le_of_lt (Nat.sub_le _ _) t.isLt⟩ : Fin cfg0.N).val % 3 = 1 := by dsimp only; omega
  rw [Dat.before_of_pos _ 10 t (by omega) (fetch10 t) d, if_neg (by rw [flush10_mid _ hp]; exact Bool.false_ne_true)]
  unfold Dat.left
  rw [show cfg0.idle 10 (cfg0.grid.coords ⟨t.val - 1, Nat.lt_of_le_of_lt (Nat.sub_le _ _) t.isLt⟩) = false from live10 _ (by omega)]
  rw [← after_10 m c ⟨t.val - 1, Nat.lt_of_le_of_lt (Nat.sub_le _ _) t.isLt⟩]
  rfl

/-! ## A step's writes read back -/

theorem rd_dq (v : View sig .tc .vmem S1x128x2048 .bf16) (f) (T : Fin 4 → FVec F S512x128 .bf16) : v.read (Elt F) (v.writes (Elt F) f (dqL T)) = dqB T :=
  funext fun y => View.read_writes_apply_of_pieces v f (dqB T) _ (dq_pieces T).mem y (dq_cover T y)
theorem rd_lo (v : View sig .tc .vmem S1x128x512 .f32) (f) (s : Vec F S128x512 .f32) (T : Fin 4 → FVec F S256x128 .f32) : v.read (Elt F) (v.writes (Elt F) f (loL (scut s) T)) = lowB s T :=
  funext fun y => View.read_writes_apply_of_pieces v f (lowB s T) _ (lo_pieces s T).mem y (lo_cover _ T y)
theorem rd_hi (v : View sig .tc .vmem S128x512 .f32) (f) (T : Fin 4 → FVec F S256x128 .f32) : v.read (Elt F) (v.writes (Elt F) f (hiL T)) = highB T :=
  funext fun y => View.read_writes_apply_of_pieces v f (highB T) _ (hi_pieces T).mem y (hi_cover T y)
theorem rd_hi' (v : View sig .tc .vmem S128x512 .f32) (f) (T : Fin 4 → FVec F S256x128 .f32) (L) : v.read (Elt F) (v.writes (Elt F) f (hiL T ++ L)) = highB T :=
  funext fun y => (View.read_writes_apply_eq_canon v f y _ ((hi_cover T y).imp fun p hp => ⟨List.mem_append_left _ hp.1, hp.2⟩)).trans
    (View.canon_append_of_piecesOf (highB T) L (hiL T) (hi_pieces T) y (hi_cover T y))

/-! ## The body at a step -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : (dats m 0 c).leavesExact 0 t = owns (c : Thread nD τ) (ms0 t) fullShare ((dats m 0 c).after 0 t) := by
  unfold Dat.leavesExact; rw [live0 t]
theorem leaves_1 (c : Dev nD) (t : Fin cfg0.N) : (dats m 0 c).leavesExact 1 t = owns (c : Thread nD τ) (ms1 t) fullShare ((dats m 0 c).after 1 t) := by
  unfold Dat.leavesExact; rw [live1 t]
theorem leaves_2 (c : Dev nD) (t : Fin cfg0.N) : (dats m 0 c).leavesExact 2 t = owns (c : Thread nD τ) (ms2 t) fullShare ((dats m 0 c).after 2 t) := by
  unfold Dat.leavesExact; rw [live2 t]
theorem leaves_3 (c : Dev nD) (t : Fin cfg0.N) : (dats m 0 c).leavesExact 3 t = owns (c : Thread nD τ) (ms3 t) fullShare ((dats m 0 c).after 3 t) := by
  unfold Dat.leavesExact; rw [live3 t]
theorem leaves_4 (c : Dev nD) (t : Fin cfg0.N) : (dats m 0 c).leavesExact 4 t = owns (c : Thread nD τ) (ms4 t) fullShare ((dats m 0 c).after 4 t) := by
  unfold Dat.leavesExact; rw [live4 t]
theorem leaves_5 (c : Dev nD) (t : Fin cfg0.N) : (dats m 0 c).leavesExact 5 t = owns (c : Thread nD τ) (ms5 t) fullShare ((dats m 0 c).after 5 t) := by
  unfold Dat.leavesExact; rw [live5 t]
theorem leaves_6 (c : Dev nD) (t : Fin cfg0.N) : (dats m 0 c).leavesExact 6 t = owns (c : Thread nD τ) (ms6 t) fullShare ((dats m 0 c).after 6 t) := by
  unfold Dat.leavesExact; rw [live6 t]
theorem leaves_7 (c : Dev nD) (t : Fin cfg0.N) : (dats m 0 c).leavesExact 7 t = owns (c : Thread nD τ) (ms7 t) fullShare ((dats m 0 c).after 7 t) := by
  unfold Dat.leavesExact; rw [live7 t]
theorem leaves_8 (c : Dev nD) (t : Fin cfg0.N) : (dats m 0 c).leavesExact 8 t = owns (c : Thread nD τ) (ms8 t) fullShare ((dats m 0 c).after 8 t) := by
  unfold Dat.leavesExact; rw [live8 t]
theorem leaves_9 (c : Dev nD) (t : Fin cfg0.N) : (dats m 0 c).leavesExact 9 t = owns (c : Thread nD τ) (ms9 t) fullShare ((dats m 0 c).after 9 t) := by
  unfold Dat.leavesExact; rw [live9 t]
theorem leaves_11 (c : Dev nD) (t : Fin cfg0.N) : (dats m 0 c).leavesExact 11 t = owns (c : Thread nD τ) (ms11 t) fullShare ((dats m 0 c).after 11 t) := by
  unfold Dat.leavesExact; rw [live11 t]
theorem leaves_12 (c : Dev nD) (t : Fin cfg0.N) : (dats m 0 c).leavesExact 12 t = owns (c : Thread nD τ) (ms12 t) fullShare ((dats m 0 c).after 12 t) := by
  unfold Dat.leavesExact; rw [live12 t]
theorem leaves_10 (c : Dev nD) (t : Fin cfg0.N) (h : t.val % 3 ≤ 1) : (dats m 0 c).leavesExact 10 t = owns (c : Thread nD τ) (ms10 t) fullShare ((dats m 0 c).after 10 t) := by
  unfold Dat.leavesExact; rw [live10 t h]
theorem leaves_10' (c : Dev nD) (t : Fin cfg0.N) (h : t.val % 3 = 2) : (dats m 0 c).leavesExact 10 t = owns (c : Thread nD τ) (ms10 t) fullShare ((dats m 0 c).after 10 t) := by
  unfold Dat.leavesExact; rw [idle10 t h, flush10_last t h]

set_option maxHeartbeats 14400000 in
/-- The body at any step does what `outs` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_11, leaves_12, after_0, after_1, after_2, after_3, after_4, after_5, after_6, after_7, after_8, after_9, after_11, after_12]
  have hN : t.val < 48 := lt_of_lt_of_eq t.isLt (show cfg0.N = 48 from N_0)
  by_cases h0 : t.val % 3 = 0
  · rw [leaves_10 m c t (by omega), after_10, outs_A m c t h0]; unfold live; dsimp only
    by_cases hz : t.val = 0
    · rw [PhiS_castSucc m c t, PhiS_zero m c _ _ hz, scratch_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((stepA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) ((isFirst_iff t).mpr h0) ((isLive_iff t).mpr (by omega)) (fun h => absurd ((isLast_iff t).mp h) (by omega)) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, ⟨%e10, H10⟩, ⟨%e11, H11⟩, ⟨%e12, H12⟩, ⟨%es0, HS0⟩, ⟨%es1, HS1⟩⟩
      isplitl [HS0 HS1 Hg]
      · isplitl [HS0 HS1]
        · isplitl [HS0]
          · unfold owns; iexists _; isplitr
            swap; · iexact HS0
            ipureintro; rw [stepA_c0]; exact rd_hi' _ _ _ _
          unfold owns; iexists _; isplitr
          swap; · iexact HS1
          ipureintro; rw [stepA_c1]; exact rd_hi' _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [stepA_dq]; exact rd_dq _ _ _
      isplitl [H11]
      · unfold owns; iexists _; isplitr
        swap; · iexact H11
        ipureintro; rw [stepA_dk]; exact rd_lo _ _ _ _
      unfold owns; iexists _; isplitr
      swap; · iexact H12
      ipureintro; rw [stepA_dv]; exact rd_lo _ _ _ _
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((stepA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) ((isFirst_iff t).mpr h0) ((isLive_iff t).mpr (by omega)) (fun h => absurd ((isLast_iff t).mp h) (by omega)) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexists _; iexact HS0
      isplitl [HS1]; · iexists _; iexact HS1
      iintro ⟨H0, H1, H2, H3, H4, H5, H6, H7, H8, H9, ⟨%e10, H10⟩, ⟨%e11, H11⟩, ⟨%e12, H12⟩, ⟨%es0, HS0⟩, ⟨%es1, HS1⟩⟩
      isplitl [HS0 HS1 Hg]
      · isplitl [HS0 HS1]
        · isplitl [HS0]
          · unfold owns; iexists _; isplitr
            swap; · iexact HS0
            ipureintro; rw [stepA_c0]; exact rd_hi' _ _ _ _
          unfold owns; iexists _; isplitr
          swap; · iexact HS1
          ipureintro; rw [stepA_c1]; exact rd_hi' _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [stepA_dq]; exact rd_dq _ _ _
      isplitl [H11]
      · unfold owns; iexists _; isplitr
        swap; · iexact H11
        ipureintro; rw [stepA_dk]; exact rd_lo _ _ _ _
      unfold owns; iexists _; isplitr
      swap; · iexact H12
      ipureintro; rw [stepA_dv]; exact rd_lo _ _ _ _
  by_cases h1 : t.val % 3 = 1
  · rw [leaves_10 m c t (by omega), after_10, outs_B m c t h1]; unfold live; dsimp only
    rw [PhiS_castSucc m c t, PhiS_pos m c _ _ (by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((stepB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) (fun h => absurd ((isFirst_iff t).mp h) (by omega)) ((isLive_iff t).mpr (by omega)) (fun h => absurd ((isLast_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (outs m c (t.val - 1) (Nat.lt_of_le_of_lt (Nat.sub_le _ _) t.isLt)).s0 (outs m c (t.val - 1) (Nat.lt_of_le_of_lt (Nat.sub_le _ _) t.isLt)).s1).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, ⟨%e10, H10⟩, ⟨%e11, H11⟩, ⟨%e12, H12⟩, ⟨%es0, HS0⟩, ⟨%es1, HS1⟩⟩
    isplitl [HS0 HS1 Hg]
    · isplitl [HS0 HS1]
      · isplitl [HS0]
        · unfold owns; iexists _; isplitr
          swap; · iexact HS0
          ipureintro; rw [stepB_c0]; exact rd_hi _ _ _
        unfold owns; iexists _; isplitr
        swap; · iexact HS1
        ipureintro; rw [stepB_c1]; exact rd_hi _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; rw [stepB_dq]; exact rd_dq _ _ _
    isplitl [H11]
    · unfold owns; iexists _; isplitr
      swap; · iexact H11
      ipureintro; rw [stepB_dk]; exact rd_lo _ _ _ _
    unfold owns; iexists _; isplitr
    swap; · iexact H12
    ipureintro; rw [stepB_dv]; exact rd_lo _ _ _ _
  have h2 : t.val % 3 = 2 := by omega
  simp only [before_10 m c t h2]
  rw [leaves_10' m c t h2, after_10, outs_C m c t h2]; unfold last; dsimp only
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (stepC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) (fun h => absurd ((isFirst_iff t).mp h) (by omega)) (fun h => absurd ((isLive_iff t).mp h) (by omega)) ((isLast_iff t).mpr h2) (outs m c (t.val - 1) (Nat.lt_of_le_of_lt (Nat.sub_le _ _) t.isLt)).s0 (outs m c (t.val - 1) (Nat.lt_of_le_of_lt (Nat.sub_le _ _) t.isLt)).s1 Set.univ _)
  isplitl [H11]; · iexists _; iexact H11
  isplitl [H12]; · iexists _; iexact H12
  isplitl [HS0]; · iexact HS0
  isplitl [HS1]; · iexact HS1
  iintro ⟨H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), scratch_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run: every array ends at what the data say, and every counter at zero. -/
theorem runs : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged, and every counter at zero. -/
theorem unchanged : θ_run defs (onTc (τ := τ) (main (F := F))) ⟨m, fun _ => 0, ρ⟩ (fun r => (∀ c : Dev nD,

r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (runs m ρ))) ((θ_run defs _ _).mono (fun _ h => h.2) (runs m ρ))

end Cert.Att
-- ==== Proof.TileVal.lean ====
module

public import proofs.«01_k».proof.Proof.Tile
public import proofs.«01_k».proof.Proof.Maths

@[expose] public section

set_option maxRecDepth 16384

noncomputable section

namespace Cert.Att

open Idealize.ShloMosaic Cert.KernelIdeal Cert.KernelIdeal.Gen
open scoped BigOperators

/-! ## Which keys a stacked query sees -/

/-- The remainder by 128, as the kernel writes it. -/
def md1 (x : BitVec 32) : BitVec 32 :=
  Scalar.select (IntOp.andi (IntOp.xori (IntOp.cmpi .slt (IntOp.remsi .vector x (Scalar.select (Scalar.cmpi .eq 128#32 0#32) 1#32 128#32)) 0#32)
      (Scalar.cmpi .slt (Scalar.select (Scalar.cmpi .eq 128#32 0#32) 1#32 128#32) 0#32))
      (IntOp.cmpi .ne (IntOp.remsi .vector x (Scalar.select (Scalar.cmpi .eq 128#32 0#32) 1#32 128#32)) 0#32))
    (IntOp.addi (IntOp.remsi .vector x (Scalar.select (Scalar.cmpi .eq 128#32 0#32) 1#32 128#32)) (Scalar.select (Scalar.cmpi .eq 128#32 0#32) 1#32 128#32))
    (IntOp.remsi .vector x (Scalar.select (Scalar.cmpi .eq 128#32 0#32) 1#32 128#32))
/-- The remainder twice. -/
def md (x : BitVec 32) : BitVec 32 := IntOp.addi (IntOp.muli 1#32 (md1 (md1 x))) 0#32
theorem md_eq : ∀ y : Fin 512, md (BitVec.ofNat 32 y.val) = BitVec.ofNat 32 (y.val % 128) := by decide +kernel
/-- The mask of a query and a key of the block, from the remainders. -/
def mk (j : ℕ) (a b : BitVec 32) (z : Fin 256) : BitVec 1 :=
  IntOp.andi (IntOp.andi (IntOp.cmpi .sge (IntOp.addi (IntOp.subi a b) (Scalar.select (IntOp.cmpi .slt (BitVec.ofNat 32 z.val) 128#32) 128#32 0#32)) 0#32)
      (IntOp.cmpi .sle (IntOp.addi (IntOp.subi a b) (Scalar.select (IntOp.cmpi .slt (BitVec.ofNat 32 z.val) 128#32) 128#32 0#32)) 128#32))
    (IntOp.ori (IntOp.xori (IntOp.cmpi .slt (BitVec.ofNat 32 z.val) 128#32) 1#1) (Scalar.cmpi .sgt (BitVec.ofNat 32 j) 0#32))

/-- Query `t` of block `j`. -/
def tm (j : Fin 2) (t : Fin 128) : Fin 256 := ⟨128 * j.val + t.val, by omega⟩
/-- The position of key `z` of the two blocks a step of block `j` reads. -/
def ks (j : Fin 2) (z : Fin 256) : Fin 256 := if j = 1 then z else ⟨z.val % 128, by omega⟩
/-- Query `t` of block `j` attends to key `z` of the two blocks. -/
def look (j : Fin 2) (t : Fin 128) (z : Fin 256) : Bool := decide ((j = 1 ∨ 128 ≤ z.val) ∧ sees (tm j t) (ks j z))

theorem mk_eq : ∀ (t : Fin 128) (z : Fin 256) (j : Fin 2), mk j.val (BitVec.ofNat 32 t.val) (BitVec.ofNat 32 (z.val % 128)) z = BitVec.ofBool (look j t z) := by
  decide +kernel

/-- Row `t` of query head `r` of a stack. -/
def row (r : Fin 4) (t : Fin 128) : Fin 512 := ⟨128 * r.val + t.val, by omega⟩

theorem mask_at (i : grid0.Coords) (j : Fin 2) (hi : (i 1).val = j.val) (r : Fin 4) (t : Fin 128) (z : Fin 256) :
    maskT i (ix2 (row r t) z) = BitVec.ofBool (look j t z) := by
  rw [← mk_eq t z j]
  have hy := md_eq (row r t)
  have hz := md_eq ⟨z.val, by omega⟩
  rw [show (row r t).val % 128 = t.val from by simp only [row]; omega] at hy
  rw [← hy, ← hz, ← hi]
  unfold maskT
  pointwise [k0_pay10, k0_pay9, k0_pay8, k0_pay7]
  rfl

/-! ## The pieces of a step at an index -/

theorem stk {α : Type*} (f : Fin 128 → Fin 512 → α) (r : Fin 4) (t e : Fin 128) :
    (if h : (row r t).val < 128 then f ⟨(row r t).val, h⟩ ⟨e.val, by omega⟩
      else if h : (row r t).val - 128 < 128 then f ⟨(row r t).val - 128, h⟩ ⟨128 + e.val, by omega⟩
      else if h : (row r t).val - 128 - 128 < 128 then f ⟨(row r t).val - 128 - 128, h⟩ ⟨256 + e.val, by omega⟩
      else f ⟨(row r t).val - 128 - 128 - 128, by omega⟩ ⟨384 + e.val, by omega⟩) = f t ⟨128 * r.val + e.val, by omega⟩ := by
  have hy : (row r t).val = 128 * r.val + t.val := rfl
  split_ifs <;> refine congrArg₂ f (Fin.ext ?_) (Fin.ext ?_) <;> dsimp only <;> omega

theorem p11 (a b : Vec Ideal S1x128x128 .bf16) (z : Fin 256) (e : Fin 128) :
    k0_pay11 (F := Ideal) a b (ix2 z e) = if h : z.val < 128 then b (ix3 0 ⟨z.val, h⟩ e) else a (ix3 0 ⟨z.val - 128, by omega⟩ e) := by
  pointwise [k0_pay11]
theorem p12 (a b : Vec Ideal S1x128x128 .bf16) (z : Fin 256) (e : Fin 128) :
    k0_pay12 (F := Ideal) a b (ix2 z e) = if h : z.val < 128 then b (ix3 0 ⟨z.val, h⟩ e) else a (ix3 0 ⟨z.val - 128, by omega⟩ e) := by
  pointwise [k0_pay12]
theorem p13 (a : Vec Ideal S1x128x512 .bf16) (r : Fin 4) (t e : Fin 128) :
    k0_pay13 (F := Ideal) a (ix2 (row r t) e) = a (ix3 0 t ⟨128 * r.val + e.val, by omega⟩) := by
  pointwise [k0_pay13]
  exact stk (fun t e => a (ix3 0 t e)) r t e
theorem p18 (a : Vec Ideal S1x128x512 .f32) (r : Fin 4) (t e : Fin 128) :
    k0_pay18 (F := Ideal) a (ix2 (row r t) e) = a (ix3 0 t ⟨128 * r.val + e.val, by omega⟩) := by
  pointwise [k0_pay18]
  exact stk (fun t e => a (ix3 0 t e)) r t e
theorem p14 (a : Vec Ideal S1x128x512 .f32) (r : Fin 4) (t : Fin 128) :
    k0_pay14 (F := Ideal) a (ix2 (row r t) 0) = a (ix3 0 t ⟨128 * r.val, by omega⟩) := by
  pointwise [k0_pay14]
  exact stk (fun t e => a (ix3 0 t e)) r t 0
theorem p16 (a : Vec Ideal S1x128x512 .f32) (r : Fin 4) (t : Fin 128) :
    k0_pay16 (F := Ideal) a (ix2 (row r t) 0) = a (ix3 0 t ⟨128 * r.val, by omega⟩) := by
  pointwise [k0_pay16]
  exact stk (fun t e => a (ix3 0 t e)) r t 0
/-- The weight of the pattern, from the three logarithms. -/
def wE (a b c : EReal) : EReal :=
  Ideal.div (Ideal.exp (c - max (max a b) c)) (Ideal.exp (a - max (max a b) c) + Ideal.exp (b - max (max a b) c) + Ideal.exp (c - max (max a b) c))
theorem p17 (a b c : Vec Ideal S1x128x512 .f32) (r : Fin 4) (t : Fin 128) :
    k0_pay17 (F := Ideal) (k0_pay14 a) (k0_pay15 b) c (ix2 (row r t) 0)
      = wE (a (ix3 0 t ⟨128 * r.val, by omega⟩)) (b (ix3 0 t ⟨128 * r.val, by omega⟩)) (c (ix3 0 t ⟨128 * r.val, by omega⟩)) := by
  rw [← p14 a, ← p16 c, show b (ix3 0 t ⟨128 * r.val, by omega⟩) = _ from (stk (fun t e => b (ix3 0 t e)) r t 0).symm]
  unfold k0_pay17
  generalize k0_pay16 (F := Ideal) c = l2
  generalize k0_pay14 (F := Ideal) a = l0
  unfold k0_pay15
  pointwise [wE]
theorem p19 (a : FVec Ideal S512x1 .f32) (b : FVec Ideal S1x128x512 .f32) (c d o : Vec Ideal S1x128x512 .f32) (r : Fin 4) (t : Fin 128) :
    k0_pay19 (F := Ideal) a b c d o (ix2 (row r t) 0) = k0_pay17 (F := Ideal) a b c (ix2 (row r t) 0)
      * ∑ e : Fin 128, d (ix3 0 t ⟨128 * r.val + e.val, by omega⟩) * o (ix3 0 t ⟨128 * r.val + e.val, by omega⟩) := by
  have h : ∀ e : Fin 128, d (ix3 0 t ⟨128 * r.val + e.val, by omega⟩) * o (ix3 0 t ⟨128 * r.val + e.val, by omega⟩)
      = k0_pay18 (F := Ideal) d (ix2 (row r t) e) * k0_pay18 (F := Ideal) o (ix2 (row r t) e) := fun e => by rw [p18, p18]
  rw [Finset.sum_congr rfl fun e _ => h e]
  unfold k0_pay19
  generalize k0_pay17 (F := Ideal) a b c = w
  generalize k0_pay18 (F := Ideal) d = dd
  pointwise [k0_pay18]
theorem p20 (a : FVec Ideal S512x1 .f32) (b : FVec Ideal S1x128x512 .f32) (c : Vec Ideal S1x128x512 .f32) (y : Fin 512) (e : Fin 128) :
    k0_pay20 (F := Ideal) a b c (ix2 y e) = k0_pay17 (F := Ideal) a b c (ix2 y 0) := by
  unfold k0_pay20
  generalize k0_pay17 (F := Ideal) a b c = w
  pointwise
theorem p21 (d w : FVec Ideal S512x128 .f32) (y : Fin 512) (e : Fin 128) : k0_pay21 (F := Ideal) d w (ix2 y e) = w (ix2 y e) * d (ix2 y e) := by
  pointwise [k0_pay21]
theorem p22 (M : IVec S512x256 1) (k : FVec Ideal S256x128 .bf16) (q : FVec Ideal S512x128 .bf16) (l : FVec Ideal S512x1 .f32) (y : Fin 512) (z : Fin 256) :
    k0_pay22 (F := Ideal) M k q l (ix2 y z)
      = Ideal.exp (Scalar.select (M (ix2 y z)) ((∑ e, q (ix2 y e) * k (ix2 z e)) * Ideal.ofBits .f32 0x3DB504F3#32) (⊥ : EReal) - l (ix2 y 0)) := by
  pointwise [k0_pay22]
  rfl
theorem p23 (M : IVec S512x256 1) (k v : FVec Ideal S256x128 .bf16) (q : FVec Ideal S512x128 .bf16) (l : FVec Ideal S512x1 .f32) (d : FVec Ideal S512x128 .f32) (ct : FVec Ideal S512x1 .f32) (w : FVec Ideal S512x128 .f32) (y : Fin 512) (z : Fin 256) :
    k0_pay23 (F := Ideal) M k v q l d ct w (ix2 y z)
      = k0_pay22 (F := Ideal) M k q l (ix2 y z) * (∑ e, k0_pay21 (F := Ideal) d w (ix2 y e) * v (ix2 z e) - ct (ix2 y 0)) * Ideal.ofBits .f32 0x3DB504F3#32 := by
  unfold k0_pay23
  generalize k0_pay22 (F := Ideal) M k q l = P
  generalize k0_pay21 (F := Ideal) d w = W
  pointwise
theorem p24 (M : IVec S512x256 1) (k v : FVec Ideal S256x128 .bf16) (q : FVec Ideal S512x128 .bf16) (l : FVec Ideal S512x1 .f32) (d : FVec Ideal S512x128 .f32) (ct : FVec Ideal S512x1 .f32) (w : FVec Ideal S512x128 .f32) (y : Fin 512) (e : Fin 128) :
    k0_pay24 (F := Ideal) M k v q l d ct w (ix2 y e) = ∑ z, k0_pay23 (F := Ideal) M k v q l d ct w (ix2 y z) * k (ix2 z e) := by
  unfold k0_pay24
  generalize k0_pay23 (F := Ideal) M k v q l d ct w = P
  pointwise
theorem p29 (M : IVec S512x256 1) (k v : FVec Ideal S256x128 .bf16) (q : FVec Ideal S512x128 .bf16) (l : FVec Ideal S512x1 .f32) (d : FVec Ideal S512x128 .f32) (ct : FVec Ideal S512x1 .f32) (w : FVec Ideal S512x128 .f32) (z : Fin 256) (e : Fin 128) :
    k0_pay29 (F := Ideal) M k v q l d ct w (ix2 z e) = ∑ y, k0_pay23 (F := Ideal) M k v q l d ct w (ix2 y z) * q (ix2 y e) := by
  unfold k0_pay29
  generalize k0_pay23 (F := Ideal) M k v q l d ct w = P
  pointwise
theorem p30 (M : IVec S512x256 1) (k : FVec Ideal S256x128 .bf16) (q : FVec Ideal S512x128 .bf16) (l : FVec Ideal S512x1 .f32) (d w : FVec Ideal S512x128 .f32) (z : Fin 256) (e : Fin 128) :
    k0_pay30 (F := Ideal) M k q l d w (ix2 z e) = ∑ y, k0_pay22 (F := Ideal) M k q l (ix2 y z) * k0_pay21 (F := Ideal) d w (ix2 y e) := by
  unfold k0_pay30
  generalize k0_pay22 (F := Ideal) M k q l = P
  generalize k0_pay21 (F := Ideal) d w = W
  pointwise
theorem cutk (h : Fin 4) (x : Vec Ideal S1x128x512 .bf16) (z e : Fin 128) : kcut h x (ix3 0 z e) = x (ix3 0 z ⟨128 * h.val + e.val, by omega⟩) := by
  unfold kcut
  pointwise
theorem cutq {φ : EltTy} (h : Fin 4) (x : Vec Ideal S1x128x2048 φ) (z : Fin 128) (e : Fin 512) : qcut h x (ix3 0 z e) = x (ix3 0 z ⟨512 * h.val + e.val, by omega⟩) := by
  unfold qcut
  pointwise

/-! ## A step in the reals -/

/-- The blocks of a step of class `c` and block `j` hold the real numbers of `X`. -/
structure Holds (X : Data) (c : Fin 16) (j : Fin 2) (B : Ins Ideal) : Prop where
  q : ∀ (t : Fin 128) (g r : Fin 4) (e : Fin 128) (k : Fin 2048), k.val = 512 * g.val + 128 * r.val + e.val → B.q (ix3 0 t k) = ((X.Q c (tm j t) g r e : ℝ) : EReal)
  kc : ∀ (t : Fin 128) (g : Fin 4) (e : Fin 128) (k : Fin 512), k.val = 128 * g.val + e.val → B.kc (ix3 0 t k) = ((X.K c (tm j t) g e : ℝ) : EReal)
  kp : ∀ (t : Fin 128) (g : Fin 4) (e : Fin 128) (k : Fin 512), k.val = 128 * g.val + e.val → B.kp (ix3 0 t k) = ((X.K c (tm 0 t) g e : ℝ) : EReal)
  vc : ∀ (t : Fin 128) (g : Fin 4) (e : Fin 128) (k : Fin 512), k.val = 128 * g.val + e.val → B.vc (ix3 0 t k) = ((X.V c (tm j t) g e : ℝ) : EReal)
  vp : ∀ (t : Fin 128) (g : Fin 4) (e : Fin 128) (k : Fin 512), k.val = 128 * g.val + e.val → B.vp (ix3 0 t k) = ((X.V c (tm 0 t) g e : ℝ) : EReal)
  dy : ∀ (t : Fin 128) (g r : Fin 4) (e : Fin 128) (k : Fin 2048), k.val = 512 * g.val + 128 * r.val + e.val → B.dy (ix3 0 t k) = ((X.D c (tm j t) g r e : ℝ) : EReal)
  o : ∀ (t : Fin 128) (g r : Fin 4) (e : Fin 128) (k : Fin 2048), k.val = 512 * g.val + 128 * r.val + e.val → B.o (ix3 0 t k) = ((co X c (tm j t) g r e : ℝ) : EReal)
  l0 : ∀ (t : Fin 128) (g r : Fin 4) (e : Fin 128) (k : Fin 2048), k.val = 512 * g.val + 128 * r.val + e.val → B.l0 (ix3 0 t k) = ((X.L0 c (tm j t) g r : ℝ) : EReal)
  l1 : ∀ (t : Fin 128) (g r : Fin 4) (e : Fin 128) (k : Fin 2048), k.val = 512 * g.val + 128 * r.val + e.val → B.l1 (ix3 0 t k) = ((X.L1 c (tm j t) g r : ℝ) : EReal)
  l2 : ∀ (t : Fin 128) (g r : Fin 4) (e : Fin 128) (k : Fin 2048), k.val = 512 * g.val + 128 * r.val + e.val → B.l2 (ix3 0 t k) = ((ls X c (tm j t) g r : ℝ) : EReal)

variable (X : Data) (c : Fin 16) (j : Fin 2) (B : Ins Ideal) (H : Holds X c j B) (i : grid0.Coords) (hi : (i 1).val = j.val)

/-- The probability and the score's gradient of a query and one of the two blocks' keys. -/
def pz (g r : Fin 4) (t : Fin 128) (z : Fin 256) : ℝ := if look j t z then pr X c (tm j t) g r (ks j z) else 0
def dz (g r : Fin 4) (t : Fin 128) (z : Fin 256) : ℝ := if look j t z then ds X c (tm j t) g r (ks j z) else 0

include H

theorem t11 (g : Fin 4) (z : Fin 256) (e : Fin 128) : k0_pay11 (F := Ideal) (kcut g B.kc) (kcut g B.kp) (ix2 z e) = ((X.K c (ks j z) g e : ℝ) : EReal) := by
  rw [p11]
  have hj : j = 0 ∨ j = 1 := (by decide : ∀ j : Fin 2, j = 0 ∨ j = 1) j
  split
  · rw [cutk, H.kp _ g e _ rfl]
    refine congrArg (fun s => ((X.K c s g e : ℝ) : EReal)) (Fin.ext ?_)
    rcases hj with rfl | rfl <;> simp only [tm, ks] <;> simp <;> omega
  · rw [cutk, H.kc _ g e _ rfl]
    refine congrArg (fun s => ((X.K c s g e : ℝ) : EReal)) (Fin.ext ?_)
    rcases hj with rfl | rfl <;> simp only [tm, ks] <;> simp <;> omega
theorem t12 (g : Fin 4) (z : Fin 256) (e : Fin 128) : k0_pay12 (F := Ideal) (kcut g B.vc) (kcut g B.vp) (ix2 z e) = ((X.V c (ks j z) g e : ℝ) : EReal) := by
  rw [p12]
  have hj : j = 0 ∨ j = 1 := (by decide : ∀ j : Fin 2, j = 0 ∨ j = 1) j
  split
  · rw [cutk, H.vp _ g e _ rfl]
    refine congrArg (fun s => ((X.V c s g e : ℝ) : EReal)) (Fin.ext ?_)
    rcases hj with rfl | rfl <;> simp only [tm, ks] <;> simp <;> omega
  · rw [cutk, H.vc _ g e _ rfl]
    refine congrArg (fun s => ((X.V c s g e : ℝ) : EReal)) (Fin.ext ?_)
    rcases hj with rfl | rfl <;> simp only [tm, ks] <;> simp <;> omega
theorem t13 (g r : Fin 4) (t e : Fin 128) : k0_pay13 (F := Ideal) (qcut g B.q) (ix2 (row r t) e) = ((X.Q c (tm j t) g r e : ℝ) : EReal) := by
  rw [p13, cutq (φ := .bf16), H.q t g r e _ (by show 512 * g.val + (128 * r.val + e.val) = _; omega)]
theorem t16 (g r : Fin 4) (t : Fin 128) : k0_pay16 (F := Ideal) (qcut g B.l2) (ix2 (row r t) 0) = ((ls X c (tm j t) g r : ℝ) : EReal) := by
  rw [p16, cutq (φ := .f32), H.l2 t g r 0 _ (by show 512 * g.val + 128 * r.val = _ + 0; omega)]
theorem t18 (g r : Fin 4) (t e : Fin 128) : k0_pay18 (F := Ideal) (qcut g B.dy) (ix2 (row r t) e) = ((X.D c (tm j t) g r e : ℝ) : EReal) := by
  rw [p18, cutq (φ := .f32), H.dy t g r e _ (by show 512 * g.val + (128 * r.val + e.val) = _; omega)]
theorem t17 (g r : Fin 4) (t : Fin 128) : k0_pay17 (F := Ideal) (k0_pay14 (qcut g B.l0)) (k0_pay15 (qcut g B.l1)) (qcut g B.l2) (ix2 (row r t) 0) = ((wt X c (tm j t) g r : ℝ) : EReal) := by
  rw [p17, cutq (φ := .f32), cutq (φ := .f32), cutq (φ := .f32), H.l0 t g r 0 _ (by show 512 * g.val + 128 * r.val = _ + 0; omega),
    H.l1 t g r 0 _ (by show 512 * g.val + 128 * r.val = _ + 0; omega), H.l2 t g r 0 _ (by show 512 * g.val + 128 * r.val = _ + 0; omega)]
  unfold wE
  rw [max_real, max_real, ← EReal.coe_sub, ← EReal.coe_sub, ← EReal.coe_sub, Ideal.exp_coe, Ideal.exp_coe, Ideal.exp_coe, ← EReal.coe_add, ← EReal.coe_add]
  exact div_real _ _ (dn_pos X c (tm j t) g r).ne'
theorem t19 (g r : Fin 4) (t : Fin 128) : k0_pay19 (F := Ideal) (k0_pay14 (qcut g B.l0)) (k0_pay15 (qcut g B.l1)) (qcut g B.l2) (qcut g B.dy) (qcut g B.o) (ix2 (row r t) 0) = ((ct X c (tm j t) g r : ℝ) : EReal) := by
  have h : ∀ e : Fin 128, (qcut g B.dy) (ix3 0 t ⟨128 * r.val + e.val, by omega⟩) * (qcut g B.o) (ix3 0 t ⟨128 * r.val + e.val, by omega⟩)
      = ((X.D c (tm j t) g r e * co X c (tm j t) g r e : ℝ) : EReal) := fun e => by
    rw [cutq (φ := .f32), cutq (φ := .f32), H.dy t g r e _ (by show 512 * g.val + (128 * r.val + e.val) = _; omega), H.o t g r e _ (by show 512 * g.val + (128 * r.val + e.val) = _; omega), EReal.coe_mul]
  rw [p19, t17 X c j B H, Finset.sum_congr rfl fun e _ => h e, coe_sum]
  exact (EReal.coe_mul _ _).symm
theorem t21 (g r : Fin 4) (t e : Fin 128) : k0_pay21 (F := Ideal) (k0_pay18 (qcut g B.dy)) (k0_pay20 (k0_pay14 (qcut g B.l0)) (k0_pay15 (qcut g B.l1)) (qcut g B.l2)) (ix2 (row r t) e)
    = ((wt X c (tm j t) g r * X.D c (tm j t) g r e : ℝ) : EReal) := by
  rw [p21, p20, t17 X c j B H, t18 X c j B H, EReal.coe_mul]
include hi
theorem t22 (g r : Fin 4) (t : Fin 128) (z : Fin 256) : k0_pay22 (F := Ideal) (maskT i) (k0_pay11 (kcut g B.kc) (kcut g B.kp)) (k0_pay13 (qcut g B.q)) (k0_pay16 (qcut g B.l2)) (ix2 (row r t) z)
    = ((pz X c j g r t z : ℝ) : EReal) := by
  have h : ∀ e : Fin 128, k0_pay13 (F := Ideal) (qcut g B.q) (ix2 (row r t) e) * k0_pay11 (F := Ideal) (kcut g B.kc) (kcut g B.kp) (ix2 z e)
      = ((X.K c (ks j z) g e * X.Q c (tm j t) g r e : ℝ) : EReal) := fun e => by
    rw [t13 X c j B H, t11 X c j B H, ← EReal.coe_mul, mul_comm]
  rw [p22, mask_at i j hi, t16 X c j B H, Finset.sum_congr rfl fun e _ => h e, coe_sum, kap_eq, ← EReal.coe_mul]
  unfold pz
  by_cases hl : look j t z = true
  · rw [if_pos hl, hl]
    have hs : sees (tm j t) (ks j z) := (of_decide_eq_true hl).2
    rw [← exp_ls]; unfold scm; rw [if_pos hs]; rfl
  · rw [if_neg hl, Bool.not_eq_true _ |>.mp hl]
    refine (congrArg Ideal.exp (a₂ := (⊥ : EReal)) ?_).trans ?_
    · exact (congrArg (· - ((ls X c (tm j t) g r : ℝ) : EReal)) (if_neg (by decide))).trans (EReal.bot_sub _)
    · rfl
theorem t23 (g r : Fin 4) (t : Fin 128) (z : Fin 256) : k0_pay23 (F := Ideal) (maskT i) (k0_pay11 (kcut g B.kc) (kcut g B.kp)) (k0_pay12 (kcut g B.vc) (kcut g B.vp)) (k0_pay13 (qcut g B.q)) (k0_pay16 (qcut g B.l2))
      (k0_pay18 (qcut g B.dy)) (k0_pay19 (k0_pay14 (qcut g B.l0)) (k0_pay15 (qcut g B.l1)) (qcut g B.l2) (qcut g B.dy) (qcut g B.o))
      (k0_pay20 (k0_pay14 (qcut g B.l0)) (k0_pay15 (qcut g B.l1)) (qcut g B.l2)) (ix2 (row r t) z)
    = ((dz X c j g r t z : ℝ) : EReal) := by
  have h : ∀ e : Fin 128, k0_pay21 (F := Ideal) (k0_pay18 (qcut g B.dy)) (k0_pay20 (k0_pay14 (qcut g B.l0)) (k0_pay15 (qcut g B.l1)) (qcut g B.l2)) (ix2 (row r t) e)
        * k0_pay12 (F := Ideal) (kcut g B.vc) (kcut g B.vp) (ix2 z e)
      = ((wt X c (tm j t) g r * X.D c (tm j t) g r e * X.V c (ks j z) g e : ℝ) : EReal) := fun e => by
    rw [t21 X c j B H, t12 X c j B H, ← EReal.coe_mul]
  rw [p23, t22 X c j B H i hi, t19 X c j B H, Finset.sum_congr rfl fun e _ => h e, coe_sum, kap_eq, ← EReal.coe_sub, ← EReal.coe_mul, ← EReal.coe_mul]
  refine congrArg _ ?_
  unfold pz dz
  split
  · rfl
  · rw [zero_mul, zero_mul]
/-- The gradient of a stacked query. -/
theorem tq_at (g r : Fin 4) (t e : Fin 128) : tq (F := Ideal) (maskT i) B g (ix2 (row r t) e) = ((∑ z, dz X c j g r t z * X.K c (ks j z) g e : ℝ) : EReal) := by
  unfold tq
  rw [p24, Finset.sum_congr rfl fun z _ => (congrArg₂ (· * ·) (t23 X c j B H i hi g r t z) (t11 X c j B H g z e)).trans (EReal.coe_mul _ _).symm, coe_sum]
omit H hi in
/-- A sum over a stack is the sum over its query heads and rows. -/
theorem sum_rows (f : Fin 512 → EReal) : ∑ y, f y = ∑ r, ∑ t, f (row r t) := by
  rw [← Fintype.sum_prod_type']
  refine (Fintype.sum_equiv (finProdFinEquiv (m := 4) (n := 128)) (fun x => f (row x.1 x.2)) f fun x => congrArg f (Fin.ext ?_)).symm
  show 128 * x.1.val + x.2.val = x.2.val + 128 * x.1.val
  omega
theorem tk_at (g : Fin 4) (z : Fin 256) (e : Fin 128) : tk (F := Ideal) (maskT i) B g (ix2 z e) = ((∑ r, ∑ t, dz X c j g r t z * X.Q c (tm j t) g r e : ℝ) : EReal) := by
  unfold tk
  rw [p29, sum_rows, Finset.sum_congr rfl fun r _ => (Finset.sum_congr rfl fun t _ => (congrArg₂ (· * ·) (t23 X c j B H i hi g r t z) (t13 X c j B H g r t e)).trans (EReal.coe_mul _ _).symm).trans (coe_sum _ _), coe_sum]
theorem tv_at (g : Fin 4) (z : Fin 256) (e : Fin 128) : tv (F := Ideal) (maskT i) B g (ix2 z e) = ((∑ r, ∑ t, pz X c j g r t z * (wt X c (tm j t) g r * X.D c (tm j t) g r e) : ℝ) : EReal) := by
  unfold tv
  rw [p30, sum_rows, Finset.sum_congr rfl fun r _ => (Finset.sum_congr rfl fun t _ => (congrArg₂ (· * ·) (t22 X c j B H i hi g r t z) (t21 X c j B H g r t e)).trans (EReal.coe_mul _ _).symm).trans (coe_sum _ _), coe_sum]

end Cert.Att
-- ==== Proof.KerHost.lean ====
module

public import proofs.«01_k».proof.Proof.Gen.KernelIdeal.Frame
public import proofs.«01_k».proof.Proof.Gen.ReferenceIdeal.Read
public import Idealize.ShloMosaic.Lib.StableHlo.RunLoop

@[expose] public section

set_option maxRecDepth 16384

noncomputable section

namespace Cert.Att

open Idealize.ShloMosaic Idealize.ShloMosaic.TcCoe Idealize.SL.Sem Idealize.ShloMosaic.StableHlo Cert.KernelIdeal Cert.KernelIdeal.Gen

variable {F : FTy → Type} [FloatOps F] [Named F]

/-! ## What the lines before the call compute -/

/-- One value per query and head, repeated over the head's columns. -/
def wide (x : FVec F S4096x16 .f32) : FVec F S4096x16x128 .f32 :=
  broadcastInDim S4096x16x128 ![0, 1, 2] bcast_S4096x16x1_S4096x16x128_0_1_2 (broadcastInDim S4096x16x1 ![0, 1] bcast_S4096x16_S4096x16x1_0_1 x)
/-- The same as rows of 2048 columns. -/
def flat (x : FVec F S4096x16x128 .f32) : FVec F S4096x2048 .f32 := shapeCast _ x shapeCasts_S4096x16x128_S4096x2048
/-- A pattern's output by head. -/
def heads (x : FVec F S4096x2048 .bf16) : FVec F S4096x16x128 .f32 := shapeCast _ (extf .f32 x bitsLt_bf16_f32) shapeCasts_S4096x2048_S4096x16x128
/-- The largest logarithm. -/
def top (a b c : FVec F S4096x16 .f32) : FVec F S4096x16 .f32 := maximumf (maximumf a b) c
def ew (a t : FVec F S4096x16 .f32) : FVec F S4096x16 .f32 := Host.exp (subf a t)
/-- The combination of the three patterns' outputs. -/
def mixed (x3 x4 : FVec F S4096x2048 .bf16) (a b c : FVec F S4096x16 .f32) (o : FVec F S4096x16x128 .f32) : FVec F S4096x16x128 .f32 :=
  Host.divf (addf (addf (mulf (wide (ew a (top a b c))) (heads x3)) (mulf (wide (ew b (top a b c))) (heads x4))) (mulf (wide (ew c (top a b c))) o))
    (wide (addf (addf (ew a (top a b c)) (ew b (top a b c))) (ew c (top a b c))))
/-- The score's choice between a product and minus infinity. -/
def chosen (x24 : IVec S256x256 1) (x12 : FVec F S16x4x4x256x256 .f32) (k : FVec F S_ .f32) : FVec F S16x4x4x256x256 .f32 :=
  select (broadcastInDim S16x4x4x256x256 ![3, 4] bcast_S256x256_S16x4x4x256x256_3_4 x24) x12 (broadcastInDim S16x4x4x256x256 ![] bcast_S_S16x4x4x256x256 (id k))

variable (W : Valuation τ sig (Elt F))

theorem h0_v12 : after hostOps0 W (Proc.devRef .tc main_v12) = Cert.ReferenceIdeal.Read.val_main_v12 (F := F) (W (Proc.devRef .tc main_arg0)) (W (Proc.devRef .tc main_arg1)) := by
  simp only [hostOps0, TRef.unary, TRef.toBuf, TRef.ofBuf, cast_eq]
  after_results_simp
  rfl
theorem h0_v8 : after hostOps0 W (Proc.devRef .tc main_v8) = Cert.ReferenceIdeal.Read.val_main_v8 (F := F) (W (Proc.devRef .tc main_arg1)) := by
  simp only [hostOps0, TRef.unary, TRef.toBuf, TRef.ofBuf, cast_eq]
  after_results_simp
  rfl
theorem h0_v24 : after hostOps0 W (Proc.devRef .tc main_v24) = Cert.ReferenceIdeal.Read.val_main_v24 (F := F) := by
  simp only [hostOps0, TRef.unary, TRef.toBuf, TRef.ofBuf, cast_eq]
  after_results_simp
  rfl
theorem h0_cst : after hostOps0 W (Proc.devRef .tc main_cst_1) = constant S_ .f32 0xFF800000#32 := by
  simp only [hostOps0, TRef.unary, TRef.toBuf, TRef.ofBuf, cast_eq]
  after_results_simp
theorem h1_v25 : after hostOps0_1 W (Proc.devRef .tc main_v25) = chosen (W (Proc.devRef .tc main_v24)) (W (Proc.devRef .tc main_v12)) (W (Proc.devRef .tc main_cst_1)) := by
  simp only [hostOps0_1, TRef.unary, TRef.toBuf, TRef.ofBuf, cast_eq]
  after_results_simp
  rfl
theorem h1_v8 : after hostOps0_1 W (Proc.devRef .tc main_v8) = W (Proc.devRef .tc main_v8) := by
  simp only [hostOps0_1, TRef.unary, TRef.toBuf, TRef.ofBuf, cast_eq]
  after_results_simp

/-- What the third stretch leaves of the outputs and the logarithms, from the chosen scores and the values. -/
def smax (x : FVec F S16x4x4x256x256 .f32) : FVec F S16x4x4x256x1 .f32 :=
  broadcastInDim S16x4x4x256x1 ![0, 1, 2, 3] bcast_S16x4x4x256_S16x4x4x256x1_0_1_2_3 (Host.reduce FloatOps.maximumf x (constant S_ .f32 0xFF800000#32) reducesTo_S16x4x4x256x256_S16x4x4x256_d4 h_S_)
def sexp (x : FVec F S16x4x4x256x256 .f32) : FVec F S16x4x4x256x256 .f32 :=
  Host.exp (subf x (broadcastInDim S16x4x4x256x256 ![0, 1, 2, 3, 4] bcast_S16x4x4x256x1_S16x4x4x256x256_0_1_2_3_4 (smax x)))
def ssum (x : FVec F S16x4x4x256x256 .f32) : FVec F S16x4x4x256x1 .f32 :=
  broadcastInDim S16x4x4x256x1 ![0, 1, 2, 3] bcast_S16x4x4x256_S16x4x4x256x1_0_1_2_3 (Host.reduceAdd (sexp x) (constant S_ .f32 0x00000000#32) reducesTo_S16x4x4x256x256_S16x4x4x256_d4 h_S_)
def outK (x8 : FVec F S16x256x4x128 .f32) (x : FVec F S16x4x4x256x256 .f32) : FVec F S4096x16x128 .f32 :=
  shapeCast _ (transpose S16x256x4x4x128 [0, 4, 1, 3, 2] (Host.dotGeneral dot_S16x256x4x128_S16x4x4x256x256_S16x4x128x4x256_1_4_3_23_02_01 none x8
    (Host.divf (sexp x) (broadcastInDim S16x4x4x256x256 ![0, 1, 2, 3, 4] bcast_S16x4x4x256x1_S16x4x4x256x256_0_1_2_3_4 (ssum x)))) transposes_S16x4x128x4x256_S16x256x4x4x128_0_4_1_3_2) shapeCasts_S16x256x4x4x128_S4096x16x128
def lseK (x : FVec F S16x4x4x256x256 .f32) : FVec F S4096x16 .f32 :=
  shapeCast _ (transpose S16x256x4x4 [0, 3, 1, 2] (shapeCast _ (addf (smax x) (Host.log (ssum x))) shapeCasts_S16x4x4x256x1_S16x4x4x256) transposes_S16x4x4x256_S16x256x4x4_0_3_1_2) shapeCasts_S16x256x4x4_S4096x16

theorem outK_eq (x0 : (⟨S4096x6144, .bf16⟩ : BufTy).Contents (Elt F)) (x1 : (⟨S4096x1024, .bf16⟩ : BufTy).Contents (Elt F)) :
    outK (Cert.ReferenceIdeal.Read.val_main_v8 (F := F) x1) (chosen (Cert.ReferenceIdeal.Read.val_main_v24 (F := F)) (Cert.ReferenceIdeal.Read.val_main_v12 (F := F) x0 x1) (constant S_ .f32 0xFF800000#32))
      = Cert.ReferenceIdeal.Read.val_main_v48 x0 x1 := rfl
theorem lseK_eq (x0 : (⟨S4096x6144, .bf16⟩ : BufTy).Contents (Elt F)) (x1 : (⟨S4096x1024, .bf16⟩ : BufTy).Contents (Elt F)) :
    lseK (chosen (Cert.ReferenceIdeal.Read.val_main_v24 (F := F)) (Cert.ReferenceIdeal.Read.val_main_v12 (F := F) x0 x1) (constant S_ .f32 0xFF800000#32))
      = Cert.ReferenceIdeal.Read.val_main_v50 x0 x1 := rfl

set_option maxHeartbeats 2000000 in
theorem h2_v84 : after hostOps0_2 W (Proc.devRef .tc main_v84) = shapeCast S16x256x2048 (flat (mixed (W (Proc.devRef .tc main_arg3)) (W (Proc.devRef .tc main_arg4))
    (W (Proc.devRef .tc main_arg5)) (W (Proc.devRef .tc main_arg6)) (lseK (W (Proc.devRef .tc main_v25))) (outK (W (Proc.devRef .tc main_v8)) (W (Proc.devRef .tc main_v25))))) shapeCasts_S4096x2048_S16x256x2048 := by
  simp only [hostOps0_2, TRef.unary, TRef.toBuf, TRef.ofBuf, cast_eq]
  after_results_simp
  rfl
theorem h2_v87 : after hostOps0_2 W (Proc.devRef .tc main_v87) = shapeCast S16x256x2048 (flat (wide (lseK (W (Proc.devRef .tc main_v25))))) shapeCasts_S4096x2048_S16x256x2048 := by
  simp only [hostOps0_2, TRef.unary, TRef.toBuf, TRef.ofBuf, cast_eq]
  after_results_simp
  rfl
theorem h2_v85 : after hostOps0_2 W (Proc.devRef .tc main_v85) = shapeCast S16x256x2048 (flat (wide (W (Proc.devRef .tc main_arg5)))) shapeCasts_S4096x2048_S16x256x2048 := by
  simp only [hostOps0_2, TRef.unary, TRef.toBuf, TRef.ofBuf, cast_eq]
  after_results_simp
  rfl
theorem h2_v86 : after hostOps0_2 W (Proc.devRef .tc main_v86) = shapeCast S16x256x2048 (flat (wide (W (Proc.devRef .tc main_arg6)))) shapeCasts_S4096x2048_S16x256x2048 := by
  simp only [hostOps0_2, TRef.unary, TRef.toBuf, TRef.ofBuf, cast_eq]
  after_results_simp
  rfl
theorem h2_v81 : after hostOps0_2 W (Proc.devRef .tc main_v81) = shapeCast S16x256x6144 (W (Proc.devRef .tc main_arg0)) shapeCasts_S4096x6144_S16x256x6144 := by
  simp only [hostOps0_2, TRef.unary, TRef.toBuf, TRef.ofBuf, cast_eq]
  after_results_simp
  rfl
theorem h2_v82 : after hostOps0_2 W (Proc.devRef .tc main_v82) = shapeCast S16x256x1024 (W (Proc.devRef .tc main_arg1)) shapeCasts_S4096x1024_S16x256x1024 := by
  simp only [hostOps0_2, TRef.unary, TRef.toBuf, TRef.ofBuf, cast_eq]
  after_results_simp
  rfl
theorem h2_v83 : after hostOps0_2 W (Proc.devRef .tc main_v83) = shapeCast S16x256x2048 (W (Proc.devRef .tc main_arg2)) shapeCasts_S4096x2048_S16x256x2048 := by
  simp only [hostOps0_2, TRef.unary, TRef.toBuf, TRef.ofBuf, cast_eq]
  after_results_simp
  rfl
theorem h2_v89 : after hostOps0_2 W (Proc.devRef .tc main_v89_0) = shapeCast S16x256x6144 (W (Proc.devRef .tc main_arg7)) shapeCasts_S4096x6144_S16x256x6144 := by
  simp only [hostOps0_2, TRef.unary, TRef.toBuf, TRef.ofBuf, cast_eq]
  after_results_simp
  rfl

/-- An argument reaches the third stretch as launched. -/
theorem args_keep (b : Ref sig .tc) (h : b ∈ [main_arg0, main_arg1, main_arg2, main_arg3, main_arg4, main_arg5, main_arg6, main_arg7]) :
    after hostOps0_1 (after hostOps0 W) (Proc.devRef .tc b) = W (Proc.devRef .tc b) := by
  simp only [List.mem_cons, List.not_mem_nil, or_false] at h
  rcases h with rfl | rfl | rfl | rfl | rfl | rfl | rfl | rfl <;>
  · simp only [hostOps0, hostOps0_1, TRef.unary, TRef.toBuf, TRef.ofBuf, cast_eq]
    after_results_simp

variable (m : (ℓ : Loc nD τ sig) → Buf (Elt F) ℓ) (c : Dev nD)

theorem V0_eq : V0 m c = after hostOps0_2 (after hostOps0_1 (after hostOps0 (fun b => m (c, b)))) := by
  show after (List.flatten [hostOps0, hostOps0_1, hostOps0_2]) _ = _
  rw [← afterL_eq_after_flatten]
  rfl

theorem V84 : V m c main_v84 = shapeCast S16x256x2048 (flat (mixed (m ((c : Thread nD τ).loc main_arg3)) (m ((c : Thread nD τ).loc main_arg4))
    (m ((c : Thread nD τ).loc main_arg5)) (m ((c : Thread nD τ).loc main_arg6)) (Cert.ReferenceIdeal.Read.val_main_v50 (m ((c : Thread nD τ).loc main_arg0)) (m ((c : Thread nD τ).loc main_arg1)))
    (Cert.ReferenceIdeal.Read.val_main_v48 (m ((c : Thread nD τ).loc main_arg0)) (m ((c : Thread nD τ).loc main_arg1))))) shapeCasts_S4096x2048_S16x256x2048 := by
  show V0 m c (Proc.devRef .tc main_v84) = _
  rw [V0_eq, h2_v84, h1_v25, h0_v24, h0_v12, h0_cst, h1_v8, h0_v8, outK_eq, lseK_eq, args_keep _ main_arg3 (by decide), args_keep _ main_arg4 (by decide), args_keep _ main_arg5 (by decide), args_keep _ main_arg6 (by decide)]
theorem V87 : V m c main_v87 = shapeCast S16x256x2048 (flat (wide (Cert.ReferenceIdeal.Read.val_main_v50 (m ((c : Thread nD τ).loc main_arg0)) (m ((c : Thread nD τ).loc main_arg1))))) shapeCasts_S4096x2048_S16x256x2048 := by
  show V0 m c (Proc.devRef .tc main_v87) = _
  rw [V0_eq, h2_v87, h1_v25, h0_v24, h0_v12, h0_cst, lseK_eq]
theorem V85 : V m c main_v85 = shapeCast S16x256x2048 (flat (wide (F := F) (m ((c : Thread nD τ).loc main_arg5)))) shapeCasts_S4096x2048_S16x256x2048 := by
  show V0 m c (Proc.devRef .tc main_v85) = _
  rw [V0_eq, h2_v85, args_keep _ main_arg5 (by decide)]
theorem V86 : V m c main_v86 = shapeCast S16x256x2048 (flat (wide (F := F) (m ((c : Thread nD τ).loc main_arg6)))) shapeCasts_S4096x2048_S16x256x2048 := by
  show V0 m c (Proc.devRef .tc main_v86) = _
  rw [V0_eq, h2_v86, args_keep _ main_arg6 (by decide)]
theorem V81 : V m c main_v81 = shapeCast S16x256x6144 (m ((c : Thread nD τ).loc main_arg0)) shapeCasts_S4096x6144_S16x256x6144 := by
  show V0 m c (Proc.devRef .tc main_v81) = _
  rw [V0_eq, h2_v81, args_keep _ main_arg0 (by decide)]
theorem V82 : V m c main_v82 = shapeCast S16x256x1024 (m ((c : Thread nD τ).loc main_arg1)) shapeCasts_S4096x1024_S16x256x1024 := by
  show V0 m c (Proc.devRef .tc main_v82) = _
  rw [V0_eq, h2_v82, args_keep _ main_arg1 (by decide)]
theorem V83 : V m c main_v83 = shapeCast S16x256x2048 (m ((c : Thread nD τ).loc main_arg2)) shapeCasts_S4096x2048_S16x256x2048 := by
  show V0 m c (Proc.devRef .tc main_v83) = _
  rw [V0_eq, h2_v83, args_keep _ main_arg2 (by decide)]
theorem V89 : V m c main_v89_0 = shapeCast S16x256x6144 (m ((c : Thread nD τ).loc main_arg7)) shapeCasts_S4096x6144_S16x256x6144 := by
  show V0 m c (Proc.devRef .tc main_v89_0) = _
  rw [V0_eq, h2_v89, args_keep _ main_arg7 (by decide)]

end Cert.Att
-- ==== Proof.RefValA.lean ====
module

public import proofs.«01_k».proof.Proof.Gen.ReferenceIdeal.Read
public import proofs.«01_k».proof.Proof.Maths
public import Idealize.ShloMosaic.Lib.TwoAxisContraction

@[expose] public section

set_option maxRecDepth 16384

noncomputable section

namespace Cert.Att

open Cert.ReferenceIdeal Cert.ReferenceIdeal.Gen Cert.ReferenceIdeal.Read Idealize.ShloMosaic
open scoped BigOperators

/-- The arguments' entries are the real numbers of `X`. -/
structure Reads (X : Data) (x0 : (⟨S4096x6144, .bf16⟩ : BufTy).Contents (Elt Ideal)) (x1 : (⟨S4096x1024, .bf16⟩ : BufTy).Contents (Elt Ideal)) (x2 : (⟨S4096x2048, .f32⟩ : BufTy).Contents (Elt Ideal)) (x3 x4 : (⟨S4096x2048, .bf16⟩ : BufTy).Contents (Elt Ideal)) (x5 x6 : (⟨S4096x16, .f32⟩ : BufTy).Contents (Elt Ideal)) : Prop where
  q : ∀ (i : S4096x6144.Idx) (c : Fin 16) (t : Fin 256) (g r : Fin 4) (e : Fin 128), (i 0).val = 256 * c.val + t.val → (i 1).val = 4096 + 512 * g.val + 128 * r.val + e.val → x0 i = ((X.Q c t g r e : ℝ) : EReal)
  k : ∀ (i : S4096x1024.Idx) (c : Fin 16) (s : Fin 256) (g : Fin 4) (e : Fin 128), (i 0).val = 256 * c.val + s.val → (i 1).val = 128 * g.val + e.val → x1 i = ((X.K c s g e : ℝ) : EReal)
  v : ∀ (i : S4096x1024.Idx) (c : Fin 16) (s : Fin 256) (g : Fin 4) (e : Fin 128), (i 0).val = 256 * c.val + s.val → (i 1).val = 512 + 128 * g.val + e.val → x1 i = ((X.V c s g e : ℝ) : EReal)
  d : ∀ (i : S4096x2048.Idx) (c : Fin 16) (t : Fin 256) (g r : Fin 4) (e : Fin 128), (i 0).val = 256 * c.val + t.val → (i 1).val = 512 * g.val + 128 * r.val + e.val → x2 i = ((X.D c t g r e : ℝ) : EReal)
  o0 : ∀ (i : S4096x2048.Idx) (c : Fin 16) (t : Fin 256) (g r : Fin 4) (e : Fin 128), (i 0).val = 256 * c.val + t.val → (i 1).val = 512 * g.val + 128 * r.val + e.val → x3 i = ((X.O0 c t g r e : ℝ) : EReal)
  o1 : ∀ (i : S4096x2048.Idx) (c : Fin 16) (t : Fin 256) (g r : Fin 4) (e : Fin 128), (i 0).val = 256 * c.val + t.val → (i 1).val = 512 * g.val + 128 * r.val + e.val → x4 i = ((X.O1 c t g r e : ℝ) : EReal)
  l0 : ∀ (i : S4096x16.Idx) (c : Fin 16) (t : Fin 256) (g r : Fin 4), (i 0).val = 256 * c.val + t.val → (i 1).val = 4 * g.val + r.val → x5 i = ((X.L0 c t g r : ℝ) : EReal)
  l1 : ∀ (i : S4096x16.Idx) (c : Fin 16) (t : Fin 256) (g r : Fin 4), (i 0).val = 256 * c.val + t.val → (i 1).val = 4 * g.val + r.val → x6 i = ((X.L1 c t g r : ℝ) : EReal)

section
variable (X : Data) (c : Fin 16) (t : Fin 256) (g r : Fin 4)
/-- Whether a score is the largest. -/
def ind (s : Fin 256) : ℝ := if scm X c t g r s = ((mx X c t g r : ℝ) : EReal) then 1 else 0
theorem cnt_pos : 0 < ∑ s, ind X c t g r s := by
  obtain ⟨s, hs⟩ := mx_attained X c t g r
  refine Finset.sum_pos' (fun s _ => ?_) ⟨s, Finset.mem_univ _, ?_⟩
  · unfold ind; split <;> norm_num
  · unfold ind; rw [if_pos hs]; norm_num
/-- The three patterns' logarithms, exponentials, outputs and products with the gradient. -/
def lj (j : Fin 3) : ℝ := match j with
  | 0 => X.L0 c t g r
  | 1 => X.L1 c t g r
  | 2 => ls X c t g r
def ej (j : Fin 3) : ℝ := Real.exp (lj X c t g r j - tp X c t g r)
def oj (e : Fin 128) (j : Fin 3) : ℝ := match j with
  | 0 => X.O0 c t g r e
  | 1 => X.O1 c t g r e
  | 2 => ou X c t g r e
def dj (j : Fin 3) : ℝ := ∑ e, X.D c t g r e * oj X c t g r e j
theorem fold_lj : Finset.univ.fold max (⊥ : EReal) (fun j => ((lj X c t g r j : ℝ) : EReal)) = ((tp X c t g r : ℝ) : EReal) := by
  refine le_antisymm ?_ ?_
  · refine Finset.fold_max_le (c := ((tp X c t g r : ℝ) : EReal)) |>.mpr ⟨bot_le, fun j _ => EReal.coe_le_coe_iff.mpr ?_⟩
    have hj : j = 0 ∨ j = 1 ∨ j = 2 := by revert j; decide
    rcases hj with rfl | rfl | rfl
    · exact le_trans (le_max_left _ _) (le_max_left _ _)
    · exact le_trans (le_max_right _ _) (le_max_left _ _)
    · exact le_max_right _ _
  · unfold tp
    rw [← max_real, ← max_real]
    exact max_le (max_le (fold_max_ge (fun j => ((lj X c t g r j : ℝ) : EReal)) 0) (fold_max_ge (fun j => ((lj X c t g r j : ℝ) : EReal)) 1)) (fold_max_ge (fun j => ((lj X c t g r j : ℝ) : EReal)) 2)
theorem sum_ej : ∑ j, ej X c t g r j = dn X c t g r := by
  rw [Fin.sum_univ_three]; rfl
theorem dl_sum : (dj X c t g r 2 / dn X c t g r + -∑ j, dj X c t g r j * (1 / (dn X c t g r * dn X c t g r)) * ej X c t g r j) * ej X c t g r 2 = dl X c t g r := by
  rw [Fin.sum_univ_three]; rfl
end

/-- The mask at a query and a key. -/
theorem mask_iff (t s : Fin 256) : IntOp.andi (IntOp.cmpi .sge (IntOp.subi (BitVec.ofNat 32 t.val) (BitVec.ofNat 32 s.val)) 0#32)
    (IntOp.cmpi .sle (IntOp.subi (BitVec.ofNat 32 t.val) (BitVec.ofNat 32 s.val)) 128#32) = if sees t s then 1#1 else 0#1 := by
  revert t s
  decide +kernel
theorem v24 (i : S256x256.Idx) (t s : Fin 256) (h0 : (i 0).val = t.val) (h1 : (i 1).val = s.val) :
    val_main_v24 (F := Ideal) i = if sees t s then 1#1 else 0#1 := by
  rw [← mask_iff t s, ← h0, ← h1]
  simp only [val_main_v24_apply, val_main_v21_apply, val_main_v23_apply, val_main_v19_apply, val_main_v17_apply, val_main_v18_apply, val_main_v14_apply, val_main_v16_apply, val_main_v13_apply, val_main_v15_apply, val_main_v20_apply, val_main_v22_apply, val_main_c_apply, val_main_c_0_apply]
theorem v25_1 (i : S16x4x4x256x256.Idx) (t s : Fin 256) (h0 : (i 3).val = t.val) (h1 : (i 4).val = s.val) :
    val_main_v25_1 (F := Ideal) i = if sees t s then 1#1 else 0#1 := by
  rw [val_main_v25_1_apply]
  exact v24 _ t s h0 h1

variable (X : Data) (x0 : (⟨S4096x6144, .bf16⟩ : BufTy).Contents (Elt Ideal)) (x1 : (⟨S4096x1024, .bf16⟩ : BufTy).Contents (Elt Ideal)) (x2 : (⟨S4096x2048, .f32⟩ : BufTy).Contents (Elt Ideal)) (x3 x4 : (⟨S4096x2048, .bf16⟩ : BufTy).Contents (Elt Ideal)) (x5 x6 : (⟨S4096x16, .f32⟩ : BufTy).Contents (Elt Ideal))
include x2 x3 x4 x5 x6

theorem v6 (H : Reads X x0 x1 x2 x3 x4 x5 x6) (i : S16x256x4x4x128.Idx) (c : Fin 16) (t : Fin 256) (g : Fin 4) (r : Fin 4) (e : Fin 128) (h0 : (i 0).val = c.val) (h1 : (i 1).val = t.val) (h2 : (i 2).val = g.val) (h3 : (i 3).val = r.val) (h4 : (i 4).val = e.val) :
    val_main_v6 (F := Ideal) x0 i = ((X.Q c t g r e : ℝ) : EReal) := by
  rw [val_main_v6_apply, val_main_v1_apply, val_main_v0_apply]
  exact H.q _ c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v7 (H : Reads X x0 x1 x2 x3 x4 x5 x6) (i : S16x256x4x128.Idx) (c : Fin 16) (g : Fin 4) (s : Fin 256) (e : Fin 128) (h0 : (i 0).val = c.val) (h1 : (i 1).val = s.val) (h2 : (i 2).val = g.val) (h3 : (i 3).val = e.val) :
    val_main_v7 (F := Ideal) x1 i = ((X.K c s g e : ℝ) : EReal) := by
  rw [val_main_v7_apply, val_main_v3_apply, val_main_v2_apply]
  exact H.k _ c s g e (by (first | assumption | rfl | (have bc := c.isLt; have bg := g.isLt; have bs := s.isLt; have be := e.isLt; dsimp only; omega))) (by (first | assumption | rfl | (have bc := c.isLt; have bg := g.isLt; have bs := s.isLt; have be := e.isLt; dsimp only; omega)))

theorem v8 (H : Reads X x0 x1 x2 x3 x4 x5 x6) (i : S16x256x4x128.Idx) (c : Fin 16) (g : Fin 4) (s : Fin 256) (e : Fin 128) (h0 : (i 0).val = c.val) (h1 : (i 1).val = s.val) (h2 : (i 2).val = g.val) (h3 : (i 3).val = e.val) :
    val_main_v8 (F := Ideal) x1 i = ((X.V c s g e : ℝ) : EReal) := by
  rw [val_main_v8_apply, val_main_v5_apply, val_main_v4_apply]
  exact H.v _ c s g e (by (first | assumption | rfl | (have bc := c.isLt; have bg := g.isLt; have bs := s.isLt; have be := e.isLt; dsimp only; omega))) (by (first | assumption | rfl | (have bc := c.isLt; have bg := g.isLt; have bs := s.isLt; have be := e.isLt; dsimp only; omega)))

theorem v9 (H : Reads X x0 x1 x2 x3 x4 x5 x6) (i : S16x4x256x256x4.Idx) (c : Fin 16) (t : Fin 256) (g : Fin 4) (r : Fin 4) (s : Fin 256) (h0 : (i 0).val = c.val) (h1 : (i 1).val = g.val) (h2 : (i 2).val = s.val) (h3 : (i 3).val = t.val) (h4 : (i 4).val = r.val) :
    val_main_v9 (F := Ideal) x0 x1 i = ((∑ e, X.K c s g e * X.Q c t g r e : ℝ) : EReal) := by
  rw [val_main_v9_apply, Finset.sum_congr rfl fun k _ => (congrArg₂ (· * ·) (v7 X x0 x1 x2 x3 x4 x5 x6 H (lidx_main_v9 i k) c g s k (by (first | assumption | rfl)) (by (first | assumption | rfl)) (by (first | assumption | rfl)) (by (first | assumption | rfl))) (v6 X x0 x1 x2 x3 x4 x5 x6 H (ridx_main_v9 i k) c t g r k (by (first | assumption | rfl)) (by (first | assumption | rfl)) (by (first | assumption | rfl)) (by (first | assumption | rfl)) (by (first | assumption | rfl)))).trans (EReal.coe_mul _ _).symm, coe_sum]

theorem v10 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v10 (F := Ideal) x0 x1 i = ((∑ e, X.K c s g e * X.Q c t g r e : ℝ) : EReal) := by
  rw [val_main_v10_apply]
  exact v9 X x0 x1 x2 x3 x4 x5 x6 H (idx_main_v10 i) c t g r s (by (first | assumption | rfl)) (by (first | assumption | rfl)) (by (first | assumption | rfl)) (by (first | assumption | rfl)) (by (first | assumption | rfl))

theorem v11 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v11 (F := Ideal)  i = ((kap : ℝ) : EReal) := by
  rw [val_main_v11_apply]
  exact kap_eq

theorem v12 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v12 (F := Ideal) x0 x1 i = ((sc X c t g r s : ℝ) : EReal) := by
  rw [val_main_v12_apply, v10 X x0 x1 x2 x3 x4 x5 x6 H (i) c t g r s (by (first | assumption | rfl)) (by (first | assumption | rfl)) (by (first | assumption | rfl)) (by (first | assumption | rfl)) (by (first | assumption | rfl)), v11 X x0 x1 x2 x3 x4 x5 x6 H (i) c t g r s (by (first | assumption | rfl)) (by (first | assumption | rfl)) (by (first | assumption | rfl)) (by (first | assumption | rfl)) (by (first | assumption | rfl))]
  exact (EReal.coe_mul _ _).symm

theorem v25_0 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v25_0 (F := Ideal) x0 x1 i = scm X c t g r s := by
  rw [val_main_v25_0_apply, v25_1 i t s h3 h4, v12 X x0 x1 x2 x3 x4 x5 x6 H (i) c t g r s (by (first | assumption | rfl)) (by (first | assumption | rfl)) (by (first | assumption | rfl)) (by (first | assumption | rfl)) (by (first | assumption | rfl)), val_main_call0_v2_apply, val_main_call0_v0_apply]
  unfold scm
  by_cases h : sees t s
  · rw [if_pos h, if_pos h]; exact if_pos rfl
  · rw [if_neg h, if_neg h]; exact (if_neg (by decide)).trans bot_eq

theorem v26 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v26 (F := Ideal) x0 x1 i = ((mx X c t g r : ℝ) : EReal) := by
  have hi : i = ix4 c g r t := by
    funext a; match a with
    | ⟨0, _⟩ => exact Fin.ext h0
    | ⟨1, _⟩ => exact Fin.ext h1
    | ⟨2, _⟩ => exact Fin.ext h2
    | ⟨3, _⟩ => exact Fin.ext h3
  subst hi
  rw [mx_eq]
  have e : ∀ s : Fin 256, val_main_v25_0 (F := Ideal) x0 x1 (ix5 c g r t s) = scm X c t g r s := fun s => v25_0 X x0 x1 x2 x3 x4 x5 x6 H _ c t g r s rfl rfl rfl rfl rfl
  rw [show scm X c t g r = fun s => val_main_v25_0 (F := Ideal) x0 x1 (ix5 c g r t s) from funext fun s => (e s).symm]
  unfold val_main_v26
  generalize val_main_v25_0 (F := Ideal) x0 x1 = y
  unfold val_main_cst_2
  pointwise
  rw [bot_eq]

theorem v27 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v27 (F := Ideal) x0 x1 i = ((mx X c t g r : ℝ) : EReal) := by
  rw [val_main_v27_apply]
  exact v26 X x0 x1 x2 x3 x4 x5 x6 H (idx_main_v27 i) c t g r (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega)))

theorem v28 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v28 (F := Ideal) x0 x1 i = ((mx X c t g r : ℝ) : EReal) := by
  rw [val_main_v28_apply]
  exact v27 X x0 x1 x2 x3 x4 x5 x6 H (idx_main_v28 i) c t g r (by (first | assumption | rfl)) (by (first | assumption | rfl)) (by (first | assumption | rfl)) (by (first | assumption | rfl))

theorem v32 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v32 (F := Ideal) x0 x1 i = ((mx X c t g r : ℝ) : EReal) := by
  rw [val_main_v32_apply]
  exact v26 X x0 x1 x2 x3 x4 x5 x6 H (idx_main_v32 i) c t g r (by (first | assumption | rfl)) (by (first | assumption | rfl)) (by (first | assumption | rfl)) (by (first | assumption | rfl))

theorem v33 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v33 (F := Ideal) x0 x1 i = ((mx X c t g r : ℝ) : EReal) := by
  rw [val_main_v33_apply]
  exact v32 X x0 x1 x2 x3 x4 x5 x6 H (idx_main_v33 i) c t g r (by (first | assumption | rfl)) (by (first | assumption | rfl)) (by (first | assumption | rfl)) (by (first | assumption | rfl))

theorem v30 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v30 (F := Ideal) x0 x1 i = ((ind X c t g r s : ℝ) : EReal) := by
  rw [val_main_v30_apply, val_main_v29_apply, v25_0 X x0 x1 x2 x3 x4 x5 x6 H (i) c t g r s (by (first | assumption | rfl)) (by (first | assumption | rfl)) (by (first | assumption | rfl)) (by (first | assumption | rfl)) (by (first | assumption | rfl)), v28 X x0 x1 x2 x3 x4 x5 x6 H (i) c t g r s (by (first | assumption | rfl)) (by (first | assumption | rfl)) (by (first | assumption | rfl)) (by (first | assumption | rfl)) (by (first | assumption | rfl))]
  unfold ind
  by_cases h : scm X c t g r s = ((mx X c t g r : ℝ) : EReal)
  · rw [if_pos h, h]
    show (((BitVec.ofBool (decide (((mx X c t g r : ℝ) : EReal) = ((mx X c t g r : ℝ) : EReal)))).toNat : ℝ) : EReal) = _
    simp
  · rw [if_neg h]
    show (((BitVec.ofBool (decide (scm X c t g r s = ((mx X c t g r : ℝ) : EReal)))).toNat : ℝ) : EReal) = _
    simp [h]

theorem v31 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v31 (F := Ideal) x0 x1 i = ((∑ s, ind X c t g r s : ℝ) : EReal) := by
  rw [val_main_v31_apply, Finset.sum_congr rfl fun k _ => v30 X x0 x1 x2 x3 x4 x5 x6 H (idx_main_v31 i k) c t g r k (by (first | assumption | rfl)) (by (first | assumption | rfl)) (by (first | assumption | rfl)) (by (first | assumption | rfl)) (by (first | assumption | rfl)), coe_sum]
  exact (congrArg (· + _) Ideal.ofBits_zero_f32).trans (zero_add _)

theorem v34 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v34 (F := Ideal) x0 x1 i = scm X c t g r s - ((mx X c t g r : ℝ) : EReal) := by
  rw [val_main_v34_apply, v25_0 X x0 x1 x2 x3 x4 x5 x6 H (i) c t g r s (by (first | assumption | rfl)) (by (first | assumption | rfl)) (by (first | assumption | rfl)) (by (first | assumption | rfl)) (by (first | assumption | rfl)), v33 X x0 x1 x2 x3 x4 x5 x6 H (i) c t g r s (by (first | assumption | rfl)) (by (first | assumption | rfl)) (by (first | assumption | rfl)) (by (first | assumption | rfl)) (by (first | assumption | rfl))]
  rfl

theorem v35 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v35 (F := Ideal) x0 x1 i = ((ex X c t g r s : ℝ) : EReal) := by
  rw [val_main_v35_apply, v34 X x0 x1 x2 x3 x4 x5 x6 H (i) c t g r s (by (first | assumption | rfl)) (by (first | assumption | rfl)) (by (first | assumption | rfl)) (by (first | assumption | rfl)) (by (first | assumption | rfl))]
  exact exp_scm X c t g r s

theorem v36 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v36 (F := Ideal) x0 x1 i = ((sm X c t g r : ℝ) : EReal) := by
  rw [val_main_v36_apply, Finset.sum_congr rfl fun k _ => v35 X x0 x1 x2 x3 x4 x5 x6 H (idx_main_v36 i k) c t g r k (by (first | assumption | rfl)) (by (first | assumption | rfl)) (by (first | assumption | rfl)) (by (first | assumption | rfl)) (by (first | assumption | rfl)), coe_sum]
  exact (congrArg (· + _) Ideal.ofBits_zero_f32).trans (zero_add _)

theorem v37 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v37 (F := Ideal) x0 x1 i = ((sm X c t g r : ℝ) : EReal) := by
  rw [val_main_v37_apply]
  exact v36 X x0 x1 x2 x3 x4 x5 x6 H (idx_main_v37 i) c t g r (by (first | assumption | rfl)) (by (first | assumption | rfl)) (by (first | assumption | rfl)) (by (first | assumption | rfl))

theorem v38 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v38 (F := Ideal) x0 x1 i = ((sm X c t g r : ℝ) : EReal) := by
  rw [val_main_v38_apply]
  exact v37 X x0 x1 x2 x3 x4 x5 x6 H (idx_main_v38 i) c t g r (by (first | assumption | rfl)) (by (first | assumption | rfl)) (by (first | assumption | rfl)) (by (first | assumption | rfl))

theorem v39 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v39 (F := Ideal) x0 x1 i = ((pr X c t g r s : ℝ) : EReal) := by
  rw [val_main_v39_apply, v35 X x0 x1 x2 x3 x4 x5 x6 H (i) c t g r s (by (first | assumption | rfl)) (by (first | assumption | rfl)) (by (first | assumption | rfl)) (by (first | assumption | rfl)) (by (first | assumption | rfl)), v38 X x0 x1 x2 x3 x4 x5 x6 H (i) c t g r s (by (first | assumption | rfl)) (by (first | assumption | rfl)) (by (first | assumption | rfl)) (by (first | assumption | rfl)) (by (first | assumption | rfl))]
  exact div_real _ _ ((sm_pos X c t g r).ne')

theorem v40 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v40 (F := Ideal) x0 x1 i = ((sm X c t g r * sm X c t g r : ℝ) : EReal) := by
  rw [val_main_v40_apply, v37 X x0 x1 x2 x3 x4 x5 x6 H (i) c t g r (by (first | assumption | rfl)) (by (first | assumption | rfl)) (by (first | assumption | rfl)) (by (first | assumption | rfl))]
  exact (EReal.coe_mul _ _).symm

theorem v42 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v42 (F := Ideal) x0 x1 i = ((1 / (sm X c t g r * sm X c t g r) : ℝ) : EReal) := by
  rw [val_main_v42_apply, v40 X x0 x1 x2 x3 x4 x5 x6 H (i) c t g r (by (first | assumption | rfl)) (by (first | assumption | rfl)) (by (first | assumption | rfl)) (by (first | assumption | rfl)), val_main_v41_apply, val_main_cst_5_apply]
  exact (congrArg (Ideal.div · _) Ideal.ofBits_one_f32).trans (div_real 1 _ (mul_ne_zero (sm_pos X c t g r).ne' (sm_pos X c t g r).ne'))

theorem v43 (H : Reads X x0 x1 x2 x3 x4 x5 x6) (i : S16x4x128x4x256.Idx) (c : Fin 16) (t : Fin 256) (g : Fin 4) (r : Fin 4) (e : Fin 128) (h0 : (i 0).val = c.val) (h1 : (i 1).val = g.val) (h2 : (i 2).val = e.val) (h3 : (i 3).val = r.val) (h4 : (i 4).val = t.val) :
    val_main_v43 (F := Ideal) x0 x1 i = ((ou X c t g r e : ℝ) : EReal) := by
  rw [val_main_v43_apply, Finset.sum_congr rfl fun k _ => (congrArg₂ (· * ·) (v8 X x0 x1 x2 x3 x4 x5 x6 H (lidx_main_v43 i k) c g k e (by (first | assumption | rfl)) (by (first | assumption | rfl)) (by (first | assumption | rfl)) (by (first | assumption | rfl))) (v39 X x0 x1 x2 x3 x4 x5 x6 H (ridx_main_v43 i k) c t g r k (by (first | assumption | rfl)) (by (first | assumption | rfl)) (by (first | assumption | rfl)) (by (first | assumption | rfl)) (by (first | assumption | rfl)))).trans (EReal.coe_mul _ _).symm, coe_sum]
  rfl

theorem v44 (H : Reads X x0 x1 x2 x3 x4 x5 x6) (i : S16x256x4x4x128.Idx) (c : Fin 16) (t : Fin 256) (g : Fin 4) (r : Fin 4) (e : Fin 128) (h0 : (i 0).val = c.val) (h1 : (i 1).val = t.val) (h2 : (i 2).val = g.val) (h3 : (i 3).val = r.val) (h4 : (i 4).val = e.val) :
    val_main_v44 (F := Ideal) x0 x1 i = ((ou X c t g r e : ℝ) : EReal) := by
  rw [val_main_v44_apply]
  exact v43 X x0 x1 x2 x3 x4 x5 x6 H (idx_main_v44 i) c t g r e (by (first | assumption | rfl)) (by (first | assumption | rfl)) (by (first | assumption | rfl)) (by (first | assumption | rfl)) (by (first | assumption | rfl))

theorem v45 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v45 (F := Ideal) x0 x1 i = ((Real.log (sm X c t g r) : ℝ) : EReal) := by
  rw [val_main_v45_apply, v37 X x0 x1 x2 x3 x4 x5 x6 H (i) c t g r (by (first | assumption | rfl)) (by (first | assumption | rfl)) (by (first | assumption | rfl)) (by (first | assumption | rfl))]
  exact log_real _ (sm_pos X c t g r)

theorem v46 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v46 (F := Ideal) x0 x1 i = ((ls X c t g r : ℝ) : EReal) := by
  rw [val_main_v46_apply, v32 X x0 x1 x2 x3 x4 x5 x6 H (i) c t g r (by (first | assumption | rfl)) (by (first | assumption | rfl)) (by (first | assumption | rfl)) (by (first | assumption | rfl)), v45 X x0 x1 x2 x3 x4 x5 x6 H (i) c t g r (by (first | assumption | rfl)) (by (first | assumption | rfl)) (by (first | assumption | rfl)) (by (first | assumption | rfl))]
  exact (EReal.coe_add _ _).symm

theorem v47 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v47 (F := Ideal) x0 x1 i = ((ls X c t g r : ℝ) : EReal) := by
  rw [val_main_v47_apply]
  exact v46 X x0 x1 x2 x3 x4 x5 x6 H (idx_main_v47 i) c t g r (by (first | assumption | rfl | (have bc := c.isLt; have bt := t.isLt; have bg := g.isLt; have br := r.isLt; dsimp only; omega))) (by (first | assumption | rfl | (have bc := c.isLt; have bt := t.isLt; have bg := g.isLt; have br := r.isLt; dsimp only; omega))) (by (first | assumption | rfl | (have bc := c.isLt; have bt := t.isLt; have bg := g.isLt; have br := r.isLt; dsimp only; omega))) (by (first | assumption | rfl | (have bc := c.isLt; have bt := t.isLt; have bg := g.isLt; have br := r.isLt; dsimp only; omega)))

theorem v48 (H : Reads X x0 x1 x2 x3 x4 x5 x6) (i : S4096x16x128.Idx) (c : Fin 16) (t : Fin 256) (g : Fin 4) (r : Fin 4) (e : Fin 128) (h0 : (i 0).val = 256 * c.val + t.val) (h1 : (i 1).val = 4 * g.val + r.val) (h2 : (i 2).val = e.val) :
    val_main_v48 (F := Ideal) x0 x1 i = ((ou X c t g r e : ℝ) : EReal) := by
  rw [val_main_v48_apply]
  exact v44 X x0 x1 x2 x3 x4 x5 x6 H (idx_main_v48 i) c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v49 (H : Reads X x0 x1 x2 x3 x4 x5 x6) (i : S16x256x4x4.Idx) (c : Fin 16) (t : Fin 256) (g : Fin 4) (r : Fin 4) (h0 : (i 0).val = c.val) (h1 : (i 1).val = t.val) (h2 : (i 2).val = g.val) (h3 : (i 3).val = r.val) :
    val_main_v49 (F := Ideal) x0 x1 i = ((ls X c t g r : ℝ) : EReal) := by
  rw [val_main_v49_apply]
  exact v47 X x0 x1 x2 x3 x4 x5 x6 H (idx_main_v49 i) c t g r (by (first | assumption | rfl)) (by (first | assumption | rfl)) (by (first | assumption | rfl)) (by (first | assumption | rfl))

theorem v50 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v50 (F := Ideal) x0 x1 i = ((ls X c t g r : ℝ) : EReal) := by
  rw [val_main_v50_apply]
  exact v49 X x0 x1 x2 x3 x4 x5 x6 H (idx_main_v50 i) c t g r (by (first | assumption | rfl | (have bc := c.isLt; have bt := t.isLt; have bg := g.isLt; have br := r.isLt; dsimp only; omega))) (by (first | assumption | rfl | (have bc := c.isLt; have bt := t.isLt; have bg := g.isLt; have br := r.isLt; dsimp only; omega))) (by (first | assumption | rfl | (have bc := c.isLt; have bt := t.isLt; have bg := g.isLt; have br := r.isLt; dsimp only; omega))) (by (first | assumption | rfl | (have bc := c.isLt; have bt := t.isLt; have bg := g.isLt; have br := r.isLt; dsimp only; omega)))

theorem v51 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v51 (F := Ideal) x5 i = ((X.L0 c t g r : ℝ) : EReal) := by
  rw [val_main_v51_apply]
  exact H.l0 _ c t g r (by (first | assumption | rfl | (have bc := c.isLt; have bt := t.isLt; have bg := g.isLt; have br := r.isLt; have u := (i 0).isLt; dsimp at u ⊢; omega))) (by (first | assumption | rfl | (have bc := c.isLt; have bt := t.isLt; have bg := g.isLt; have br := r.isLt; have u := (i 0).isLt; dsimp at u ⊢; omega)))

theorem v52 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v52 (F := Ideal) x6 i = ((X.L1 c t g r : ℝ) : EReal) := by
  rw [val_main_v52_apply]
  exact H.l1 _ c t g r (by (first | assumption | rfl | (have bc := c.isLt; have bt := t.isLt; have bg := g.isLt; have br := r.isLt; have u := (i 0).isLt; dsimp at u ⊢; omega))) (by (first | assumption | rfl | (have bc := c.isLt; have bt := t.isLt; have bg := g.isLt; have br := r.isLt; have u := (i 0).isLt; dsimp at u ⊢; omega)))

theorem v53 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v53 (F := Ideal) x0 x1 i = ((ls X c t g r : ℝ) : EReal) := by
  rw [val_main_v53_apply]
  exact v50 X x0 x1 x2 x3 x4 x5 x6 H (idx_main_v53 i) c t g r (by (first | assumption | rfl)) (by (first | assumption | rfl))

theorem v54 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v54 (F := Ideal) x0 x1 x5 x6 i = ((lj X c t g r j : ℝ) : EReal) := by
  have hi : i = ix3 (i 0) (i 1) (i 2) := by
    funext a; match a with
    | ⟨0, _⟩ => rfl
    | ⟨1, _⟩ => rfl
    | ⟨2, _⟩ => rfl
  have hj : j = 0 ∨ j = 1 ∨ j = 2 := (by decide : ∀ j : Fin 3, j = 0 ∨ j = 1 ∨ j = 2) j
  unfold val_main_v54
  generalize e0 : val_main_v51 (F := Ideal) x5 = y0
  generalize e1 : val_main_v52 (F := Ideal) x6 = y1
  generalize e2 : val_main_v53 (F := Ideal) x0 x1 = y2
  rw [hi]
  pointwise
  rcases hj with rfl | rfl | rfl
  · subst e0; simp only [h0, Fin.val_zero, Fin.val_one, Fin.val_two]; simp
    exact v51 X x0 x1 x2 x3 x4 x5 x6 H (_) c t g r (by (first | assumption | rfl)) (by (first | assumption | rfl))
  · subst e1; simp only [h0, Fin.val_zero, Fin.val_one, Fin.val_two]; simp
    exact v52 X x0 x1 x2 x3 x4 x5 x6 H (_) c t g r (by (first | assumption | rfl)) (by (first | assumption | rfl))
  · subst e2; simp only [h0, Fin.val_zero, Fin.val_one, Fin.val_two]; simp
    exact v53 X x0 x1 x2 x3 x4 x5 x6 H (_) c t g r (by (first | assumption | rfl)) (by (first | assumption | rfl))

theorem v57 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v57 (F := Ideal) x0 x1 x5 x6 i = ((tp X c t g r : ℝ) : EReal) := by
  have hi : i = ix2 (i 0) (i 1) := by
    funext a; match a with
    | ⟨0, _⟩ => rfl
    | ⟨1, _⟩ => rfl
  have e : (fun j : Fin 3 => val_main_v54 (F := Ideal) x0 x1 x5 x6 (ix3 j (i 0) (i 1))) = fun j => ((lj X c t g r j : ℝ) : EReal) := funext fun j => v54 X x0 x1 x2 x3 x4 x5 x6 H _ c t g r j rfl h0 h1
  rw [← fold_lj, ← e]
  unfold val_main_v57
  generalize val_main_v54 (F := Ideal) x0 x1 x5 x6 = y
  unfold val_main_cst_8
  rw [hi]
  pointwise
  rw [bot_eq]

theorem v64 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v64 (F := Ideal) x0 x1 x5 x6 i = ((tp X c t g r : ℝ) : EReal) := by
  rw [val_main_v64_apply, v57 X x0 x1 x2 x3 x4 x5 x6 H (i) c t g r (by (first | assumption | rfl)) (by (first | assumption | rfl)), val_main_v63_apply, val_main_cst_10_apply]
  exact (congrArg (max · _) bot_eq).trans (max_eq_right bot_le)

theorem v74 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v74 (F := Ideal) x0 x1 x5 x6 i = ((tp X c t g r : ℝ) : EReal) := by
  rw [val_main_v74_apply]
  exact v64 X x0 x1 x2 x3 x4 x5 x6 H (idx_main_v74 i) c t g r (by (first | assumption | rfl)) (by (first | assumption | rfl))

theorem v75 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v75 (F := Ideal) x0 x1 x5 x6 i = ((tp X c t g r : ℝ) : EReal) := by
  rw [val_main_v75_apply]
  exact v74 X x0 x1 x2 x3 x4 x5 x6 H (idx_main_v75 i) c t g r (by (first | assumption | rfl)) (by (first | assumption | rfl))

theorem v76 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v76 (F := Ideal) x0 x1 x5 x6 i = ((lj X c t g r j - tp X c t g r : ℝ) : EReal) := by
  rw [val_main_v76_apply, v54 X x0 x1 x2 x3 x4 x5 x6 H (i) c t g r j (by (first | assumption | rfl)) (by (first | assumption | rfl)) (by (first | assumption | rfl)), v75 X x0 x1 x2 x3 x4 x5 x6 H (i) c t g r j (by (first | assumption | rfl)) (by (first | assumption | rfl)) (by (first | assumption | rfl))]
  exact (EReal.coe_sub _ _).symm

theorem v77 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v77 (F := Ideal) x0 x1 x5 x6 i = ((ej X c t g r j : ℝ) : EReal) := by
  rw [val_main_v77_apply, v76 X x0 x1 x2 x3 x4 x5 x6 H (i) c t g r j (by (first | assumption | rfl)) (by (first | assumption | rfl)) (by (first | assumption | rfl))]
  exact Ideal.exp_coe _

theorem v78 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v78 (F := Ideal) x0 x1 x5 x6 i = ((dn X c t g r : ℝ) : EReal) := by
  rw [val_main_v78_apply, Finset.sum_congr rfl fun k _ => v77 X x0 x1 x2 x3 x4 x5 x6 H (idx_main_v78 i k) c t g r k (by (first | assumption | rfl)) (by (first | assumption | rfl)) (by (first | assumption | rfl)), coe_sum]
  rw [sum_ej]; exact (congrArg (· + _) Ideal.ofBits_zero_f32).trans (zero_add _)

theorem v79 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v79 (F := Ideal) x0 x1 x5 x6 i = ((dn X c t g r : ℝ) : EReal) := by
  rw [val_main_v79_apply]
  exact v78 X x0 x1 x2 x3 x4 x5 x6 H (idx_main_v79 i) c t g r (by (first | assumption | rfl)) (by (first | assumption | rfl))

theorem v80 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v80 (F := Ideal) x0 x1 x5 x6 i = ((dn X c t g r : ℝ) : EReal) := by
  rw [val_main_v80_apply]
  exact v79 X x0 x1 x2 x3 x4 x5 x6 H (idx_main_v80 i) c t g r (by (first | assumption | rfl)) (by (first | assumption | rfl))

theorem v81 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v81 (F := Ideal) x0 x1 x5 x6 i = ((ej X c t g r j / dn X c t g r : ℝ) : EReal) := by
  rw [val_main_v81_apply, v77 X x0 x1 x2 x3 x4 x5 x6 H (i) c t g r j (by (first | assumption | rfl)) (by (first | assumption | rfl)) (by (first | assumption | rfl)), v80 X x0 x1 x2 x3 x4 x5 x6 H (i) c t g r j (by (first | assumption | rfl)) (by (first | assumption | rfl)) (by (first | assumption | rfl))]
  exact div_real _ _ ((dn_pos X c t g r).ne')

theorem v82 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v82 (F := Ideal) x0 x1 x5 x6 i = ((dn X c t g r * dn X c t g r : ℝ) : EReal) := by
  rw [val_main_v82_apply, v79 X x0 x1 x2 x3 x4 x5 x6 H (i) c t g r (by (first | assumption | rfl)) (by (first | assumption | rfl))]
  exact (EReal.coe_mul _ _).symm

theorem v84 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v84 (F := Ideal) x0 x1 x5 x6 i = ((1 / (dn X c t g r * dn X c t g r) : ℝ) : EReal) := by
  rw [val_main_v84_apply, v82 X x0 x1 x2 x3 x4 x5 x6 H (i) c t g r (by (first | assumption | rfl)) (by (first | assumption | rfl)), val_main_v83_apply, val_main_cst_17_apply]
  exact (congrArg (Ideal.div · _) Ideal.ofBits_one_f32).trans (div_real 1 _ (mul_ne_zero (dn_pos X c t g r).ne' (dn_pos X c t g r).ne'))

theorem v85 (H : Reads X x0 x1 x2 x3 x4 x5 x6) (i : S3x4096x16x1.Idx) (c : Fin 16) (t : Fin 256) (g : Fin 4) (r : Fin 4) (j : Fin 3) (h0 : (i 0).val = j.val) (h1 : (i 1).val = 256 * c.val + t.val) (h2 : (i 2).val = 4 * g.val + r.val) :
    val_main_v85 (F := Ideal) x0 x1 x5 x6 i = ((ej X c t g r j / dn X c t g r : ℝ) : EReal) := by
  rw [val_main_v85_apply]
  exact v81 X x0 x1 x2 x3 x4 x5 x6 H (idx_main_v85 i) c t g r j (by (first | assumption | rfl)) (by (first | assumption | rfl)) (by (first | assumption | rfl))

theorem v87 (H : Reads X x0 x1 x2 x3 x4 x5 x6) (i : S4096x16x128.Idx) (c : Fin 16) (t : Fin 256) (g : Fin 4) (r : Fin 4) (e : Fin 128) (h0 : (i 0).val = 256 * c.val + t.val) (h1 : (i 1).val = 4 * g.val + r.val) (h2 : (i 2).val = e.val) :
    val_main_v87 (F := Ideal) x3 i = ((X.O0 c t g r e : ℝ) : EReal) := by
  rw [val_main_v87_apply, val_main_v86_apply]
  exact H.o0 _ c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v89 (H : Reads X x0 x1 x2 x3 x4 x5 x6) (i : S4096x16x128.Idx) (c : Fin 16) (t : Fin 256) (g : Fin 4) (r : Fin 4) (e : Fin 128) (h0 : (i 0).val = 256 * c.val + t.val) (h1 : (i 1).val = 4 * g.val + r.val) (h2 : (i 2).val = e.val) :
    val_main_v89 (F := Ideal) x4 i = ((X.O1 c t g r e : ℝ) : EReal) := by
  rw [val_main_v89_apply, val_main_v88_apply]
  exact H.o1 _ c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v90 (H : Reads X x0 x1 x2 x3 x4 x5 x6) (i : S1x4096x16x128.Idx) (c : Fin 16) (t : Fin 256) (g : Fin 4) (r : Fin 4) (e : Fin 128) (h1 : (i 1).val = 256 * c.val + t.val) (h2 : (i 2).val = 4 * g.val + r.val) (h3 : (i 3).val = e.val) :
    val_main_v90 (F := Ideal) x3 i = ((X.O0 c t g r e : ℝ) : EReal) := by
  rw [val_main_v90_apply]
  exact v87 X x0 x1 x2 x3 x4 x5 x6 H (idx_main_v90 i) c t g r e (by (first | assumption | rfl)) (by (first | assumption | rfl)) (by (first | assumption | rfl))

theorem v91 (H : Reads X x0 x1 x2 x3 x4 x5 x6) (i : S1x4096x16x128.Idx) (c : Fin 16) (t : Fin 256) (g : Fin 4) (r : Fin 4) (e : Fin 128) (h1 : (i 1).val = 256 * c.val + t.val) (h2 : (i 2).val = 4 * g.val + r.val) (h3 : (i 3).val = e.val) :
    val_main_v91 (F := Ideal) x4 i = ((X.O1 c t g r e : ℝ) : EReal) := by
  rw [val_main_v91_apply]
  exact v89 X x0 x1 x2 x3 x4 x5 x6 H (idx_main_v91 i) c t g r e (by (first | assumption | rfl)) (by (first | assumption | rfl)) (by (first | assumption | rfl))

theorem v92 (H : Reads X x0 x1 x2 x3 x4 x5 x6) (i : S1x4096x16x128.Idx) (c : Fin 16) (t : Fin 256) (g : Fin 4) (r : Fin 4) (e : Fin 128) (h1 : (i 1).val = 256 * c.val + t.val) (h2 : (i 2).val = 4 * g.val + r.val) (h3 : (i 3).val = e.val) :
    val_main_v92 (F := Ideal) x0 x1 i = ((ou X c t g r e : ℝ) : EReal) := by
  rw [val_main_v92_apply]
  exact v48 X x0 x1 x2 x3 x4 x5 x6 H (idx_main_v92 i) c t g r e (by (first | assumption | rfl)) (by (first | assumption | rfl)) (by (first | assumption | rfl))

theorem v93 (H : Reads X x0 x1 x2 x3 x4 x5 x6) (i : S3x4096x16x128.Idx) (c : Fin 16) (t : Fin 256) (g : Fin 4) (r : Fin 4) (e : Fin 128) (j : Fin 3) (h0 : (i 0).val = j.val) (h1 : (i 1).val = 256 * c.val + t.val) (h2 : (i 2).val = 4 * g.val + r.val) (h3 : (i 3).val = e.val) :
    val_main_v93 (F := Ideal) x0 x1 x3 x4 i = ((oj X c t g r e j : ℝ) : EReal) := by
  have hi : i = ix4 (i 0) (i 1) (i 2) (i 3) := by
    funext a; match a with
    | ⟨0, _⟩ => rfl
    | ⟨1, _⟩ => rfl
    | ⟨2, _⟩ => rfl
    | ⟨3, _⟩ => rfl
  have hj : j = 0 ∨ j = 1 ∨ j = 2 := (by decide : ∀ j : Fin 3, j = 0 ∨ j = 1 ∨ j = 2) j
  unfold val_main_v93
  generalize e0 : val_main_v90 (F := Ideal) x3 = y0
  generalize e1 : val_main_v91 (F := Ideal) x4 = y1
  generalize e2 : val_main_v92 (F := Ideal) x0 x1 = y2
  rw [hi]
  pointwise
  rcases hj with rfl | rfl | rfl
  · subst e0; simp only [h0, Fin.val_zero, Fin.val_one, Fin.val_two]; simp
    exact v90 X x0 x1 x2 x3 x4 x5 x6 H (_) c t g r e (by (first | assumption | rfl)) (by (first | assumption | rfl)) (by (first | assumption | rfl))
  · subst e1; simp only [h0, Fin.val_zero, Fin.val_one, Fin.val_two]; simp
    exact v91 X x0 x1 x2 x3 x4 x5 x6 H (_) c t g r e (by (first | assumption | rfl)) (by (first | assumption | rfl)) (by (first | assumption | rfl))
  · subst e2; simp only [h0, Fin.val_zero, Fin.val_one, Fin.val_two]; simp
    exact v92 X x0 x1 x2 x3 x4 x5 x6 H (_) c t g r e (by (first | assumption | rfl)) (by (first | assumption | rfl)) (by (first | assumption | rfl))

end Cert.Att
-- ==== Proof.HostAt.lean ====
module

public import proofs.«01_k».proof.Proof.Maths
public import proofs.«01_k».proof.Proof.KerHost
public import proofs.«01_k».proof.Proof.RefValA

@[expose] public section

set_option maxRecDepth 16384

noncomputable section

namespace Cert.Att

open Idealize.ShloMosaic Idealize.ShloMosaic.TcCoe Idealize.SL.Sem Cert.KernelIdeal Cert.KernelIdeal.Gen
open scoped BigOperators

/-! ## The kernel's combined outputs and logarithms at an index -/

section
variable (X : Data) {x0 : FVec Ideal S4096x6144 .bf16} {x1 : FVec Ideal S4096x1024 .bf16} {x2 : FVec Ideal S4096x2048 .f32} {x3 x4 : FVec Ideal S4096x2048 .bf16} {x5 x6 : FVec Ideal S4096x16 .f32}

theorem cast3 {φ : EltTy} (x : Vec Ideal S4096x2048 φ) (a : Fin 16) (b : Fin 256) (k : Fin 2048) :
    shapeCast S16x256x2048 x shapeCasts_S4096x2048_S16x256x2048 (ix3 a b k) = x (ix2 ⟨256 * a.val + b.val, by omega⟩ k) := by
  pointwise
  exact congrArg (fun n => x (ix2 n k)) (Fin.ext (by dsimp only; omega))
theorem flat_at (x : FVec Ideal S4096x16x128 .f32) (n : Fin 4096) (k : Fin 2048) :
    flat x (ix2 n k) = x (ix3 n ⟨k.val / 128, by omega⟩ ⟨k.val % 128, by omega⟩) := by
  pointwise [flat]
theorem wide_at (x : FVec Ideal S4096x16 .f32) (n : Fin 4096) (h : Fin 16) (e : Fin 128) : wide x (ix3 n h e) = x (ix2 n h) := by
  pointwise [wide]
theorem heads_at (x : FVec Ideal S4096x2048 .bf16) (n : Fin 4096) (h : Fin 16) (e : Fin 128) :
    heads x (ix3 n h e) = x (ix2 n ⟨128 * h.val + e.val, by omega⟩) := by
  pointwise [heads]
  exact congrArg (fun k => x (ix2 n k)) (Fin.ext (by dsimp only; omega))
theorem ew_at (a b c : FVec Ideal S4096x16 .f32) (x : FVec Ideal S4096x16 .f32) (i : S4096x16.Idx) : ew x (top a b c) i = Ideal.exp (x i - max (max (a i) (b i)) (c i)) := rfl
theorem mixed_at (a b c : FVec Ideal S4096x16 .f32) (o : FVec Ideal S4096x16x128 .f32) (n : Fin 4096) (h : Fin 16) (e : Fin 128) :
    mixed x3 x4 a b c o (ix3 n h e)
      = Ideal.div (ew a (top a b c) (ix2 n h) * x3 (ix2 n ⟨128 * h.val + e.val, by omega⟩) + ew b (top a b c) (ix2 n h) * x4 (ix2 n ⟨128 * h.val + e.val, by omega⟩) + ew c (top a b c) (ix2 n h) * o (ix3 n h e))
          (ew a (top a b c) (ix2 n h) + ew b (top a b c) (ix2 n h) + ew c (top a b c) (ix2 n h)) := by
  rw [← wide_at (ew a (top a b c)) n h e, ← wide_at (ew b (top a b c)) n h e, ← wide_at (ew c (top a b c)) n h e, ← heads_at x3, ← heads_at x4]
  unfold mixed
  refine congrArg (Ideal.div _) ?_
  rw [wide_at, wide_at, wide_at, wide_at]
  rfl

variable (H : Reads X x0 x1 x2 x3 x4 x5 x6)
include H
theorem flat_out (c : Fin 16) (t : Fin 256) (g r : Fin 4) (e : Fin 128) (n : Fin 4096) (k : Fin 2048) (hn : n.val = 256 * c.val + t.val) (hk : k.val = 512 * g.val + 128 * r.val + e.val) :
    flat (mixed x3 x4 x5 x6 (Cert.ReferenceIdeal.Read.val_main_v50 (F := Ideal) x0 x1) (Cert.ReferenceIdeal.Read.val_main_v48 (F := Ideal) x0 x1)) (ix2 n k) = ((co X c t g r e : ℝ) : EReal) := by
  have hh : k.val / 128 = 4 * g.val + r.val := by omega
  have he : k.val % 128 = e.val := by omega
  have z0 : ∀ i : S4096x16.Idx, (i 0).val = 256 * c.val + t.val → (i 1).val = 4 * g.val + r.val →
      (max (max (x5 i) (x6 i)) (Cert.ReferenceIdeal.Read.val_main_v50 (F := Ideal) x0 x1 i)) = ((tp X c t g r : ℝ) : EReal) := fun i h0 h1 => by
    rw [H.l0 i c t g r h0 h1, H.l1 i c t g r h0 h1, v50 X x0 x1 x2 x3 x4 x5 x6 H i c t g r h0 h1, max_real, max_real]; rfl
  rw [flat_at, mixed_at, ew_at, ew_at, ew_at, z0 _ hn hh, H.l0 _ c t g r hn hh, H.l1 _ c t g r hn hh, v50 X x0 x1 x2 x3 x4 x5 x6 H _ c t g r hn hh,
    H.o0 _ c t g r e hn (by show 128 * (k.val / 128) + k.val % 128 = _; omega), H.o1 _ c t g r e hn (by show 128 * (k.val / 128) + k.val % 128 = _; omega),
    v48 X x0 x1 x2 x3 x4 x5 x6 H _ c t g r e hn hh he, ← EReal.coe_sub, ← EReal.coe_sub, ← EReal.coe_sub, Ideal.exp_coe, Ideal.exp_coe, Ideal.exp_coe,
    ← EReal.coe_mul, ← EReal.coe_mul, ← EReal.coe_mul, ← EReal.coe_add, ← EReal.coe_add, ← EReal.coe_add, ← EReal.coe_add]
  exact div_real _ _ (dn_pos X c t g r).ne'
theorem flat_l2 (c : Fin 16) (t : Fin 256) (g r : Fin 4) (e : Fin 128) (n : Fin 4096) (k : Fin 2048) (hn : n.val = 256 * c.val + t.val) (hk : k.val = 512 * g.val + 128 * r.val + e.val) :
    flat (F := Ideal) (wide (Cert.ReferenceIdeal.Read.val_main_v50 (F := Ideal) x0 x1)) (ix2 n k) = ((ls X c t g r : ℝ) : EReal) := by
  rw [flat_at, wide_at, v50 X x0 x1 x2 x3 x4 x5 x6 H _ c t g r hn (by show k.val / 128 = _; omega)]
theorem flat_l0 (c : Fin 16) (t : Fin 256) (g r : Fin 4) (e : Fin 128) (n : Fin 4096) (k : Fin 2048) (hn : n.val = 256 * c.val + t.val) (hk : k.val = 512 * g.val + 128 * r.val + e.val) :
    flat (wide x5) (ix2 n k) = ((X.L0 c t g r : ℝ) : EReal) := by
  rw [flat_at, wide_at, H.l0 _ c t g r hn (by show k.val / 128 = _; omega)]
theorem flat_l1 (c : Fin 16) (t : Fin 256) (g r : Fin 4) (e : Fin 128) (n : Fin 4096) (k : Fin 2048) (hn : n.val = 256 * c.val + t.val) (hk : k.val = 512 * g.val + 128 * r.val + e.val) :
    flat (wide x6) (ix2 n k) = ((X.L1 c t g r : ℝ) : EReal) := by
  rw [flat_at, wide_at, H.l1 _ c t g r hn (by show k.val / 128 = _; omega)]
end

theorem cast3q (x : FVec Ideal S4096x6144 .bf16) (a : Fin 16) (b : Fin 256) (k : Fin 6144) :
    shapeCast S16x256x6144 x shapeCasts_S4096x6144_S16x256x6144 (ix3 a b k) = x (ix2 ⟨256 * a.val + b.val, by omega⟩ k) := by
  pointwise
  exact congrArg (fun n => x (ix2 n k)) (Fin.ext (by dsimp only; omega))
theorem cast3k (x : FVec Ideal S4096x1024 .bf16) (a : Fin 16) (b : Fin 256) (k : Fin 1024) :
    shapeCast S16x256x1024 x shapeCasts_S4096x1024_S16x256x1024 (ix3 a b k) = x (ix2 ⟨256 * a.val + b.val, by omega⟩ k) := by
  pointwise
  exact congrArg (fun n => x (ix2 n k)) (Fin.ext (by dsimp only; omega))

end Cert.Att
-- ==== Proof.Blocks.lean ====
module

public import proofs.«01_k».proof.Proof.Steps
public import proofs.«01_k».proof.Proof.TileVal
public import proofs.«01_k».proof.Proof.HostAt

@[expose] public section

set_option maxRecDepth 16384

noncomputable section

namespace Cert.Att

open Idealize.ShloMosaic Idealize.ShloMosaic.TcCoe Idealize.SL.Sem Cert.KernelIdeal Cert.KernelIdeal.Gen
open scoped BigOperators

/-! ## The blocks of a step -/

theorem ind_0 : ∀ t : Fin grid0.N, win0_0.index t 0 = t.val / 3 ∧ win0_0.index t 1 = min (t.val % 3) 1 ∧ win0_0.index t 2 = 2 := by decide +kernel
theorem ind_1 : ∀ t : Fin grid0.N, win0_1.index t 0 = t.val / 3 ∧ win0_1.index t 1 = min (t.val % 3) 1 ∧ win0_1.index t 2 = 0 := by decide +kernel
theorem ind_2 : ∀ t : Fin grid0.N, win0_2.index t 0 = t.val / 3 ∧ win0_2.index t 1 = 0 ∧ win0_2.index t 2 = 0 := by decide +kernel
theorem ind_3 : ∀ t : Fin grid0.N, win0_3.index t 0 = t.val / 3 ∧ win0_3.index t 1 = min (t.val % 3) 1 ∧ win0_3.index t 2 = 1 := by decide +kernel
theorem ind_4 : ∀ t : Fin grid0.N, win0_4.index t 0 = t.val / 3 ∧ win0_4.index t 1 = 0 ∧ win0_4.index t 2 = 1 := by decide +kernel
theorem ind_5 : ∀ t : Fin grid0.N, win0_5.index t 0 = t.val / 3 ∧ win0_5.index t 1 = min (t.val % 3) 1 ∧ win0_5.index t 2 = 0 := by decide +kernel
theorem ind_6 : ∀ t : Fin grid0.N, win0_6.index t 0 = t.val / 3 ∧ win0_6.index t 1 = min (t.val % 3) 1 ∧ win0_6.index t 2 = 0 := by decide +kernel
theorem ind_7 : ∀ t : Fin grid0.N, win0_7.index t 0 = t.val / 3 ∧ win0_7.index t 1 = min (t.val % 3) 1 ∧ win0_7.index t 2 = 0 := by decide +kernel
theorem ind_8 : ∀ t : Fin grid0.N, win0_8.index t 0 = t.val / 3 ∧ win0_8.index t 1 = min (t.val % 3) 1 ∧ win0_8.index t 2 = 0 := by decide +kernel
theorem ind_9 : ∀ t : Fin grid0.N, win0_9.index t 0 = t.val / 3 ∧ win0_9.index t 1 = min (t.val % 3) 1 ∧ win0_9.index t 2 = 0 := by decide +kernel

variable (m : (ℓ : Loc nD τ sig) → Buf (Elt Ideal) ℓ) (d : Dev nD)

theorem rd_0 (f : Buf (Elt Ideal) ((d : Thread nD τ).loc main_v81)) (t : Fin cfg0.N) (c : Fin 16) (j : Fin 2) (hc : t.val / 3 = c.val) (hj : min (t.val % 3) 1 = j.val) (z : Fin 128) (k : Fin 2048) :
    ((cfg0.win 0).blk t).view.read (Elt Ideal) f (ix3 0 z k) = f (ix3 c (tm j z) ⟨4096 + k.val, by omega⟩) := by
  have hi := ind_0 t
  rw [View.read_apply]
  show f _ = f _
  refine congrArg f (funext fun a => Fin.ext ?_)
  match a with
  | ⟨0, _⟩ => show win0_0.index t 0 * 1 + 1 * 0 = c.val; rw [hi.1]; omega
  | ⟨1, _⟩ => show win0_0.index t 1 * 128 + 1 * z.val = 128 * j.val + z.val; rw [hi.2.1]; omega
  | ⟨2, _⟩ => show win0_0.index t 2 * 2048 + 1 * k.val = 4096 + k.val; rw [hi.2.2]; omega
theorem blk_0 (t : Fin cfg0.N) (c : Fin 16) (j : Fin 2) (hc : t.val / 3 = c.val) (hj : min (t.val % 3) 1 = j.val) (z : Fin 128) (k : Fin 2048) :
    iblk m d 0 t (ix3 0 z k) = V m d main_v81 (ix3 c (tm j z) ⟨4096 + k.val, by omega⟩) := by
  unfold iblk
  exact rd_0 d (V m d main_v81) t c j hc hj z k
theorem rd_1 (f : Buf (Elt Ideal) ((d : Thread nD τ).loc main_v82)) (t : Fin cfg0.N) (c : Fin 16) (j : Fin 2) (hc : t.val / 3 = c.val) (hj : min (t.val % 3) 1 = j.val) (z : Fin 128) (k : Fin 512) :
    ((cfg0.win 1).blk t).view.read (Elt Ideal) f (ix3 0 z k) = f (ix3 c (tm j z) ⟨k.val, by omega⟩) := by
  have hi := ind_1 t
  rw [View.read_apply]
  show f _ = f _
  refine congrArg f (funext fun a => Fin.ext ?_)
  match a with
  | ⟨0, _⟩ => show win0_1.index t 0 * 1 + 1 * 0 = c.val; rw [hi.1]; omega
  | ⟨1, _⟩ => show win0_1.index t 1 * 128 + 1 * z.val = 128 * j.val + z.val; rw [hi.2.1]; omega
  | ⟨2, _⟩ => show win0_1.index t 2 * 512 + 1 * k.val = k.val; rw [hi.2.2]; omega
theorem blk_1 (t : Fin cfg0.N) (c : Fin 16) (j : Fin 2) (hc : t.val / 3 = c.val) (hj : min (t.val % 3) 1 = j.val) (z : Fin 128) (k : Fin 512) :
    iblk m d 1 t (ix3 0 z k) = V m d main_v82 (ix3 c (tm j z) ⟨k.val, by omega⟩) := by
  unfold iblk
  exact rd_1 d (V m d main_v82) t c j hc hj z k
theorem rd_2 (f : Buf (Elt Ideal) ((d : Thread nD τ).loc main_v82)) (t : Fin cfg0.N) (c : Fin 16) (j : Fin 2) (hc : t.val / 3 = c.val) (hj : min (t.val % 3) 1 = j.val) (z : Fin 128) (k : Fin 512) :
    ((cfg0.win 2).blk t).view.read (Elt Ideal) f (ix3 0 z k) = f (ix3 c (tm 0 z) ⟨k.val, by omega⟩) := by
  have hi := ind_2 t
  rw [View.read_apply]
  show f _ = f _
  refine congrArg f (funext fun a => Fin.ext ?_)
  match a with
  | ⟨0, _⟩ => show win0_2.index t 0 * 1 + 1 * 0 = c.val; rw [hi.1]; omega
  | ⟨1, _⟩ => show win0_2.index t 1 * 128 + 1 * z.val = 128 * 0 + z.val; rw [hi.2.1]; omega
  | ⟨2, _⟩ => show win0_2.index t 2 * 512 + 1 * k.val = k.val; rw [hi.2.2]; omega
theorem blk_2 (t : Fin cfg0.N) (c : Fin 16) (j : Fin 2) (hc : t.val / 3 = c.val) (hj : min (t.val % 3) 1 = j.val) (z : Fin 128) (k : Fin 512) :
    iblk m d 2 t (ix3 0 z k) = V m d main_v82 (ix3 c (tm 0 z) ⟨k.val, by omega⟩) := by
  unfold iblk
  exact rd_2 d (V m d main_v82) t c j hc hj z k
theorem rd_3 (f : Buf (Elt Ideal) ((d : Thread nD τ).loc main_v82)) (t : Fin cfg0.N) (c : Fin 16) (j : Fin 2) (hc : t.val / 3 = c.val) (hj : min (t.val % 3) 1 = j.val) (z : Fin 128) (k : Fin 512) :
    ((cfg0.win 3).blk t).view.read (Elt Ideal) f (ix3 0 z k) = f (ix3 c (tm j z) ⟨512 + k.val, by omega⟩) := by
  have hi := ind_3 t
  rw [View.read_apply]
  show f _ = f _
  refine congrArg f (funext fun a => Fin.ext ?_)
  match a with
  | ⟨0, _⟩ => show win0_3.index t 0 * 1 + 1 * 0 = c.val; rw [hi.1]; omega
  | ⟨1, _⟩ => show win0_3.index t 1 * 128 + 1 * z.val = 128 * j.val + z.val; rw [hi.2.1]; omega
  | ⟨2, _⟩ => show win0_3.index t 2 * 512 + 1 * k.val = 512 + k.val; rw [hi.2.2]; omega
theorem blk_3 (t : Fin cfg0.N) (c : Fin 16) (j : Fin 2) (hc : t.val / 3 = c.val) (hj : min (t.val % 3) 1 = j.val) (z : Fin 128) (k : Fin 512) :
    iblk m d 3 t (ix3 0 z k) = V m d main_v82 (ix3 c (tm j z) ⟨512 + k.val, by omega⟩) := by
  unfold iblk
  exact rd_3 d (V m d main_v82) t c j hc hj z k
theorem rd_4 (f : Buf (Elt Ideal) ((d : Thread nD τ).loc main_v82)) (t : Fin cfg0.N) (c : Fin 16) (j : Fin 2) (hc : t.val / 3 = c.val) (hj : min (t.val % 3) 1 = j.val) (z : Fin 128) (k : Fin 512) :
    ((cfg0.win 4).blk t).view.read (Elt Ideal) f (ix3 0 z k) = f (ix3 c (tm 0 z) ⟨512 + k.val, by omega⟩) := by
  have hi := ind_4 t
  rw [View.read_apply]
  show f _ = f _
  refine congrArg f (funext fun a => Fin.ext ?_)
  match a with
  | ⟨0, _⟩ => show win0_4.index t 0 * 1 + 1 * 0 = c.val; rw [hi.1]; omega
  | ⟨1, _⟩ => show win0_4.index t 1 * 128 + 1 * z.val = 128 * 0 + z.val; rw [hi.2.1]; omega
  | ⟨2, _⟩ => show win0_4.index t 2 * 512 + 1 * k.val = 512 + k.val; rw [hi.2.2]; omega
theorem blk_4 (t : Fin cfg0.N) (c : Fin 16) (j : Fin 2) (hc : t.val / 3 = c.val) (hj : min (t.val % 3) 1 = j.val) (z : Fin 128) (k : Fin 512) :
    iblk m d 4 t (ix3 0 z k) = V m d main_v82 (ix3 c (tm 0 z) ⟨512 + k.val, by omega⟩) := by
  unfold iblk
  exact rd_4 d (V m d main_v82) t c j hc hj z k
theorem rd_5 (f : Buf (Elt Ideal) ((d : Thread nD τ).loc main_v83)) (t : Fin cfg0.N) (c : Fin 16) (j : Fin 2) (hc : t.val / 3 = c.val) (hj : min (t.val % 3) 1 = j.val) (z : Fin 128) (k : Fin 2048) :
    ((cfg0.win 5).blk t).view.read (Elt Ideal) f (ix3 0 z k) = f (ix3 c (tm j z) k) := by
  have hi := ind_5 t
  rw [View.read_apply]
  show f _ = f _
  refine congrArg f (funext fun a => Fin.ext ?_)
  match a with
  | ⟨0, _⟩ => show win0_5.index t 0 * 1 + 1 * 0 = c.val; rw [hi.1]; omega
  | ⟨1, _⟩ => show win0_5.index t 1 * 128 + 1 * z.val = 128 * j.val + z.val; rw [hi.2.1]; omega
  | ⟨2, _⟩ => show win0_5.index t 2 * 2048 + 1 * k.val = k.val; rw [hi.2.2]; omega
theorem blk_5 (t : Fin cfg0.N) (c : Fin 16) (j : Fin 2) (hc : t.val / 3 = c.val) (hj : min (t.val % 3) 1 = j.val) (z : Fin 128) (k : Fin 2048) :
    iblk m d 5 t (ix3 0 z k) = V m d main_v83 (ix3 c (tm j z) k) := by
  unfold iblk
  exact rd_5 d (V m d main_v83) t c j hc hj z k
theorem rd_6 (f : Buf (Elt Ideal) ((d : Thread nD τ).loc main_v84)) (t : Fin cfg0.N) (c : Fin 16) (j : Fin 2) (hc : t.val / 3 = c.val) (hj : min (t.val % 3) 1 = j.val) (z : Fin 128) (k : Fin 2048) :
    ((cfg0.win 6).blk t).view.read (Elt Ideal) f (ix3 0 z k) = f (ix3 c (tm j z) k) := by
  have hi := ind_6 t
  rw [View.read_apply]
  show f _ = f _
  refine congrArg f (funext fun a => Fin.ext ?_)
  match a with
  | ⟨0, _⟩ => show win0_6.index t 0 * 1 + 1 * 0 = c.val; rw [hi.1]; omega
  | ⟨1, _⟩ => show win0_6.index t 1 * 128 + 1 * z.val = 128 * j.val + z.val; rw [hi.2.1]; omega
  | ⟨2, _⟩ => show win0_6.index t 2 * 2048 + 1 * k.val = k.val; rw [hi.2.2]; omega
theorem blk_6 (t : Fin cfg0.N) (c : Fin 16) (j : Fin 2) (hc : t.val / 3 = c.val) (hj : min (t.val % 3) 1 = j.val) (z : Fin 128) (k : Fin 2048) :
    iblk m d 6 t (ix3 0 z k) = V m d main_v84 (ix3 c (tm j z) k) := by
  unfold iblk
  exact rd_6 d (V m d main_v84) t c j hc hj z k
theorem rd_7 (f : Buf (Elt Ideal) ((d : Thread nD τ).loc main_v85)) (t : Fin cfg0.N) (c : Fin 16) (j : Fin 2) (hc : t.val / 3 = c.val) (hj : min (t.val % 3) 1 = j.val) (z : Fin 128) (k : Fin 2048) :
    ((cfg0.win 7).blk t).view.read (Elt Ideal) f (ix3 0 z k) = f (ix3 c (tm j z) k) := by
  have hi := ind_7 t
  rw [View.read_apply]
  show f _ = f _
  refine congrArg f (funext fun a => Fin.ext ?_)
  match a with
  | ⟨0, _⟩ => show win0_7.index t 0 * 1 + 1 * 0 = c.val; rw [hi.1]; omega
  | ⟨1, _⟩ => show win0_7.index t 1 * 128 + 1 * z.val = 128 * j.val + z.val; rw [hi.2.1]; omega
  | ⟨2, _⟩ => show win0_7.index t 2 * 2048 + 1 * k.val = k.val; rw [hi.2.2]; omega
theorem blk_7 (t : Fin cfg0.N) (c : Fin 16) (j : Fin 2) (hc : t.val / 3 = c.val) (hj : min (t.val % 3) 1 = j.val) (z : Fin 128) (k : Fin 2048) :
    iblk m d 7 t (ix3 0 z k) = V m d main_v85 (ix3 c (tm j z) k) := by
  unfold iblk
  exact rd_7 d (V m d main_v85) t c j hc hj z k
theorem rd_8 (f : Buf (Elt Ideal) ((d : Thread nD τ).loc main_v86)) (t : Fin cfg0.N) (c : Fin 16) (j : Fin 2) (hc : t.val / 3 = c.val) (hj : min (t.val % 3) 1 = j.val) (z : Fin 128) (k : Fin 2048) :
    ((cfg0.win 8).blk t).view.read (Elt Ideal) f (ix3 0 z k) = f (ix3 c (tm j z) k) := by
  have hi := ind_8 t
  rw [View.read_apply]
  show f _ = f _
  refine congrArg f (funext fun a => Fin.ext ?_)
  match a with
  | ⟨0, _⟩ => show win0_8.index t 0 * 1 + 1 * 0 = c.val; rw [hi.1]; omega
  | ⟨1, _⟩ => show win0_8.index t 1 * 128 + 1 * z.val = 128 * j.val + z.val; rw [hi.2.1]; omega
  | ⟨2, _⟩ => show win0_8.index t 2 * 2048 + 1 * k.val = k.val; rw [hi.2.2]; omega
theorem blk_8 (t : Fin cfg0.N) (c : Fin 16) (j : Fin 2) (hc : t.val / 3 = c.val) (hj : min (t.val % 3) 1 = j.val) (z : Fin 128) (k : Fin 2048) :
    iblk m d 8 t (ix3 0 z k) = V m d main_v86 (ix3 c (tm j z) k) := by
  unfold iblk
  exact rd_8 d (V m d main_v86) t c j hc hj z k
theorem rd_9 (f : Buf (Elt Ideal) ((d : Thread nD τ).loc main_v87)) (t : Fin cfg0.N) (c : Fin 16) (j : Fin 2) (hc : t.val / 3 = c.val) (hj : min (t.val % 3) 1 = j.val) (z : Fin 128) (k : Fin 2048) :
    ((cfg0.win 9).blk t).view.read (Elt Ideal) f (ix3 0 z k) = f (ix3 c (tm j z) k) := by
  have hi := ind_9 t
  rw [View.read_apply]
  show f _ = f _
  refine congrArg f (funext fun a => Fin.ext ?_)
  match a with
  | ⟨0, _⟩ => show win0_9.index t 0 * 1 + 1 * 0 = c.val; rw [hi.1]; omega
  | ⟨1, _⟩ => show win0_9.index t 1 * 128 + 1 * z.val = 128 * j.val + z.val; rw [hi.2.1]; omega
  | ⟨2, _⟩ => show win0_9.index t 2 * 2048 + 1 * k.val = k.val; rw [hi.2.2]; omega
theorem blk_9 (t : Fin cfg0.N) (c : Fin 16) (j : Fin 2) (hc : t.val / 3 = c.val) (hj : min (t.val % 3) 1 = j.val) (z : Fin 128) (k : Fin 2048) :
    iblk m d 9 t (ix3 0 z k) = V m d main_v87 (ix3 c (tm j z) k) := by
  unfold iblk
  exact rd_9 d (V m d main_v87) t c j hc hj z k
/-! ## The blocks' values, from the arguments' -/

section
variable (X : Data) {x0 : (⟨S4096x6144, .bf16⟩ : BufTy).Contents (Elt Ideal)} {x1 : (⟨S4096x1024, .bf16⟩ : BufTy).Contents (Elt Ideal)} {x2 : (⟨S4096x2048, .f32⟩ : BufTy).Contents (Elt Ideal)} {x3 x4 : (⟨S4096x2048, .bf16⟩ : BufTy).Contents (Elt Ideal)} {x5 x6 : (⟨S4096x16, .f32⟩ : BufTy).Contents (Elt Ideal)} (R : Reads X x0 x1 x2 x3 x4 x5 x6)
  (c : Fin 16) (j a : Fin 2)
include R

theorem of_q (f : Vec Ideal S16x256x6144 .bf16) (hV : f = shapeCast S16x256x6144 x0 shapeCasts_S4096x6144_S16x256x6144) (b : Vec Ideal S1x128x2048 .bf16)
    (hb : ∀ (z : Fin 128) (k : Fin 2048), b (ix3 0 z k) = f (ix3 c (tm j z) ⟨4096 + k.val, by omega⟩)) (t : Fin 128) (g r : Fin 4) (e : Fin 128) (k : Fin 2048)
    (hk : k.val = 512 * g.val + 128 * r.val + e.val) : b (ix3 0 t k) = ((X.Q c (tm j t) g r e : ℝ) : EReal) := by
  rw [hb, hV, cast3q]
  exact R.q _ c (tm j t) g r e rfl (by show 4096 + k.val = _; omega)
theorem of_k (f : Vec Ideal S16x256x1024 .bf16) (hV : f = shapeCast S16x256x1024 x1 shapeCasts_S4096x1024_S16x256x1024) (b : Vec Ideal S1x128x512 .bf16)
    (hb : ∀ (z : Fin 128) (k : Fin 512), b (ix3 0 z k) = f (ix3 c (tm a z) ⟨k.val, by omega⟩)) (t : Fin 128) (g : Fin 4) (e : Fin 128) (k : Fin 512)
    (hk : k.val = 128 * g.val + e.val) : b (ix3 0 t k) = ((X.K c (tm a t) g e : ℝ) : EReal) := by
  rw [hb, hV, cast3k]
  exact R.k _ c (tm a t) g e rfl hk
theorem of_v (f : Vec Ideal S16x256x1024 .bf16) (hV : f = shapeCast S16x256x1024 x1 shapeCasts_S4096x1024_S16x256x1024) (b : Vec Ideal S1x128x512 .bf16)
    (hb : ∀ (z : Fin 128) (k : Fin 512), b (ix3 0 z k) = f (ix3 c (tm a z) ⟨512 + k.val, by omega⟩)) (t : Fin 128) (g : Fin 4) (e : Fin 128) (k : Fin 512)
    (hk : k.val = 128 * g.val + e.val) : b (ix3 0 t k) = ((X.V c (tm a t) g e : ℝ) : EReal) := by
  rw [hb, hV, cast3k]
  exact R.v _ c (tm a t) g e rfl (by show 512 + k.val = _; omega)
theorem of_d (f : Vec Ideal S16x256x2048 .f32) (hV : f = shapeCast S16x256x2048 x2 shapeCasts_S4096x2048_S16x256x2048) (b : Vec Ideal S1x128x2048 .f32)
    (hb : ∀ (z : Fin 128) (k : Fin 2048), b (ix3 0 z k) = f (ix3 c (tm j z) k)) (t : Fin 128) (g r : Fin 4) (e : Fin 128) (k : Fin 2048)
    (hk : k.val = 512 * g.val + 128 * r.val + e.val) : b (ix3 0 t k) = ((X.D c (tm j t) g r e : ℝ) : EReal) := by
  rw [hb, hV]
  refine (cast3 (φ := .f32) _ _ _ _).trans ?_
  exact R.d _ c (tm j t) g r e rfl hk
theorem of_o (f : Vec Ideal S16x256x2048 .f32) (hV : f = shapeCast S16x256x2048 (flat (F := Ideal) (mixed (F := Ideal) x3 x4 x5 x6 (Cert.ReferenceIdeal.Read.val_main_v50 (F := Ideal) x0 x1) (Cert.ReferenceIdeal.Read.val_main_v48 (F := Ideal) x0 x1))) shapeCasts_S4096x2048_S16x256x2048) (b : Vec Ideal S1x128x2048 .f32)
    (hb : ∀ (z : Fin 128) (k : Fin 2048), b (ix3 0 z k) = f (ix3 c (tm j z) k)) (t : Fin 128) (g r : Fin 4) (e : Fin 128) (k : Fin 2048)
    (hk : k.val = 512 * g.val + 128 * r.val + e.val) : b (ix3 0 t k) = ((co X c (tm j t) g r e : ℝ) : EReal) := by
  rw [hb, hV]
  refine (cast3 (φ := .f32) _ _ _ _).trans ?_
  exact flat_out X R c (tm j t) g r e _ k rfl hk
theorem of_l0 (f : Vec Ideal S16x256x2048 .f32) (hV : f = shapeCast S16x256x2048 (flat (F := Ideal) (wide (F := Ideal) x5)) shapeCasts_S4096x2048_S16x256x2048) (b : Vec Ideal S1x128x2048 .f32)
    (hb : ∀ (z : Fin 128) (k : Fin 2048), b (ix3 0 z k) = f (ix3 c (tm j z) k)) (t : Fin 128) (g r : Fin 4) (e : Fin 128) (k : Fin 2048)
    (hk : k.val = 512 * g.val + 128 * r.val + e.val) : b (ix3 0 t k) = ((X.L0 c (tm j t) g r : ℝ) : EReal) := by
  rw [hb, hV]
  refine (cast3 (φ := .f32) _ _ _ _).trans ?_
  exact flat_l0 X R c (tm j t) g r e _ k rfl hk
theorem of_l1 (f : Vec Ideal S16x256x2048 .f32) (hV : f = shapeCast S16x256x2048 (flat (F := Ideal) (wide (F := Ideal) x6)) shapeCasts_S4096x2048_S16x256x2048) (b : Vec Ideal S1x128x2048 .f32)
    (hb : ∀ (z : Fin 128) (k : Fin 2048), b (ix3 0 z k) = f (ix3 c (tm j z) k)) (t : Fin 128) (g r : Fin 4) (e : Fin 128) (k : Fin 2048)
    (hk : k.val = 512 * g.val + 128 * r.val + e.val) : b (ix3 0 t k) = ((X.L1 c (tm j t) g r : ℝ) : EReal) := by
  rw [hb, hV]
  refine (cast3 (φ := .f32) _ _ _ _).trans ?_
  exact flat_l1 X R c (tm j t) g r e _ k rfl hk
theorem of_l2 (f : Vec Ideal S16x256x2048 .f32) (hV : f = shapeCast S16x256x2048 (flat (F := Ideal) (wide (F := Ideal) (Cert.ReferenceIdeal.Read.val_main_v50 (F := Ideal) x0 x1))) shapeCasts_S4096x2048_S16x256x2048) (b : Vec Ideal S1x128x2048 .f32)
    (hb : ∀ (z : Fin 128) (k : Fin 2048), b (ix3 0 z k) = f (ix3 c (tm j z) k)) (t : Fin 128) (g r : Fin 4) (e : Fin 128) (k : Fin 2048)
    (hk : k.val = 512 * g.val + 128 * r.val + e.val) : b (ix3 0 t k) = ((ls X c (tm j t) g r : ℝ) : EReal) := by
  rw [hb, hV]
  refine (cast3 (φ := .f32) _ _ _ _).trans ?_
  exact flat_l2 X R c (tm j t) g r e _ k rfl hk
end

/-- The arguments as launched, as real numbers. -/
abbrev ReadsM (X : Data) : Prop :=
  Reads X (m ((d : Thread nD τ).loc main_arg0)) (m ((d : Thread nD τ).loc main_arg1)) (m ((d : Thread nD τ).loc main_arg2)) (m ((d : Thread nD τ).loc main_arg3))
    (m ((d : Thread nD τ).loc main_arg4)) (m ((d : Thread nD τ).loc main_arg5)) (m ((d : Thread nD τ).loc main_arg6))

section
variable (X : Data) (R : ReadsM m d X) (c : Fin 16) (j : Fin 2) (t : Fin cfg0.N) (hc : t.val / 3 = c.val) (hj : min (t.val % 3) 1 = j.val)
include R hc hj
set_option maxHeartbeats 0 in
theorem holds_0 (t' : Fin 128) (g r : Fin 4) (e : Fin 128) (k : Fin 2048) (hk : k.val = 512 * g.val + 128 * r.val + e.val) :
    iblk m d 0 t (ix3 0 t' k) = ((X.Q c (tm j t') g r e : ℝ) : EReal) :=
  of_q X R c j (V m d main_v81) (V81 m d) (iblk m d 0 t) (blk_0 m d t c j hc hj) t' g r e k hk
set_option maxHeartbeats 0 in
theorem holds_1 (t' : Fin 128) (g : Fin 4) (e : Fin 128) (k : Fin 512) (hk : k.val = 128 * g.val + e.val) :
    iblk m d 1 t (ix3 0 t' k) = ((X.K c (tm j t') g e : ℝ) : EReal) :=
  of_k X R c j (V m d main_v82) (V82 m d) (iblk m d 1 t) (blk_1 m d t c j hc hj) t' g e k hk
set_option maxHeartbeats 0 in
theorem holds_2 (t' : Fin 128) (g : Fin 4) (e : Fin 128) (k : Fin 512) (hk : k.val = 128 * g.val + e.val) :
    iblk m d 2 t (ix3 0 t' k) = ((X.K c (tm 0 t') g e : ℝ) : EReal) :=
  of_k X R c 0 (V m d main_v82) (V82 m d) (iblk m d 2 t) (blk_2 m d t c j hc hj) t' g e k hk
set_option maxHeartbeats 0 in
theorem holds_3 (t' : Fin 128) (g : Fin 4) (e : Fin 128) (k : Fin 512) (hk : k.val = 128 * g.val + e.val) :
    iblk m d 3 t (ix3 0 t' k) = ((X.V c (tm j t') g e : ℝ) : EReal) :=
  of_v X R c j (V m d main_v82) (V82 m d) (iblk m d 3 t) (blk_3 m d t c j hc hj) t' g e k hk
set_option maxHeartbeats 0 in
theorem holds_4 (t' : Fin 128) (g : Fin 4) (e : Fin 128) (k : Fin 512) (hk : k.val = 128 * g.val + e.val) :
    iblk m d 4 t (ix3 0 t' k) = ((X.V c (tm 0 t') g e : ℝ) : EReal) :=
  of_v X R c 0 (V m d main_v82) (V82 m d) (iblk m d 4 t) (blk_4 m d t c j hc hj) t' g e k hk
set_option maxHeartbeats 0 in
theorem holds_5 (t' : Fin 128) (g r : Fin 4) (e : Fin 128) (k : Fin 2048) (hk : k.val = 512 * g.val + 128 * r.val + e.val) :
    iblk m d 5 t (ix3 0 t' k) = ((X.D c (tm j t') g r e : ℝ) : EReal) :=
  of_d X R c j (V m d main_v83) (V83 m d) (iblk m d 5 t) (blk_5 m d t c j hc hj) t' g r e k hk
set_option maxHeartbeats 0 in
theorem holds_6 (t' : Fin 128) (g r : Fin 4) (e : Fin 128) (k : Fin 2048) (hk : k.val = 512 * g.val + 128 * r.val + e.val) :
    iblk m d 6 t (ix3 0 t' k) = ((co X c (tm j t') g r e : ℝ) : EReal) :=
  of_o X R c j (V m d main_v84) (V84 m d) (iblk m d 6 t) (blk_6 m d t c j hc hj) t' g r e k hk
set_option maxHeartbeats 0 in
theorem holds_7 (t' : Fin 128) (g r : Fin 4) (e : Fin 128) (k : Fin 2048) (hk : k.val = 512 * g.val + 128 * r.val + e.val) :
    iblk m d 7 t (ix3 0 t' k) = ((X.L0 c (tm j t') g r : ℝ) : EReal) :=
  of_l0 X R c j (V m d main_v85) (V85 m d) (iblk m d 7 t) (blk_7 m d t c j hc hj) t' g r e k hk
set_option maxHeartbeats 0 in
theorem holds_8 (t' : Fin 128) (g r : Fin 4) (e : Fin 128) (k : Fin 2048) (hk : k.val = 512 * g.val + 128 * r.val + e.val) :
    iblk m d 8 t (ix3 0 t' k) = ((X.L1 c (tm j t') g r : ℝ) : EReal) :=
  of_l1 X R c j (V m d main_v86) (V86 m d) (iblk m d 8 t) (blk_8 m d t c j hc hj) t' g r e k hk
set_option maxHeartbeats 0 in
theorem holds_9 (t' : Fin 128) (g r : Fin 4) (e : Fin 128) (k : Fin 2048) (hk : k.val = 512 * g.val + 128 * r.val + e.val) :
    iblk m d 9 t (ix3 0 t' k) = ((ls X c (tm j t') g r : ℝ) : EReal) :=
  of_l2 X R c j (V m d main_v87) (V87 m d) (iblk m d 9 t) (blk_9 m d t c j hc hj) t' g r e k hk
end
set_option maxHeartbeats 0 in
theorem holds (X : Data) (R : ReadsM m d X) (c : Fin 16) (j : Fin 2) (t : Fin cfg0.N) (ht : t.val = 3 * c.val + j.val) : Holds X c j (blk m d t) := by
  have hc : t.val / 3 = c.val := by omega
  have hj : min (t.val % 3) 1 = j.val := by omega
  exact ⟨holds_0 m d X R c j t hc hj, holds_1 m d X R c j t hc hj, holds_2 m d X R c j t hc hj, holds_3 m d X R c j t hc hj, holds_4 m d X R c j t hc hj, holds_5 m d X R c j t hc hj, holds_6 m d X R c j t hc hj, holds_7 m d X R c j t hc hj, holds_8 m d X R c j t hc hj, holds_9 m d X R c j t hc hj⟩

end Cert.Att
-- ==== Proof.PreVal.lean ====
module

public import proofs.«01_k».proof.Proof.Blocks
public import proofs.«01_k».proof.Pre_finite
public import Idealize.ShloMosaic.Lib.ReduceAll

@[expose] public section

set_option maxRecDepth 16384

noncomputable section

namespace Cert.Att

open Idealize.ShloMosaic Idealize.ShloMosaic.TcCoe Idealize.SL.Sem
open scoped BigOperators

/-! ## The precondition: finite arguments are real numbers -/

theorem preFacts : Cert.Pre_finite.Facts :=
  ⟨by decide, by decide, by decide, by decide, by decide, by decide, by decide, by decide, by decide, by decide⟩

/-- A value whose absolute value is below infinity is a real number. -/
theorem real_of (x : Ideal .f32) (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have h2 : max (x : EReal) (-(x : EReal)) < ⊤ := by
    by_contra hn
    simp [hn] at h'
  rw [max_lt_iff] at h2
  refine (EReal.coe_toReal (lt_top_iff_ne_top.mp h2.1) fun hb => ?_).symm
  rw [hb] at h2
  exact absurd h2.2 (by simp)

section
variable (x0 : FVec Ideal Cert.Pre_finite.S4096x6144 .bf16) (x1 : FVec Ideal Cert.Pre_finite.S4096x1024 .bf16) (x2 : FVec Ideal Cert.Pre_finite.S4096x2048 .f32)
  (x3 x4 : FVec Ideal Cert.Pre_finite.S4096x2048 .bf16) (x5 x6 : FVec Ideal Cert.Pre_finite.S4096x16 .f32) (x7 : FVec Ideal Cert.Pre_finite.S4096x6144 .bf16)

instance : Subsingleton Cert.Pre_finite.S_.Idx := ⟨fun a b => funext fun i => i.elim0⟩

/-- What the precondition says of the arrays. -/
theorem finite_of [hP : Cert.Pre_finite.Facts] (h : Cert.Pre_finite.fn (F := Ideal) x0 x1 x2 x3 x4 x5 x6 x7 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal))
      ∧ (∀ i, (x3 i : EReal) = ((x3 i : EReal).toReal : EReal)) ∧ (∀ i, (x4 i : EReal) = ((x4 i : EReal).toReal : EReal)) ∧ (∀ i, (x5 i : EReal) = ((x5 i : EReal).toReal : EReal))
      ∧ (∀ i, (x6 i : EReal) = ((x6 i : EReal).toReal : EReal)) := by
  have h0 := congrFun h ix0
  obtain ⟨h1, a6⟩ := IntOp.andi_eq_one.1 h0
  obtain ⟨h2, a5⟩ := IntOp.andi_eq_one.1 h1
  obtain ⟨h3, a4⟩ := IntOp.andi_eq_one.1 h2
  obtain ⟨h4, a3⟩ := IntOp.andi_eq_one.1 h3
  obtain ⟨h5, a2⟩ := IntOp.andi_eq_one.1 h4
  obtain ⟨a0, a1⟩ := IntOp.andi_eq_one.1 h5
  exact ⟨fun i => real_of _ (Host.reduce_andi_all _ _ _ _ _ a0 i), fun i => real_of _ (Host.reduce_andi_all _ _ _ _ _ a1 i), fun i => real_of _ (Host.reduce_andi_all _ _ _ _ _ a2 i),
    fun i => real_of _ (Host.reduce_andi_all _ _ _ _ _ a3 i), fun i => real_of _ (Host.reduce_andi_all _ _ _ _ _ a4 i), fun i => real_of _ (Host.reduce_andi_all _ _ _ _ _ a5 i),
    fun i => real_of _ (Host.reduce_andi_all _ _ _ _ _ a6 i)⟩
end

/-- The real numbers of the arrays. -/
def dataOf (x0 : Vec Ideal ⟨2, ![4096, 6144]⟩ .bf16) (x1 : Vec Ideal ⟨2, ![4096, 1024]⟩ .bf16) (x2 : Vec Ideal ⟨2, ![4096, 2048]⟩ .f32) (x3 x4 : Vec Ideal ⟨2, ![4096, 2048]⟩ .bf16) (x5 x6 : Vec Ideal ⟨2, ![4096, 16]⟩ .f32) : Data where
  Q c t g r e := (x0 (ix2 ⟨256 * c.val + t.val, by omega⟩ ⟨4096 + 512 * g.val + 128 * r.val + e.val, by omega⟩) : EReal).toReal
  K c s g e := (x1 (ix2 ⟨256 * c.val + s.val, by omega⟩ ⟨128 * g.val + e.val, by omega⟩) : EReal).toReal
  V c s g e := (x1 (ix2 ⟨256 * c.val + s.val, by omega⟩ ⟨512 + 128 * g.val + e.val, by omega⟩) : EReal).toReal
  D c t g r e := (x2 (ix2 ⟨256 * c.val + t.val, by omega⟩ ⟨512 * g.val + 128 * r.val + e.val, by omega⟩) : EReal).toReal
  O0 c t g r e := (x3 (ix2 ⟨256 * c.val + t.val, by omega⟩ ⟨512 * g.val + 128 * r.val + e.val, by omega⟩) : EReal).toReal
  O1 c t g r e := (x4 (ix2 ⟨256 * c.val + t.val, by omega⟩ ⟨512 * g.val + 128 * r.val + e.val, by omega⟩) : EReal).toReal
  L0 c t g r := (x5 (ix2 ⟨256 * c.val + t.val, by omega⟩ ⟨4 * g.val + r.val, by omega⟩) : EReal).toReal
  L1 c t g r := (x6 (ix2 ⟨256 * c.val + t.val, by omega⟩ ⟨4 * g.val + r.val, by omega⟩) : EReal).toReal

theorem eta2 {a b : ℕ} (i : (⟨2, ![a, b]⟩ : Shape).Idx) (p : Fin a) (q : Fin b) (h0 : (i 0).val = p.val) (h1 : (i 1).val = q.val) : i = ix2 p q := by
  funext x
  match x with
  | ⟨0, _⟩ => exact Fin.ext h0
  | ⟨1, _⟩ => exact Fin.ext h1

theorem reads_of (x0 : Vec Ideal ⟨2, ![4096, 6144]⟩ .bf16) (x1 : Vec Ideal ⟨2, ![4096, 1024]⟩ .bf16) (x2 : Vec Ideal ⟨2, ![4096, 2048]⟩ .f32) (x3 x4 : Vec Ideal ⟨2, ![4096, 2048]⟩ .bf16) (x5 x6 : Vec Ideal ⟨2, ![4096, 16]⟩ .f32)
    (x7 : Vec Ideal ⟨2, ![4096, 6144]⟩ .bf16) [hP : Cert.Pre_finite.Facts] (h : Cert.Pre_finite.fn (F := Ideal) x0 x1 x2 x3 x4 x5 x6 x7 = fun _ => 1#1) :
    Reads (dataOf x0 x1 x2 x3 x4 x5 x6) x0 x1 x2 x3 x4 x5 x6 := by
  obtain ⟨a0, a1, a2, a3, a4, a5, a6⟩ := finite_of x0 x1 x2 x3 x4 x5 x6 x7 h
  constructor
  · intro i c t g r e h0 h1
    rw [eta2 i ⟨256 * c.val + t.val, by omega⟩ ⟨4096 + 512 * g.val + 128 * r.val + e.val, by omega⟩ h0 h1]
    exact a0 _
  · intro i c s g e h0 h1
    rw [eta2 i ⟨256 * c.val + s.val, by omega⟩ ⟨128 * g.val + e.val, by omega⟩ h0 h1]
    exact a1 _
  · intro i c s g e h0 h1
    rw [eta2 i ⟨256 * c.val + s.val, by omega⟩ ⟨512 + 128 * g.val + e.val, by omega⟩ h0 h1]
    exact a1 _
  · intro i c t g r e h0 h1
    rw [eta2 i ⟨256 * c.val + t.val, by omega⟩ ⟨512 * g.val + 128 * r.val + e.val, by omega⟩ h0 h1]
    exact a2 _
  · intro i c t g r e h0 h1
    rw [eta2 i ⟨256 * c.val + t.val, by omega⟩ ⟨512 * g.val + 128 * r.val + e.val, by omega⟩ h0 h1]
    exact a3 _
  · intro i c t g r e h0 h1
    rw [eta2 i ⟨256 * c.val + t.val, by omega⟩ ⟨512 * g.val + 128 * r.val + e.val, by omega⟩ h0 h1]
    exact a4 _
  · intro i c t g r h0 h1
    rw [eta2 i ⟨256 * c.val + t.val, by omega⟩ ⟨4 * g.val + r.val, by omega⟩ h0 h1]
    exact a5 _
  · intro i c t g r h0 h1
    rw [eta2 i ⟨256 * c.val + t.val, by omega⟩ ⟨4 * g.val + r.val, by omega⟩ h0 h1]
    exact a6 _

end Cert.Att
-- ==== Proof.FfnAlg.lean ====
module

public import proofs.«01_k».proof.Defs
public import proofs.«01_k».proof.Proof.FfnRes
public import proofs.«01_k».proof.Proof.PreVal
public import proofs.«01_k».proof.Proof.Gen.Pre_ffn_finite

@[expose] public section

set_option maxRecDepth 16384

noncomputable section

namespace Cert.Ff

open Idealize.ShloMosaic Idealize.ShloMosaic.TcCoe Idealize.SL.Sem Idealize.ShloMosaic.StableHlo
open scoped BigOperators

/-! # The feed-forward layer's results are the plain mathematics' -/

section
variable (x0 : FVec Ideal Cert.Pre_ffn_finite.S4096x2048 .bf16) (x1 : FVec Ideal Cert.Pre_ffn_finite.S4x2048x2816 .bf16)
  (x2 : FVec Ideal Cert.Pre_ffn_finite.S1x5632x2048 .bf16) (x3 : FVec Ideal Cert.Pre_ffn_finite.S4096x2048 .bf16)

instance : Subsingleton Cert.Pre_ffn_finite.S_.Idx := ⟨fun a b => funext fun i => i.elim0⟩

/-- What the precondition says of the arrays. -/
theorem finite_of [hP : Cert.Pre_ffn_finite.Facts] (h : Cert.Pre_ffn_finite.fn (F := Ideal) x0 x1 x2 x3 = fun _ => 1#1) : Real (arrs x0 x1 x2 x3) := by
  have h0 := congrFun h ix0
  obtain ⟨h1, a3⟩ := IntOp.andi_eq_one.1 h0
  obtain ⟨h2, a2⟩ := IntOp.andi_eq_one.1 h1
  obtain ⟨a0, a1⟩ := IntOp.andi_eq_one.1 h2
  exact ⟨fun s k => ⟨_, Cert.Att.real_of _ (Host.reduce_andi_all _ _ _ _ _ a0 (ix2 s k))⟩, fun b k q => ⟨_, Cert.Att.real_of _ (Host.reduce_andi_all _ _ _ _ _ a1 (ix3 b k q))⟩,
    fun f d => ⟨_, Cert.Att.real_of _ (Host.reduce_andi_all _ _ _ _ _ a2 (ix3 0 f d))⟩, fun s d => ⟨_, Cert.Att.real_of _ (Host.reduce_andi_all _ _ _ _ _ a3 (ix2 s d))⟩⟩
end

section
open Cert.FfnReferenceIdeal Cert.FfnReferenceIdeal.Read
variable {x0 y0 : Vec Ideal S4096x2048 .bf16} {x1 y1 : Vec Ideal S4x2048x2816 .bf16} {x2 y2 : Vec Ideal S1x5632x2048 .bf16} {x3 y3 : Vec Ideal S4096x2048 .bf16}
theorem to_11 (e0 : y0 = x0) (e1 : y1 = x1) (e2 : y2 = x2) :
    val_main_v11 (F := Ideal) y0 y1 y2 = fun i => out (arrs x0 x1 x2 x3) (i 0) (i 1) := by
  subst e0 e1 e2; exact funext fun i => r11 _ _ _ x3 i (i 0) (i 1) rfl rfl
theorem to_27 (e0 : y0 = x0) (e1 : y1 = x1) (e3 : y3 = x3) :
    val_main_v27 (F := Ideal) y0 y1 y3 = fun i => dB (arrs x0 x1 x2 x3) (i 1) (i 2) := by
  subst e0 e1 e3; exact funext fun i => r27 _ _ x2 _ i (i 1) (i 2) rfl rfl
theorem to_23 (R : Real (arrs x0 x1 x2 x3)) (e0 : y0 = x0) (e1 : y1 = x1) (e2 : y2 = x2) (e3 : y3 = x3) :
    val_main_v23 (F := Ideal) y0 y1 y2 y3 = fun i => dH (arrs x0 x1 x2 x3) (i 0) (i 1) := by
  subst e0 e1 e2 e3; exact funext fun i => r23 _ _ _ _ R i (i 0) (i 1) rfl rfl
theorem to_26 (R : Real (arrs x0 x1 x2 x3)) (e0 : y0 = x0) (e1 : y1 = x1) (e2 : y2 = x2) (e3 : y3 = x3) :
    val_main_v26 (F := Ideal) y0 y1 y2 y3 = fun i => dA (arrs x0 x1 x2 x3) (i 0) (i 1) (i 2) := by
  subst e0 e1 e2 e3; exact funext fun i => r26 _ _ _ _ R i (i 0) (i 1) (i 2) rfl rfl rfl
end

theorem algebraic : Cert.algebraic_FfnIdeal_FfnReferenceIdeal (hFfnIdeal := Cert.FfnIdeal.Gen.facts) (hFfnReferenceIdeal := Cert.FfnReferenceIdeal.Gen.facts)
    (hPre_ffn_finite := Cert.Pre_ffn_finite.Gen.facts) := by
  intro m g m' g' hpre hagree
  refine ⟨fun c => fun i : Cert.FfnIdeal.S4096x2048.Idx => out (XK m c) (i 0) (i 1), fun c => fun i : Cert.FfnIdeal.S4096x2048.Idx => dH (XK m c) (i 0) (i 1),
    fun c => fun i : Cert.FfnIdeal.S4x2048x2816.Idx => dA (XK m c) (i 0) (i 1) (i 2), fun c => fun i : Cert.FfnIdeal.S1x5632x2048.Idx => dB (XK m c) (i 1) (i 2), ?_, ?_⟩
  · refine (θ_run Cert.FfnIdeal.defs _ _).mono (fun r h c => ?_) (run (F := Ideal) m g)
    obtain ⟨h1, h2, h3, h4, ha⟩ := h.1 c
    exact ⟨h1.trans (k_out m g c), h2.trans (k_dH m g c), h3.trans (k_dA m g c), h4.trans (k_dB m g c), ha⟩
  · refine (θ_run Cert.FfnReferenceIdeal.defs _ _).mono (fun r h c => ?_) (Cert.FfnReferenceIdeal.Value.run (F := Ideal) m' g')
    obtain ⟨e0, e1, e2, e3⟩ := hagree c
    have R : Real (XK m c) := finite_of _ _ _ _ (hP := Cert.Pre_ffn_finite.Gen.facts) (hpre c)
    exact ⟨(h c).1.trans ((Cert.FfnReferenceIdeal.Read.val_main_v11_eq _ _ _).trans (to_11 e0 e1 e2)),
      (h c).2.1.trans ((Cert.FfnReferenceIdeal.Read.val_main_v23_eq m' c).trans (to_23 R e0 e1 e2 e3)),
      (h c).2.2.1.trans ((Cert.FfnReferenceIdeal.Read.val_main_v26_eq m' c).trans (to_26 R e0 e1 e2 e3)),
      (h c).2.2.2.1.trans ((Cert.FfnReferenceIdeal.Read.val_main_v27_eq _ _ _).trans (to_27 e0 e1 e3)), (h c).2.2.2.2⟩

end Cert.Ff

end
-- ==== Proof.QkvRun.lean ====
module

public import proofs.«01_k».proof.Proof.Gen.QkvIdeal
public import proofs.«01_k».proof.Proof.Gen.QkvIdeal.Frame
public import proofs.«01_k».proof.Proof.Gen.Qkv
public import proofs.«01_k».proof.Proof.Gen.Qkv.Frame
public import proofs.«01_k».proof.Proof.Gen.QkvReferenceIdeal.Read
public import proofs.«01_k».proof.Proof.Gen.QkvReferenceIdeal.Run
public import proofs.«01_k».proof.Proof.Gen.QkvReferenceIdeal

@[expose] public section

set_option maxRecDepth 16384

noncomputable section

namespace Cert.Qk

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.QkvIdeal Cert.QkvIdeal.Gen

/-! ## The run of the six calls: every array ends with the contents its last call leaves -/

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = W6 m ρ c (Proc.devRef .tc main_v1)
      ∧ r.2.mem ((c.tc : Thread nD τ).loc main_v4) = W6 m ρ c (Proc.devRef .tc main_v4)
      ∧ r.2.mem ((c.tc : Thread nD τ).loc main_v2) = W6 m ρ c (Proc.devRef .tc main_v2)
      ∧ r.2.mem ((c.tc : Thread nD τ).loc main_v0) = W6 m ρ c (Proc.devRef .tc main_v0)
      ∧ r.2.mem ((c.tc : Thread nD τ).loc main_v5) = W6 m ρ c (Proc.devRef .tc main_v5)
      ∧ r.2.mem ((c.tc : Thread nD τ).loc main_v3) = W6 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v1 (by decide)), h c _ (mem_uc main_v4 (by decide)), h c _ (mem_uc main_v2 (by decide)), h c _ (mem_uc main_v0 (by decide)), h c _ (mem_uc main_v5 (by decide)), h c _ (mem_uc main_v3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

end Cert.Qk

end
-- ==== Proof.QkvRef.lean ====
module

public import proofs.«01_k».proof.Proof.Gen.QkvReferenceIdeal.Read
public import proofs.«01_k».proof.Proof.FfnRef

@[expose] public section

set_option maxRecDepth 16384

noncomputable section

namespace Cert.Qk

open Idealize.ShloMosaic
open scoped BigOperators

/-! # The products and their gradients, element by element -/

/-! The queries' product -/

/-- The rows of the input against the weight's columns. -/
def fw_q (x : Vec Ideal ⟨2, ![4096, 2048]⟩ .bf16) (w : Vec Ideal ⟨3, ![4, 2048, 1536]⟩ .bf16) (i : (⟨2, ![4096, 6144]⟩ : Shape).Idx) : EReal :=
  ∑ k : Fin 2048, x (ix2 (i 0) k) * w (ix3 ⟨(i 1).val / 1536, by have h : (i 1).val < 6144 := (i 1).isLt; omega⟩ k ⟨(i 1).val % 1536, by omega⟩)
/-- The gradient of the weight. -/
def dw_q (x : Vec Ideal ⟨2, ![4096, 2048]⟩ .bf16) (d : Vec Ideal ⟨2, ![4096, 6144]⟩ .bf16) (i : (⟨3, ![4, 2048, 1536]⟩ : Shape).Idx) : EReal :=
  ∑ s : Fin 4096, x (ix2 s (i 1)) * d (ix2 s ⟨1536 * (i 0).val + (i 2).val, by have h0 : (i 0).val < 4 := (i 0).isLt; have h2 : (i 2).val < 1536 := (i 2).isLt; omega⟩)
/-- A column's term of the gradient of the input, and that gradient. -/
def tx_q (w : Vec Ideal ⟨3, ![4, 2048, 1536]⟩ .bf16) (d : Vec Ideal ⟨2, ![4096, 6144]⟩ .bf16) (s : Fin 4096) (k : Fin 2048) (q : Fin 6144) : EReal :=
  d (ix2 s q) * w (ix3 ⟨q.val / 1536, by omega⟩ k ⟨q.val % 1536, by omega⟩)
def dx_q (w : Vec Ideal ⟨3, ![4, 2048, 1536]⟩ .bf16) (d : Vec Ideal ⟨2, ![4096, 6144]⟩ .bf16) (i : (⟨2, ![4096, 2048]⟩ : Shape).Idx) : EReal :=
  ∑ q : Fin 6144, tx_q w d (i 0) (i 1) q

/-- Four sums over the blocks are one sum over the columns. -/
theorem sum_q (f : Fin 6144 → EReal) :
    (∑ n : Fin 1536, f ⟨1536 * (0 : Fin 4).val + n.val, by omega⟩) + (∑ n : Fin 1536, f ⟨1536 * (1 : Fin 4).val + n.val, by omega⟩)
        + (∑ n : Fin 1536, f ⟨1536 * (2 : Fin 4).val + n.val, by omega⟩) + (∑ n : Fin 1536, f ⟨1536 * (3 : Fin 4).val + n.val, by omega⟩) = ∑ c, f c := by
  have h4 : ∑ c, f c = ∑ r : Fin 4, ∑ n : Fin 1536, f ⟨1536 * r.val + n.val, by omega⟩ := by
    rw [← Fin.sum_mul_add_fin 4 1536 f]
    refine Finset.sum_congr rfl fun r _ => Finset.sum_congr rfl fun n _ => congrArg f (Fin.ext ?_)
    dsimp only
    omega
  rw [h4, Fin.sum_univ_four]

/-! The keys' and values' product -/

/-- The rows of the input against the weight's columns. -/
def fw_kv (x : Vec Ideal ⟨2, ![4096, 2048]⟩ .bf16) (w : Vec Ideal ⟨3, ![1, 2048, 1024]⟩ .bf16) (i : (⟨2, ![4096, 1024]⟩ : Shape).Idx) : EReal :=
  ∑ k : Fin 2048, x (ix2 (i 0) k) * w (ix3 0 k (i 1))
/-- The gradient of the weight. -/
def dw_kv (x : Vec Ideal ⟨2, ![4096, 2048]⟩ .bf16) (d : Vec Ideal ⟨2, ![4096, 1024]⟩ .bf16) (i : (⟨3, ![1, 2048, 1024]⟩ : Shape).Idx) : EReal :=
  ∑ s : Fin 4096, x (ix2 s (i 1)) * d (ix2 s (i 2))
/-- A column's term of the gradient of the input, and that gradient. -/
def tx_kv (w : Vec Ideal ⟨3, ![1, 2048, 1024]⟩ .bf16) (d : Vec Ideal ⟨2, ![4096, 1024]⟩ .bf16) (s : Fin 4096) (k : Fin 2048) (q : Fin 1024) : EReal :=
  d (ix2 s q) * w (ix3 0 k q)
def dx_kv (w : Vec Ideal ⟨3, ![1, 2048, 1024]⟩ .bf16) (d : Vec Ideal ⟨2, ![4096, 1024]⟩ .bf16) (i : (⟨2, ![4096, 2048]⟩ : Shape).Idx) : EReal :=
  ∑ q : Fin 1024, tx_kv w d (i 0) (i 1) q

open Cert.QkvReferenceIdeal Cert.QkvReferenceIdeal.Gen Cert.QkvReferenceIdeal.Read
open Cert.Ff (eq2 eq3)

/-! # The plain mathematics' values -/

section
variable (x0 : Vec Ideal ⟨2, ![4096, 2048]⟩ .bf16) (x1 : Vec Ideal ⟨3, ![4, 2048, 1536]⟩ .bf16) (x2 : Vec Ideal ⟨2, ![4096, 6144]⟩ .bf16)
variable (x3 : Vec Ideal ⟨2, ![4096, 2048]⟩ .bf16) (x4 : Vec Ideal ⟨3, ![1, 2048, 1024]⟩ .bf16) (x5 : Vec Ideal ⟨2, ![4096, 1024]⟩ .bf16)

theorem w_q (i : S2048x6144.Idx) (k : Fin 2048) (q : Fin 6144) (h0 : (i 0).val = k.val) (h1 : (i 1).val = q.val) :
    val_main_v3 (F := Ideal) x1 i = x1 (ix3 ⟨q.val / 1536, by omega⟩ k ⟨q.val % 1536, by omega⟩) := by
  rw [val_main_v3_apply, val_main_v2_apply]
  refine congrArg x1 (eq3 _ _ _ _ ?_ ?_ ?_)
  · show ((i 0).val * 6144 + (i 1).val) / 1536 % 4 = q.val / 1536
    omega
  · show ((i 0).val * 6144 + (i 1).val) / 6144 = k.val
    omega
  · show ((i 0).val * 6144 + (i 1).val) % 1536 = q.val % 1536
    omega
theorem r_fw_q : val_main_v22 (F := Ideal) x0 x1 = fw_q x0 x1 := by
  funext i
  refine Eq.trans (b := val_main_v4 (F := Ideal) x0 x1 i) rfl ?_
  rw [val_main_v4_apply]
  exact Finset.sum_congr rfl fun k _ => congrArg₂ (· * ·) (congrArg x0 (eq2 _ (i 0) k rfl rfl)) (w_q x1 _ k (i 1) rfl rfl)
theorem r_dx_q : val_main_v8 (F := Ideal) x1 x2 = dx_q x1 x2 := by
  funext i
  rw [val_main_v8_apply]
  exact Finset.sum_congr rfl fun q _ => congrArg₂ (· * ·) (congrArg x2 (eq2 _ (i 0) q rfl rfl)) (w_q x1 _ (i 1) q rfl rfl)
theorem r_dw_q : val_main_v23 (F := Ideal) x0 x2 = dw_q x0 x2 := by
  funext i
  have h0 : (i 0).val < 4 := (i 0).isLt
  have h1 : (i 1).val < 2048 := (i 1).isLt
  have h2 : (i 2).val < 1536 := (i 2).isLt
  refine Eq.trans (b := val_main_v10 (F := Ideal) x0 x2 i) rfl ?_
  rw [val_main_v10_apply, val_main_v9_apply, val_main_v7_apply, val_main_v6_apply]
  refine Finset.sum_congr rfl fun s _ => (mul_comm _ _).trans (congrArg₂ (· * ·) (congrArg x0 (eq2 _ s (i 1) rfl ?_)) (congrArg x2 (eq2 _ s _ rfl ?_)))
  · show (((i 1).val * 4 + (i 0).val) * 1536 + (i 2).val) / 6144 = (i 1).val
    omega
  · show (((i 1).val * 4 + (i 0).val) * 1536 + (i 2).val) % 6144 = 1536 * (i 0).val + (i 2).val
    omega

theorem w_kv (i : S2048x1024.Idx) (k : Fin 2048) (q : Fin 1024) (h0 : (i 0).val = k.val) (h1 : (i 1).val = q.val) :
    val_main_v14 (F := Ideal) x4 i = x4 (ix3 0 k q) := by
  rw [val_main_v14_apply, val_main_v13_apply]
  refine congrArg x4 (eq3 _ _ _ _ rfl ?_ ?_)
  · show ((i 0).val * 1024 + (i 1).val) / 1024 = k.val
    omega
  · show ((i 0).val * 1024 + (i 1).val) % 1024 = q.val
    omega
theorem r_fw_kv : val_main_v24 (F := Ideal) x3 x4 = fw_kv x3 x4 := by
  funext i
  refine Eq.trans (b := val_main_v15 (F := Ideal) x3 x4 i) rfl ?_
  rw [val_main_v15_apply]
  exact Finset.sum_congr rfl fun k _ => congrArg₂ (· * ·) (congrArg x3 (eq2 _ (i 0) k rfl rfl)) (w_kv x4 _ k (i 1) rfl rfl)
theorem r_dx_kv : val_main_v19 (F := Ideal) x4 x5 = dx_kv x4 x5 := by
  funext i
  rw [val_main_v19_apply]
  exact Finset.sum_congr rfl fun q _ => congrArg₂ (· * ·) (congrArg x5 (eq2 _ (i 0) q rfl rfl)) (w_kv x4 _ (i 1) q rfl rfl)
theorem r_dw_kv : val_main_v25 (F := Ideal) x3 x5 = dw_kv x3 x5 := by
  funext i
  have h0 : (i 0).val < 1 := (i 0).isLt
  have h1 : (i 1).val < 2048 := (i 1).isLt
  have h2 : (i 2).val < 1024 := (i 2).isLt
  refine Eq.trans (b := val_main_v21 (F := Ideal) x3 x5 i) rfl ?_
  rw [val_main_v21_apply, val_main_v20_apply, val_main_v18_apply, val_main_v17_apply]
  refine Finset.sum_congr rfl fun s _ => (mul_comm _ _).trans (congrArg₂ (· * ·) (congrArg x3 (eq2 _ s (i 1) rfl ?_)) (congrArg x5 (eq2 _ s _ rfl ?_)))
  · show (((i 1).val * 1 + (i 0).val) * 1024 + (i 2).val) / 1024 = (i 1).val
    omega
  · show (((i 1).val * 1 + (i 0).val) * 1024 + (i 2).val) % 1024 = (i 2).val
    omega
end

end Cert.Qk

end
-- ==== Proof.QkvKer.lean ====
module

public import proofs.«01_k».proof.Proof.QkvRun
public import proofs.«01_k».proof.Proof.QkvRef
public import Idealize.ShloMosaic.Lib.Pipeline.ValueKit.Geometry
public import Idealize.ShloMosaic.Lib.Pipeline.ValueKit.Partial
public import Idealize.ShloMosaic.Lib.Pipeline.ValueKit.Point

@[expose] public section

set_option maxRecDepth 16384

noncomputable section

namespace Cert.Qk

open Idealize.ShloMosaic Idealize.ShloMosaic.TcCoe Idealize.SL.Sem Cert.QkvIdeal Cert.QkvIdeal.Gen
open Pipeline (Dat)
open scoped BigOperators

/-! # What the six calls leave in their arrays -/

variable (V : (c : Dev nD) → (b : Ref sig .tc) → Buf (Elt Ideal) ((c : Thread nD τ).loc b)) (c : Dev nD)

/-! ## The queries' product -/

theorem ind1 : ∀ t : Fin grid1.N,
    (win1_0.index t 0 = t.val % 8 ∧ win1_0.index t 1 = 0)
      ∧ (win1_1.index t 0 = t.val / 8 ∧ win1_1.index t 1 = 0 ∧ win1_1.index t 2 = 0)
      ∧ win1_2.index t 0 = t.val % 8 ∧ win1_2.index t 1 = t.val / 8 := by decide +kernel
theorem lt1 (t : Fin cfg1.N) : t.val < 32 := lt_of_lt_of_eq t.isLt (by decide)

theorem arr1 : (dat1 V c).arrAt 2 cfg1.N = fw_q (V c main_arg0) (V c main_arg1) := by
  refine (dat1 V c).arrAt_eq_of_covers 2 _ (by decide +kernel) fun t hf y => ?_
  have e := ind1 t
  have ht := lt1 t
  blk_simp
  rw [after1_2]
  frame_out
  unfold fw_q
  pointwise [k1_pay1]
  blk_point [iblk1, e]

theorem ind2 : ∀ t : Fin grid2.N,
    (win2_0.index t 0 = 0 ∧ win2_0.index t 1 = t.val % 4)
      ∧ (win2_1.index t 0 = 0 ∧ win2_1.index t 1 = t.val / 4)
      ∧ win2_2.index t 0 = t.val / 4 ∧ win2_2.index t 1 = t.val % 4 ∧ win2_2.index t 2 = 0 := by decide +kernel
theorem lt2 (t : Fin cfg2.N) : t.val < 16 := lt_of_lt_of_eq t.isLt (by decide)

theorem arr2 : (dat2 V c).arrAt 2 cfg2.N = dw_q (V c main_arg0) (V c main_arg2) := by
  refine (dat2 V c).arrAt_eq_of_covers 2 _ (by decide +kernel) fun t hf y => ?_
  have e := ind2 t
  have ht := lt2 t
  blk_simp
  rw [after2_2]
  frame_out
  unfold dw_q
  pointwise [k2_pay1]
  blk_point [iblk2, e]

theorem ind4 : ∀ t : Fin grid4.N,
    (win4_0.index t 0 = t.val % 8 ∧ win4_0.index t 1 = 0)
      ∧ (win4_1.index t 0 = 0 ∧ win4_1.index t 1 = t.val / 8 ∧ win4_1.index t 2 = 0)
      ∧ win4_2.index t 0 = t.val % 8 ∧ win4_2.index t 1 = t.val / 8 := by decide +kernel

theorem blk4_d (t : Fin cfg4.N) (y : S512x6144.Idx) (i : S4096x6144.Idx) (h0 : (i 0).val = t.val % 8 * 512 + (y 0).val) (h1 : (i 1).val = (y 1).val) :
    iblk4 V c 0 t y = V c main_arg2 i := by
  have e := ind4 t
  blk_ext [iblk4, e]
theorem blk4_w (t : Fin cfg4.N) (y : S4x1024x1536.Idx) (i : S4x2048x1536.Idx) (h0 : (i 0).val = (y 0).val) (h1 : (i 1).val = t.val / 8 * 1024 + (y 1).val) (h2 : (i 2).val = (y 2).val) :
    iblk4 V c 1 t y = V c main_arg1 i := by
  have e := ind4 t
  blk_ext [iblk4, e]
theorem col4 (r n q : ℕ) (hn : n < 1536) (hq : q = 1536 * r + n) : q / 1536 = r ∧ q % 1536 = n := by omega

/-- One of the four products at a step. -/
theorem term4 (t : Fin cfg4.N) (r : Fin 4) (y0 : Fin 512) (y1 : Fin 1024) (s : Fin 4096) (k : Fin 2048) (hs : s.val = t.val % 8 * 512 + y0.val) (hk : k.val = t.val / 8 * 1024 + y1.val)
    (x0 : Vec Ideal S512x6144 .bf16) (x1 : Vec Ideal S4x1024x1536 .bf16) (h0 : x0 = iblk4 V c 0 t) (h1 : x1 = iblk4 V c 1 t)
    (p : Fin 1536 → Fin 6144) (b : Fin 4) (w : Fin 1536 → Fin 1536)
    (hp : ∀ n, (p n).val = 1536 * r.val + n.val) (hb : b.val = r.val) (hw : ∀ n, (w n).val = n.val) :
    ∑ n, x0 (ix2 y0 (p n)) * x1 (ix3 b y1 (w n))
      = ∑ n : Fin 1536, tx_q (V c main_arg1) (V c main_arg2) s k ⟨1536 * r.val + n.val, by omega⟩ := by
  refine Finset.sum_congr rfl fun n _ => ?_
  have hpn := hp n
  have hwn := hw n
  have hq := col4 r.val n.val _ n.isLt rfl
  subst h0 h1
  unfold tx_q
  refine congrArg₂ (· * ·) (blk4_d V c t _ _ hs ?_) (blk4_w V c t _ _ ?_ hk ?_)
  · exact hpn.symm
  · exact hq.1.trans hb.symm
  · exact hq.2.trans hwn.symm

theorem arr4 : (dat4 V c).arrAt 2 cfg4.N = dx_q (V c main_arg1) (V c main_arg2) := by
  refine (dat4 V c).arrAt_eq_of_covers 2 _ (by decide +kernel) fun t hf y => ?_
  have e := ind4 t
  blk_simp
  rw [after4_2]
  frame_out
  have hs : (((View.whole main_v4).slice (win4_2.rect t)).emb y 0).val = t.val % 8 * 512 + (y 0).val := by
    show win4_2.index t 0 * 512 + 1 * (y 0).val = _
    rw [e.2.2.1]; omega
  have hk : (((View.whole main_v4).slice (win4_2.rect t)).emb y 1).val = t.val / 8 * 1024 + (y 1).val := by
    show win4_2.index t 1 * 1024 + 1 * (y 1).val = _
    rw [e.2.2.2]; omega
  pointwise [k4_pay1]
  refine Eq.trans ?_ (sum_q (tx_q (V c main_arg1) (V c main_arg2) (((View.whole main_v4).slice (win4_2.rect t)).emb y 0) (((View.whole main_v4).slice (win4_2.rect t)).emb y 1)))
  generalize h0 : iblk4 V c 0 t = x0
  generalize h1 : iblk4 V c 1 t = x1
  have T := fun r => term4 V c t r (y 0) (y 1) _ _ hs hk x0 x1 h0.symm h1.symm
  refine congrArg₂ (· + ·) (congrArg₂ (· + ·) (congrArg₂ (· + ·)
    (T 0 _ _ _ (fun n => ?_) ?_ (fun n => ?_)) (T 1 _ _ _ (fun n => ?_) ?_ (fun n => ?_))) (T 2 _ _ _ (fun n => ?_) ?_ (fun n => ?_)))
    (T 3 _ _ _ (fun n => ?_) ?_ (fun n => ?_))
  all_goals (clear T h0 h1; first | decide | simp)

/-! ## The keys' and values' product -/

theorem ind0 : ∀ t : Fin grid0.N,
    (win0_0.index t 0 = t.val % 8 ∧ win0_0.index t 1 = 0)
      ∧ (win0_1.index t 0 = t.val / 8 ∧ win0_1.index t 1 = 0 ∧ win0_1.index t 2 = 0)
      ∧ win0_2.index t 0 = t.val % 8 ∧ win0_2.index t 1 = t.val / 8 := by decide +kernel
theorem lt0 (t : Fin cfg0.N) : t.val < 8 := lt_of_lt_of_eq t.isLt (by decide)

theorem arr0 : (dat0 V c).arrAt 2 cfg0.N = fw_kv (V c main_arg3) (V c main_arg4) := by
  refine (dat0 V c).arrAt_eq_of_covers 2 _ (by decide +kernel) fun t hf y => ?_
  have e := ind0 t
  have ht := lt0 t
  blk_simp
  rw [after0_2]
  frame_out
  unfold fw_kv
  pointwise [k0_pay1]
  blk_point [iblk0, e]

theorem ind3 : ∀ t : Fin grid3.N,
    (win3_0.index t 0 = 0 ∧ win3_0.index t 1 = t.val % 4)
      ∧ (win3_1.index t 0 = 0 ∧ win3_1.index t 1 = t.val / 4)
      ∧ win3_2.index t 0 = t.val / 4 ∧ win3_2.index t 1 = t.val % 4 ∧ win3_2.index t 2 = 0 := by decide +kernel
theorem lt3 (t : Fin cfg3.N) : t.val < 4 := lt_of_lt_of_eq t.isLt (by decide)

theorem arr3 : (dat3 V c).arrAt 2 cfg3.N = dw_kv (V c main_arg3) (V c main_arg5) := by
  refine (dat3 V c).arrAt_eq_of_covers 2 _ (by decide +kernel) fun t hf y => ?_
  have e := ind3 t
  have ht := lt3 t
  blk_simp
  rw [after3_2]
  frame_out
  unfold dw_kv
  pointwise [k3_pay1]
  blk_point [iblk3, e]

theorem ind5 : ∀ t : Fin grid5.N,
    (win5_0.index t 0 = t.val % 8 ∧ win5_0.index t 1 = 0)
      ∧ (win5_1.index t 0 = 0 ∧ win5_1.index t 1 = t.val / 8 ∧ win5_1.index t 2 = 0)
      ∧ win5_2.index t 0 = t.val % 8 ∧ win5_2.index t 1 = t.val / 8 := by decide +kernel

theorem arr5 : (dat5 V c).arrAt 2 cfg5.N = dx_kv (V c main_arg4) (V c main_arg5) := by
  refine (dat5 V c).arrAt_eq_of_covers 2 _ (by decide +kernel) fun t hf y => ?_
  have e := ind5 t
  blk_simp
  rw [after5_2]
  frame_out
  unfold dx_kv tx_kv
  pointwise [k5_pay1]
  blk_point [iblk5, e]

end Cert.Qk

end
-- ==== Proof.QkvAlg.lean ====
module

public import proofs.«01_k».proof.Defs
public import proofs.«01_k».proof.Proof.QkvKer

@[expose] public section

set_option maxRecDepth 16384

noncomputable section

namespace Cert.Qk

open Idealize.ShloMosaic Idealize.ShloMosaic.TcCoe Idealize.SL.Sem Idealize.ShloMosaic.StableHlo
open scoped BigOperators

/-! # The products' results are the plain mathematics' -/

section
open Cert.QkvIdeal Cert.QkvIdeal.Gen
variable (m : (ℓ : Loc nD τ sig) → Buf (Elt Ideal) ℓ) (ρ : Dev nD → PrngReg) (c : Dev nD)

theorem k_fw_q : W6 m ρ c (Proc.devRef .tc main_v1) = fw_q (m ((c : Thread nD τ).loc main_arg0)) (m ((c : Thread nD τ).loc main_arg1)) := by
  rw [W6_of m ρ c main_v1 (by decide), W5_of m ρ c main_v1 (by decide), W4_of m ρ c main_v1 (by decide), W3_of m ρ c main_v1 (by decide)]
  refine (W2_arr m ρ c 2).trans ((arr1 (V1 m ρ) c).trans ?_)
  rw [show V1 m ρ c main_arg0 = m ((c : Thread nD τ).loc main_arg0) from W1_of m ρ c main_arg0 (by decide),
    show V1 m ρ c main_arg1 = m ((c : Thread nD τ).loc main_arg1) from W1_of m ρ c main_arg1 (by decide)]

theorem k_dw_q : W6 m ρ c (Proc.devRef .tc main_v2) = dw_q (m ((c : Thread nD τ).loc main_arg0)) (m ((c : Thread nD τ).loc main_arg2)) := by
  rw [W6_of m ρ c main_v2 (by decide), W5_of m ρ c main_v2 (by decide), W4_of m ρ c main_v2 (by decide)]
  refine (W3_arr m ρ c 2).trans ((arr2 (V2 m ρ) c).trans ?_)
  rw [show V2 m ρ c main_arg0 = m ((c : Thread nD τ).loc main_arg0) from (W2_of m ρ c main_arg0 (by decide)).trans (W1_of m ρ c main_arg0 (by decide)),
    show V2 m ρ c main_arg2 = m ((c : Thread nD τ).loc main_arg2) from (W2_of m ρ c main_arg2 (by decide)).trans (W1_of m ρ c main_arg2 (by decide))]

theorem k_dx_q : W6 m ρ c (Proc.devRef .tc main_v4) = dx_q (m ((c : Thread nD τ).loc main_arg1)) (m ((c : Thread nD τ).loc main_arg2)) := by
  rw [W6_of m ρ c main_v4 (by decide)]
  refine (W5_arr m ρ c 2).trans ((arr4 (V4 m ρ) c).trans ?_)
  rw [show V4 m ρ c main_arg1 = m ((c : Thread nD τ).loc main_arg1) from (W4_of m ρ c main_arg1 (by decide)).trans ((W3_of m ρ c main_arg1 (by decide)).trans ((W2_of m ρ c main_arg1 (by decide)).trans (W1_of m ρ c main_arg1 (by decide)))),
    show V4 m ρ c main_arg2 = m ((c : Thread nD τ).loc main_arg2) from (W4_of m ρ c main_arg2 (by decide)).trans ((W3_of m ρ c main_arg2 (by decide)).trans ((W2_of m ρ c main_arg2 (by decide)).trans (W1_of m ρ c main_arg2 (by decide))))]

theorem k_fw_kv : W6 m ρ c (Proc.devRef .tc main_v0) = fw_kv (m ((c : Thread nD τ).loc main_arg3)) (m ((c : Thread nD τ).loc main_arg4)) := by
  rw [W6_of m ρ c main_v0 (by decide), W5_of m ρ c main_v0 (by decide), W4_of m ρ c main_v0 (by decide), W3_of m ρ c main_v0 (by decide), W2_of m ρ c main_v0 (by decide)]
  refine (W1_arr m ρ c 2).trans ((arr0 (V0 m ρ) c).trans ?_)
  rfl

theorem k_dw_kv : W6 m ρ c (Proc.devRef .tc main_v3) = dw_kv (m ((c : Thread nD τ).loc main_arg3)) (m ((c : Thread nD τ).loc main_arg5)) := by
  rw [W6_of m ρ c main_v3 (by decide), W5_of m ρ c main_v3 (by decide)]
  refine (W4_arr m ρ c 2).trans ((arr3 (V3 m ρ) c).trans ?_)
  rw [show V3 m ρ c main_arg3 = m ((c : Thread nD τ).loc main_arg3) from (W3_of m ρ c main_arg3 (by decide)).trans ((W2_of m ρ c main_arg3 (by decide)).trans (W1_of m ρ c main_arg3 (by decide))),
    show V3 m ρ c main_arg5 = m ((c : Thread nD τ).loc main_arg5) from (W3_of m ρ c main_arg5 (by decide)).trans ((W2_of m ρ c main_arg5 (by decide)).trans (W1_of m ρ c main_arg5 (by decide)))]

theorem k_dx_kv : W6 m ρ c (Proc.devRef .tc main_v5) = dx_kv (m ((c : Thread nD τ).loc main_arg4)) (m ((c : Thread nD τ).loc main_arg5)) := by
  refine (W6_arr m ρ c 2).trans ((arr5 (V5 m ρ) c).trans ?_)
  rw [show V5 m ρ c main_arg4 = m ((c : Thread nD τ).loc main_arg4) from (W5_of m ρ c main_arg4 (by decide)).trans ((W4_of m ρ c main_arg4 (by decide)).trans ((W3_of m ρ c main_arg4 (by decide)).trans ((W2_of m ρ c main_arg4 (by decide)).trans (W1_of m ρ c main_arg4 (by decide))))),
    show V5 m ρ c main_arg5 = m ((c : Thread nD τ).loc main_arg5) from (W5_of m ρ c main_arg5 (by decide)).trans ((W4_of m ρ c main_arg5 (by decide)).trans ((W3_of m ρ c main_arg5 (by decide)).trans ((W2_of m ρ c main_arg5 (by decide)).trans (W1_of m ρ c main_arg5 (by decide)))))]

end

section
open Cert.QkvReferenceIdeal Cert.QkvReferenceIdeal.Read
theorem to_22 {x0 y0 : Vec Ideal ⟨2, ![4096, 2048]⟩ .bf16} {x1 y1 : Vec Ideal ⟨3, ![4, 2048, 1536]⟩ .bf16} (e0 : y0 = x0) (e1 : y1 = x1) :
    val_main_v22 (F := Ideal) y0 y1 = fw_q x0 x1 := by
  subst e0 e1; exact r_fw_q _ _
theorem to_8 {x1 y1 : Vec Ideal ⟨3, ![4, 2048, 1536]⟩ .bf16} {x2 y2 : Vec Ideal ⟨2, ![4096, 6144]⟩ .bf16} (e1 : y1 = x1) (e2 : y2 = x2) :
    val_main_v8 (F := Ideal) y1 y2 = dx_q x1 x2 := by
  subst e1 e2; exact r_dx_q _ _
theorem to_23 {x0 y0 : Vec Ideal ⟨2, ![4096, 2048]⟩ .bf16} {x2 y2 : Vec Ideal ⟨2, ![4096, 6144]⟩ .bf16} (e0 : y0 = x0) (e2 : y2 = x2) :
    val_main_v23 (F := Ideal) y0 y2 = dw_q x0 x2 := by
  subst e0 e2; exact r_dw_q _ _
theorem to_24 {x3 y3 : Vec Ideal ⟨2, ![4096, 2048]⟩ .bf16} {x4 y4 : Vec Ideal ⟨3, ![1, 2048, 1024]⟩ .bf16} (e3 : y3 = x3) (e4 : y4 = x4) :
    val_main_v24 (F := Ideal) y3 y4 = fw_kv x3 x4 := by
  subst e3 e4; exact r_fw_kv _ _
theorem to_19 {x4 y4 : Vec Ideal ⟨3, ![1, 2048, 1024]⟩ .bf16} {x5 y5 : Vec Ideal ⟨2, ![4096, 1024]⟩ .bf16} (e4 : y4 = x4) (e5 : y5 = x5) :
    val_main_v19 (F := Ideal) y4 y5 = dx_kv x4 x5 := by
  subst e4 e5; exact r_dx_kv _ _
theorem to_25 {x3 y3 : Vec Ideal ⟨2, ![4096, 2048]⟩ .bf16} {x5 y5 : Vec Ideal ⟨2, ![4096, 1024]⟩ .bf16} (e3 : y3 = x3) (e5 : y5 = x5) :
    val_main_v25 (F := Ideal) y3 y5 = dw_kv x3 x5 := by
  subst e3 e5; exact r_dw_kv _ _
end

theorem algebraic : Cert.algebraic_QkvIdeal_QkvReferenceIdeal (hQkvIdeal := Cert.QkvIdeal.Gen.facts) (hQkvReferenceIdeal := Cert.QkvReferenceIdeal.Gen.facts) := by
  intro m g m' g' hpre hagree
  refine ⟨fun c => fw_q (m ((c.tc : Thread Cert.QkvIdeal.nD Cert.QkvIdeal.τ).loc Cert.QkvIdeal.main_arg0)) (m ((c.tc : Thread Cert.QkvIdeal.nD Cert.QkvIdeal.τ).loc Cert.QkvIdeal.main_arg1)),
    fun c => dx_q (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
    fun c => dw_q (m ((c.tc : Thread Cert.QkvIdeal.nD Cert.QkvIdeal.τ).loc Cert.QkvIdeal.main_arg0)) (m ((c.tc : Thread Cert.QkvIdeal.nD Cert.QkvIdeal.τ).loc Cert.QkvIdeal.main_arg2)),
    fun c => fw_kv (m ((c.tc : Thread Cert.QkvIdeal.nD Cert.QkvIdeal.τ).loc Cert.QkvIdeal.main_arg3)) (m ((c.tc : Thread Cert.QkvIdeal.nD Cert.QkvIdeal.τ).loc Cert.QkvIdeal.main_arg4)),
    fun c => dx_kv (m ((c.tc : Thread Cert.QkvIdeal.nD Cert.QkvIdeal.τ).loc Cert.QkvIdeal.main_arg4)) (m ((c.tc : Thread Cert.QkvIdeal.nD Cert.QkvIdeal.τ).loc Cert.QkvIdeal.main_arg5)),
    fun c => dw_kv (m ((c.tc : Thread Cert.QkvIdeal.nD Cert.QkvIdeal.τ).loc Cert.QkvIdeal.main_arg3)) (m ((c.tc : Thread Cert.QkvIdeal.nD Cert.QkvIdeal.τ).loc Cert.QkvIdeal.main_arg5)), ?_, ?_⟩
  · refine (θ_run Cert.QkvIdeal.defs _ _).mono (fun r h c => ?_) (run (F := Ideal) m g)
    obtain ⟨h1, h2, h3, h4, h5, h6, ha⟩ := h.1 c
    exact ⟨h1.trans (k_fw_q m g c), h2.trans (k_dx_q m g c), h3.trans (k_dw_q m g c), h4.trans (k_fw_kv m g c), h5.trans (k_dx_kv m g c), h6.trans (k_dw_kv m g c), ha⟩
  · refine (θ_run Cert.QkvReferenceIdeal.defs _ _).mono (fun r h c => ?_) (Cert.QkvReferenceIdeal.Value.run (F := Ideal) m' g')
    obtain ⟨e0, e1, e2, e3, e4, e5⟩ := hagree c
    exact ⟨(h c).1.trans ((Cert.QkvReferenceIdeal.Read.val_main_v22_eq _ _).trans (to_22 e0 e1)),
      (h c).2.1.trans ((Cert.QkvReferenceIdeal.Read.val_main_v8_eq _ _).trans (to_8 e1 e2)),
      (h c).2.2.1.trans ((Cert.QkvReferenceIdeal.Read.val_main_v23_eq _ _).trans (to_23 e0 e2)),
      (h c).2.2.2.1.trans ((Cert.QkvReferenceIdeal.Read.val_main_v24_eq _ _).trans (to_24 e3 e4)),
      (h c).2.2.2.2.1.trans ((Cert.QkvReferenceIdeal.Read.val_main_v19_eq _ _).trans (to_19 e4 e5)),
      (h c).2.2.2.2.2.1.trans ((Cert.QkvReferenceIdeal.Read.val_main_v25_eq _ _).trans (to_25 e3 e5)), (h c).2.2.2.2.2.2⟩

end Cert.Qk

end
-- ==== Proof.GluOutRun.lean ====
module

public import proofs.«01_k».proof.Proof.Gen.GluOutIdeal
public import proofs.«01_k».proof.Proof.Gen.GluOutIdeal.Frame
public import proofs.«01_k».proof.Proof.Gen.GluOut
public import proofs.«01_k».proof.Proof.Gen.GluOut.Frame
public import proofs.«01_k».proof.Proof.Gen.GluOutReferenceIdeal.Read
public import proofs.«01_k».proof.Proof.Gen.GluOutReferenceIdeal.Run
public import proofs.«01_k».proof.Proof.Gen.GluOutReferenceIdeal

@[expose] public section

set_option maxRecDepth 16384

noncomputable section

namespace Cert.Go

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.GluOutIdeal Cert.GluOutIdeal.Gen

/-! ## The run of the five calls: every array ends with the contents its last call leaves -/

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_v4) = W5 m ρ c (Proc.devRef .tc main_v4)
      ∧ r.2.mem ((c.tc : Thread nD τ).loc main_v3) = W5 m ρ c (Proc.devRef .tc main_v3)
      ∧ r.2.mem ((c.tc : Thread nD τ).loc main_v2) = W5 m ρ c (Proc.devRef .tc main_v2)
      ∧ r.2.mem ((c.tc : Thread nD τ).loc main_v1) = W5 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v0 (by decide)), h c _ (mem_uc main_v4 (by decide)), h c _ (mem_uc main_v3 (by decide)), h c _ (mem_uc main_v2 (by decide)), h c _ (mem_uc main_v1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩), funext fun g => hz g (.inr (no_unscoped g.2))⟩)

end Cert.Go

end
-- ==== Proof.GluOutRef.lean ====
module

public import proofs.«01_k».proof.Proof.Gen.GluOutReferenceIdeal.Read
public import proofs.«01_k».proof.Proof.FfnRef

@[expose] public section

set_option maxRecDepth 16384

noncomputable section

namespace Cert.Go

open Idealize.ShloMosaic
open scoped BigOperators

/-! # The products and their gradients, element by element -/

/-! The gated unit's product -/

/-- The rows of the input against the weight's columns. -/
def fw_g (x : Vec Ideal ⟨2, ![4096, 2048]⟩ .bf16) (w : Vec Ideal ⟨3, ![4, 2048, 1024]⟩ .bf16) (i : (⟨2, ![4096, 4096]⟩ : Shape).Idx) : EReal :=
  ∑ k : Fin 2048, x (ix2 (i 0) k) * w (ix3 ⟨(i 1).val / 1024, by have h : (i 1).val < 4096 := (i 1).isLt; omega⟩ k ⟨(i 1).val % 1024, by omega⟩)
/-- The gradient of the weight. -/
def dw_g (x : Vec Ideal ⟨2, ![4096, 2048]⟩ .bf16) (d : Vec Ideal ⟨2, ![4096, 4096]⟩ .bf16) (i : (⟨3, ![4, 2048, 1024]⟩ : Shape).Idx) : EReal :=
  ∑ s : Fin 4096, x (ix2 s (i 1)) * d (ix2 s ⟨1024 * (i 0).val + (i 2).val, by have h0 : (i 0).val < 4 := (i 0).isLt; have h2 : (i 2).val < 1024 := (i 2).isLt; omega⟩)
/-- A column's term of the gradient of the input, and that gradient. -/
def tx_g (w : Vec Ideal ⟨3, ![4, 2048, 1024]⟩ .bf16) (d : Vec Ideal ⟨2, ![4096, 4096]⟩ .bf16) (s : Fin 4096) (k : Fin 2048) (q : Fin 4096) : EReal :=
  d (ix2 s q) * w (ix3 ⟨q.val / 1024, by omega⟩ k ⟨q.val % 1024, by omega⟩)
def dx_g (w : Vec Ideal ⟨3, ![4, 2048, 1024]⟩ .bf16) (d : Vec Ideal ⟨2, ![4096, 4096]⟩ .bf16) (i : (⟨2, ![4096, 2048]⟩ : Shape).Idx) : EReal :=
  ∑ q : Fin 4096, tx_g w d (i 0) (i 1) q

/-- Four sums over the blocks are one sum over the columns. -/
theorem sum_g (f : Fin 4096 → EReal) :
    (∑ n : Fin 1024, f ⟨1024 * (0 : Fin 4).val + n.val, by omega⟩) + (∑ n : Fin 1024, f ⟨1024 * (1 : Fin 4).val + n.val, by omega⟩)
        + (∑ n : Fin 1024, f ⟨1024 * (2 : Fin 4).val + n.val, by omega⟩) + (∑ n : Fin 1024, f ⟨1024 * (3 : Fin 4).val + n.val, by omega⟩) = ∑ c, f c := by
  have h4 : ∑ c, f c = ∑ r : Fin 4, ∑ n : Fin 1024, f ⟨1024 * r.val + n.val, by omega⟩ := by
    rw [← Fin.sum_mul_add_fin 4 1024 f]
    refine Finset.sum_congr rfl fun r _ => Finset.sum_congr rfl fun n _ => congrArg f (Fin.ext ?_)
    dsimp only
    omega
  rw [h4, Fin.sum_univ_four]

/-! The output's product -/

/-- The gradient of the weight. -/
def dw_o (x : Vec Ideal ⟨2, ![4096, 2048]⟩ .bf16) (d : Vec Ideal ⟨2, ![4096, 2048]⟩ .bf16) (i : (⟨3, ![1, 2048, 2048]⟩ : Shape).Idx) : EReal :=
  ∑ s : Fin 4096, x (ix2 s (i 1)) * d (ix2 s (i 2))
/-- A column's term of the gradient of the input, and that gradient. -/
def tx_o (w : Vec Ideal ⟨3, ![1, 2048, 2048]⟩ .bf16) (d : Vec Ideal ⟨2, ![4096, 2048]⟩ .bf16) (s : Fin 4096) (k : Fin 2048) (q : Fin 2048) : EReal :=
  d (ix2 s q) * w (ix3 0 k q)
def dx_o (w : Vec Ideal ⟨3, ![1, 2048, 2048]⟩ .bf16) (d : Vec Ideal ⟨2, ![4096, 2048]⟩ .bf16) (i : (⟨2, ![4096, 2048]⟩ : Shape).Idx) : EReal :=
  ∑ q : Fin 2048, tx_o w d (i 0) (i 1) q

open Cert.GluOutReferenceIdeal Cert.GluOutReferenceIdeal.Gen Cert.GluOutReferenceIdeal.Read
open Cert.Ff (eq2 eq3)

/-! # The plain mathematics' values -/

section
variable (x0 : Vec Ideal ⟨2, ![4096, 2048]⟩ .bf16) (x1 : Vec Ideal ⟨3, ![4, 2048, 1024]⟩ .bf16) (x2 : Vec Ideal ⟨2, ![4096, 4096]⟩ .bf16)
variable (x3 : Vec Ideal ⟨2, ![4096, 2048]⟩ .bf16) (x4 : Vec Ideal ⟨3, ![1, 2048, 2048]⟩ .bf16) (x5 : Vec Ideal ⟨2, ![4096, 2048]⟩ .bf16)

theorem w_g (i : S2048x4096.Idx) (k : Fin 2048) (q : Fin 4096) (h0 : (i 0).val = k.val) (h1 : (i 1).val = q.val) :
    val_main_v3 (F := Ideal) x1 i = x1 (ix3 ⟨q.val / 1024, by omega⟩ k ⟨q.val % 1024, by omega⟩) := by
  rw [val_main_v3_apply, val_main_v2_apply]
  refine congrArg x1 (eq3 _ _ _ _ ?_ ?_ ?_)
  · show ((i 0).val * 4096 + (i 1).val) / 1024 % 4 = q.val / 1024
    omega
  · show ((i 0).val * 4096 + (i 1).val) / 4096 = k.val
    omega
  · show ((i 0).val * 4096 + (i 1).val) % 1024 = q.val % 1024
    omega
theorem r_fw_g : val_main_v4 (F := Ideal) x0 x1 = fw_g x0 x1 := by
  funext i
  refine Eq.trans (b := val_main_v4 (F := Ideal) x0 x1 i) rfl ?_
  rw [val_main_v4_apply]
  exact Finset.sum_congr rfl fun k _ => congrArg₂ (· * ·) (congrArg x0 (eq2 _ (i 0) k rfl rfl)) (w_g x1 _ k (i 1) rfl rfl)
theorem r_dx_g : val_main_v8 (F := Ideal) x1 x2 = dx_g x1 x2 := by
  funext i
  rw [val_main_v8_apply]
  exact Finset.sum_congr rfl fun q _ => congrArg₂ (· * ·) (congrArg x2 (eq2 _ (i 0) q rfl rfl)) (w_g x1 _ (i 1) q rfl rfl)
theorem r_dw_g : val_main_v22 (F := Ideal) x0 x2 = dw_g x0 x2 := by
  funext i
  have h0 : (i 0).val < 4 := (i 0).isLt
  have h1 : (i 1).val < 2048 := (i 1).isLt
  have h2 : (i 2).val < 1024 := (i 2).isLt
  refine Eq.trans (b := val_main_v10 (F := Ideal) x0 x2 i) rfl ?_
  rw [val_main_v10_apply, val_main_v9_apply, val_main_v7_apply, val_main_v6_apply]
  refine Finset.sum_congr rfl fun s _ => (mul_comm _ _).trans (congrArg₂ (· * ·) (congrArg x0 (eq2 _ s (i 1) rfl ?_)) (congrArg x2 (eq2 _ s _ rfl ?_)))
  · show (((i 1).val * 4 + (i 0).val) * 1024 + (i 2).val) / 4096 = (i 1).val
    omega
  · show (((i 1).val * 4 + (i 0).val) * 1024 + (i 2).val) % 4096 = 1024 * (i 0).val + (i 2).val
    omega

theorem w_o (i : S2048x2048.Idx) (k : Fin 2048) (q : Fin 2048) (h0 : (i 0).val = k.val) (h1 : (i 1).val = q.val) :
    val_main_v14 (F := Ideal) x4 i = x4 (ix3 0 k q) := by
  rw [val_main_v14_apply, val_main_v13_apply]
  refine congrArg x4 (eq3 _ _ _ _ rfl ?_ ?_)
  · show ((i 0).val * 2048 + (i 1).val) / 2048 = k.val
    omega
  · show ((i 0).val * 2048 + (i 1).val) % 2048 = q.val
    omega
theorem r_dx_o : val_main_v19 (F := Ideal) x4 x5 = dx_o x4 x5 := by
  funext i
  rw [val_main_v19_apply]
  exact Finset.sum_congr rfl fun q _ => congrArg₂ (· * ·) (congrArg x5 (eq2 _ (i 0) q rfl rfl)) (w_o x4 _ (i 1) q rfl rfl)
theorem r_dw_o : val_main_v23 (F := Ideal) x3 x5 = dw_o x3 x5 := by
  funext i
  have h0 : (i 0).val < 1 := (i 0).isLt
  have h1 : (i 1).val < 2048 := (i 1).isLt
  have h2 : (i 2).val < 2048 := (i 2).isLt
  refine Eq.trans (b := val_main_v21 (F := Ideal) x3 x5 i) rfl ?_
  rw [val_main_v21_apply, val_main_v20_apply, val_main_v18_apply, val_main_v17_apply]
  refine Finset.sum_congr rfl fun s _ => (mul_comm _ _).trans (congrArg₂ (· * ·) (congrArg x3 (eq2 _ s (i 1) rfl ?_)) (congrArg x5 (eq2 _ s _ rfl ?_)))
  · show (((i 1).val * 1 + (i 0).val) * 2048 + (i 2).val) / 2048 = (i 1).val
    omega
  · show (((i 1).val * 1 + (i 0).val) * 2048 + (i 2).val) % 2048 = (i 2).val
    omega
end

end Cert.Go

end
-- ==== Proof.GluOutKer.lean ====
module

public import proofs.«01_k».proof.Proof.GluOutRun
public import proofs.«01_k».proof.Proof.GluOutRef
public import Idealize.ShloMosaic.Lib.Pipeline.ValueKit.Geometry
public import Idealize.ShloMosaic.Lib.Pipeline.ValueKit.Partial
public import Idealize.ShloMosaic.Lib.Pipeline.ValueKit.Point

@[expose] public section

set_option maxRecDepth 16384

noncomputable section

namespace Cert.Go

open Idealize.ShloMosaic Idealize.ShloMosaic.TcCoe Idealize.SL.Sem Cert.GluOutIdeal Cert.GluOutIdeal.Gen
open Pipeline (Dat)
open scoped BigOperators

/-! # What the five calls leave in their arrays -/

variable (V : (c : Dev nD) → (b : Ref sig .tc) → Buf (Elt Ideal) ((c : Thread nD τ).loc b)) (c : Dev nD)

/-! ## The gated unit's product -/

theorem ind0 : ∀ t : Fin grid0.N,
    (win0_0.index t 0 = t.val % 8 ∧ win0_0.index t 1 = 0)
      ∧ (win0_1.index t 0 = t.val / 8 ∧ win0_1.index t 1 = 0 ∧ win0_1.index t 2 = 0)
      ∧ win0_2.index t 0 = t.val % 8 ∧ win0_2.index t 1 = t.val / 8 := by decide +kernel
theorem lt0 (t : Fin cfg0.N) : t.val < 32 := lt_of_lt_of_eq t.isLt (by decide)

theorem arr0 : (dat0 V c).arrAt 2 cfg0.N = fw_g (V c main_arg0) (V c main_arg1) := by
  refine (dat0 V c).arrAt_eq_of_covers 2 _ (by decide +kernel) fun t hf y => ?_
  have e := ind0 t
  have ht := lt0 t
  blk_simp
  rw [after0_2]
  frame_out
  unfold fw_g
  pointwise [k0_pay1]
  blk_point [iblk0, e]

theorem ind3 : ∀ t : Fin grid3.N,
    (win3_0.index t 0 = 0 ∧ win3_0.index t 1 = t.val % 4)
      ∧ (win3_1.index t 0 = 0 ∧ win3_1.index t 1 = t.val / 4)
      ∧ win3_2.index t 0 = t.val / 4 ∧ win3_2.index t 1 = t.val % 4 ∧ win3_2.index t 2 = 0 := by decide +kernel
theorem lt3 (t : Fin cfg3.N) : t.val < 16 := lt_of_lt_of_eq t.isLt (by decide)

theorem arr3 : (dat3 V c).arrAt 2 cfg3.N = dw_g (V c main_arg0) (V c main_arg2) := by
  refine (dat3 V c).arrAt_eq_of_covers 2 _ (by decide +kernel) fun t hf y => ?_
  have e := ind3 t
  have ht := lt3 t
  blk_simp
  rw [after3_2]
  frame_out
  unfold dw_g
  pointwise [k3_pay1]
  blk_point [iblk3, e]

theorem ind4 : ∀ t : Fin grid4.N,
    (win4_0.index t 0 = t.val % 8 ∧ win4_0.index t 1 = 0)
      ∧ (win4_1.index t 0 = 0 ∧ win4_1.index t 1 = t.val / 8 ∧ win4_1.index t 2 = 0)
      ∧ win4_2.index t 0 = t.val % 8 ∧ win4_2.index t 1 = t.val / 8 := by decide +kernel

theorem blk4_d (t : Fin cfg4.N) (y : S512x4096.Idx) (i : S4096x4096.Idx) (h0 : (i 0).val = t.val % 8 * 512 + (y 0).val) (h1 : (i 1).val = (y 1).val) :
    iblk4 V c 0 t y = V c main_arg2 i := by
  have e := ind4 t
  blk_ext [iblk4, e]
theorem blk4_w (t : Fin cfg4.N) (y : S4x1024x1024.Idx) (i : S4x2048x1024.Idx) (h0 : (i 0).val = (y 0).val) (h1 : (i 1).val = t.val / 8 * 1024 + (y 1).val) (h2 : (i 2).val = (y 2).val) :
    iblk4 V c 1 t y = V c main_arg1 i := by
  have e := ind4 t
  blk_ext [iblk4, e]
theorem col4 (r n q : ℕ) (hn : n < 1024) (hq : q = 1024 * r + n) : q / 1024 = r ∧ q % 1024 = n := by omega

/-- One of the four products at a step. -/
theorem term4 (t : Fin cfg4.N) (r : Fin 4) (y0 : Fin 512) (y1 : Fin 1024) (s : Fin 4096) (k : Fin 2048) (hs : s.val = t.val % 8 * 512 + y0.val) (hk : k.val = t.val / 8 * 1024 + y1.val)
    (x0 : Vec Ideal S512x4096 .bf16) (x1 : Vec Ideal S4x1024x1024 .bf16) (h0 : x0 = iblk4 V c 0 t) (h1 : x1 = iblk4 V c 1 t)
    (p : Fin 1024 → Fin 4096) (b : Fin 4) (w : Fin 1024 → Fin 1024)
    (hp : ∀ n, (p n).val = 1024 * r.val + n.val) (hb : b.val = r.val) (hw : ∀ n, (w n).val = n.val) :
    ∑ n, x0 (ix2 y0 (p n)) * x1 (ix3 b y1 (w n))
      = ∑ n : Fin 1024, tx_g (V c main_arg1) (V c main_arg2) s k ⟨1024 * r.val + n.val, by omega⟩ := by
  refine Finset.sum_congr rfl fun n _ => ?_
  have hpn := hp n
  have hwn := hw n
  have hq := col4 r.val n.val _ n.isLt rfl
  subst h0 h1
  unfold tx_g
  refine congrArg₂ (· * ·) (blk4_d V c t _ _ hs ?_) (blk4_w V c t _ _ ?_ hk ?_)
  · exact hpn.symm
  · exact hq.1.trans hb.symm
  · exact hq.2.trans hwn.symm

theorem arr4 : (dat4 V c).arrAt 2 cfg4.N = dx_g (V c main_arg1) (V c main_arg2) := by
  refine (dat4 V c).arrAt_eq_of_covers 2 _ (by decide +kernel) fun t hf y => ?_
  have e := ind4 t
  blk_simp
  rw [after4_2]
  frame_out
  have hs : (((View.whole main_v4).slice (win4_2.rect t)).emb y 0).val = t.val % 8 * 512 + (y 0).val := by
    show win4_2.index t 0 * 512 + 1 * (y 0).val = _
    rw [e.2.2.1]; omega
  have hk : (((View.whole main_v4).slice (win4_2.rect t)).emb y 1).val = t.val / 8 * 1024 + (y 1).val := by
    show win4_2.index t 1 * 1024 + 1 * (y 1).val = _
    rw [e.2.2.2]; omega
  pointwise [k4_pay1]
  refine Eq.trans ?_ (sum_g (tx_g (V c main_arg1) (V c main_arg2) (((View.whole main_v4).slice (win4_2.rect t)).emb y 0) (((View.whole main_v4).slice (win4_2.rect t)).emb y 1)))
  generalize h0 : iblk4 V c 0 t = x0
  generalize h1 : iblk4 V c 1 t = x1
  have T := fun r => term4 V c t r (y 0) (y 1) _ _ hs hk x0 x1 h0.symm h1.symm
  refine congrArg₂ (· + ·) (congrArg₂ (· + ·) (congrArg₂ (· + ·)
    (T 0 _ _ _ (fun n => ?_) ?_ (fun n => ?_)) (T 1 _ _ _ (fun n => ?_) ?_ (fun n => ?_))) (T 2 _ _ _ (fun n => ?_) ?_ (fun n => ?_)))
    (T 3 _ _ _ (fun n => ?_) ?_ (fun n => ?_))
  all_goals (clear T h0 h1; first | decide | simp)

/-! ## The output's product -/

theorem ind1 : ∀ t : Fin grid1.N,
    (win1_0.index t 0 = 0 ∧ win1_0.index t 1 = t.val % 4)
      ∧ (win1_1.index t 0 = 0 ∧ win1_1.index t 1 = t.val / 4)
      ∧ win1_2.index t 0 = 0 ∧ win1_2.index t 1 = t.val % 4 ∧ win1_2.index t 2 = t.val / 4 := by decide +kernel
theorem lt1 (t : Fin cfg1.N) : t.val < 8 := lt_of_lt_of_eq t.isLt (by decide)

theorem arr1 : (dat1 V c).arrAt 2 cfg1.N = dw_o (V c main_arg3) (V c main_arg5) := by
  refine (dat1 V c).arrAt_eq_of_covers 2 _ (by decide +kernel) fun t hf y => ?_
  have e := ind1 t
  have ht := lt1 t
  blk_simp
  rw [after1_2]
  frame_out
  unfold dw_o
  pointwise [k1_pay1]
  blk_point [iblk1, e]

theorem ind2 : ∀ t : Fin grid2.N,
    (win2_0.index t 0 = t.val % 8 ∧ win2_0.index t 1 = 0)
      ∧ (win2_1.index t 0 = 0 ∧ win2_1.index t 1 = t.val / 8 ∧ win2_1.index t 2 = 0)
      ∧ win2_2.index t 0 = t.val % 8 ∧ win2_2.index t 1 = t.val / 8 := by decide +kernel

theorem arr2 : (dat2 V c).arrAt 2 cfg2.N = dx_o (V c main_arg4) (V c main_arg5) := by
  refine (dat2 V c).arrAt_eq_of_covers 2 _ (by decide +kernel) fun t hf y => ?_
  have e := ind2 t
  blk_simp
  rw [after2_2]
  frame_out
  unfold dx_o tx_o
  pointwise [k2_pay1]
  blk_point [iblk2, e]

end Cert.Go

end
-- ==== Proof.GluOutAlg.lean ====
module

public import proofs.«01_k».proof.Defs
public import proofs.«01_k».proof.Proof.GluOutKer

@[expose] public section

set_option maxRecDepth 16384

noncomputable section

namespace Cert.Go

open Idealize.ShloMosaic Idealize.ShloMosaic.TcCoe Idealize.SL.Sem Idealize.ShloMosaic.StableHlo
open scoped BigOperators

/-! # The products' results are the plain mathematics' -/

section
open Cert.GluOutIdeal Cert.GluOutIdeal.Gen
variable (m : (ℓ : Loc nD τ sig) → Buf (Elt Ideal) ℓ) (ρ : Dev nD → PrngReg) (c : Dev nD)

theorem k_fw_g : W5 m ρ c (Proc.devRef .tc main_v0) = fw_g (m ((c : Thread nD τ).loc main_arg0)) (m ((c : Thread nD τ).loc main_arg1)) := by
  rw [W5_of m ρ c main_v0 (by decide), W4_of m ρ c main_v0 (by decide), W3_of m ρ c main_v0 (by decide), W2_of m ρ c main_v0 (by decide)]
  refine (W1_arr m ρ c 2).trans ((arr0 (V0 m ρ) c).trans ?_)
  rfl

theorem k_dw_g : W5 m ρ c (Proc.devRef .tc main_v3) = dw_g (m ((c : Thread nD τ).loc main_arg0)) (m ((c : Thread nD τ).loc main_arg2)) := by
  rw [W5_of m ρ c main_v3 (by decide)]
  refine (W4_arr m ρ c 2).trans ((arr3 (V3 m ρ) c).trans ?_)
  rw [show V3 m ρ c main_arg0 = m ((c : Thread nD τ).loc main_arg0) from (W3_of m ρ c main_arg0 (by decide)).trans ((W2_of m ρ c main_arg0 (by decide)).trans (W1_of m ρ c main_arg0 (by decide))),
    show V3 m ρ c main_arg2 = m ((c : Thread nD τ).loc main_arg2) from (W3_of m ρ c main_arg2 (by decide)).trans ((W2_of m ρ c main_arg2 (by decide)).trans (W1_of m ρ c main_arg2 (by decide)))]

theorem k_dx_g : W5 m ρ c (Proc.devRef .tc main_v4) = dx_g (m ((c : Thread nD τ).loc main_arg1)) (m ((c : Thread nD τ).loc main_arg2)) := by
  refine (W5_arr m ρ c 2).trans ((arr4 (V4 m ρ) c).trans ?_)
  rw [show V4 m ρ c main_arg1 = m ((c : Thread nD τ).loc main_arg1) from (W4_of m ρ c main_arg1 (by decide)).trans ((W3_of m ρ c main_arg1 (by decide)).trans ((W2_of m ρ c main_arg1 (by decide)).trans (W1_of m ρ c main_arg1 (by decide)))),
    show V4 m ρ c main_arg2 = m ((c : Thread nD τ).loc main_arg2) from (W4_of m ρ c main_arg2 (by decide)).trans ((W3_of m ρ c main_arg2 (by decide)).trans ((W2_of m ρ c main_arg2 (by decide)).trans (W1_of m ρ c main_arg2 (by decide))))]

theorem k_dw_o : W5 m ρ c (Proc.devRef .tc main_v1) = dw_o (m ((c : Thread nD τ).loc main_arg3)) (m ((c : Thread nD τ).loc main_arg5)) := by
  rw [W5_of m ρ c main_v1 (by decide), W4_of m ρ c main_v1 (by decide), W3_of m ρ c main_v1 (by decide)]
  refine (W2_arr m ρ c 2).trans ((arr1 (V1 m ρ) c).trans ?_)
  rw [show V1 m ρ c main_arg3 = m ((c : Thread nD τ).loc main_arg3) from W1_of m ρ c main_arg3 (by decide),
    show V1 m ρ c main_arg5 = m ((c : Thread nD τ).loc main_arg5) from W1_of m ρ c main_arg5 (by decide)]

theorem k_dx_o : W5 m ρ c (Proc.devRef .tc main_v2) = dx_o (m ((c : Thread nD τ).loc main_arg4)) (m ((c : Thread nD τ).loc main_arg5)) := by
  rw [W5_of m ρ c main_v2 (by decide), W4_of m ρ c main_v2 (by decide)]
  refine (W3_arr m ρ c 2).trans ((arr2 (V2 m ρ) c).trans ?_)
  rw [show V2 m ρ c main_arg4 = m ((c : Thread nD τ).loc main_arg4) from (W2_of m ρ c main_arg4 (by decide)).trans (W1_of m ρ c main_arg4 (by decide)),
    show V2 m ρ c main_arg5 = m ((c : Thread nD τ).loc main_arg5) from (W2_of m ρ c main_arg5 (by decide)).trans (W1_of m ρ c main_arg5 (by decide))]

end

section
open Cert.GluOutReferenceIdeal Cert.GluOutReferenceIdeal.Read
theorem to_4 {x0 y0 : Vec Ideal ⟨2, ![4096, 2048]⟩ .bf16} {x1 y1 : Vec Ideal ⟨3, ![4, 2048, 1024]⟩ .bf16} (e0 : y0 = x0) (e1 : y1 = x1) :
    val_main_v4 (F := Ideal) y0 y1 = fw_g x0 x1 := by
  subst e0 e1; exact r_fw_g _ _
theorem to_8 {x1 y1 : Vec Ideal ⟨3, ![4, 2048, 1024]⟩ .bf16} {x2 y2 : Vec Ideal ⟨2, ![4096, 4096]⟩ .bf16} (e1 : y1 = x1) (e2 : y2 = x2) :
    val_main_v8 (F := Ideal) y1 y2 = dx_g x1 x2 := by
  subst e1 e2; exact r_dx_g _ _
theorem to_22 {x0 y0 : Vec Ideal ⟨2, ![4096, 2048]⟩ .bf16} {x2 y2 : Vec Ideal ⟨2, ![4096, 4096]⟩ .bf16} (e0 : y0 = x0) (e2 : y2 = x2) :
    val_main_v22 (F := Ideal) y0 y2 = dw_g x0 x2 := by
  subst e0 e2; exact r_dw_g _ _
theorem to_19 {x4 y4 : Vec Ideal ⟨3, ![1, 2048, 2048]⟩ .bf16} {x5 y5 : Vec Ideal ⟨2, ![4096, 2048]⟩ .bf16} (e4 : y4 = x4) (e5 : y5 = x5) :
    val_main_v19 (F := Ideal) y4 y5 = dx_o x4 x5 := by
  subst e4 e5; exact r_dx_o _ _
theorem to_23 {x3 y3 : Vec Ideal ⟨2, ![4096, 2048]⟩ .bf16} {x5 y5 : Vec Ideal ⟨2, ![4096, 2048]⟩ .bf16} (e3 : y3 = x3) (e5 : y5 = x5) :
    val_main_v23 (F := Ideal) y3 y5 = dw_o x3 x5 := by
  subst e3 e5; exact r_dw_o _ _
end

theorem algebraic : Cert.algebraic_GluOutIdeal_GluOutReferenceIdeal (hGluOutIdeal := Cert.GluOutIdeal.Gen.facts) (hGluOutReferenceIdeal := Cert.GluOutReferenceIdeal.Gen.facts) := by
  intro m g m' g' hpre hagree
  refine ⟨fun c => fw_g (m ((c.tc : Thread Cert.GluOutIdeal.nD Cert.GluOutIdeal.τ).loc Cert.GluOutIdeal.main_arg0)) (m ((c.tc : Thread Cert.GluOutIdeal.nD Cert.GluOutIdeal.τ).loc Cert.GluOutIdeal.main_arg1)),
    fun c => dx_g (m ((c.tc : Thread Cert.GluOutIdeal.nD Cert.GluOutIdeal.τ).loc Cert.GluOutIdeal.main_arg1)) (m ((c.tc : Thread Cert.GluOutIdeal.nD Cert.GluOutIdeal.τ).loc Cert.GluOutIdeal.main_arg2)),
    fun c => dw_g (m ((c.tc : Thread Cert.GluOutIdeal.nD Cert.GluOutIdeal.τ).loc Cert.GluOutIdeal.main_arg0)) (m ((c.tc : Thread Cert.GluOutIdeal.nD Cert.GluOutIdeal.τ).loc Cert.GluOutIdeal.main_arg2)),
    fun c => dx_o (m ((c.tc : Thread Cert.GluOutIdeal.nD Cert.GluOutIdeal.τ).loc Cert.GluOutIdeal.main_arg4)) (m ((c.tc : Thread Cert.GluOutIdeal.nD Cert.GluOutIdeal.τ).loc Cert.GluOutIdeal.main_arg5)),
    fun c => dw_o (m ((c.tc : Thread Cert.GluOutIdeal.nD Cert.GluOutIdeal.τ).loc Cert.GluOutIdeal.main_arg3)) (m ((c.tc : Thread Cert.GluOutIdeal.nD Cert.GluOutIdeal.τ).loc Cert.GluOutIdeal.main_arg5)), ?_, ?_⟩
  · refine (θ_run Cert.GluOutIdeal.defs _ _).mono (fun r h c => ?_) (run (F := Ideal) m g)
    obtain ⟨h1, h2, h3, h4, h5, ha⟩ := h.1 c
    exact ⟨h1.trans (k_fw_g m g c), h2.trans (k_dx_g m g c), h3.trans (k_dw_g m g c), h4.trans (k_dx_o m g c), h5.trans (k_dw_o m g c), ha⟩
  · refine (θ_run Cert.GluOutReferenceIdeal.defs _ _).mono (fun r h c => ?_) (Cert.GluOutReferenceIdeal.Value.run (F := Ideal) m' g')
    obtain ⟨e0, e1, e2, e3, e4, e5⟩ := hagree c
    exact ⟨(h c).1.trans ((Cert.GluOutReferenceIdeal.Read.val_main_v4_eq _ _).trans (to_4 e0 e1)),
      (h c).2.1.trans ((Cert.GluOutReferenceIdeal.Read.val_main_v8_eq _ _).trans (to_8 e1 e2)),
      (h c).2.2.1.trans ((Cert.GluOutReferenceIdeal.Read.val_main_v22_eq _ _).trans (to_22 e0 e2)),
      (h c).2.2.2.1.trans ((Cert.GluOutReferenceIdeal.Read.val_main_v19_eq _ _).trans (to_19 e4 e5)),
      (h c).2.2.2.2.1.trans ((Cert.GluOutReferenceIdeal.Read.val_main_v23_eq _ _).trans (to_23 e3 e5)), (h c).2.2.2.2.2⟩

end Cert.Go

end
-- ==== Proof.AdamwTwoRun.lean ====
module

public import proofs.«01_k».proof.Proof.Gen.AdamwTwoIdeal
public import proofs.«01_k».proof.Proof.Gen.AdamwTwoIdeal.Frame
public import proofs.«01_k».proof.Proof.Gen.AdamwTwo
public import proofs.«01_k».proof.Proof.Gen.AdamwTwo.Frame
public import proofs.«01_k».proof.Proof.Gen.AdamwTwoReferenceIdeal.Read
public import proofs.«01_k».proof.Proof.Gen.AdamwTwoReferenceIdeal.Run
public import proofs.«01_k».proof.Proof.Gen.AdamwTwoReferenceIdeal

@[expose] public section

set_option maxRecDepth 16384

noncomputable section

namespace Cert.Aw2

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.AdamwTwoIdeal Cert.AdamwTwoIdeal.Gen

/-! ## The run of the two calls: every array ends with the contents its last call leaves -/

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v0_2) = W2 m ρ c (Proc.devRef .tc main_v0_2)
      ∧ r.2.mem ((c.tc : Thread nD τ).loc main_v0_3) = W2 m ρ c (Proc.devRef .tc main_v0_3)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ r.2.mem ((c.tc : Thread nD τ).loc main_v1_3) = W2 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨h c _ (mem_uc main_v0_0 (by decide)), h c _ (mem_uc main_v0_1 (by decide)), h c _ (mem_uc main_v0_2 (by decide)), h c _ (mem_uc main_v0_3 (by decide)),
       h c _ (mem_uc main_v1_0 (by decide)), h c _ (mem_uc main_v1_1 (by decide)), h c _ (mem_uc main_v1_2 (by decide)), h c _ (mem_uc main_v1_3 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c),
       (h c _ (mem_uc main_arg13 (by decide))).trans (W2_main_arg13 m ρ c)⟩), funext fun g => hz g (.inr (no_unscoped g.2))⟩)

end Cert.Aw2

end
-- ==== Proof.AdamwMaths.lean ====
module

public import Idealize.ShloMosaic.Lib.Pointwise
public import Idealize.ShloMosaic.Lib.Pipeline.Value

@[expose] public section

noncomputable section

namespace Cert.Aw

open Idealize.ShloMosaic Idealize.ShloMosaic.TcCoe

/-! # One weight's optimiser step in plain mathematics -/

/-- The first moment after the step, of the gradient and the moment before. -/
def m' (g m : Ideal .f32) : Ideal .f32 :=
  FloatOps.addf (FloatOps.mulf (FloatOps.ofBits .f32 0x3F666666#32) m) (FloatOps.mulf (FloatOps.ofBits .f32 0x3DCCCCCD#32) g)

/-- The second moment after the step. -/
def v' (g v : Ideal .f32) : Ideal .f32 :=
  FloatOps.addf (FloatOps.mulf (FloatOps.ofBits .f32 0x3F7FBE77#32) v) (FloatOps.mulf (FloatOps.ofBits .f32 0x3A83126F#32) (FloatOps.mulf g g))

/-- What the step adds to the weight, of the weight and the two moments after the step. -/
def d' (w mu nu : Ideal .f32) : Ideal .f32 :=
  FloatOps.mulf (FloatOps.ofBits .f32 0xBA83126F#32)
    (FloatOps.addf
      (FloatOps.divf (FloatOps.divf mu (FloatOps.ofBits .f32 0x3F26BD02#32))
        (FloatOps.addf (FloatOps.sqrt (FloatOps.divf nu (FloatOps.ofBits .f32 0x3C231ACC#32))) (FloatOps.ofBits .f32 0x322BCC77#32)))
      (FloatOps.mulf (FloatOps.ofBits .f32 0x3C23D70A#32) w))

/-- The sum of a gradient's two parts. -/
def s' (a b : Ideal .f32) : Ideal .f32 := FloatOps.addf a b

/-- The gradient of a weight of one layer: the sum of its two parts. -/
def g1 {r n : ℕ} (a b : FVec Ideal ⟨2, ![r, n]⟩ .f32) : FVec Ideal ⟨3, ![1, r, n]⟩ .f32 :=
  fun i => s' (a (ix2 (i 1) (i 2))) (b (ix2 (i 1) (i 2)))

/-- The gradient of a weight of two layers: each layer's sum of its two parts. -/
def g2 {r n : ℕ} (a b a' b' : FVec Ideal ⟨2, ![r, n]⟩ .f32) : FVec Ideal ⟨3, ![2, r, n]⟩ .f32 :=
  fun i => if (i 0).val = 1 then s' (a' (ix2 (i 1) (i 2))) (b' (ix2 (i 1) (i 2))) else s' (a (ix2 (i 1) (i 2))) (b (ix2 (i 1) (i 2)))

/-- The three results elementwise, of the gradient and the step's saved arrays. -/
def newM {S : Shape} (g m : FVec Ideal S .f32) : FVec Ideal S .f32 := fun i => m' (g i) (m i)
def newV {S : Shape} (g v : FVec Ideal S .f32) : FVec Ideal S .f32 := fun i => v' (g i) (v i)
def delta {S : Shape} (g w m v : FVec Ideal S .f32) : FVec Ideal S .f32 := fun i => d' (w i) (m' (g i) (m i)) (v' (g i) (v i))

/-! ## The same functions as the reference writes them -/

theorem of_g1 {r n : ℕ} (h : Shape.BroadcastsInDim ⟨2, ![r, n]⟩ ⟨3, ![1, r, n]⟩ ![1, 2]) {a b a' b' : FVec Ideal ⟨2, ![r, n]⟩ .f32} (ea : a' = a) (eb : b' = b) :
    broadcastInDim ⟨3, ![1, r, n]⟩ ![1, 2] h (addf a' b') = g1 a b := by
  subst ea eb
  funext i
  exact broadcastInDim_apply _ h (addf a' b') i (ix2 (i 1) (i 2)) (fun a => match a with
    | ⟨0, _⟩ => by
      show (i 1).val = if r = 1 then 0 else (i 1).val
      have := (i 1).isLt
      change (i 1).val < r at this
      split <;> omega
    | ⟨1, _⟩ => by
      show (i 2).val = if n = 1 then 0 else (i 2).val
      have := (i 2).isLt
      change (i 2).val < n at this
      split <;> omega)

theorem of_g2 {r n : ℕ} (h : Shape.BroadcastsInDim ⟨2, ![r, n]⟩ ⟨3, ![1, r, n]⟩ ![1, 2]) (hc : Shape.Concatenates [⟨3, ![1, r, n]⟩, ⟨3, ![1, r, n]⟩] ⟨3, ![2, r, n]⟩ 0)
    {a b c d a' b' c' d' : FVec Ideal ⟨2, ![r, n]⟩ .f32} (ea : a' = a) (eb : b' = b) (ec : c' = c) (ed : d' = d) :
    concatenate ⟨3, ![2, r, n]⟩ 0 [⟨⟨3, ![1, r, n]⟩, broadcastInDim ⟨3, ![1, r, n]⟩ ![1, 2] h (addf a' b')⟩, ⟨⟨3, ![1, r, n]⟩, broadcastInDim ⟨3, ![1, r, n]⟩ ![1, 2] h (addf c' d')⟩] hc = g2 a b c d := by
  rw [of_g1 h ea eb, of_g1 h ec ed]
  funext i
  have hi : (i 0).val < 2 := (i 0).isLt
  unfold g2
  split
  · rename_i h1
    rw [concatenate_pair_apply_right (s₁ := ⟨3, ![1, r, n]⟩) (s₂ := ⟨3, ![1, r, n]⟩) 0 _ _ hc i rfl rfl (ix3 (0 : Fin 1) (i 1) (i 2))
      (fun x hx => match x with
        | ⟨0, _⟩ => absurd rfl hx
        | ⟨1, _⟩ => rfl
        | ⟨2, _⟩ => rfl) (by show 0 + 1 = (i 0).val; omega)]
    rfl
  · rw [concatenate_pair_apply_left (s₁ := ⟨3, ![1, r, n]⟩) (s₂ := ⟨3, ![1, r, n]⟩) 0 _ _ hc i rfl (ix3 (0 : Fin 1) (i 1) (i 2))
      (fun x => match x with
        | ⟨0, _⟩ => by show 0 = (i 0).val; omega
        | ⟨1, _⟩ => rfl
        | ⟨2, _⟩ => rfl)]
    rfl

/-- One number over a whole array. -/
abbrev lit (S : Shape) (h : Shape.BroadcastsInDim ⟨0, ![]⟩ S ![]) (x : BitVec 32) : FVec Ideal S .f32 := broadcastInDim S ![] h (constant (F := Ideal) ⟨0, ![]⟩ .f32 x)

theorem of_m {S : Shape} (h : Shape.BroadcastsInDim ⟨0, ![]⟩ S ![]) {g m g' m0 : FVec Ideal S .f32} (eg : g' = g) (em : m0 = m) :
    addf (mulf (lit S h 0x3F666666#32) m0) (mulf (lit S h 0x3DCCCCCD#32) g') = newM g m := by
  subst eg em; rfl

theorem of_v {S : Shape} (h : Shape.BroadcastsInDim ⟨0, ![]⟩ S ![]) {g v g' v0 : FVec Ideal S .f32} (eg : g' = g) (ev : v0 = v) :
    addf (mulf (lit S h 0x3F7FBE77#32) v0) (mulf (lit S h 0x3A83126F#32) (mulf g' g')) = newV g v := by
  subst eg ev; rfl

theorem of_d {S : Shape} (h : Shape.BroadcastsInDim ⟨0, ![]⟩ S ![]) {g w m v w0 mu nu : FVec Ideal S .f32} (ew : w0 = w) (em : mu = newM g m) (ev : nu = newV g v) :
    mulf (lit S h 0xBA83126F#32) (addf (Host.divf (Host.divf mu (lit S h 0x3F26BD02#32)) (addf (Host.sqrt (Host.divf nu (lit S h 0x3C231ACC#32))) (lit S h 0x322BCC77#32))) (mulf (lit S h 0x3C23D70A#32) w0))
      = delta g w m v := by
  subst ew em ev; rfl

end Cert.Aw

end
-- ==== Proof.AdamwTwoKer.lean ====
module

public import proofs.«01_k».proof.Proof.AdamwTwoRun
public import proofs.«01_k».proof.Proof.AdamwMaths
public import Idealize.ShloMosaic.Lib.Pipeline.ValueKit.Geometry
public import Idealize.ShloMosaic.Lib.Pipeline.ValueKit.Partial
public import Idealize.ShloMosaic.Lib.Pipeline.ValueKit.Point

@[expose] public section

set_option maxRecDepth 16384

noncomputable section

namespace Cert.Aw2

open Idealize.ShloMosaic Idealize.ShloMosaic.TcCoe Idealize.SL.Sem Cert.AdamwTwoIdeal Cert.AdamwTwoIdeal.Gen Cert.Aw
open Pipeline (Dat)

/-! # What the two calls leave in their arrays -/

variable (V : (c : Dev nD) → (b : Ref sig .tc) → Buf (Elt Ideal) ((c : Thread nD τ).loc b)) (c : Dev nD)

/-! ## Call 0 -/

theorem ind0 : ∀ t : Fin grid0.N, (grid0.coords t 0).val = t.val / 16
    ∧ (t.val / 16 = 0 → win0_0.index t 0 = t.val % 16 ∧ win0_0.index t 1 = 0 ∧ win0_1.index t 0 = t.val % 16 ∧ win0_1.index t 1 = 0)
    ∧ (t.val / 16 = 1 → win0_2.index t 0 = t.val % 16 ∧ win0_2.index t 1 = 0 ∧ win0_3.index t 0 = t.val % 16 ∧ win0_3.index t 1 = 0) := by decide +kernel
theorem at0 : ∀ t : Fin grid0.N,
    (win0_4.index t 0 = t.val / 16 ∧ win0_4.index t 1 = t.val % 16 ∧ win0_4.index t 2 = 0)
    ∧ (win0_5.index t 0 = t.val / 16 ∧ win0_5.index t 1 = t.val % 16 ∧ win0_5.index t 2 = 0)
    ∧ (win0_6.index t 0 = t.val / 16 ∧ win0_6.index t 1 = t.val % 16 ∧ win0_6.index t 2 = 0)
    ∧ (win0_7.index t 0 = t.val / 16 ∧ win0_7.index t 1 = t.val % 16 ∧ win0_7.index t 2 = 0)
    ∧ (win0_8.index t 0 = t.val / 16 ∧ win0_8.index t 1 = t.val % 16 ∧ win0_8.index t 2 = 0)
    ∧ (win0_9.index t 0 = t.val / 16 ∧ win0_9.index t 1 = t.val % 16 ∧ win0_9.index t 2 = 0)
    ∧ (win0_10.index t 0 = t.val / 16 ∧ win0_10.index t 1 = t.val % 16 ∧ win0_10.index t 2 = 0) := by decide +kernel
theorem lt0 (t : Fin cfg0.N) : t.val < 32 := lt_of_lt_of_eq t.isLt (by decide)

/-- The call's four results. -/
abbrev G0 : FVec Ideal S2x2048x2816 .f32 := g2 (V c main_arg0) (V c main_arg1) (V c main_arg2) (V c main_arg3)
abbrev D0 : FVec Ideal S2x2048x2816 .f32 := delta (G0 V c) (V c main_arg4) (V c main_arg5) (V c main_arg6)
abbrev M0 : FVec Ideal S2x2048x2816 .f32 := newM (G0 V c) (V c main_arg5)
abbrev N0 : FVec Ideal S2x2048x2816 .f32 := newV (G0 V c) (V c main_arg6)

/-- The first layer's parts at a step of the first layer. -/
theorem fst0 (t : Fin cfg0.N) (h : t.val / 16 = 0) (y : S128x2816.Idx) (i : S2048x2816.Idx) (h0 : (i 0).val = t.val % 16 * 128 + (y 0).val) (h1 : (i 1).val = (y 1).val) :
    iblk0 V c 0 t y = V c main_arg0 i ∧ iblk0 V c 1 t y = V c main_arg1 i := by
  have e := (ind0 t).2.1 h
  constructor <;> blk_ext [iblk0, e]
/-- The second layer's at one of the second. -/
theorem snd0 (t : Fin cfg0.N) (h : t.val / 16 = 1) (y : S128x2816.Idx) (i : S2048x2816.Idx) (h0 : (i 0).val = t.val % 16 * 128 + (y 0).val) (h1 : (i 1).val = (y 1).val) :
    iblk0 V c 2 t y = V c main_arg2 i ∧ iblk0 V c 3 t y = V c main_arg3 i := by
  have e := (ind0 t).2.2 h
  constructor <;> blk_ext [iblk0, e]
/-- The weight's and the moments' blocks. -/
theorem own0 (t : Fin cfg0.N) (y : S1x128x2816.Idx) (i : S2x2048x2816.Idx) (h0 : (i 0).val = t.val / 16) (h1 : (i 1).val = t.val % 16 * 128 + (y 1).val) (h2 : (i 2).val = (y 2).val) :
    iblk0 V c 4 t y = V c main_arg4 i ∧ iblk0 V c 5 t y = V c main_arg5 i ∧ iblk0 V c 6 t y = V c main_arg6 i := by
  have e := at0 t
  refine ⟨?_, ?_, ?_⟩ <;> blk_ext [iblk0, e]

/-- The gradient at a step. -/
theorem grad0 (t : Fin cfg0.N) (y : S128x2816.Idx) (i : S2x2048x2816.Idx) (h0 : (i 0).val = t.val / 16) (h1 : (i 1).val = t.val % 16 * 128 + (y 0).val) (h2 : (i 2).val = (y 1).val) :
    k0_pay4 (grid0.coords t) (iblk0 V c 0 t) (iblk0 V c 1 t) (iblk0 V c 2 t) (iblk0 V c 3 t) y = G0 V c i := by
  have hc := (ind0 t).1
  have ht := lt0 t
  unfold k0_pay4 G0 g2
  dsimp only
  rw [hc]
  rcases (show t.val / 16 = 0 ∨ t.val / 16 = 1 by omega) with h | h
  · have e := fst0 V c t h y (ix2 (i 1) (i 2)) h1 h2
    rw [h, if_neg (by omega), ← e.1, ← e.2]
    rfl
  · have e := snd0 V c t h y (ix2 (i 1) (i 2)) h1 h2
    rw [h, if_pos (by omega), ← e.1, ← e.2]
    rfl

/-- The step at a step. -/
theorem pt0_d (t : Fin cfg0.N) (y : S1x128x2816.Idx) (i : S2x2048x2816.Idx) (h0 : (i 0).val = t.val / 16) (h1 : (i 1).val = t.val % 16 * 128 + (y 1).val) (h2 : (i 2).val = (y 2).val) :
    k0_pay1 (k0_pay6 (iblk0 V c 4 t)) (k0_pay8 (grid0.coords t) (iblk0 V c 0 t) (iblk0 V c 1 t) (iblk0 V c 2 t) (iblk0 V c 3 t) (iblk0 V c 6 t)) (k0_pay9 (grid0.coords t) (iblk0 V c 0 t) (iblk0 V c 1 t) (iblk0 V c 2 t) (iblk0 V c 3 t) (iblk0 V c 5 t)) (FloatOps.ofBits FTy.f32 0x3C231ACC#32) y
      = D0 V c i := by
  have e := own0 V c t y i h0 h1 h2
  pointwise [k0_pay1, k0_pay6, k0_pay7, k0_pay8, k0_pay9, D0, delta, d', m', v']
  rw [grad0 V c t (ix2 (y 1) (y 2)) i h0 h1 h2, e.1, e.2.1, e.2.2]
/-- The first moment at a step. -/
theorem pt0_m (t : Fin cfg0.N) (y : S1x128x2816.Idx) (i : S2x2048x2816.Idx) (h0 : (i 0).val = t.val / 16) (h1 : (i 1).val = t.val % 16 * 128 + (y 1).val) (h2 : (i 2).val = (y 2).val) :
    k0_pay2 (k0_pay7 (grid0.coords t) (iblk0 V c 0 t) (iblk0 V c 1 t) (iblk0 V c 2 t) (iblk0 V c 3 t) (iblk0 V c 5 t)) y
      = M0 V c i := by
  have e := own0 V c t y i h0 h1 h2
  pointwise [k0_pay2, k0_pay7, M0, newM, m']
  rw [grad0 V c t (ix2 (y 1) (y 2)) i h0 h1 h2, e.2.1]
/-- The second moment at a step. -/
theorem pt0_v (t : Fin cfg0.N) (y : S1x128x2816.Idx) (i : S2x2048x2816.Idx) (h0 : (i 0).val = t.val / 16) (h1 : (i 1).val = t.val % 16 * 128 + (y 1).val) (h2 : (i 2).val = (y 2).val) :
    k0_pay3 (k0_pay8 (grid0.coords t) (iblk0 V c 0 t) (iblk0 V c 1 t) (iblk0 V c 2 t) (iblk0 V c 3 t) (iblk0 V c 6 t)) y
      = N0 V c i := by
  have e := own0 V c t y i h0 h1 h2
  pointwise [k0_pay3, k0_pay8, N0, newV, v']
  rw [grad0 V c t (ix2 (y 1) (y 2)) i h0 h1 h2, e.2.2]

theorem arr0_g : (dat0 V c).arrAt 7 cfg0.N = G0 V c := by
  refine (dat0 V c).arrAt_eq_of_covers 7 _ (by decide +kernel) fun t hf y => ?_
  have e := at0 t
  have hy := (y 0).isLt
  blk_simp
  rw [after0_7]
  frame_out
  pointwise [k0_pay5]
  refine grad0 V c t (ix2 (y 1) (y 2)) _ ?_ ?_ ?_ <;> (blk_simp [e] <;> omega)
theorem arr0_d : (dat0 V c).arrAt 8 cfg0.N = D0 V c := by
  refine (dat0 V c).arrAt_eq_of_covers 8 _ (by decide +kernel) fun t hf y => ?_
  have e := at0 t
  have hy := (y 0).isLt
  blk_simp
  rw [after0_8]
  unfold_out out0_8
  frame_out
  refine pt0_d V c t y _ ?_ ?_ ?_ <;> (blk_simp [e] <;> omega)
theorem arr0_m : (dat0 V c).arrAt 9 cfg0.N = M0 V c := by
  refine (dat0 V c).arrAt_eq_of_covers 9 _ (by decide +kernel) fun t hf y => ?_
  have e := at0 t
  have hy := (y 0).isLt
  blk_simp
  rw [after0_9]
  unfold_out out0_9
  frame_out
  refine pt0_m V c t y _ ?_ ?_ ?_ <;> (blk_simp [e] <;> omega)
theorem arr0_v : (dat0 V c).arrAt 10 cfg0.N = N0 V c := by
  refine (dat0 V c).arrAt_eq_of_covers 10 _ (by decide +kernel) fun t hf y => ?_
  have e := at0 t
  have hy := (y 0).isLt
  blk_simp
  rw [after0_10]
  unfold_out out0_10
  frame_out
  refine pt0_v V c t y _ ?_ ?_ ?_ <;> (blk_simp [e] <;> omega)

/-! ## Call 1 -/

theorem ind1 : ∀ t : Fin grid1.N, (grid1.coords t 0).val = t.val / 11
    ∧ (t.val / 11 = 0 → win1_0.index t 0 = t.val % 11 ∧ win1_0.index t 1 = 0 ∧ win1_1.index t 0 = t.val % 11 ∧ win1_1.index t 1 = 0)
    ∧ (t.val / 11 = 1 → win1_2.index t 0 = t.val % 11 ∧ win1_2.index t 1 = 0 ∧ win1_3.index t 0 = t.val % 11 ∧ win1_3.index t 1 = 0) := by decide +kernel
theorem at1 : ∀ t : Fin grid1.N,
    (win1_4.index t 0 = t.val / 11 ∧ win1_4.index t 1 = t.val % 11 ∧ win1_4.index t 2 = 0)
    ∧ (win1_5.index t 0 = t.val / 11 ∧ win1_5.index t 1 = t.val % 11 ∧ win1_5.index t 2 = 0)
    ∧ (win1_6.index t 0 = t.val / 11 ∧ win1_6.index t 1 = t.val % 11 ∧ win1_6.index t 2 = 0)
    ∧ (win1_7.index t 0 = t.val / 11 ∧ win1_7.index t 1 = t.val % 11 ∧ win1_7.index t 2 = 0)
    ∧ (win1_8.index t 0 = t.val / 11 ∧ win1_8.index t 1 = t.val % 11 ∧ win1_8.index t 2 = 0)
    ∧ (win1_9.index t 0 = t.val / 11 ∧ win1_9.index t 1 = t.val % 11 ∧ win1_9.index t 2 = 0)
    ∧ (win1_10.index t 0 = t.val / 11 ∧ win1_10.index t 1 = t.val % 11 ∧ win1_10.index t 2 = 0) := by decide +kernel
theorem lt1 (t : Fin cfg1.N) : t.val < 22 := lt_of_lt_of_eq t.isLt (by decide)

/-- The call's four results. -/
abbrev G1 : FVec Ideal S2x1408x2048 .f32 := g2 (V c main_arg7) (V c main_arg8) (V c main_arg9) (V c main_arg10)
abbrev D1 : FVec Ideal S2x1408x2048 .f32 := delta (G1 V c) (V c main_arg11) (V c main_arg12) (V c main_arg13)
abbrev M1 : FVec Ideal S2x1408x2048 .f32 := newM (G1 V c) (V c main_arg12)
abbrev N1 : FVec Ideal S2x1408x2048 .f32 := newV (G1 V c) (V c main_arg13)

/-- The first layer's parts at a step of the first layer. -/
theorem fst1 (t : Fin cfg1.N) (h : t.val / 11 = 0) (y : S128x2048.Idx) (i : S1408x2048.Idx) (h0 : (i 0).val = t.val % 11 * 128 + (y 0).val) (h1 : (i 1).val = (y 1).val) :
    iblk1 V c 0 t y = V c main_arg7 i ∧ iblk1 V c 1 t y = V c main_arg8 i := by
  have e := (ind1 t).2.1 h
  constructor <;> blk_ext [iblk1, e]
/-- The second layer's at one of the second. -/
theorem snd1 (t : Fin cfg1.N) (h : t.val / 11 = 1) (y : S128x2048.Idx) (i : S1408x2048.Idx) (h0 : (i 0).val = t.val % 11 * 128 + (y 0).val) (h1 : (i 1).val = (y 1).val) :
    iblk1 V c 2 t y = V c main_arg9 i ∧ iblk1 V c 3 t y = V c main_arg10 i := by
  have e := (ind1 t).2.2 h
  constructor <;> blk_ext [iblk1, e]
/-- The weight's and the moments' blocks. -/
theorem own1 (t : Fin cfg1.N) (y : S1x128x2048.Idx) (i : S2x1408x2048.Idx) (h0 : (i 0).val = t.val / 11) (h1 : (i 1).val = t.val % 11 * 128 + (y 1).val) (h2 : (i 2).val = (y 2).val) :
    iblk1 V c 4 t y = V c main_arg11 i ∧ iblk1 V c 5 t y = V c main_arg12 i ∧ iblk1 V c 6 t y = V c main_arg13 i := by
  have e := at1 t
  refine ⟨?_, ?_, ?_⟩ <;> blk_ext [iblk1, e]

/-- The gradient at a step. -/
theorem grad1 (t : Fin cfg1.N) (y : S128x2048.Idx) (i : S2x1408x2048.Idx) (h0 : (i 0).val = t.val / 11) (h1 : (i 1).val = t.val % 11 * 128 + (y 0).val) (h2 : (i 2).val = (y 1).val) :
    k1_pay4 (grid1.coords t) (iblk1 V c 0 t) (iblk1 V c 1 t) (iblk1 V c 2 t) (iblk1 V c 3 t) y = G1 V c i := by
  have hc := (ind1 t).1
  have ht := lt1 t
  unfold k1_pay4 G1 g2
  dsimp only
  rw [hc]
  rcases (show t.val / 11 = 0 ∨ t.val / 11 = 1 by omega) with h | h
  · have e := fst1 V c t h y (ix2 (i 1) (i 2)) h1 h2
    rw [h, if_neg (by omega), ← e.1, ← e.2]
    rfl
  · have e := snd1 V c t h y (ix2 (i 1) (i 2)) h1 h2
    rw [h, if_pos (by omega), ← e.1, ← e.2]
    rfl

/-- The step at a step. -/
theorem pt1_d (t : Fin cfg1.N) (y : S1x128x2048.Idx) (i : S2x1408x2048.Idx) (h0 : (i 0).val = t.val / 11) (h1 : (i 1).val = t.val % 11 * 128 + (y 1).val) (h2 : (i 2).val = (y 2).val) :
    k1_pay1 (k1_pay6 (iblk1 V c 4 t)) (k1_pay8 (grid1.coords t) (iblk1 V c 0 t) (iblk1 V c 1 t) (iblk1 V c 2 t) (iblk1 V c 3 t) (iblk1 V c 6 t)) (k1_pay9 (grid1.coords t) (iblk1 V c 0 t) (iblk1 V c 1 t) (iblk1 V c 2 t) (iblk1 V c 3 t) (iblk1 V c 5 t)) (FloatOps.ofBits FTy.f32 0x3C231ACC#32) y
      = D1 V c i := by
  have e := own1 V c t y i h0 h1 h2
  pointwise [k1_pay1, k1_pay6, k1_pay7, k1_pay8, k1_pay9, D1, delta, d', m', v']
  rw [grad1 V c t (ix2 (y 1) (y 2)) i h0 h1 h2, e.1, e.2.1, e.2.2]
/-- The first moment at a step. -/
theorem pt1_m (t : Fin cfg1.N) (y : S1x128x2048.Idx) (i : S2x1408x2048.Idx) (h0 : (i 0).val = t.val / 11) (h1 : (i 1).val = t.val % 11 * 128 + (y 1).val) (h2 : (i 2).val = (y 2).val) :
    k1_pay2 (k1_pay7 (grid1.coords t) (iblk1 V c 0 t) (iblk1 V c 1 t) (iblk1 V c 2 t) (iblk1 V c 3 t) (iblk1 V c 5 t)) y
      = M1 V c i := by
  have e := own1 V c t y i h0 h1 h2
  pointwise [k1_pay2, k1_pay7, M1, newM, m']
  rw [grad1 V c t (ix2 (y 1) (y 2)) i h0 h1 h2, e.2.1]
/-- The second moment at a step. -/
theorem pt1_v (t : Fin cfg1.N) (y : S1x128x2048.Idx) (i : S2x1408x2048.Idx) (h0 : (i 0).val = t.val / 11) (h1 : (i 1).val = t.val % 11 * 128 + (y 1).val) (h2 : (i 2).val = (y 2).val) :
    k1_pay3 (k1_pay8 (grid1.coords t) (iblk1 V c 0 t) (iblk1 V c 1 t) (iblk1 V c 2 t) (iblk1 V c 3 t) (iblk1 V c 6 t)) y
      = N1 V c i := by
  have e := own1 V c t y i h0 h1 h2
  pointwise [k1_pay3, k1_pay8, N1, newV, v']
  rw [grad1 V c t (ix2 (y 1) (y 2)) i h0 h1 h2, e.2.2]

theorem arr1_g : (dat1 V c).arrAt 7 cfg1.N = G1 V c := by
  refine (dat1 V c).arrAt_eq_of_covers 7 _ (by decide +kernel) fun t hf y => ?_
  have e := at1 t
  have hy := (y 0).isLt
  blk_simp
  rw [after1_7]
  frame_out
  pointwise [k1_pay5]
  refine grad1 V c t (ix2 (y 1) (y 2)) _ ?_ ?_ ?_ <;> (blk_simp [e] <;> omega)
theorem arr1_d : (dat1 V c).arrAt 8 cfg1.N = D1 V c := by
  refine (dat1 V c).arrAt_eq_of_covers 8 _ (by decide +kernel) fun t hf y => ?_
  have e := at1 t
  have hy := (y 0).isLt
  blk_simp
  rw [after1_8]
  unfold_out out1_8
  frame_out
  refine pt1_d V c t y _ ?_ ?_ ?_ <;> (blk_simp [e] <;> omega)
theorem arr1_m : (dat1 V c).arrAt 9 cfg1.N = M1 V c := by
  refine (dat1 V c).arrAt_eq_of_covers 9 _ (by decide +kernel) fun t hf y => ?_
  have e := at1 t
  have hy := (y 0).isLt
  blk_simp
  rw [after1_9]
  unfold_out out1_9
  frame_out
  refine pt1_m V c t y _ ?_ ?_ ?_ <;> (blk_simp [e] <;> omega)
theorem arr1_v : (dat1 V c).arrAt 10 cfg1.N = N1 V c := by
  refine (dat1 V c).arrAt_eq_of_covers 10 _ (by decide +kernel) fun t hf y => ?_
  have e := at1 t
  have hy := (y 0).isLt
  blk_simp
  rw [after1_10]
  unfold_out out1_10
  frame_out
  refine pt1_v V c t y _ ?_ ?_ ?_ <;> (blk_simp [e] <;> omega)

end Cert.Aw2

end
-- ==== Proof.AdamwTwoAlg.lean ====
module

public import proofs.«01_k».proof.Defs
public import proofs.«01_k».proof.Proof.AdamwTwoKer

@[expose] public section

set_option maxRecDepth 16384

noncomputable section

namespace Cert.Aw2

open Idealize.ShloMosaic Idealize.ShloMosaic.TcCoe Idealize.SL.Sem Idealize.ShloMosaic.StableHlo Cert.Aw

/-! # The two-layer weights' results are the plain mathematics' -/

section
open Cert.AdamwTwoIdeal Cert.AdamwTwoIdeal.Gen
variable (m : (ℓ : Loc nD τ sig) → Buf (Elt Ideal) ℓ) (ρ : Dev nD → PrngReg) (c : Dev nD)

/-- The arguments as the run finds them. -/
abbrev argsOf : (c : Dev nD) → (b : Ref sig .tc) → Buf (Elt Ideal) ((c : Thread nD τ).loc b) := fun c b => m ((c : Thread nD τ).loc b)

/-! The arguments as each call reads them. -/

theorem a7 : V1 m ρ c main_arg7 = argsOf m c main_arg7 := W1_of m ρ c main_arg7 (by decide)
theorem a8 : V1 m ρ c main_arg8 = argsOf m c main_arg8 := W1_of m ρ c main_arg8 (by decide)
theorem a9 : V1 m ρ c main_arg9 = argsOf m c main_arg9 := W1_of m ρ c main_arg9 (by decide)
theorem a10 : V1 m ρ c main_arg10 = argsOf m c main_arg10 := W1_of m ρ c main_arg10 (by decide)
theorem a11 : V1 m ρ c main_arg11 = argsOf m c main_arg11 := W1_of m ρ c main_arg11 (by decide)
theorem a12 : V1 m ρ c main_arg12 = argsOf m c main_arg12 := W1_of m ρ c main_arg12 (by decide)
theorem a13 : V1 m ρ c main_arg13 = argsOf m c main_arg13 := W1_of m ρ c main_arg13 (by decide)

theorem k0_g : W2 m ρ c (Proc.devRef .tc main_v0_0) = G0 (argsOf m) c := by
  rw [W2_of m ρ c main_v0_0 (by decide)]
  refine (W1_arr m ρ c 7).trans ((arr0_g (V0 m ρ) c).trans ?_)
  rfl
theorem k0_d : W2 m ρ c (Proc.devRef .tc main_v0_1) = D0 (argsOf m) c := by
  rw [W2_of m ρ c main_v0_1 (by decide)]
  refine (W1_arr m ρ c 8).trans ((arr0_d (V0 m ρ) c).trans ?_)
  rfl
theorem k0_m : W2 m ρ c (Proc.devRef .tc main_v0_2) = M0 (argsOf m) c := by
  rw [W2_of m ρ c main_v0_2 (by decide)]
  refine (W1_arr m ρ c 9).trans ((arr0_m (V0 m ρ) c).trans ?_)
  rfl
theorem k0_v : W2 m ρ c (Proc.devRef .tc main_v0_3) = N0 (argsOf m) c := by
  rw [W2_of m ρ c main_v0_3 (by decide)]
  refine (W1_arr m ρ c 10).trans ((arr0_v (V0 m ρ) c).trans ?_)
  rfl
theorem k1_g : W2 m ρ c (Proc.devRef .tc main_v1_0) = G1 (argsOf m) c := by
  refine (W2_arr m ρ c 7).trans ((arr1_g (V1 m ρ) c).trans ?_)
  unfold G1
  rw [a7 m ρ c, a8 m ρ c, a9 m ρ c, a10 m ρ c]
theorem k1_d : W2 m ρ c (Proc.devRef .tc main_v1_1) = D1 (argsOf m) c := by
  refine (W2_arr m ρ c 8).trans ((arr1_d (V1 m ρ) c).trans ?_)
  unfold D1 G1
  rw [a7 m ρ c, a8 m ρ c, a9 m ρ c, a10 m ρ c, a11 m ρ c, a12 m ρ c, a13 m ρ c]
theorem k1_m : W2 m ρ c (Proc.devRef .tc main_v1_2) = M1 (argsOf m) c := by
  refine (W2_arr m ρ c 9).trans ((arr1_m (V1 m ρ) c).trans ?_)
  unfold M1 G1
  rw [a7 m ρ c, a8 m ρ c, a9 m ρ c, a10 m ρ c, a12 m ρ c]
theorem k1_v : W2 m ρ c (Proc.devRef .tc main_v1_3) = N1 (argsOf m) c := by
  refine (W2_arr m ρ c 10).trans ((arr1_v (V1 m ρ) c).trans ?_)
  unfold N1 G1
  rw [a7 m ρ c, a8 m ρ c, a9 m ρ c, a10 m ρ c, a13 m ρ c]

end

theorem algebraic : Cert.algebraic_AdamwTwoIdeal_AdamwTwoReferenceIdeal (hAdamwTwoIdeal := Cert.AdamwTwoIdeal.Gen.facts) (hAdamwTwoReferenceIdeal := Cert.AdamwTwoReferenceIdeal.Gen.facts) := by
  intro m g m' g' hpre hagree
  refine ⟨fun c => G0 (argsOf m) c,
    fun c => D0 (argsOf m) c,
    fun c => M0 (argsOf m) c,
    fun c => N0 (argsOf m) c,
    fun c => G1 (argsOf m) c,
    fun c => D1 (argsOf m) c,
    fun c => M1 (argsOf m) c,
    fun c => N1 (argsOf m) c, ?_, ?_⟩
  · refine (θ_run Cert.AdamwTwoIdeal.defs _ _).mono (fun r h c => ?_) (run (F := Ideal) m g)
    obtain ⟨h0, h1, h2, h3, h4, h5, h6, h7, ha⟩ := h.1 c
    exact ⟨h0.trans (k0_g m g c), h1.trans (k0_d m g c), h2.trans (k0_m m g c), h3.trans (k0_v m g c), h4.trans (k1_g m g c), h5.trans (k1_d m g c), h6.trans (k1_m m g c), h7.trans (k1_v m g c), ha⟩
  · refine (θ_run Cert.AdamwTwoReferenceIdeal.defs _ _).mono (fun r h c => ?_) (Cert.AdamwTwoReferenceIdeal.Value.run (F := Ideal) m' g')
    obtain ⟨e0, e1, e2, e3, e4, e5, e6, e7, e8, e9, e10, e11, e12, e13⟩ := hagree c
    obtain ⟨h0, h1, h2, h3, h4, h5, h6, h7, ha⟩ := h c
    exact ⟨h0.trans (of_g2 _ _ e0 e1 e2 e3),
      h1.trans (of_d _ e4 (of_m _ (of_g2 _ _ e0 e1 e2 e3) e5) (of_v _ (of_g2 _ _ e0 e1 e2 e3) e6)),
      h2.trans (of_m _ (of_g2 _ _ e0 e1 e2 e3) e5),
      h3.trans (of_v _ (of_g2 _ _ e0 e1 e2 e3) e6),
      h4.trans (of_g2 _ _ e7 e8 e9 e10),
      h5.trans (of_d _ e11 (of_m _ (of_g2 _ _ e7 e8 e9 e10) e12) (of_v _ (of_g2 _ _ e7 e8 e9 e10) e13)),
      h6.trans (of_m _ (of_g2 _ _ e7 e8 e9 e10) e12),
      h7.trans (of_v _ (of_g2 _ _ e7 e8 e9 e10) e13), ha⟩

end Cert.Aw2

end
-- ==== Proof.AdamwOneRun.lean ====
module

public import proofs.«01_k».proof.Proof.Gen.AdamwOneIdeal
public import proofs.«01_k».proof.Proof.Gen.AdamwOneIdeal.Frame
public import proofs.«01_k».proof.Proof.Gen.AdamwOne
public import proofs.«01_k».proof.Proof.Gen.AdamwOne.Frame
public import proofs.«01_k».proof.Proof.Gen.AdamwOneReferenceIdeal.Read
public import proofs.«01_k».proof.Proof.Gen.AdamwOneReferenceIdeal.Run
public import proofs.«01_k».proof.Proof.Gen.AdamwOneReferenceIdeal

@[expose] public section

set_option maxRecDepth 16384

noncomputable section

namespace Cert.Aw1

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.AdamwOneIdeal Cert.AdamwOneIdeal.Gen

/-! ## The run of the four calls: every array ends with the contents its last call leaves -/

variable {F : FTy → Type} [FloatOps F]

local notation "𝕄" => MT nD τ sig Unit (Elt F) ℕ (UR sig nD τ) ℕ

set_option backward.isDefEq.respectTransparency.types false in
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_v0_2) = W4 m ρ c (Proc.devRef .tc main_v0_2)
      ∧ r.2.mem ((c.tc : Thread nD τ).loc main_v0_3) = W4 m ρ c (Proc.devRef .tc main_v0_3)
      ∧ r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_v1_2) = W4 m ρ c (Proc.devRef .tc main_v1_2)
      ∧ r.2.mem ((c.tc : Thread nD τ).loc main_v1_3) = W4 m ρ c (Proc.devRef .tc main_v1_3)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v2_2) = W4 m ρ c (Proc.devRef .tc main_v2_2)
      ∧ r.2.mem ((c.tc : Thread nD τ).loc main_v2_3) = W4 m ρ c (Proc.devRef .tc main_v2_3)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v3_2) = W4 m ρ c (Proc.devRef .tc main_v3_2)
      ∧ r.2.mem ((c.tc : Thread nD τ).loc main_v3_3) = W4 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v0_0 (by decide)), h c _ (mem_uc main_v0_1 (by decide)), h c _ (mem_uc main_v0_2 (by decide)), h c _ (mem_uc main_v0_3 (by decide)),
       h c _ (mem_uc main_v1_0 (by decide)), h c _ (mem_uc main_v1_1 (by decide)), h c _ (mem_uc main_v1_2 (by decide)), h c _ (mem_uc main_v1_3 (by decide)),
       h c _ (mem_uc main_v2_0 (by decide)), h c _ (mem_uc main_v2_1 (by decide)), h c _ (mem_uc main_v2_2 (by decide)), h c _ (mem_uc main_v2_3 (by decide)),
       h c _ (mem_uc main_v3_0 (by decide)), h c _ (mem_uc main_v3_1 (by decide)), h c _ (mem_uc main_v3_2 (by decide)), h c _ (mem_uc main_v3_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩), funext fun g => hz g (.inr (no_unscoped g.2))⟩)

end Cert.Aw1

end
-- ==== Proof.AdamwOneKer.lean ====
module

public import proofs.«01_k».proof.Proof.AdamwOneRun
public import proofs.«01_k».proof.Proof.AdamwMaths
public import Idealize.ShloMosaic.Lib.Pipeline.ValueKit.Geometry
public import Idealize.ShloMosaic.Lib.Pipeline.ValueKit.Partial
public import Idealize.ShloMosaic.Lib.Pipeline.ValueKit.Point

@[expose] public section

set_option maxRecDepth 16384

noncomputable section

namespace Cert.Aw1

open Idealize.ShloMosaic Idealize.ShloMosaic.TcCoe Idealize.SL.Sem Cert.AdamwOneIdeal Cert.AdamwOneIdeal.Gen Cert.Aw
open Pipeline (Dat)

/-! # What the four calls leave in their arrays -/

variable (V : (c : Dev nD) → (b : Ref sig .tc) → Buf (Elt Ideal) ((c : Thread nD τ).loc b)) (c : Dev nD)

/-! ## Call 0 -/

theorem ind0 : ∀ t : Fin grid0.N, win0_0.index t 0 = t.val ∧ win0_0.index t 1 = 0 ∧ win0_1.index t 0 = t.val ∧ win0_1.index t 1 = 0 := by decide +kernel
theorem at0 : ∀ t : Fin grid0.N,
    (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0) := by decide +kernel
theorem lt0 (t : Fin cfg0.N) : t.val < 16 := lt_of_lt_of_eq t.isLt (by decide)

/-- The call's four results. -/
abbrev G0 : FVec Ideal S1x2048x1024 .f32 := g1 (V c main_arg0) (V c main_arg1)
abbrev D0 : FVec Ideal S1x2048x1024 .f32 := delta (G0 V c) (V c main_arg2) (V c main_arg3) (V c main_arg4)
abbrev M0 : FVec Ideal S1x2048x1024 .f32 := newM (G0 V c) (V c main_arg3)
abbrev N0 : FVec Ideal S1x2048x1024 .f32 := newV (G0 V c) (V c main_arg4)

/-- The gradient's parts. -/
theorem fst0 (t : Fin cfg0.N) (y : S128x1024.Idx) (i : S2048x1024.Idx) (h0 : (i 0).val = t.val * 128 + (y 0).val) (h1 : (i 1).val = (y 1).val) :
    iblk0 V c 0 t y = V c main_arg0 i ∧ iblk0 V c 1 t y = V c main_arg1 i := by
  have e := ind0 t
  constructor <;> blk_ext [iblk0, e]
/-- The weight's and the moments' blocks. -/
theorem own0 (t : Fin cfg0.N) (y : S1x128x1024.Idx) (i : S1x2048x1024.Idx) (h0 : (i 0).val = 0) (h1 : (i 1).val = t.val * 128 + (y 1).val) (h2 : (i 2).val = (y 2).val) :
    iblk0 V c 2 t y = V c main_arg2 i ∧ iblk0 V c 3 t y = V c main_arg3 i ∧ iblk0 V c 4 t y = V c main_arg4 i := by
  have e := at0 t
  refine ⟨?_, ?_, ?_⟩ <;> blk_ext [iblk0, e]

/-- The gradient at a step. -/
theorem grad0 (t : Fin cfg0.N) (y : S128x1024.Idx) (i : S1x2048x1024.Idx) (h0 : (i 0).val = 0) (h1 : (i 1).val = t.val * 128 + (y 0).val) (h2 : (i 2).val = (y 1).val) :
    k0_pay4 (iblk0 V c 0 t) (iblk0 V c 1 t) y = G0 V c i := by
  unfold k0_pay4 G0 g1
  have e := fst0 V c t y (ix2 (i 1) (i 2)) h1 h2
  rw [← e.1, ← e.2]
  rfl

/-- The step at a step. -/
theorem pt0_d (t : Fin cfg0.N) (y : S1x128x1024.Idx) (i : S1x2048x1024.Idx) (h0 : (i 0).val = 0) (h1 : (i 1).val = t.val * 128 + (y 1).val) (h2 : (i 2).val = (y 2).val) :
    k0_pay1 (k0_pay8 (iblk0 V c 0 t) (iblk0 V c 1 t) (iblk0 V c 3 t) (iblk0 V c 4 t)) (k0_pay9 (iblk0 V c 2 t)) y
      = D0 V c i := by
  have e := own0 V c t y i h0 h1 h2
  pointwise [k0_pay1, k0_pay9, k0_pay6, k0_pay7, k0_pay8, D0, delta, d', m', v']
  rw [grad0 V c t (ix2 (y 1) (y 2)) i h0 h1 h2, e.1, e.2.1, e.2.2]
/-- The first moment at a step. -/
theorem pt0_m (t : Fin cfg0.N) (y : S1x128x1024.Idx) (i : S1x2048x1024.Idx) (h0 : (i 0).val = 0) (h1 : (i 1).val = t.val * 128 + (y 1).val) (h2 : (i 2).val = (y 2).val) :
    k0_pay2 (k0_pay6 (iblk0 V c 0 t) (iblk0 V c 1 t) (iblk0 V c 3 t)) y
      = M0 V c i := by
  have e := own0 V c t y i h0 h1 h2
  pointwise [k0_pay2, k0_pay6, M0, newM, m']
  rw [grad0 V c t (ix2 (y 1) (y 2)) i h0 h1 h2, e.2.1]
/-- The second moment at a step. -/
theorem pt0_v (t : Fin cfg0.N) (y : S1x128x1024.Idx) (i : S1x2048x1024.Idx) (h0 : (i 0).val = 0) (h1 : (i 1).val = t.val * 128 + (y 1).val) (h2 : (i 2).val = (y 2).val) :
    k0_pay3 (k0_pay7 (iblk0 V c 0 t) (iblk0 V c 1 t) (iblk0 V c 4 t)) y
      = N0 V c i := by
  have e := own0 V c t y i h0 h1 h2
  pointwise [k0_pay3, k0_pay7, N0, newV, v']
  rw [grad0 V c t (ix2 (y 1) (y 2)) i h0 h1 h2, e.2.2]

theorem arr0_g : (dat0 V c).arrAt 5 cfg0.N = G0 V c := by
  refine (dat0 V c).arrAt_eq_of_covers 5 _ (by decide +kernel) fun t hf y => ?_
  have e := at0 t
  have hy := (y 0).isLt
  blk_simp
  rw [after0_5]
  frame_out
  pointwise [k0_pay5]
  refine grad0 V c t (ix2 (y 1) (y 2)) _ ?_ ?_ ?_ <;> (blk_simp [e] <;> omega)
theorem arr0_d : (dat0 V c).arrAt 6 cfg0.N = D0 V c := by
  refine (dat0 V c).arrAt_eq_of_covers 6 _ (by decide +kernel) fun t hf y => ?_
  have e := at0 t
  have hy := (y 0).isLt
  blk_simp
  rw [after0_6]
  frame_out
  refine pt0_d V c t y _ ?_ ?_ ?_ <;> (blk_simp [e] <;> omega)
theorem arr0_m : (dat0 V c).arrAt 7 cfg0.N = M0 V c := by
  refine (dat0 V c).arrAt_eq_of_covers 7 _ (by decide +kernel) fun t hf y => ?_
  have e := at0 t
  have hy := (y 0).isLt
  blk_simp
  rw [after0_7]
  frame_out
  refine pt0_m V c t y _ ?_ ?_ ?_ <;> (blk_simp [e] <;> omega)
theorem arr0_v : (dat0 V c).arrAt 8 cfg0.N = N0 V c := by
  refine (dat0 V c).arrAt_eq_of_covers 8 _ (by decide +kernel) fun t hf y => ?_
  have e := at0 t
  have hy := (y 0).isLt
  blk_simp
  rw [after0_8]
  frame_out
  refine pt0_v V c t y _ ?_ ?_ ?_ <;> (blk_simp [e] <;> omega)

/-! ## Call 1 -/

theorem ind1 : ∀ t : Fin grid1.N, win1_0.index t 0 = t.val ∧ win1_0.index t 1 = 0 ∧ win1_1.index t 0 = t.val ∧ win1_1.index t 1 = 0 := by decide +kernel
theorem at1 : ∀ t : Fin grid1.N,
    (win1_2.index t 0 = 0 ∧ win1_2.index t 1 = t.val ∧ win1_2.index t 2 = 0)
    ∧ (win1_3.index t 0 = 0 ∧ win1_3.index t 1 = t.val ∧ win1_3.index t 2 = 0)
    ∧ (win1_4.index t 0 = 0 ∧ win1_4.index t 1 = t.val ∧ win1_4.index t 2 = 0)
    ∧ (win1_5.index t 0 = 0 ∧ win1_5.index t 1 = t.val ∧ win1_5.index t 2 = 0)
    ∧ (win1_6.index t 0 = 0 ∧ win1_6.index t 1 = t.val ∧ win1_6.index t 2 = 0)
    ∧ (win1_7.index t 0 = 0 ∧ win1_7.index t 1 = t.val ∧ win1_7.index t 2 = 0)
    ∧ (win1_8.index t 0 = 0 ∧ win1_8.index t 1 = t.val ∧ win1_8.index t 2 = 0) := by decide +kernel
theorem lt1 (t : Fin cfg1.N) : t.val < 16 := lt_of_lt_of_eq t.isLt (by decide)

/-- The call's four results. -/
abbrev G1 : FVec Ideal S1x2048x1536 .f32 := g1 (V c main_arg5) (V c main_arg6)
abbrev D1 : FVec Ideal S1x2048x1536 .f32 := delta (G1 V c) (V c main_arg7) (V c main_arg8) (V c main_arg9)
abbrev M1 : FVec Ideal S1x2048x1536 .f32 := newM (G1 V c) (V c main_arg8)
abbrev N1 : FVec Ideal S1x2048x1536 .f32 := newV (G1 V c) (V c main_arg9)

/-- The gradient's parts. -/
theorem fst1 (t : Fin cfg1.N) (y : S128x1536.Idx) (i : S2048x1536.Idx) (h0 : (i 0).val = t.val * 128 + (y 0).val) (h1 : (i 1).val = (y 1).val) :
    iblk1 V c 0 t y = V c main_arg5 i ∧ iblk1 V c 1 t y = V c main_arg6 i := by
  have e := ind1 t
  constructor <;> blk_ext [iblk1, e]
/-- The weight's and the moments' blocks. -/
theorem own1 (t : Fin cfg1.N) (y : S1x128x1536.Idx) (i : S1x2048x1536.Idx) (h0 : (i 0).val = 0) (h1 : (i 1).val = t.val * 128 + (y 1).val) (h2 : (i 2).val = (y 2).val) :
    iblk1 V c 2 t y = V c main_arg7 i ∧ iblk1 V c 3 t y = V c main_arg8 i ∧ iblk1 V c 4 t y = V c main_arg9 i := by
  have e := at1 t
  refine ⟨?_, ?_, ?_⟩ <;> blk_ext [iblk1, e]

/-- The gradient at a step. -/
theorem grad1 (t : Fin cfg1.N) (y : S128x1536.Idx) (i : S1x2048x1536.Idx) (h0 : (i 0).val = 0) (h1 : (i 1).val = t.val * 128 + (y 0).val) (h2 : (i 2).val = (y 1).val) :
    k1_pay4 (iblk1 V c 0 t) (iblk1 V c 1 t) y = G1 V c i := by
  unfold k1_pay4 G1 g1
  have e := fst1 V c t y (ix2 (i 1) (i 2)) h1 h2
  rw [← e.1, ← e.2]
  rfl

/-- The step at a step. -/
theorem pt1_d (t : Fin cfg1.N) (y : S1x128x1536.Idx) (i : S1x2048x1536.Idx) (h0 : (i 0).val = 0) (h1 : (i 1).val = t.val * 128 + (y 1).val) (h2 : (i 2).val = (y 2).val) :
    k1_pay1 (k1_pay8 (iblk1 V c 0 t) (iblk1 V c 1 t) (iblk1 V c 3 t) (iblk1 V c 4 t)) (k1_pay9 (iblk1 V c 2 t)) y
      = D1 V c i := by
  have e := own1 V c t y i h0 h1 h2
  pointwise [k1_pay1, k1_pay9, k1_pay6, k1_pay7, k1_pay8, D1, delta, d', m', v']
  rw [grad1 V c t (ix2 (y 1) (y 2)) i h0 h1 h2, e.1, e.2.1, e.2.2]
/-- The first moment at a step. -/
theorem pt1_m (t : Fin cfg1.N) (y : S1x128x1536.Idx) (i : S1x2048x1536.Idx) (h0 : (i 0).val = 0) (h1 : (i 1).val = t.val * 128 + (y 1).val) (h2 : (i 2).val = (y 2).val) :
    k1_pay2 (k1_pay6 (iblk1 V c 0 t) (iblk1 V c 1 t) (iblk1 V c 3 t)) y
      = M1 V c i := by
  have e := own1 V c t y i h0 h1 h2
  pointwise [k1_pay2, k1_pay6, M1, newM, m']
  rw [grad1 V c t (ix2 (y 1) (y 2)) i h0 h1 h2, e.2.1]
/-- The second moment at a step. -/
theorem pt1_v (t : Fin cfg1.N) (y : S1x128x1536.Idx) (i : S1x2048x1536.Idx) (h0 : (i 0).val = 0) (h1 : (i 1).val = t.val * 128 + (y 1).val) (h2 : (i 2).val = (y 2).val) :
    k1_pay3 (k1_pay7 (iblk1 V c 0 t) (iblk1 V c 1 t) (iblk1 V c 4 t)) y
      = N1 V c i := by
  have e := own1 V c t y i h0 h1 h2
  pointwise [k1_pay3, k1_pay7, N1, newV, v']
  rw [grad1 V c t (ix2 (y 1) (y 2)) i h0 h1 h2, e.2.2]

theorem arr1_g : (dat1 V c).arrAt 5 cfg1.N = G1 V c := by
  refine (dat1 V c).arrAt_eq_of_covers 5 _ (by decide +kernel) fun t hf y => ?_
  have e := at1 t
  have hy := (y 0).isLt
  blk_simp
  rw [after1_5]
  frame_out
  pointwise [k1_pay5]
  refine grad1 V c t (ix2 (y 1) (y 2)) _ ?_ ?_ ?_ <;> (blk_simp [e] <;> omega)
theorem arr1_d : (dat1 V c).arrAt 6 cfg1.N = D1 V c := by
  refine (dat1 V c).arrAt_eq_of_covers 6 _ (by decide +kernel) fun t hf y => ?_
  have e := at1 t
  have hy := (y 0).isLt
  blk_simp
  rw [after1_6]
  frame_out
  refine pt1_d V c t y _ ?_ ?_ ?_ <;> (blk_simp [e] <;> omega)
theorem arr1_m : (dat1 V c).arrAt 7 cfg1.N = M1 V c := by
  refine (dat1 V c).arrAt_eq_of_covers 7 _ (by decide +kernel) fun t hf y => ?_
  have e := at1 t
  have hy := (y 0).isLt
  blk_simp
  rw [after1_7]
  frame_out
  refine pt1_m V c t y _ ?_ ?_ ?_ <;> (blk_simp [e] <;> omega)
theorem arr1_v : (dat1 V c).arrAt 8 cfg1.N = N1 V c := by
  refine (dat1 V c).arrAt_eq_of_covers 8 _ (by decide +kernel) fun t hf y => ?_
  have e := at1 t
  have hy := (y 0).isLt
  blk_simp
  rw [after1_8]
  frame_out
  refine pt1_v V c t y _ ?_ ?_ ?_ <;> (blk_simp [e] <;> omega)

/-! ## Call 2 -/

theorem ind2 : ∀ t : Fin grid2.N, win2_0.index t 0 = t.val ∧ win2_0.index t 1 = 0 ∧ win2_1.index t 0 = t.val ∧ win2_1.index t 1 = 0 := by decide +kernel
theorem at2 : ∀ t : Fin grid2.N,
    (win2_2.index t 0 = 0 ∧ win2_2.index t 1 = t.val ∧ win2_2.index t 2 = 0)
    ∧ (win2_3.index t 0 = 0 ∧ win2_3.index t 1 = t.val ∧ win2_3.index t 2 = 0)
    ∧ (win2_4.index t 0 = 0 ∧ win2_4.index t 1 = t.val ∧ win2_4.index t 2 = 0)
    ∧ (win2_5.index t 0 = 0 ∧ win2_5.index t 1 = t.val ∧ win2_5.index t 2 = 0)
    ∧ (win2_6.index t 0 = 0 ∧ win2_6.index t 1 = t.val ∧ win2_6.index t 2 = 0)
    ∧ (win2_7.index t 0 = 0 ∧ win2_7.index t 1 = t.val ∧ win2_7.index t 2 = 0)
    ∧ (win2_8.index t 0 = 0 ∧ win2_8.index t 1 = t.val ∧ win2_8.index t 2 = 0) := by decide +kernel
theorem lt2 (t : Fin cfg2.N) : t.val < 4 := lt_of_lt_of_eq t.isLt (by decide)

/-- The call's four results. -/
abbrev G2 : FVec Ideal S1x512x2048 .f32 := g1 (V c main_arg10) (V c main_arg11)
abbrev D2 : FVec Ideal S1x512x2048 .f32 := delta (G2 V c) (V c main_arg12) (V c main_arg13) (V c main_arg14)
abbrev M2 : FVec Ideal S1x512x2048 .f32 := newM (G2 V c) (V c main_arg13)
abbrev N2 : FVec Ideal S1x512x2048 .f32 := newV (G2 V c) (V c main_arg14)

/-- The gradient's parts. -/
theorem fst2 (t : Fin cfg2.N) (y : S128x2048.Idx) (i : S512x2048.Idx) (h0 : (i 0).val = t.val * 128 + (y 0).val) (h1 : (i 1).val = (y 1).val) :
    iblk2 V c 0 t y = V c main_arg10 i ∧ iblk2 V c 1 t y = V c main_arg11 i := by
  have e := ind2 t
  constructor <;> blk_ext [iblk2, e]
/-- The weight's and the moments' blocks. -/
theorem own2 (t : Fin cfg2.N) (y : S1x128x2048.Idx) (i : S1x512x2048.Idx) (h0 : (i 0).val = 0) (h1 : (i 1).val = t.val * 128 + (y 1).val) (h2 : (i 2).val = (y 2).val) :
    iblk2 V c 2 t y = V c main_arg12 i ∧ iblk2 V c 3 t y = V c main_arg13 i ∧ iblk2 V c 4 t y = V c main_arg14 i := by
  have e := at2 t
  refine ⟨?_, ?_, ?_⟩ <;> blk_ext [iblk2, e]

/-- The gradient at a step. -/
theorem grad2 (t : Fin cfg2.N) (y : S128x2048.Idx) (i : S1x512x2048.Idx) (h0 : (i 0).val = 0) (h1 : (i 1).val = t.val * 128 + (y 0).val) (h2 : (i 2).val = (y 1).val) :
    k2_pay4 (iblk2 V c 0 t) (iblk2 V c 1 t) y = G2 V c i := by
  unfold k2_pay4 G2 g1
  have e := fst2 V c t y (ix2 (i 1) (i 2)) h1 h2
  rw [← e.1, ← e.2]
  rfl

/-- The step at a step. -/
theorem pt2_d (t : Fin cfg2.N) (y : S1x128x2048.Idx) (i : S1x512x2048.Idx) (h0 : (i 0).val = 0) (h1 : (i 1).val = t.val * 128 + (y 1).val) (h2 : (i 2).val = (y 2).val) :
    k2_pay1 (k2_pay8 (iblk2 V c 0 t) (iblk2 V c 1 t) (iblk2 V c 3 t) (iblk2 V c 4 t)) (k2_pay9 (iblk2 V c 2 t)) y
      = D2 V c i := by
  have e := own2 V c t y i h0 h1 h2
  pointwise [k2_pay1, k2_pay9, k2_pay6, k2_pay7, k2_pay8, D2, delta, d', m', v']
  rw [grad2 V c t (ix2 (y 1) (y 2)) i h0 h1 h2, e.1, e.2.1, e.2.2]
/-- The first moment at a step. -/
theorem pt2_m (t : Fin cfg2.N) (y : S1x128x2048.Idx) (i : S1x512x2048.Idx) (h0 : (i 0).val = 0) (h1 : (i 1).val = t.val * 128 + (y 1).val) (h2 : (i 2).val = (y 2).val) :
    k2_pay2 (k2_pay6 (iblk2 V c 0 t) (iblk2 V c 1 t) (iblk2 V c 3 t)) y
      = M2 V c i := by
  have e := own2 V c t y i h0 h1 h2
  pointwise [k2_pay2, k2_pay6, M2, newM, m']
  rw [grad2 V c t (ix2 (y 1) (y 2)) i h0 h1 h2, e.2.1]
/-- The second moment at a step. -/
theorem pt2_v (t : Fin cfg2.N) (y : S1x128x2048.Idx) (i : S1x512x2048.Idx) (h0 : (i 0).val = 0) (h1 : (i 1).val = t.val * 128 + (y 1).val) (h2 : (i 2).val = (y 2).val) :
    k2_pay3 (k2_pay7 (iblk2 V c 0 t) (iblk2 V c 1 t) (iblk2 V c 4 t)) y
      = N2 V c i := by
  have e := own2 V c t y i h0 h1 h2
  pointwise [k2_pay3, k2_pay7, N2, newV, v']
  rw [grad2 V c t (ix2 (y 1) (y 2)) i h0 h1 h2, e.2.2]

theorem arr2_g : (dat2 V c).arrAt 5 cfg2.N = G2 V c := by
  refine (dat2 V c).arrAt_eq_of_covers 5 _ (by decide +kernel) fun t hf y => ?_
  have e := at2 t
  have hy := (y 0).isLt
  blk_simp
  rw [after2_5]
  frame_out
  pointwise [k2_pay5]
  refine grad2 V c t (ix2 (y 1) (y 2)) _ ?_ ?_ ?_ <;> (blk_simp [e] <;> omega)
theorem arr2_d : (dat2 V c).arrAt 6 cfg2.N = D2 V c := by
  refine (dat2 V c).arrAt_eq_of_covers 6 _ (by decide +kernel) fun t hf y => ?_
  have e := at2 t
  have hy := (y 0).isLt
  blk_simp
  rw [after2_6]
  frame_out
  refine pt2_d V c t y _ ?_ ?_ ?_ <;> (blk_simp [e] <;> omega)
theorem arr2_m : (dat2 V c).arrAt 7 cfg2.N = M2 V c := by
  refine (dat2 V c).arrAt_eq_of_covers 7 _ (by decide +kernel) fun t hf y => ?_
  have e := at2 t
  have hy := (y 0).isLt
  blk_simp
  rw [after2_7]
  frame_out
  refine pt2_m V c t y _ ?_ ?_ ?_ <;> (blk_simp [e] <;> omega)
theorem arr2_v : (dat2 V c).arrAt 8 cfg2.N = N2 V c := by
  refine (dat2 V c).arrAt_eq_of_covers 8 _ (by decide +kernel) fun t hf y => ?_
  have e := at2 t
  have hy := (y 0).isLt
  blk_simp
  rw [after2_8]
  frame_out
  refine pt2_v V c t y _ ?_ ?_ ?_ <;> (blk_simp [e] <;> omega)

/-! ## Call 3 -/

theorem ind3 : ∀ t : Fin grid3.N, win3_0.index t 0 = t.val ∧ win3_0.index t 1 = 0 ∧ win3_1.index t 0 = t.val ∧ win3_1.index t 1 = 0 := by decide +kernel
theorem at3 : ∀ t : Fin grid3.N,
    (win3_2.index t 0 = 0 ∧ win3_2.index t 1 = t.val ∧ win3_2.index t 2 = 0)
    ∧ (win3_3.index t 0 = 0 ∧ win3_3.index t 1 = t.val ∧ win3_3.index t 2 = 0)
    ∧ (win3_4.index t 0 = 0 ∧ win3_4.index t 1 = t.val ∧ win3_4.index t 2 = 0)
    ∧ (win3_5.index t 0 = 0 ∧ win3_5.index t 1 = t.val ∧ win3_5.index t 2 = 0)
    ∧ (win3_6.index t 0 = 0 ∧ win3_6.index t 1 = t.val ∧ win3_6.index t 2 = 0)
    ∧ (win3_7.index t 0 = 0 ∧ win3_7.index t 1 = t.val ∧ win3_7.index t 2 = 0)
    ∧ (win3_8.index t 0 = 0 ∧ win3_8.index t 1 = t.val ∧ win3_8.index t 2 = 0) := by decide +kernel
theorem lt3 (t : Fin cfg3.N) : t.val < 4 := lt_of_lt_of_eq t.isLt (by decide)

/-- The call's four results. -/
abbrev G3 : FVec Ideal S1x512x1024 .f32 := g1 (V c main_arg15) (V c main_arg16)
abbrev D3 : FVec Ideal S1x512x1024 .f32 := delta (G3 V c) (V c main_arg17) (V c main_arg18) (V c main_arg19)
abbrev M3 : FVec Ideal S1x512x1024 .f32 := newM (G3 V c) (V c main_arg18)
abbrev N3 : FVec Ideal S1x512x1024 .f32 := newV (G3 V c) (V c main_arg19)

/-- The gradient's parts. -/
theorem fst3 (t : Fin cfg3.N) (y : S128x1024.Idx) (i : S512x1024.Idx) (h0 : (i 0).val = t.val * 128 + (y 0).val) (h1 : (i 1).val = (y 1).val) :
    iblk3 V c 0 t y = V c main_arg15 i ∧ iblk3 V c 1 t y = V c main_arg16 i := by
  have e := ind3 t
  constructor <;> blk_ext [iblk3, e]
/-- The weight's and the moments' blocks. -/
theorem own3 (t : Fin cfg3.N) (y : S1x128x1024.Idx) (i : S1x512x1024.Idx) (h0 : (i 0).val = 0) (h1 : (i 1).val = t.val * 128 + (y 1).val) (h2 : (i 2).val = (y 2).val) :
    iblk3 V c 2 t y = V c main_arg17 i ∧ iblk3 V c 3 t y = V c main_arg18 i ∧ iblk3 V c 4 t y = V c main_arg19 i := by
  have e := at3 t
  refine ⟨?_, ?_, ?_⟩ <;> blk_ext [iblk3, e]

/-- The gradient at a step. -/
theorem grad3 (t : Fin cfg3.N) (y : S128x1024.Idx) (i : S1x512x1024.Idx) (h0 : (i 0).val = 0) (h1 : (i 1).val = t.val * 128 + (y 0).val) (h2 : (i 2).val = (y 1).val) :
    k3_pay4 (iblk3 V c 0 t) (iblk3 V c 1 t) y = G3 V c i := by
  unfold k3_pay4 G3 g1
  have e := fst3 V c t y (ix2 (i 1) (i 2)) h1 h2
  rw [← e.1, ← e.2]
  rfl

/-- The step at a step. -/
theorem pt3_d (t : Fin cfg3.N) (y : S1x128x1024.Idx) (i : S1x512x1024.Idx) (h0 : (i 0).val = 0) (h1 : (i 1).val = t.val * 128 + (y 1).val) (h2 : (i 2).val = (y 2).val) :
    k3_pay1 (k3_pay8 (iblk3 V c 0 t) (iblk3 V c 1 t) (iblk3 V c 3 t) (iblk3 V c 4 t)) (k3_pay9 (iblk3 V c 2 t)) y
      = D3 V c i := by
  have e := own3 V c t y i h0 h1 h2
  pointwise [k3_pay1, k3_pay9, k3_pay6, k3_pay7, k3_pay8, D3, delta, d', m', v']
  rw [grad3 V c t (ix2 (y 1) (y 2)) i h0 h1 h2, e.1, e.2.1, e.2.2]
/-- The first moment at a step. -/
theorem pt3_m (t : Fin cfg3.N) (y : S1x128x1024.Idx) (i : S1x512x1024.Idx) (h0 : (i 0).val = 0) (h1 : (i 1).val = t.val * 128 + (y 1).val) (h2 : (i 2).val = (y 2).val) :
    k3_pay2 (k3_pay6 (iblk3 V c 0 t) (iblk3 V c 1 t) (iblk3 V c 3 t)) y
      = M3 V c i := by
  have e := own3 V c t y i h0 h1 h2
  pointwise [k3_pay2, k3_pay6, M3, newM, m']
  rw [grad3 V c t (ix2 (y 1) (y 2)) i h0 h1 h2, e.2.1]
/-- The second moment at a step. -/
theorem pt3_v (t : Fin cfg3.N) (y : S1x128x1024.Idx) (i : S1x512x1024.Idx) (h0 : (i 0).val = 0) (h1 : (i 1).val = t.val * 128 + (y 1).val) (h2 : (i 2).val = (y 2).val) :
    k3_pay3 (k3_pay7 (iblk3 V c 0 t) (iblk3 V c 1 t) (iblk3 V c 4 t)) y
      = N3 V c i := by
  have e := own3 V c t y i h0 h1 h2
  pointwise [k3_pay3, k3_pay7, N3, newV, v']
  rw [grad3 V c t (ix2 (y 1) (y 2)) i h0 h1 h2, e.2.2]

theorem arr3_g : (dat3 V c).arrAt 5 cfg3.N = G3 V c := by
  refine (dat3 V c).arrAt_eq_of_covers 5 _ (by decide +kernel) fun t hf y => ?_
  have e := at3 t
  have hy := (y 0).isLt
  blk_simp
  rw [after3_5]
  frame_out
  pointwise [k3_pay5]
  refine grad3 V c t (ix2 (y 1) (y 2)) _ ?_ ?_ ?_ <;> (blk_simp [e] <;> omega)
theorem arr3_d : (dat3 V c).arrAt 6 cfg3.N = D3 V c := by
  refine (dat3 V c).arrAt_eq_of_covers 6 _ (by decide +kernel) fun t hf y => ?_
  have e := at3 t
  have hy := (y 0).isLt
  blk_simp
  rw [after3_6]
  frame_out
  refine pt3_d V c t y _ ?_ ?_ ?_ <;> (blk_simp [e] <;> omega)
theorem arr3_m : (dat3 V c).arrAt 7 cfg3.N = M3 V c := by
  refine (dat3 V c).arrAt_eq_of_covers 7 _ (by decide +kernel) fun t hf y => ?_
  have e := at3 t
  have hy := (y 0).isLt
  blk_simp
  rw [after3_7]
  frame_out
  refine pt3_m V c t y _ ?_ ?_ ?_ <;> (blk_simp [e] <;> omega)
theorem arr3_v : (dat3 V c).arrAt 8 cfg3.N = N3 V c := by
  refine (dat3 V c).arrAt_eq_of_covers 8 _ (by decide +kernel) fun t hf y => ?_
  have e := at3 t
  have hy := (y 0).isLt
  blk_simp
  rw [after3_8]
  frame_out
  refine pt3_v V c t y _ ?_ ?_ ?_ <;> (blk_simp [e] <;> omega)

end Cert.Aw1

end
-- ==== Proof.AdamwOneAlg.lean ====
module

public import proofs.«01_k».proof.Defs
public import proofs.«01_k».proof.Proof.AdamwOneKer

@[expose] public section

set_option maxRecDepth 16384

noncomputable section

namespace Cert.Aw1

open Idealize.ShloMosaic Idealize.ShloMosaic.TcCoe Idealize.SL.Sem Idealize.ShloMosaic.StableHlo Cert.Aw

/-! # The one-layer weights' results are the plain mathematics' -/

section
open Cert.AdamwOneIdeal Cert.AdamwOneIdeal.Gen
variable (m : (ℓ : Loc nD τ sig) → Buf (Elt Ideal) ℓ) (ρ : Dev nD → PrngReg) (c : Dev nD)

/-- The arguments as the run finds them. -/
abbrev argsOf : (c : Dev nD) → (b : Ref sig .tc) → Buf (Elt Ideal) ((c : Thread nD τ).loc b) := fun c b => m ((c : Thread nD τ).loc b)

/-! The arguments as each call reads them. -/

theorem a5 : V1 m ρ c main_arg5 = argsOf m c main_arg5 := W1_of m ρ c main_arg5 (by decide)
theorem a6 : V1 m ρ c main_arg6 = argsOf m c main_arg6 := W1_of m ρ c main_arg6 (by decide)
theorem a7 : V1 m ρ c main_arg7 = argsOf m c main_arg7 := W1_of m ρ c main_arg7 (by decide)
theorem a8 : V1 m ρ c main_arg8 = argsOf m c main_arg8 := W1_of m ρ c main_arg8 (by decide)
theorem a9 : V1 m ρ c main_arg9 = argsOf m c main_arg9 := W1_of m ρ c main_arg9 (by decide)
theorem a10 : V2 m ρ c main_arg10 = argsOf m c main_arg10 := (W2_of m ρ c main_arg10 (by decide)).trans (W1_of m ρ c main_arg10 (by decide))
theorem a11 : V2 m ρ c main_arg11 = argsOf m c main_arg11 := (W2_of m ρ c main_arg11 (by decide)).trans (W1_of m ρ c main_arg11 (by decide))
theorem a12 : V2 m ρ c main_arg12 = argsOf m c main_arg12 := (W2_of m ρ c main_arg12 (by decide)).trans (W1_of m ρ c main_arg12 (by decide))
theorem a13 : V2 m ρ c main_arg13 = argsOf m c main_arg13 := (W2_of m ρ c main_arg13 (by decide)).trans (W1_of m ρ c main_arg13 (by decide))
theorem a14 : V2 m ρ c main_arg14 = argsOf m c main_arg14 := (W2_of m ρ c main_arg14 (by decide)).trans (W1_of m ρ c main_arg14 (by decide))
theorem a15 : V3 m ρ c main_arg15 = argsOf m c main_arg15 := (W3_of m ρ c main_arg15 (by decide)).trans ((W2_of m ρ c main_arg15 (by decide)).trans (W1_of m ρ c main_arg15 (by decide)))
theorem a16 : V3 m ρ c main_arg16 = argsOf m c main_arg16 := (W3_of m ρ c main_arg16 (by decide)).trans ((W2_of m ρ c main_arg16 (by decide)).trans (W1_of m ρ c main_arg16 (by decide)))
theorem a17 : V3 m ρ c main_arg17 = argsOf m c main_arg17 := (W3_of m ρ c main_arg17 (by decide)).trans ((W2_of m ρ c main_arg17 (by decide)).trans (W1_of m ρ c main_arg17 (by decide)))
theorem a18 : V3 m ρ c main_arg18 = argsOf m c main_arg18 := (W3_of m ρ c main_arg18 (by decide)).trans ((W2_of m ρ c main_arg18 (by decide)).trans (W1_of m ρ c main_arg18 (by decide)))
theorem a19 : V3 m ρ c main_arg19 = argsOf m c main_arg19 := (W3_of m ρ c main_arg19 (by decide)).trans ((W2_of m ρ c main_arg19 (by decide)).trans (W1_of m ρ c main_arg19 (by decide)))

theorem k0_g : W4 m ρ c (Proc.devRef .tc main_v0_0) = G0 (argsOf m) c := by
  rw [W4_of m ρ c main_v0_0 (by decide), W3_of m ρ c main_v0_0 (by decide), W2_of m ρ c main_v0_0 (by decide)]
  refine (W1_arr m ρ c 5).trans ((arr0_g (V0 m ρ) c).trans ?_)
  rfl
theorem k0_d : W4 m ρ c (Proc.devRef .tc main_v0_1) = D0 (argsOf m) c := by
  rw [W4_of m ρ c main_v0_1 (by decide), W3_of m ρ c main_v0_1 (by decide), W2_of m ρ c main_v0_1 (by decide)]
  refine (W1_arr m ρ c 6).trans ((arr0_d (V0 m ρ) c).trans ?_)
  rfl
theorem k0_m : W4 m ρ c (Proc.devRef .tc main_v0_2) = M0 (argsOf m) c := by
  rw [W4_of m ρ c main_v0_2 (by decide), W3_of m ρ c main_v0_2 (by decide), W2_of m ρ c main_v0_2 (by decide)]
  refine (W1_arr m ρ c 7).trans ((arr0_m (V0 m ρ) c).trans ?_)
  rfl
theorem k0_v : W4 m ρ c (Proc.devRef .tc main_v0_3) = N0 (argsOf m) c := by
  rw [W4_of m ρ c main_v0_3 (by decide), W3_of m ρ c main_v0_3 (by decide), W2_of m ρ c main_v0_3 (by decide)]
  refine (W1_arr m ρ c 8).trans ((arr0_v (V0 m ρ) c).trans ?_)
  rfl
theorem k1_g : W4 m ρ c (Proc.devRef .tc main_v1_0) = G1 (argsOf m) c := by
  rw [W4_of m ρ c main_v1_0 (by decide), W3_of m ρ c main_v1_0 (by decide)]
  refine (W2_arr m ρ c 5).trans ((arr1_g (V1 m ρ) c).trans ?_)
  unfold G1
  rw [a5 m ρ c, a6 m ρ c]
theorem k1_d : W4 m ρ c (Proc.devRef .tc main_v1_1) = D1 (argsOf m) c := by
  rw [W4_of m ρ c main_v1_1 (by decide), W3_of m ρ c main_v1_1 (by decide)]
  refine (W2_arr m ρ c 6).trans ((arr1_d (V1 m ρ) c).trans ?_)
  unfold D1 G1
  rw [a5 m ρ c, a6 m ρ c, a7 m ρ c, a8 m ρ c, a9 m ρ c]
theorem k1_m : W4 m ρ c (Proc.devRef .tc main_v1_2) = M1 (argsOf m) c := by
  rw [W4_of m ρ c main_v1_2 (by decide), W3_of m ρ c main_v1_2 (by decide)]
  refine (W2_arr m ρ c 7).trans ((arr1_m (V1 m ρ) c).trans ?_)
  unfold M1 G1
  rw [a5 m ρ c, a6 m ρ c, a8 m ρ c]
theorem k1_v : W4 m ρ c (Proc.devRef .tc main_v1_3) = N1 (argsOf m) c := by
  rw [W4_of m ρ c main_v1_3 (by decide), W3_of m ρ c main_v1_3 (by decide)]
  refine (W2_arr m ρ c 8).trans ((arr1_v (V1 m ρ) c).trans ?_)
  unfold N1 G1
  rw [a5 m ρ c, a6 m ρ c, a9 m ρ c]
theorem k2_g : W4 m ρ c (Proc.devRef .tc main_v2_0) = G2 (argsOf m) c := by
  rw [W4_of m ρ c main_v2_0 (by decide)]
  refine (W3_arr m ρ c 5).trans ((arr2_g (V2 m ρ) c).trans ?_)
  unfold G2
  rw [a10 m ρ c, a11 m ρ c]
theorem k2_d : W4 m ρ c (Proc.devRef .tc main_v2_1) = D2 (argsOf m) c := by
  rw [W4_of m ρ c main_v2_1 (by decide)]
  refine (W3_arr m ρ c 6).trans ((arr2_d (V2 m ρ) c).trans ?_)
  unfold D2 G2
  rw [a10 m ρ c, a11 m ρ c, a12 m ρ c, a13 m ρ c, a14 m ρ c]
theorem k2_m : W4 m ρ c (Proc.devRef .tc main_v2_2) = M2 (argsOf m) c := by
  rw [W4_of m ρ c main_v2_2 (by decide)]
  refine (W3_arr m ρ c 7).trans ((arr2_m (V2 m ρ) c).trans ?_)
  unfold M2 G2
  rw [a10 m ρ c, a11 m ρ c, a13 m ρ c]
theorem k2_v : W4 m ρ c (Proc.devRef .tc main_v2_3) = N2 (argsOf m) c := by
  rw [W4_of m ρ c main_v2_3 (by decide)]
  refine (W3_arr m ρ c 8).trans ((arr2_v (V2 m ρ) c).trans ?_)
  unfold N2 G2
  rw [a10 m ρ c, a11 m ρ c, a14 m ρ c]
theorem k3_g : W4 m ρ c (Proc.devRef .tc main_v3_0) = G3 (argsOf m) c := by
  refine (W4_arr m ρ c 5).trans ((arr3_g (V3 m ρ) c).trans ?_)
  unfold G3
  rw [a15 m ρ c, a16 m ρ c]
theorem k3_d : W4 m ρ c (Proc.devRef .tc main_v3_1) = D3 (argsOf m) c := by
  refine (W4_arr m ρ c 6).trans ((arr3_d (V3 m ρ) c).trans ?_)
  unfold D3 G3
  rw [a15 m ρ c, a16 m ρ c, a17 m ρ c, a18 m ρ c, a19 m ρ c]
theorem k3_m : W4 m ρ c (Proc.devRef .tc main_v3_2) = M3 (argsOf m) c := by
  refine (W4_arr m ρ c 7).trans ((arr3_m (V3 m ρ) c).trans ?_)
  unfold M3 G3
  rw [a15 m ρ c, a16 m ρ c, a18 m ρ c]
theorem k3_v : W4 m ρ c (Proc.devRef .tc main_v3_3) = N3 (argsOf m) c := by
  refine (W4_arr m ρ c 8).trans ((arr3_v (V3 m ρ) c).trans ?_)
  unfold N3 G3
  rw [a15 m ρ c, a16 m ρ c, a19 m ρ c]

end

theorem algebraic : Cert.algebraic_AdamwOneIdeal_AdamwOneReferenceIdeal (hAdamwOneIdeal := Cert.AdamwOneIdeal.Gen.facts) (hAdamwOneReferenceIdeal := Cert.AdamwOneReferenceIdeal.Gen.facts) := by
  intro m g m' g' hpre hagree
  refine ⟨fun c => G0 (argsOf m) c,
    fun c => D0 (argsOf m) c,
    fun c => M0 (argsOf m) c,
    fun c => N0 (argsOf m) c,
    fun c => G1 (argsOf m) c,
    fun c => D1 (argsOf m) c,
    fun c => M1 (argsOf m) c,
    fun c => N1 (argsOf m) c,
    fun c => G2 (argsOf m) c,
    fun c => D2 (argsOf m) c,
    fun c => M2 (argsOf m) c,
    fun c => N2 (argsOf m) c,
    fun c => G3 (argsOf m) c,
    fun c => D3 (argsOf m) c,
    fun c => M3 (argsOf m) c,
    fun c => N3 (argsOf m) c, ?_, ?_⟩
  · refine (θ_run Cert.AdamwOneIdeal.defs _ _).mono (fun r h c => ?_) (run (F := Ideal) m g)
    obtain ⟨h0, h1, h2, h3, h4, h5, h6, h7, h8, h9, h10, h11, h12, h13, h14, h15, ha⟩ := h.1 c
    exact ⟨h0.trans (k0_g m g c), h1.trans (k0_d m g c), h2.trans (k0_m m g c), h3.trans (k0_v m g c), h4.trans (k1_g m g c), h5.trans (k1_d m g c), h6.trans (k1_m m g c), h7.trans (k1_v m g c), h8.trans (k2_g m g c), h9.trans (k2_d m g c), h10.trans (k2_m m g c), h11.trans (k2_v m g c), h12.trans (k3_g m g c), h13.trans (k3_d m g c), h14.trans (k3_m m g c), h15.trans (k3_v m g c), ha⟩
  · refine (θ_run Cert.AdamwOneReferenceIdeal.defs _ _).mono (fun r h c => ?_) (Cert.AdamwOneReferenceIdeal.Value.run (F := Ideal) m' g')
    obtain ⟨e0, e1, e2, e3, e4, e5, e6, e7, e8, e9, e10, e11, e12, e13, e14, e15, e16, e17, e18, e19⟩ := hagree c
    obtain ⟨h0, h1, h2, h3, h4, h5, h6, h7, h8, h9, h10, h11, h12, h13, h14, h15, ha⟩ := h c
    exact ⟨h0.trans (of_g1 _ e0 e1),
      h1.trans (of_d _ e2 (of_m _ (of_g1 _ e0 e1) e3) (of_v _ (of_g1 _ e0 e1) e4)),
      h2.trans (of_m _ (of_g1 _ e0 e1) e3),
      h3.trans (of_v _ (of_g1 _ e0 e1) e4),
      h4.trans (of_g1 _ e5 e6),
      h5.trans (of_d _ e7 (of_m _ (of_g1 _ e5 e6) e8) (of_v _ (of_g1 _ e5 e6) e9)),
      h6.trans (of_m _ (of_g1 _ e5 e6) e8),
      h7.trans (of_v _ (of_g1 _ e5 e6) e9),
      h8.trans (of_g1 _ e10 e11),
      h9.trans (of_d _ e12 (of_m _ (of_g1 _ e10 e11) e13) (of_v _ (of_g1 _ e10 e11) e14)),
      h10.trans (of_m _ (of_g1 _ e10 e11) e13),
      h11.trans (of_v _ (of_g1 _ e10 e11) e14),
      h12.trans (of_g1 _ e15 e16),
      h13.trans (of_d _ e17 (of_m _ (of_g1 _ e15 e16) e18) (of_v _ (of_g1 _ e15 e16) e19)),
      h14.trans (of_m _ (of_g1 _ e15 e16) e18),
      h15.trans (of_v _ (of_g1 _ e15 e16) e19), ha⟩

end Cert.Aw1

end
-- ==== Proof.FloatStepC.lean ====
module

public import proofs.«01_k».proof.Proof.FloatStepB
public import proofs.«01_k».proof.Proof.Gen.Kernel.Skeleton
public import Idealize.ShloMosaic.Lib.Pipeline.Value
public import Idealize.ShloMosaic.Lib.Exec

@[expose] public section

set_option maxRecDepth 16384

noncomputable section

namespace Cert.AttK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body at the last step of a class: it writes the carry out as the last blocks of the keys' and values' gradients
    and reads nothing else. -/
theorem stepC (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : ¬isLive i) (hc2 : isLast i)
    (s0 s1 : Vec F S128x512 .f32) (E : Set ℕ) (K : PUnit → sProp 𝕄) :
    iprop((∃ d, owns (c : Thread nD τ) a14 fullShare d) ∗ (∃ d, owns (c : Thread nD τ) a15 fullShare d) ∗ owns (c : Thread nD τ) a16 fullShare s0 ∗ owns (c : Thread nD τ) a17 fullShare s1
        ∗ (iprop(owns (c : Thread nD τ) a14 fullShare (k0_pay5 s0) ∗ owns (c : Thread nD τ) a15 fullShare (k0_pay6 s1)
          ∗ owns (c : Thread nD τ) a16 fullShare s0 ∗ owns (c : Thread nD τ) a17 fullShare s1) -∗ K ⟨⟩))
      ⊢ wp frame (wpE (defs₀ (F := F)) Variants.none c none) E (cc0_att_bwd2 i a2 h2 a3 h3 a4 h4 a5 h5 a6 h6 a7 h7 a8 h8 a9 h9 a10 h10 a11 h11 (Memref.whole main_v88) (Memref.isWhole_whole _) a13 h13 a14 h14 a15 h15 a16 h16 a17 h17) K := by
  simp only [cc0_att_bwd2_eq_skeleton]; unfold cc0_att_bwd2_skel
  unfold owns
  iintro ⟨⟨%d11, %f11, -, H11⟩, ⟨%d12, %f12, -, H12⟩, ⟨%f13, %hf13, H13⟩, ⟨%f14, %hf14, H14⟩, Hk⟩
  obtain rfl := h16.eq_unread hf13; obtain rfl := h17.eq_unread hf14
  sl_exec (disch := first | sl_exact hc0 | sl_exact hc1 | sl_exact hc2)
  sl_step
  iapply Hk
  isplitl [H11]
  · iexists _; isplitr
    swap; · iexact H11
    ipureintro
    rw [View.read_writes_eq_canon _ _ _ (View.cover_of_tiledL _ S1x128x512.size (by sl_kernel_rfl)), View.canon_unit_zero zeros3]
    simp only [View.readAt_eq_ld, h16.read_unread, View.ld_unit_zero (S := S128x512) zeros2]
  isplitl [H12]
  · iexists _; isplitr
    swap; · iexact H12
    ipureintro
    rw [View.read_writes_eq_canon _ _ _ (View.cover_of_tiledL _ S1x128x512.size (by sl_kernel_rfl)), View.canon_unit_zero zeros3]
    simp only [View.readAt_eq_ld, h17.read_unread, View.ld_unit_zero (S := S128x512) zeros2]
  isplitl [H13]
  · iexists _; isplitr; · ipureintro; exact h16.read_unread _
    iexact H13
  iexists _; isplitr; · ipureintro; exact h17.read_unread _
  iexact H14

end Cert.AttK
-- ==== Proof.FloatPiecesB.lean ====
module

public import proofs.«01_k».proof.Proof.FloatTile
public import proofs.«01_k».proof.Proof.FloatStepB

@[expose] public section

set_option maxRecDepth 16384

noncomputable section

namespace Cert.AttK

open Idealize.ShloMosaic Idealize.ShloMosaic.TcCoe Idealize.ShloMosaic.Tactic
open Cert.Kernel Cert.Kernel.Gen

variable {F : FTy → Type} [FloatOps F]

set_option maxHeartbeats 1000000 in
theorem stepB_dq  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).1 = dqL (tq (maskT i) (⟨x0, x1, x2, x3, x4, x5, x6, x7, x8, x9⟩)) := by
  refine Eq.trans (b := dqL (tq (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_dk  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.1 = loL (scut s0) (tk (maskT i) (⟨x0, x1, x2, x3, x4, x5, x6, x7, x8, x9⟩)) := by
  refine Eq.trans (b := loL (scut (a16.view.read (Elt F) (h16.unread s0))) (tk (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_dv  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.1 = loL (scut s1) (tv (maskT i) (⟨x0, x1, x2, x3, x4, x5, x6, x7, x8, x9⟩)) := by
  refine Eq.trans (b := loL (scut (a17.view.read (Elt F) (h17.unread s1))) (tv (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_c0  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.2.1 = hiL (tk (maskT i) (⟨x0, x1, x2, x3, x4, x5, x6, x7, x8, x9⟩)) := by
  refine Eq.trans (b := hiL (tk (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

set_option maxHeartbeats 1000000 in
theorem stepB_c1  (c : Dev nD) (i : grid0.Coords) (a2 : Memref sig .tc .vmem S1x128x2048 .bf16) (h2 : a2.IsWhole) (a3 : Memref sig .tc .vmem S1x128x512 .bf16) (h3 : a3.IsWhole) (a4 : Memref sig .tc .vmem S1x128x512 .bf16) (h4 : a4.IsWhole) (a5 : Memref sig .tc .vmem S1x128x512 .bf16) (h5 : a5.IsWhole) (a6 : Memref sig .tc .vmem S1x128x512 .bf16) (h6 : a6.IsWhole) (a7 : Memref sig .tc .vmem S1x128x2048 .f32) (h7 : a7.IsWhole) (a8 : Memref sig .tc .vmem S1x128x2048 .f32) (h8 : a8.IsWhole) (a9 : Memref sig .tc .vmem S1x128x2048 .f32) (h9 : a9.IsWhole) (a10 : Memref sig .tc .vmem S1x128x2048 .f32) (h10 : a10.IsWhole) (a11 : Memref sig .tc .vmem S1x128x2048 .f32) (h11 : a11.IsWhole) (a13 : Memref sig .tc .vmem S1x128x2048 .bf16) (h13 : a13.IsWhole) (a14 : Memref sig .tc .vmem S1x128x512 .f32) (h14 : a14.IsWhole) (a15 : Memref sig .tc .vmem S1x128x512 .f32) (h15 : a15.IsWhole) (a16 : Memref sig .tc .vmem S128x512 .f32) (h16 : a16.IsWhole) (a17 : Memref sig .tc .vmem S128x512 .f32) (h17 : a17.IsWhole) (hc0 : ¬isFirst i) (hc1 : isLive i) (hc2 : ¬isLast i)
    (x0 : Vec F S1x128x2048 .bf16) (x1 : Vec F S1x128x512 .bf16) (x2 : Vec F S1x128x512 .bf16) (x3 : Vec F S1x128x512 .bf16) (x4 : Vec F S1x128x512 .bf16) (x5 : Vec F S1x128x2048 .f32) (x6 : Vec F S1x128x2048 .f32) (x7 : Vec F S1x128x2048 .f32) (x8 : Vec F S1x128x2048 .f32) (x9 : Vec F S1x128x2048 .f32) (s0 s1 : Vec F S128x512 .f32)  :
    (stepB c i a2 h2 a3 h3 a4 h4 a5 h5 a6 h6 a7 h7 a8 h8 a9 h9 a10 h10 a11 h11 a13 h13 a14 h14 a15 h15 a16 h16 a17 h17 hc0 hc1 hc2 x0 x1 x2 x3 x4 x5 x6 x7 x8 x9 s0 s1).2.2.2.2.1 = hiL (tv (maskT i) (⟨x0, x1, x2, x3, x4, x5, x6, x7, x8, x9⟩)) := by
  refine Eq.trans (b := hiL (tv (maskT i) (⟨a2.view.read (Elt F) (h2.unread x0), a3.view.read (Elt F) (h3.unread x1), a4.view.read (Elt F) (h4.unread x2), a5.view.read (Elt F) (h5.unread x3), a6.view.read (Elt F) (h6.unread x4), a7.view.read (Elt F) (h7.unread x5), a8.view.read (Elt F) (h8.unread x6), a9.view.read (Elt F) (h9.unread x7), a10.view.read (Elt F) (h10.unread x8), a11.view.read (Elt F) (h11.unread x9)⟩))) rfl ?_
  simp only [Memref.IsWhole.read_unread]

end Cert.AttK
-- ==== Proof.StepVal.lean ====
module

public import proofs.«01_k».proof.Proof.Blocks

@[expose] public section

set_option maxRecDepth 16384

noncomputable section

namespace Cert.Att

open Idealize.ShloMosaic Idealize.ShloMosaic.TcCoe Idealize.SL.Sem Cert.KernelIdeal Cert.KernelIdeal.Gen
open scoped BigOperators

/-! ## The two blocks of keys -/

/-- The lower and the upper half of the 256 keys a step reads. -/
def lo (z : Fin 128) : Fin 256 := ⟨z.val, by omega⟩
def hi' (z : Fin 128) : Fin 256 := ⟨128 + z.val, by omega⟩

theorem sum_halves (f : Fin 256 → ℝ) : ∑ s, f s = ∑ z, f (tm 0 z) + ∑ z, f (tm 1 z) := by
  refine (Fin.sum_univ_add (a := 128) (b := 128) f).trans ?_
  refine congrArg₂ (· + ·) (Finset.sum_congr rfl fun z _ => congrArg f (Fin.ext ?_)) (Finset.sum_congr rfl fun z _ => congrArg f (Fin.ext ?_))
  · show z.val = 128 * 0 + z.val; omega
  · show 128 + z.val = 128 * 1 + z.val; omega

variable (X : Data) (c : Fin 16) (g r : Fin 4) (t z : Fin 128)

theorem ks_lo : ks 1 (lo z) = tm 0 z := Fin.ext (by show z.val = 128 * 0 + z.val; omega)
theorem ks_hi : ks 1 (hi' z) = tm 1 z := Fin.ext (by show 128 + z.val = 128 * 1 + z.val; omega)
theorem ks0_hi : ks 0 (hi' z) = tm 0 z := Fin.ext (by show (128 + z.val) % 128 = 128 * 0 + z.val; omega)
theorem tm0_lo : tm 0 z = lo z := Fin.ext (by show 128 * 0 + z.val = z.val; omega)
theorem tm1_hi : tm 1 z = hi' z := Fin.ext (by show 128 * 1 + z.val = 128 + z.val; omega)
theorem unseen : ¬sees (tm 0 t) (tm 1 z) := fun h => by
  have h1 : 128 * 1 + z.val ≤ 128 * 0 + t.val := h.1
  omega
theorem look1 (s : Fin 256) : look 1 t s = decide (sees (tm 1 t) (ks 1 s)) := by
  unfold look; exact decide_eq_decide.mpr ⟨fun h => h.2, fun h => ⟨Or.inl rfl, h⟩⟩
theorem look0_lo : look 0 t (lo z) = false := by
  unfold look; exact decide_eq_false fun h => h.1.elim (fun h => absurd h (by decide)) fun h => by have h' : 128 ≤ z.val := h; omega
theorem look0_hi : look 0 t (hi' z) = decide (sees (tm 0 t) (tm 0 z)) := by
  unfold look; rw [ks0_hi]
  exact decide_eq_decide.mpr ⟨fun h => h.2, fun h => ⟨Or.inr (by show 128 ≤ 128 + z.val; omega), h⟩⟩

theorem dz1 (s : Fin 256) : dz X c 1 g r t s = ds X c (tm 1 t) g r (ks 1 s) := by
  unfold dz; rw [look1]
  by_cases h : sees (tm 1 t) (ks 1 s)
  · rw [if_pos (decide_eq_true h)]
  · rw [if_neg (by rw [decide_eq_false h]; decide), ds_unseen _ _ _ _ _ _ h]
theorem d0lo : dz X c 0 g r t (lo z) = 0 := by unfold dz; rw [look0_lo]; exact if_neg (by decide)
theorem d0hi : dz X c 0 g r t (hi' z) = ds X c (tm 0 t) g r (tm 0 z) := by
  unfold dz; rw [look0_hi, ks0_hi]
  by_cases h : sees (tm 0 t) (tm 0 z)
  · rw [if_pos (decide_eq_true h)]
  · rw [if_neg (by rw [decide_eq_false h]; decide), ds_unseen _ _ _ _ _ _ h]
theorem pz1 (s : Fin 256) : pz X c 1 g r t s = pr X c (tm 1 t) g r (ks 1 s) := by
  unfold pz; rw [look1]
  by_cases h : sees (tm 1 t) (ks 1 s)
  · rw [if_pos (decide_eq_true h)]
  · rw [if_neg (by rw [decide_eq_false h]; decide), pr_unseen _ _ _ _ _ _ h]
theorem p0hi : pz X c 0 g r t (hi' z) = pr X c (tm 0 t) g r (tm 0 z) := by
  unfold pz; rw [look0_hi, ks0_hi]
  by_cases h : sees (tm 0 t) (tm 0 z)
  · rw [if_pos (decide_eq_true h)]
  · rw [if_neg (by rw [decide_eq_false h]; decide), pr_unseen _ _ _ _ _ _ h]

/-- The gradient of a query, from the keys its step reads. -/
theorem gq_eq (j : Fin 2) (e : Fin 128) : ∑ s, dz X c j g r t s * X.K c (ks j s) g e = gq X c (tm j t) g r e := by
  have hj : j = 0 ∨ j = 1 := (by decide : ∀ j : Fin 2, j = 0 ∨ j = 1) j
  rcases hj with rfl | rfl
  · unfold gq
    rw [sum_halves, sum_halves, Finset.sum_eq_zero fun z _ => by rw [tm0_lo, d0lo, zero_mul], zero_add,
      Finset.sum_eq_zero (s := Finset.univ) (f := fun z => ds X c (tm 0 t) g r (tm 1 z) * X.K c (tm 1 z) g e) fun z _ => by rw [ds_unseen _ _ _ _ _ _ (unseen t z), zero_mul], add_zero]
    refine Finset.sum_congr rfl fun z _ => ?_
    rw [tm1_hi, d0hi, ks0_hi]
  · unfold gq
    refine Finset.sum_congr rfl fun s _ => ?_
    rw [dz1]; rfl

/-- The gradient of a key of the first block: what the first step carries, and what the second adds. -/
theorem gk_0 (e : Fin 128) : (∑ r, ∑ t, dz X c 0 g r t (hi' z) * X.Q c (tm 0 t) g r e) + ∑ r, ∑ t, dz X c 1 g r t (lo z) * X.Q c (tm 1 t) g r e = gk X c g (tm 0 z) e := by
  unfold gk
  rw [sum_halves, Finset.sum_comm, Finset.sum_comm (s := Finset.univ) (f := fun r t => dz X c 1 g r t (lo z) * X.Q c (tm 1 t) g r e)]
  refine congrArg₂ (· + ·) (Finset.sum_congr rfl fun t _ => Finset.sum_congr rfl fun r _ => ?_) (Finset.sum_congr rfl fun t _ => Finset.sum_congr rfl fun r _ => ?_)
  · rw [d0hi]
  · rw [dz1, ks_lo]
/-- The gradient of a key of the second block. -/
theorem gk_1 (e : Fin 128) : ∑ r, ∑ t, dz X c 1 g r t (hi' z) * X.Q c (tm 1 t) g r e = gk X c g (tm 1 z) e := by
  unfold gk
  rw [sum_halves, Finset.sum_comm, Finset.sum_eq_zero (s := Finset.univ) (f := fun t => ∑ r, ds X c (tm 0 t) g r (tm 1 z) * X.Q c (tm 0 t) g r e) fun t _ =>
    Finset.sum_eq_zero fun r _ => by rw [ds_unseen _ _ _ _ _ _ (unseen t z), zero_mul], zero_add]
  refine Finset.sum_congr rfl fun t _ => Finset.sum_congr rfl fun r _ => ?_
  rw [dz1, ks_hi]
theorem gv_0 (e : Fin 128) : (∑ r, ∑ t, pz X c 0 g r t (hi' z) * (wt X c (tm 0 t) g r * X.D c (tm 0 t) g r e)) + ∑ r, ∑ t, pz X c 1 g r t (lo z) * (wt X c (tm 1 t) g r * X.D c (tm 1 t) g r e) = gv X c g (tm 0 z) e := by
  unfold gv
  rw [sum_halves, Finset.sum_comm, Finset.sum_comm (s := Finset.univ) (f := fun r t => pz X c 1 g r t (lo z) * (wt X c (tm 1 t) g r * X.D c (tm 1 t) g r e))]
  refine congrArg₂ (· + ·) (Finset.sum_congr rfl fun t _ => Finset.sum_congr rfl fun r _ => ?_) (Finset.sum_congr rfl fun t _ => Finset.sum_congr rfl fun r _ => ?_)
  · rw [p0hi]
  · rw [pz1, ks_lo]
theorem gv_1 (e : Fin 128) : ∑ r, ∑ t, pz X c 1 g r t (hi' z) * (wt X c (tm 1 t) g r * X.D c (tm 1 t) g r e) = gv X c g (tm 1 z) e := by
  unfold gv
  rw [sum_halves, Finset.sum_comm, Finset.sum_eq_zero (s := Finset.univ) (f := fun t => ∑ r, pr X c (tm 0 t) g r (tm 1 z) * (wt X c (tm 0 t) g r * X.D c (tm 0 t) g r e)) fun t _ =>
    Finset.sum_eq_zero fun r _ => by rw [pr_unseen _ _ _ _ _ _ (unseen t z), zero_mul], zero_add]
  refine Finset.sum_congr rfl fun t _ => Finset.sum_congr rfl fun r _ => ?_
  rw [pz1, ks_hi]

/-! ## What the steps leave, in the reals -/

theorem coord1 : ∀ t : Fin grid0.N, ((grid0.coords t) 1).val = t.val % 3 := by decide +kernel

variable (m : (ℓ : Loc nD τ sig) → Buf (Elt Ideal) ℓ) (d : Dev nD) (R : ReadsM m d X)

theorem dqB_at (T : Fin 4 → FVec Ideal S512x128 .bf16) (g r : Fin 4) (t e : Fin 128) (k : Fin 2048) (hk : k.val = 512 * g.val + 128 * r.val + e.val) :
    dqB T (ix3 0 t k) = T g (ix2 (row r t) e) := by
  unfold dqB
  refine congrArg₂ (fun (g : Fin 4) i => T g i) (Fin.ext ?_) (congrArg₂ ix2 (Fin.ext ?_) (Fin.ext ?_))
  · show k.val / 512 = g.val; omega
  · show 128 * (k.val % 512 / 128) + t.val = 128 * r.val + t.val; omega
  · show k.val % 128 = e.val; omega
theorem lowB_at (s : Vec Ideal S128x512 .f32) (T : Fin 4 → FVec Ideal S256x128 .f32) (g : Fin 4) (z e : Fin 128) (k : Fin 512) (hk : k.val = 128 * g.val + e.val) :
    lowB s T (ix3 0 z k) = s (ix2 z k) + T g (ix2 (lo z) e) := by
  unfold lowB
  refine congrArg₂ (· + ·) rfl (congrArg₂ (fun (g : Fin 4) i => T g i) (Fin.ext ?_) (congrArg₂ ix2 (Fin.ext ?_) (Fin.ext ?_)))
  · show k.val / 128 = g.val; omega
  · rfl
  · show k.val % 128 = e.val; omega
theorem highB_at (T : Fin 4 → FVec Ideal S256x128 .f32) (g : Fin 4) (z e : Fin 128) (k : Fin 512) (hk : k.val = 128 * g.val + e.val) :
    highB T (ix2 z k) = T g (ix2 (hi' z) e) := by
  unfold highB
  refine congrArg₂ (fun (g : Fin 4) i => T g i) (Fin.ext ?_) (congrArg₂ ix2 (Fin.ext ?_) (Fin.ext ?_))
  · show k.val / 128 = g.val; omega
  · rfl
  · show k.val % 128 = e.val; omega

include R

/-- The query gradients of a step that computes. -/
theorem dq_step (j : Fin 2) (n : Fin cfg0.N) (hn : n.val = 3 * c.val + j.val) (e : Fin 128) (k : Fin 2048) (hk : k.val = 512 * g.val + 128 * r.val + e.val) :
    dqB (tq (maskT (grid0.coords n)) (blk m d n)) (ix3 0 t k) = ((gq X c (tm j t) g r e : ℝ) : EReal) := by
  rw [dqB_at _ g r t e k hk, tq_at X c j _ (holds m d X R c j n hn) _ ((coord1 n).trans (by omega)), gq_eq]
theorem dk_0 (n : Fin cfg0.N) (hn : n.val = 3 * c.val + 1) (e : Fin 128) (k : Fin 512) (hk : k.val = 128 * g.val + e.val) :
    (outs m d n.val n.isLt).dk (ix3 0 z k) = ((gk X c g (tm 0 z) e : ℝ) : EReal) := by
  have hp : n.val - 1 < cfg0.N := Nat.lt_of_le_of_lt (Nat.sub_le _ _) n.isLt
  rw [outs_B m d n (by omega), outs_A m d ⟨n.val - 1, hp⟩ (by show (n.val - 1) % 3 = 0; omega)]
  show lowB (highB (tk (maskT (grid0.coords ⟨n.val - 1, hp⟩)) (blk m d ⟨n.val - 1, hp⟩))) (tk (maskT (grid0.coords n)) (blk m d n)) (ix3 0 z k) = _
  rw [lowB_at _ _ g z e k hk, highB_at _ g z e k hk,
    tk_at X c 0 _ (holds m d X R c 0 ⟨n.val - 1, hp⟩ (by show n.val - 1 = _ + 0; omega)) _ ((coord1 _).trans (by show (n.val - 1) % 3 = 0; omega)),
    tk_at X c 1 _ (holds m d X R c 1 n hn) _ ((coord1 _).trans (by show n.val % 3 = 1; omega)), ← EReal.coe_add, gk_0]
theorem dv_0 (n : Fin cfg0.N) (hn : n.val = 3 * c.val + 1) (e : Fin 128) (k : Fin 512) (hk : k.val = 128 * g.val + e.val) :
    (outs m d n.val n.isLt).dv (ix3 0 z k) = ((gv X c g (tm 0 z) e : ℝ) : EReal) := by
  have hp : n.val - 1 < cfg0.N := Nat.lt_of_le_of_lt (Nat.sub_le _ _) n.isLt
  rw [outs_B m d n (by omega), outs_A m d ⟨n.val - 1, hp⟩ (by show (n.val - 1) % 3 = 0; omega)]
  show lowB (highB (tv (maskT (grid0.coords ⟨n.val - 1, hp⟩)) (blk m d ⟨n.val - 1, hp⟩))) (tv (maskT (grid0.coords n)) (blk m d n)) (ix3 0 z k) = _
  rw [lowB_at _ _ g z e k hk, highB_at _ g z e k hk,
    tv_at X c 0 _ (holds m d X R c 0 ⟨n.val - 1, hp⟩ (by show n.val - 1 = _ + 0; omega)) _ ((coord1 _).trans (by show (n.val - 1) % 3 = 0; omega)),
    tv_at X c 1 _ (holds m d X R c 1 n hn) _ ((coord1 _).trans (by show n.val % 3 = 1; omega)), ← EReal.coe_add, gv_0]
omit R in
theorem pay5_at (s : Vec Ideal S128x512 .f32) (k : Fin 512) : k0_pay5 (F := Ideal) s (ix3 0 z k) = s (ix2 z k) := by
  pointwise [k0_pay5]
omit R in
theorem pay6_at (s : Vec Ideal S128x512 .f32) (k : Fin 512) : k0_pay6 (F := Ideal) s (ix3 0 z k) = s (ix2 z k) := by
  pointwise [k0_pay6]
theorem dk_1 (n : Fin cfg0.N) (hn : n.val = 3 * c.val + 2) (e : Fin 128) (k : Fin 512) (hk : k.val = 128 * g.val + e.val) :
    (outs m d n.val n.isLt).dk (ix3 0 z k) = ((gk X c g (tm 1 z) e : ℝ) : EReal) := by
  have hp : n.val - 1 < cfg0.N := Nat.lt_of_le_of_lt (Nat.sub_le _ _) n.isLt
  rw [outs_C m d n (by omega), outs_B m d ⟨n.val - 1, hp⟩ (by show (n.val - 1) % 3 = 1; omega)]
  show k0_pay5 (highB (tk (maskT (grid0.coords ⟨n.val - 1, hp⟩)) (blk m d ⟨n.val - 1, hp⟩))) (ix3 0 z k) = _
  rw [pay5_at, highB_at _ g z e k hk,
    tk_at X c 1 _ (holds m d X R c 1 ⟨n.val - 1, hp⟩ (by show n.val - 1 = _ + 1; omega)) _ ((coord1 _).trans (by show (n.val - 1) % 3 = 1; omega)), gk_1]
theorem dv_1 (n : Fin cfg0.N) (hn : n.val = 3 * c.val + 2) (e : Fin 128) (k : Fin 512) (hk : k.val = 128 * g.val + e.val) :
    (outs m d n.val n.isLt).dv (ix3 0 z k) = ((gv X c g (tm 1 z) e : ℝ) : EReal) := by
  have hp : n.val - 1 < cfg0.N := Nat.lt_of_le_of_lt (Nat.sub_le _ _) n.isLt
  rw [outs_C m d n (by omega), outs_B m d ⟨n.val - 1, hp⟩ (by show (n.val - 1) % 3 = 1; omega)]
  show k0_pay6 (highB (tv (maskT (grid0.coords ⟨n.val - 1, hp⟩)) (blk m d ⟨n.val - 1, hp⟩))) (ix3 0 z k) = _
  rw [pay6_at, highB_at _ g z e k hk,
    tv_at X c 1 _ (holds m d X R c 1 ⟨n.val - 1, hp⟩ (by show n.val - 1 = _ + 1; omega)) _ ((coord1 _).trans (by show (n.val - 1) % 3 = 1; omega)), gv_1]
theorem dq_0 (n : Fin cfg0.N) (hn : n.val = 3 * c.val) (e : Fin 128) (k : Fin 2048) (hk : k.val = 512 * g.val + 128 * r.val + e.val) :
    (outs m d n.val n.isLt).dq (ix3 0 t k) = ((gq X c (tm 0 t) g r e : ℝ) : EReal) := by
  rw [outs_A m d n (by omega)]
  exact dq_step X c g r t m d R 0 n hn e k hk
theorem dq_1 (n : Fin cfg0.N) (hn : n.val = 3 * c.val + 2) (e : Fin 128) (k : Fin 2048) (hk : k.val = 512 * g.val + 128 * r.val + e.val) :
    (outs m d n.val n.isLt).dq (ix3 0 t k) = ((gq X c (tm 1 t) g r e : ℝ) : EReal) := by
  have hp : n.val - 1 < cfg0.N := Nat.lt_of_le_of_lt (Nat.sub_le _ _) n.isLt
  rw [outs_C m d n (by omega), outs_B m d ⟨n.val - 1, hp⟩ (by show (n.val - 1) % 3 = 1; omega)]
  exact dq_step X c g r t m d R 1 ⟨n.val - 1, hp⟩ (by show n.val - 1 = _ + 1; omega) e k hk

end Cert.Att
-- ==== Proof.KerOut.lean ====
module

public import proofs.«01_k».proof.Proof.StepVal
public import Idealize.ShloMosaic.Lib.Pipeline.ValueKit.Geometry
public import Idealize.ShloMosaic.Lib.Pipeline.ValueKit.Partial

@[expose] public section

set_option maxRecDepth 16384

noncomputable section

namespace Cert.Att

open Idealize.ShloMosaic Idealize.ShloMosaic.TcCoe Idealize.SL.Sem Cert.KernelIdeal Cert.KernelIdeal.Gen
open Pipeline (Dat)
open scoped BigOperators

/-! ## The three arrays after the run -/

/-- The gradients as arrays over 16 sequences of 256 tokens. -/
def GK (X : Data) (i : S16x256x512.Idx) : EReal := ((gk X (i 0) ⟨(i 2).val / 128, by have : (i 2).val < 512 := (i 2).isLt; omega⟩ (i 1) ⟨(i 2).val % 128, by omega⟩ : ℝ) : EReal)
def GV (X : Data) (i : S16x256x512.Idx) : EReal := ((gv X (i 0) ⟨(i 2).val / 128, by have : (i 2).val < 512 := (i 2).isLt; omega⟩ (i 1) ⟨(i 2).val % 128, by omega⟩ : ℝ) : EReal)
/-- The query's gradient, at the columns of the third group of heads. -/
def GQ (X : Data) (i : S16x256x6144.Idx) : EReal := ((gq X (i 0) (i 1) ⟨(i 2).val % 2048 / 512, by omega⟩ ⟨(i 2).val % 512 / 128, by omega⟩ ⟨(i 2).val % 128, by omega⟩ : ℝ) : EReal)

theorem oind_10 : ∀ t : Fin grid0.N, win0_10.index t 0 = t.val / 3 ∧ win0_10.index t 1 = min (t.val % 3) 1 ∧ win0_10.index t 2 = 2 := by decide +kernel
theorem oind_11 : ∀ t : Fin grid0.N, win0_11.index t 0 = t.val / 3 ∧ win0_11.index t 1 = t.val % 3 - 1 ∧ win0_11.index t 2 = 0 := by decide +kernel
theorem oind_12 : ∀ t : Fin grid0.N, win0_12.index t 0 = t.val / 3 ∧ win0_12.index t 1 = t.val % 3 - 1 ∧ win0_12.index t 2 = 0 := by decide +kernel
theorem fl_10 : ∀ t : Fin grid0.N, (cfg0.win 10).flush t = true → t.val % 3 = 0 ∨ t.val % 3 = 2 := by decide +kernel
theorem fl_11 : ∀ t : Fin grid0.N, (cfg0.win 11).flush t = true → t.val % 3 = 1 ∨ t.val % 3 = 2 := by decide +kernel
theorem fl_12 : ∀ t : Fin grid0.N, (cfg0.win 12).flush t = true → t.val % 3 = 1 ∨ t.val % 3 = 2 := by decide +kernel

theorem nlt (t : Fin cfg0.N) : t.val / 3 < 16 := by
  have h : t.val < 48 := lt_of_lt_of_eq t.isLt (by decide)
  omega

variable (X : Data) (m : (ℓ : Loc nD τ sig) → Buf (Elt Ideal) ℓ) (d : Dev nD) (R : ReadsM m d X)

theorem eta_k (y : S1x128x512.Idx) : y = ix3 0 (y 1) (y 2) := by
  funext a
  match a with
  | ⟨0, _⟩ => exact Subsingleton.elim (α := Fin 1) _ _
  | ⟨1, _⟩ => rfl
  | ⟨2, _⟩ => rfl
theorem eta_q (y : S1x128x2048.Idx) : y = ix3 0 (y 1) (y 2) := by
  funext a
  match a with
  | ⟨0, _⟩ => exact Subsingleton.elim (α := Fin 1) _ _
  | ⟨1, _⟩ => rfl
  | ⟨2, _⟩ => rfl

include R

theorem dk_flush (t : Fin cfg0.N) (ht : t.val % 3 = 1 ∨ t.val % 3 = 2) (y : S1x128x512.Idx) (i : S16x256x512.Idx)
    (h0 : (i 0).val = t.val / 3) (h1 : (i 1).val = 128 * (t.val % 3 - 1) + (y 1).val) (h2 : (i 2).val = (y 2).val) :
    (outs m d t.val t.isLt).dk y = GK X i := by
  have b2 : (y 2).val < 512 := (y 2).isLt
  have hk : (y 2).val = 128 * (⟨(y 2).val / 128, by omega⟩ : Fin 4).val + (⟨(y 2).val % 128, by omega⟩ : Fin 128).val := by dsimp only; omega
  have e0 : i 0 = ⟨t.val / 3, nlt t⟩ := Fin.ext h0
  have eg : (⟨(i 2).val / 128, by have : (i 2).val < 512 := (i 2).isLt; omega⟩ : Fin 4) = ⟨(y 2).val / 128, by omega⟩ := Fin.ext (by dsimp only; rw [h2])
  have ee : (⟨(i 2).val % 128, by omega⟩ : Fin 128) = ⟨(y 2).val % 128, by omega⟩ := Fin.ext (by dsimp only; rw [h2])
  unfold GK
  rw [eta_k y, eg, ee, e0]
  rcases ht with ht | ht
  · refine (dk_0 X ⟨t.val / 3, nlt t⟩ ⟨(y 2).val / 128, by omega⟩ (y 1) m d R t (by dsimp only; omega) ⟨(y 2).val % 128, by omega⟩ (y 2) hk).trans ?_
    refine congrArg (fun s => ((gk X _ _ s _ : ℝ) : EReal)) (Fin.ext ?_)
    rw [h1, ht]; rfl
  · refine (dk_1 X ⟨t.val / 3, nlt t⟩ ⟨(y 2).val / 128, by omega⟩ (y 1) m d R t (by dsimp only; omega) ⟨(y 2).val % 128, by omega⟩ (y 2) hk).trans ?_
    refine congrArg (fun s => ((gk X _ _ s _ : ℝ) : EReal)) (Fin.ext ?_)
    rw [h1, ht]; rfl
theorem dv_flush (t : Fin cfg0.N) (ht : t.val % 3 = 1 ∨ t.val % 3 = 2) (y : S1x128x512.Idx) (i : S16x256x512.Idx)
    (h0 : (i 0).val = t.val / 3) (h1 : (i 1).val = 128 * (t.val % 3 - 1) + (y 1).val) (h2 : (i 2).val = (y 2).val) :
    (outs m d t.val t.isLt).dv y = GV X i := by
  have b2 : (y 2).val < 512 := (y 2).isLt
  have hk : (y 2).val = 128 * (⟨(y 2).val / 128, by omega⟩ : Fin 4).val + (⟨(y 2).val % 128, by omega⟩ : Fin 128).val := by dsimp only; omega
  have e0 : i 0 = ⟨t.val / 3, nlt t⟩ := Fin.ext h0
  have eg : (⟨(i 2).val / 128, by have : (i 2).val < 512 := (i 2).isLt; omega⟩ : Fin 4) = ⟨(y 2).val / 128, by omega⟩ := Fin.ext (by dsimp only; rw [h2])
  have ee : (⟨(i 2).val % 128, by omega⟩ : Fin 128) = ⟨(y 2).val % 128, by omega⟩ := Fin.ext (by dsimp only; rw [h2])
  unfold GV
  rw [eta_k y, eg, ee, e0]
  rcases ht with ht | ht
  · refine (dv_0 X ⟨t.val / 3, nlt t⟩ ⟨(y 2).val / 128, by omega⟩ (y 1) m d R t (by dsimp only; omega) ⟨(y 2).val % 128, by omega⟩ (y 2) hk).trans ?_
    refine congrArg (fun s => ((gv X _ _ s _ : ℝ) : EReal)) (Fin.ext ?_)
    rw [h1, ht]; rfl
  · refine (dv_1 X ⟨t.val / 3, nlt t⟩ ⟨(y 2).val / 128, by omega⟩ (y 1) m d R t (by dsimp only; omega) ⟨(y 2).val % 128, by omega⟩ (y 2) hk).trans ?_
    refine congrArg (fun s => ((gv X _ _ s _ : ℝ) : EReal)) (Fin.ext ?_)
    rw [h1, ht]; rfl
theorem dq_flush (t : Fin cfg0.N) (ht : t.val % 3 = 0 ∨ t.val % 3 = 2) (y : S1x128x2048.Idx) (i : S16x256x6144.Idx)
    (h0 : (i 0).val = t.val / 3) (h1 : (i 1).val = 128 * min (t.val % 3) 1 + (y 1).val) (h2 : (i 2).val = 4096 + (y 2).val) :
    (outs m d t.val t.isLt).dq y = GQ X i := by
  have b2 : (y 2).val < 2048 := (y 2).isLt
  have hk : (y 2).val = 512 * (⟨(y 2).val / 512, by omega⟩ : Fin 4).val + 128 * (⟨(y 2).val % 512 / 128, by omega⟩ : Fin 4).val + (⟨(y 2).val % 128, by omega⟩ : Fin 128).val := by dsimp only; omega
  have e0 : i 0 = ⟨t.val / 3, nlt t⟩ := Fin.ext h0
  have eg : (⟨(i 2).val % 2048 / 512, by omega⟩ : Fin 4) = ⟨(y 2).val / 512, by omega⟩ := Fin.ext (by dsimp only; omega)
  have er : (⟨(i 2).val % 512 / 128, by omega⟩ : Fin 4) = ⟨(y 2).val % 512 / 128, by omega⟩ := Fin.ext (by dsimp only; omega)
  have ee : (⟨(i 2).val % 128, by omega⟩ : Fin 128) = ⟨(y 2).val % 128, by omega⟩ := Fin.ext (by dsimp only; omega)
  unfold GQ
  rw [eta_q y, eg, er, ee, e0]
  rcases ht with ht | ht
  · refine (dq_0 X ⟨t.val / 3, nlt t⟩ ⟨(y 2).val / 512, by omega⟩ ⟨(y 2).val % 512 / 128, by omega⟩ (y 1) m d R t (by dsimp only; omega) ⟨(y 2).val % 128, by omega⟩ (y 2) hk).trans ?_
    refine congrArg (fun s => ((gq X _ s _ _ _ : ℝ) : EReal)) (Fin.ext ?_)
    rw [h1, ht]; rfl
  · refine (dq_1 X ⟨t.val / 3, nlt t⟩ ⟨(y 2).val / 512, by omega⟩ ⟨(y 2).val % 512 / 128, by omega⟩ (y 1) m d R t (by dsimp only; omega) ⟨(y 2).val % 128, by omega⟩ (y 2) hk).trans ?_
    refine congrArg (fun s => ((gq X _ s _ _ _ : ℝ) : EReal)) (Fin.ext ?_)
    rw [h1, ht]; rfl

theorem arr_11 : (dats m 0 d).arrAt 11 cfg0.N = GK X := by
  refine (dats m 0 d).arrAt_eq_of_covers 11 _ (by decide +kernel) fun t hf y => ?_
  blk_simp
  rw [after_11]
  have e := oind_11 t
  exact dk_flush X m d R t (fl_11 t hf) y _
    (by show win0_11.index t 0 * 1 + 1 * (y 0).val = _; have : (y 0).val < 1 := (y 0).isLt; rw [e.1]; omega)
    (by show win0_11.index t 1 * 128 + 1 * (y 1).val = _; rw [e.2.1]; omega)
    (by show win0_11.index t 2 * 512 + 1 * (y 2).val = _; rw [e.2.2]; omega)
theorem arr_12 : (dats m 0 d).arrAt 12 cfg0.N = GV X := by
  refine (dats m 0 d).arrAt_eq_of_covers 12 _ (by decide +kernel) fun t hf y => ?_
  blk_simp
  rw [after_12]
  have e := oind_12 t
  exact dv_flush X m d R t (fl_12 t hf) y _
    (by show win0_12.index t 0 * 1 + 1 * (y 0).val = _; have : (y 0).val < 1 := (y 0).isLt; rw [e.1]; omega)
    (by show win0_12.index t 1 * 128 + 1 * (y 1).val = _; rw [e.2.1]; omega)
    (by show win0_12.index t 2 * 512 + 1 * (y 2).val = _; rw [e.2.2]; omega)
theorem arr_10 : (dats m 0 d).arrAt 10 cfg0.N = fun i : S16x256x6144.Idx => if (i 2).val / 2048 = 2 then GQ X i else (dats m 0 d).A 10 i := by
  refine (dats m 0 d).arrAt_eq_of_coversWhere 10 (GQ X) (P := fun i : S16x256x6144.Idx => (i 2).val / 2048 = 2) (fun β => β 2 = 2) (by decide +kernel) (fun t hf y => ?_) (fun j => ?_)
  · blk_simp
    rw [after_10]
    have e := oind_10 t
    exact dq_flush X m d R t (fl_10 t hf) y _
      (by show win0_10.index t 0 * 1 + 1 * (y 0).val = _; have : (y 0).val < 1 := (y 0).isLt; rw [e.1]; omega)
      (by show win0_10.index t 1 * 128 + 1 * (y 1).val = _; rw [e.2.1]; omega)
      (by show win0_10.index t 2 * 2048 + 1 * (y 2).val = _; rw [e.2.2]; omega)
  · exact Iff.rfl

end Cert.Att
-- ==== Proof.RefValB.lean ====
module

public import proofs.«01_k».proof.Proof.Gen.ReferenceIdeal.Read
public import proofs.«01_k».proof.Proof.RefValA
public import Idealize.ShloMosaic.Lib.TwoAxisContraction

@[expose] public section

set_option maxRecDepth 16384

noncomputable section

namespace Cert.Att

open Cert.ReferenceIdeal Cert.ReferenceIdeal.Gen Cert.ReferenceIdeal.Read Idealize.ShloMosaic
open scoped BigOperators

variable (X : Data) (x0 : (⟨S4096x6144, .bf16⟩ : BufTy).Contents (Elt Ideal)) (x1 : (⟨S4096x1024, .bf16⟩ : BufTy).Contents (Elt Ideal)) (x2 : (⟨S4096x2048, .f32⟩ : BufTy).Contents (Elt Ideal)) (x3 x4 : (⟨S4096x2048, .bf16⟩ : BufTy).Contents (Elt Ideal)) (x5 x6 : (⟨S4096x16, .f32⟩ : BufTy).Contents (Elt Ideal))
include x2 x3 x4 x5 x6

theorem v100 (H : Reads X x0 x1 x2 x3 x4 x5 x6) (i : S4096x16x128.Idx) (c : Fin 16) (t : Fin 256) (g : Fin 4) (r : Fin 4) (e : Fin 128) (h0 : (i 0).val = 256 * c.val + t.val) (h1 : (i 1).val = 4 * g.val + r.val) (h2 : (i 2).val = e.val) :
    val_main_v100 (F := Ideal) x2 i = ((X.D c t g r e : ℝ) : EReal) := by
  rw [val_main_v100_apply]
  exact H.d _ c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v101 (H : Reads X x0 x1 x2 x3 x4 x5 x6) (i : S3x4096x16x128.Idx) (c : Fin 16) (t : Fin 256) (g : Fin 4) (r : Fin 4) (e : Fin 128) (j : Fin 3) (h0 : (i 0).val = j.val) (h1 : (i 1).val = 256 * c.val + t.val) (h2 : (i 2).val = 4 * g.val + r.val) (h3 : (i 3).val = e.val) :
    val_main_v101 (F := Ideal) x2 i = ((X.D c t g r e : ℝ) : EReal) := by
  rw [val_main_v101_apply]
  exact v100 X x0 x1 x2 x3 x4 x5 x6 H (idx_main_v101 i) c t g r e (by (first | assumption | rfl)) (by (first | assumption | rfl)) (by (first | assumption | rfl))

theorem v102 (H : Reads X x0 x1 x2 x3 x4 x5 x6) (i : S3x4096x16x128.Idx) (c : Fin 16) (t : Fin 256) (g : Fin 4) (r : Fin 4) (e : Fin 128) (j : Fin 3) (h0 : (i 0).val = j.val) (h1 : (i 1).val = 256 * c.val + t.val) (h2 : (i 2).val = 4 * g.val + r.val) (h3 : (i 3).val = e.val) :
    val_main_v102 (F := Ideal) x0 x1 x5 x6 i = ((ej X c t g r j / dn X c t g r : ℝ) : EReal) := by
  rw [val_main_v102_apply]
  exact v85 X x0 x1 x2 x3 x4 x5 x6 H (idx_main_v102 i) c t g r j (by (first | assumption | rfl)) (by (first | assumption | rfl)) (by (first | assumption | rfl))

theorem v103 (H : Reads X x0 x1 x2 x3 x4 x5 x6) (i : S3x4096x16x128.Idx) (c : Fin 16) (t : Fin 256) (g : Fin 4) (r : Fin 4) (e : Fin 128) (j : Fin 3) (h0 : (i 0).val = j.val) (h1 : (i 1).val = 256 * c.val + t.val) (h2 : (i 2).val = 4 * g.val + r.val) (h3 : (i 3).val = e.val) :
    val_main_v103 (F := Ideal) x0 x1 x2 x5 x6 i = ((ej X c t g r j / dn X c t g r * X.D c t g r e : ℝ) : EReal) := by
  rw [val_main_v103_apply, v102 X x0 x1 x2 x3 x4 x5 x6 H (i) c t g r e j (by (first | assumption | rfl)) (by (first | assumption | rfl)) (by (first | assumption | rfl)) (by (first | assumption | rfl)), v101 X x0 x1 x2 x3 x4 x5 x6 H (i) c t g r e j (by (first | assumption | rfl)) (by (first | assumption | rfl)) (by (first | assumption | rfl)) (by (first | assumption | rfl))]
  exact (EReal.coe_mul _ _).symm

theorem v104 (H : Reads X x0 x1 x2 x3 x4 x5 x6) (i : S3x4096x16x128.Idx) (c : Fin 16) (t : Fin 256) (g : Fin 4) (r : Fin 4) (e : Fin 128) (j : Fin 3) (h0 : (i 0).val = j.val) (h1 : (i 1).val = 256 * c.val + t.val) (h2 : (i 2).val = 4 * g.val + r.val) (h3 : (i 3).val = e.val) :
    val_main_v104 (F := Ideal) x0 x1 x2 x3 x4 i = ((X.D c t g r e * oj X c t g r e j : ℝ) : EReal) := by
  rw [val_main_v104_apply, v101 X x0 x1 x2 x3 x4 x5 x6 H (i) c t g r e j (by (first | assumption | rfl)) (by (first | assumption | rfl)) (by (first | assumption | rfl)) (by (first | assumption | rfl)), v93 X x0 x1 x2 x3 x4 x5 x6 H (i) c t g r e j (by (first | assumption | rfl)) (by (first | assumption | rfl)) (by (first | assumption | rfl)) (by (first | assumption | rfl))]
  exact (EReal.coe_mul _ _).symm

theorem v105 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v105 (F := Ideal) x0 x1 x2 x3 x4 i = ((dj X c t g r j : ℝ) : EReal) := by
  rw [val_main_v105_apply, Finset.sum_congr rfl fun k _ => v104 X x0 x1 x2 x3 x4 x5 x6 H (idx_main_v105 i k) c t g r k j (by (first | assumption | rfl)) (by (first | assumption | rfl)) (by (first | assumption | rfl)) (by (first | assumption | rfl)), coe_sum]
  exact (congrArg (· + _) Ideal.ofBits_zero_f32).trans (zero_add _)

theorem v106 (H : Reads X x0 x1 x2 x3 x4 x5 x6) (i : S3x4096x16x1.Idx) (c : Fin 16) (t : Fin 256) (g : Fin 4) (r : Fin 4) (j : Fin 3) (h0 : (i 0).val = j.val) (h1 : (i 1).val = 256 * c.val + t.val) (h2 : (i 2).val = 4 * g.val + r.val) :
    val_main_v106 (F := Ideal) x0 x1 x2 x3 x4 i = ((dj X c t g r j : ℝ) : EReal) := by
  rw [val_main_v106_apply]
  exact v105 X x0 x1 x2 x3 x4 x5 x6 H (idx_main_v106 i) c t g r j (by (first | assumption | rfl | (have bc := c.isLt; have bt := t.isLt; have bg := g.isLt; have br := r.isLt; have bj := j.isLt; have u := (i 3).isLt; dsimp at u ⊢; omega))) (by (first | assumption | rfl | (have bc := c.isLt; have bt := t.isLt; have bg := g.isLt; have br := r.isLt; have bj := j.isLt; have u := (i 3).isLt; dsimp at u ⊢; omega))) (by (first | assumption | rfl | (have bc := c.isLt; have bt := t.isLt; have bg := g.isLt; have br := r.isLt; have bj := j.isLt; have u := (i 3).isLt; dsimp at u ⊢; omega)))

theorem v111 (H : Reads X x0 x1 x2 x3 x4 x5 x6) (i : S1x4096x16x128.Idx) (c : Fin 16) (t : Fin 256) (g : Fin 4) (r : Fin 4) (e : Fin 128) (h1 : (i 1).val = 256 * c.val + t.val) (h2 : (i 2).val = 4 * g.val + r.val) (h3 : (i 3).val = e.val) :
    val_main_v111 (F := Ideal) x0 x1 x2 x5 x6 i = ((wt X c t g r * X.D c t g r e : ℝ) : EReal) := by
  rw [val_main_v111_apply]
  exact v103 X x0 x1 x2 x3 x4 x5 x6 H (idx_main_v111 i) c t g r e 2 (by (first | assumption | rfl | (have bc := c.isLt; have bt := t.isLt; have bg := g.isLt; have br := r.isLt; have be := e.isLt; have u := (i 0).isLt; dsimp at u ⊢; omega))) (by (first | assumption | rfl | (have bc := c.isLt; have bt := t.isLt; have bg := g.isLt; have br := r.isLt; have be := e.isLt; have u := (i 0).isLt; dsimp at u ⊢; omega))) (by (first | assumption | rfl | (have bc := c.isLt; have bt := t.isLt; have bg := g.isLt; have br := r.isLt; have be := e.isLt; have u := (i 0).isLt; dsimp at u ⊢; omega))) (by (first | assumption | rfl | (have bc := c.isLt; have bt := t.isLt; have bg := g.isLt; have br := r.isLt; have be := e.isLt; have u := (i 0).isLt; dsimp at u ⊢; omega)))

theorem v112 (H : Reads X x0 x1 x2 x3 x4 x5 x6) (i : S4096x16x128.Idx) (c : Fin 16) (t : Fin 256) (g : Fin 4) (r : Fin 4) (e : Fin 128) (h0 : (i 0).val = 256 * c.val + t.val) (h1 : (i 1).val = 4 * g.val + r.val) (h2 : (i 2).val = e.val) :
    val_main_v112 (F := Ideal) x0 x1 x2 x5 x6 i = ((wt X c t g r * X.D c t g r e : ℝ) : EReal) := by
  rw [val_main_v112_apply]
  exact v111 X x0 x1 x2 x3 x4 x5 x6 H (idx_main_v112 i) c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v113 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v113 (F := Ideal) x0 x1 x2 x3 x4 i = ((dj X c t g r j : ℝ) : EReal) := by
  rw [val_main_v113_apply, Fin.sum_univ_one, v106 X x0 x1 x2 x3 x4 x5 x6 H (idx_main_v113 i 0) c t g r j (by (first | assumption | rfl)) (by (first | assumption | rfl)) (by (first | assumption | rfl))]
  exact (congrArg (· + _) Ideal.ofBits_zero_f32).trans (zero_add _)

theorem v114 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v114 (F := Ideal) x0 x1 x5 x6 i = ((1 / (dn X c t g r * dn X c t g r) : ℝ) : EReal) := by
  rw [val_main_v114_apply]
  exact v84 X x0 x1 x2 x3 x4 x5 x6 H (idx_main_v114 i) c t g r (by (first | assumption | rfl)) (by (first | assumption | rfl))

theorem v115 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v115 (F := Ideal) x0 x1 x2 x3 x4 x5 x6 i = ((dj X c t g r j * (1 / (dn X c t g r * dn X c t g r)) : ℝ) : EReal) := by
  rw [val_main_v115_apply, v113 X x0 x1 x2 x3 x4 x5 x6 H (i) c t g r j (by (first | assumption | rfl)) (by (first | assumption | rfl)) (by (first | assumption | rfl)), v114 X x0 x1 x2 x3 x4 x5 x6 H (i) c t g r j (by (first | assumption | rfl)) (by (first | assumption | rfl)) (by (first | assumption | rfl))]
  exact (EReal.coe_mul _ _).symm

theorem v116 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v116 (F := Ideal) x0 x1 x2 x3 x4 x5 x6 i = ((dj X c t g r j * (1 / (dn X c t g r * dn X c t g r)) * ej X c t g r j : ℝ) : EReal) := by
  rw [val_main_v116_apply, v115 X x0 x1 x2 x3 x4 x5 x6 H (i) c t g r j (by (first | assumption | rfl)) (by (first | assumption | rfl)) (by (first | assumption | rfl)), v77 X x0 x1 x2 x3 x4 x5 x6 H (i) c t g r j (by (first | assumption | rfl)) (by (first | assumption | rfl)) (by (first | assumption | rfl))]
  exact (EReal.coe_mul _ _).symm

theorem v117 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v117 (F := Ideal) x0 x1 x2 x3 x4 x5 x6 i = ((∑ j, dj X c t g r j * (1 / (dn X c t g r * dn X c t g r)) * ej X c t g r j : ℝ) : EReal) := by
  rw [val_main_v117_apply, Finset.sum_congr rfl fun k _ => v116 X x0 x1 x2 x3 x4 x5 x6 H (idx_main_v117 i k) c t g r k (by (first | assumption | rfl)) (by (first | assumption | rfl)) (by (first | assumption | rfl)), coe_sum]
  exact (congrArg (· + _) Ideal.ofBits_zero_f32).trans (zero_add _)

theorem v118 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v118 (F := Ideal) x0 x1 x2 x3 x4 x5 x6 i = ((∑ j, dj X c t g r j * (1 / (dn X c t g r * dn X c t g r)) * ej X c t g r j : ℝ) : EReal) := by
  rw [val_main_v118_apply]
  exact v117 X x0 x1 x2 x3 x4 x5 x6 H (idx_main_v118 i) c t g r (by (first | assumption | rfl | (have bc := c.isLt; have bt := t.isLt; have bg := g.isLt; have br := r.isLt; have u := (i 0).isLt; dsimp at u ⊢; omega))) (by (first | assumption | rfl | (have bc := c.isLt; have bt := t.isLt; have bg := g.isLt; have br := r.isLt; have u := (i 0).isLt; dsimp at u ⊢; omega)))

theorem v119 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v119 (F := Ideal) x0 x1 x2 x3 x4 x5 x6 i = ((-∑ j, dj X c t g r j * (1 / (dn X c t g r * dn X c t g r)) * ej X c t g r j : ℝ) : EReal) := by
  rw [val_main_v119_apply, v118 X x0 x1 x2 x3 x4 x5 x6 H (i) c t g r (by (first | assumption | rfl)) (by (first | assumption | rfl))]
  exact (EReal.coe_neg _).symm

theorem v120 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v120 (F := Ideal) x0 x1 x5 x6 i = ((dn X c t g r : ℝ) : EReal) := by
  rw [val_main_v120_apply]
  exact v79 X x0 x1 x2 x3 x4 x5 x6 H (idx_main_v120 i) c t g r (by (first | assumption | rfl)) (by (first | assumption | rfl))

theorem v121 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v121 (F := Ideal) x0 x1 x2 x3 x4 x5 x6 i = ((dj X c t g r j / dn X c t g r : ℝ) : EReal) := by
  rw [val_main_v121_apply, v113 X x0 x1 x2 x3 x4 x5 x6 H (i) c t g r j (by (first | assumption | rfl)) (by (first | assumption | rfl)) (by (first | assumption | rfl)), v120 X x0 x1 x2 x3 x4 x5 x6 H (i) c t g r j (by (first | assumption | rfl)) (by (first | assumption | rfl)) (by (first | assumption | rfl))]
  exact div_real _ _ ((dn_pos X c t g r).ne')

theorem v122 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v122 (F := Ideal) x0 x1 x2 x3 x4 x5 x6 i = ((-∑ j, dj X c t g r j * (1 / (dn X c t g r * dn X c t g r)) * ej X c t g r j : ℝ) : EReal) := by
  rw [val_main_v122_apply, Fin.sum_univ_one, v119 X x0 x1 x2 x3 x4 x5 x6 H (idx_main_v122 i 0) c t g r (by (first | assumption | rfl)) (by (first | assumption | rfl))]
  exact (congrArg (· + _) Ideal.ofBits_zero_f32).trans (zero_add _)

theorem v123 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v123 (F := Ideal) x0 x1 x2 x3 x4 x5 x6 i = ((-∑ j, dj X c t g r j * (1 / (dn X c t g r * dn X c t g r)) * ej X c t g r j : ℝ) : EReal) := by
  rw [val_main_v123_apply]
  exact v122 X x0 x1 x2 x3 x4 x5 x6 H (idx_main_v123 i) c t g r (by (first | assumption | rfl)) (by (first | assumption | rfl))

theorem v124 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v124 (F := Ideal) x0 x1 x2 x3 x4 x5 x6 i = ((dj X c t g r j / dn X c t g r + -∑ j, dj X c t g r j * (1 / (dn X c t g r * dn X c t g r)) * ej X c t g r j : ℝ) : EReal) := by
  rw [val_main_v124_apply, v121 X x0 x1 x2 x3 x4 x5 x6 H (i) c t g r j (by (first | assumption | rfl)) (by (first | assumption | rfl)) (by (first | assumption | rfl)), v123 X x0 x1 x2 x3 x4 x5 x6 H (i) c t g r j (by (first | assumption | rfl)) (by (first | assumption | rfl)) (by (first | assumption | rfl))]
  exact (EReal.coe_add _ _).symm

theorem v125 (H : Reads X x0 x1 x2 x3 x4 x5 x6) (i : S3x4096x16.Idx) (c : Fin 16) (t : Fin 256) (g : Fin 4) (r : Fin 4) (j : Fin 3) (h0 : (i 0).val = j.val) (h1 : (i 1).val = 256 * c.val + t.val) (h2 : (i 2).val = 4 * g.val + r.val) :
    val_main_v125 (F := Ideal) x0 x1 x2 x3 x4 x5 x6 i = (((dj X c t g r j / dn X c t g r + -∑ j, dj X c t g r j * (1 / (dn X c t g r * dn X c t g r)) * ej X c t g r j) * ej X c t g r j : ℝ) : EReal) := by
  rw [val_main_v125_apply, v124 X x0 x1 x2 x3 x4 x5 x6 H (i) c t g r j (by (first | assumption | rfl)) (by (first | assumption | rfl)) (by (first | assumption | rfl)), v77 X x0 x1 x2 x3 x4 x5 x6 H (i) c t g r j (by (first | assumption | rfl)) (by (first | assumption | rfl)) (by (first | assumption | rfl))]
  exact (EReal.coe_mul _ _).symm

theorem v130 (H : Reads X x0 x1 x2 x3 x4 x5 x6) (i : S1x4096x16.Idx) (c : Fin 16) (t : Fin 256) (g : Fin 4) (r : Fin 4) (h1 : (i 1).val = 256 * c.val + t.val) (h2 : (i 2).val = 4 * g.val + r.val) :
    val_main_v130 (F := Ideal) x0 x1 x2 x3 x4 x5 x6 i = ((dl X c t g r : ℝ) : EReal) := by
  rw [val_main_v130_apply, v125 X x0 x1 x2 x3 x4 x5 x6 H (idx_main_v130 i) c t g r 2 (by (first | assumption | rfl | (have bc := c.isLt; have bt := t.isLt; have bg := g.isLt; have br := r.isLt; have u := (i 0).isLt; dsimp at u ⊢; omega))) (by (first | assumption | rfl | (have bc := c.isLt; have bt := t.isLt; have bg := g.isLt; have br := r.isLt; have u := (i 0).isLt; dsimp at u ⊢; omega))) (by (first | assumption | rfl | (have bc := c.isLt; have bt := t.isLt; have bg := g.isLt; have br := r.isLt; have u := (i 0).isLt; dsimp at u ⊢; omega))), dl_sum]

theorem v131 (H : Reads X x0 x1 x2 x3 x4 x5 x6) (i : S4096x16.Idx) (c : Fin 16) (t : Fin 256) (g : Fin 4) (r : Fin 4) (h0 : (i 0).val = 256 * c.val + t.val) (h1 : (i 1).val = 4 * g.val + r.val) :
    val_main_v131 (F := Ideal) x0 x1 x2 x3 x4 x5 x6 i = ((dl X c t g r : ℝ) : EReal) := by
  rw [val_main_v131_apply]
  exact v130 X x0 x1 x2 x3 x4 x5 x6 H (idx_main_v131 i) c t g r (by (first | assumption | rfl | (have bc := c.isLt; have bt := t.isLt; have bg := g.isLt; have br := r.isLt; dsimp only; omega))) (by (first | assumption | rfl | (have bc := c.isLt; have bt := t.isLt; have bg := g.isLt; have br := r.isLt; dsimp only; omega)))

theorem v132 (H : Reads X x0 x1 x2 x3 x4 x5 x6) (i : S16x256x4x4.Idx) (c : Fin 16) (t : Fin 256) (g : Fin 4) (r : Fin 4) (h0 : (i 0).val = c.val) (h1 : (i 1).val = t.val) (h2 : (i 2).val = g.val) (h3 : (i 3).val = r.val) :
    val_main_v132 (F := Ideal) x0 x1 x2 x3 x4 x5 x6 i = ((dl X c t g r : ℝ) : EReal) := by
  rw [val_main_v132_apply]
  exact v131 X x0 x1 x2 x3 x4 x5 x6 H (idx_main_v132 i) c t g r (by (first | assumption | rfl | (have bc := c.isLt; have bt := t.isLt; have bg := g.isLt; have br := r.isLt; dsimp only; omega))) (by (first | assumption | rfl | (have bc := c.isLt; have bt := t.isLt; have bg := g.isLt; have br := r.isLt; dsimp only; omega)))

theorem v133 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v133 (F := Ideal) x0 x1 x2 x3 x4 x5 x6 i = ((dl X c t g r : ℝ) : EReal) := by
  rw [val_main_v133_apply]
  exact v132 X x0 x1 x2 x3 x4 x5 x6 H (idx_main_v133 i) c t g r (by (first | assumption | rfl)) (by (first | assumption | rfl)) (by (first | assumption | rfl)) (by (first | assumption | rfl))

theorem v134 (H : Reads X x0 x1 x2 x3 x4 x5 x6) (i : S16x256x4x4x128.Idx) (c : Fin 16) (t : Fin 256) (g : Fin 4) (r : Fin 4) (e : Fin 128) (h0 : (i 0).val = c.val) (h1 : (i 1).val = t.val) (h2 : (i 2).val = g.val) (h3 : (i 3).val = r.val) (h4 : (i 4).val = e.val) :
    val_main_v134 (F := Ideal) x0 x1 x2 x5 x6 i = ((wt X c t g r * X.D c t g r e : ℝ) : EReal) := by
  rw [val_main_v134_apply]
  exact v112 X x0 x1 x2 x3 x4 x5 x6 H (idx_main_v134 i) c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v135 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v135 (F := Ideal) x0 x1 x2 x3 x4 x5 x6 i = ((dl X c t g r : ℝ) : EReal) := by
  rw [val_main_v135_apply]
  exact v133 X x0 x1 x2 x3 x4 x5 x6 H (idx_main_v135 i) c t g r (by (first | assumption | rfl)) (by (first | assumption | rfl)) (by (first | assumption | rfl)) (by (first | assumption | rfl))

theorem v136 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v136 (F := Ideal) x0 x1 x2 x3 x4 x5 x6 i = ((dl X c t g r / sm X c t g r : ℝ) : EReal) := by
  rw [val_main_v136_apply, v135 X x0 x1 x2 x3 x4 x5 x6 H (i) c t g r (by (first | assumption | rfl)) (by (first | assumption | rfl)) (by (first | assumption | rfl)) (by (first | assumption | rfl)), v37 X x0 x1 x2 x3 x4 x5 x6 H (i) c t g r (by (first | assumption | rfl)) (by (first | assumption | rfl)) (by (first | assumption | rfl)) (by (first | assumption | rfl))]
  exact div_real _ _ ((sm_pos X c t g r).ne')

theorem v137 (H : Reads X x0 x1 x2 x3 x4 x5 x6) (i : S16x4x128x4x256.Idx) (c : Fin 16) (t : Fin 256) (g : Fin 4) (r : Fin 4) (e : Fin 128) (h0 : (i 0).val = c.val) (h1 : (i 1).val = g.val) (h2 : (i 2).val = e.val) (h3 : (i 3).val = r.val) (h4 : (i 4).val = t.val) :
    val_main_v137 (F := Ideal) x0 x1 x2 x5 x6 i = ((wt X c t g r * X.D c t g r e : ℝ) : EReal) := by
  rw [val_main_v137_apply]
  exact v134 X x0 x1 x2 x3 x4 x5 x6 H (idx_main_v137 i) c t g r e (by (first | assumption | rfl)) (by (first | assumption | rfl)) (by (first | assumption | rfl)) (by (first | assumption | rfl)) (by (first | assumption | rfl))

theorem v138 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v138 (F := Ideal) x0 x1 x2 x5 x6 i = ((dp X c t g r s : ℝ) : EReal) := by
  rw [val_main_v138_apply, Finset.sum_congr rfl fun k _ => (congrArg₂ (· * ·) (v137 X x0 x1 x2 x3 x4 x5 x6 H (lidx_main_v138 i k) c t g r k (by (first | assumption | rfl)) (by (first | assumption | rfl)) (by (first | assumption | rfl)) (by (first | assumption | rfl)) (by (first | assumption | rfl))) (v8 X x0 x1 x2 x3 x4 x5 x6 H (ridx_main_v138 i k) c g s k (by (first | assumption | rfl)) (by (first | assumption | rfl)) (by (first | assumption | rfl)) (by (first | assumption | rfl)))).trans (EReal.coe_mul _ _).symm, coe_sum]
  rfl

theorem v139 (H : Reads X x0 x1 x2 x3 x4 x5 x6) (i : S16x4x128x256.Idx) (c : Fin 16) (g : Fin 4) (s : Fin 256) (e : Fin 128) (h0 : (i 0).val = c.val) (h1 : (i 1).val = g.val) (h2 : (i 2).val = e.val) (h3 : (i 3).val = s.val) :
    val_main_v139 (F := Ideal) x0 x1 x2 x5 x6 i = ((gv X c g s e : ℝ) : EReal) := by
  unfold val_main_v139
  have ea := (fun (i : S16x4x128x4x256.Idx) (r : Fin 4) (t : Fin 256) (k0 : (i 0).val = c.val) (k1 : (i 1).val = g.val) (k2 : (i 2).val = e.val) (k3 : (i 3).val = r.val) (k4 : (i 4).val = t.val) => v137 X x0 x1 x2 x3 x4 x5 x6 H i c t g r e k0 k1 k2 k3 k4)
  have eb := (fun (i : S16x4x4x256x256.Idx) (r : Fin 4) (t : Fin 256) (k0 : (i 0).val = c.val) (k1 : (i 1).val = g.val) (k2 : (i 2).val = r.val) (k3 : (i 3).val = t.val) (k4 : (i 4).val = s.val) => v39 X x0 x1 x2 x3 x4 x5 x6 H i c t g r s k0 k1 k2 k3 k4)
  revert ea eb
  generalize val_main_v137 (F := Ideal) x0 x1 x2 x5 x6 = ya
  generalize val_main_v39 (F := Ideal) x0 x1 = yb
  intro ea eb
  simp only [Host.dotGeneral]
  rw [Ideal.dotGeneral_apply, ValueIdx.sum_contr2 dot_S16x4x128x4x256_S16x4x4x256x256_S16x4x128x256_34_23_2_4_01_01 4 256 rfl rfl rfl]
  rw [Finset.sum_congr rfl fun a _ => (Finset.sum_congr rfl fun b _ => (congrArg₂ (· * ·) (ea _ a b (by (first | assumption | rfl)) (by (first | assumption | rfl)) (by (first | assumption | rfl)) (by (first | assumption | rfl)) (by (first | assumption | rfl)) ) (eb _ a b (by (first | assumption | rfl)) (by (first | assumption | rfl)) (by (first | assumption | rfl)) (by (first | assumption | rfl)) (by (first | assumption | rfl)) )).trans (EReal.coe_mul _ _).symm).trans (coe_sum _ _), coe_sum]
  unfold gv
  rw [Finset.sum_comm]
  exact congrArg _ (Finset.sum_congr rfl fun t _ => Finset.sum_congr rfl fun r _ => mul_comm _ _)

theorem v140 (H : Reads X x0 x1 x2 x3 x4 x5 x6) (i : S16x256x4x128.Idx) (c : Fin 16) (g : Fin 4) (s : Fin 256) (e : Fin 128) (h0 : (i 0).val = c.val) (h1 : (i 1).val = s.val) (h2 : (i 2).val = g.val) (h3 : (i 3).val = e.val) :
    val_main_v140 (F := Ideal) x0 x1 x2 x5 x6 i = ((gv X c g s e : ℝ) : EReal) := by
  rw [val_main_v140_apply]
  exact v139 X x0 x1 x2 x3 x4 x5 x6 H (idx_main_v140 i) c g s e (by (first | assumption | rfl)) (by (first | assumption | rfl)) (by (first | assumption | rfl)) (by (first | assumption | rfl))

theorem v141 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v141 (F := Ideal) x0 x1 i = ((1 / (sm X c t g r * sm X c t g r) : ℝ) : EReal) := by
  rw [val_main_v141_apply]
  exact v42 X x0 x1 x2 x3 x4 x5 x6 H (idx_main_v141 i) c t g r (by (first | assumption | rfl)) (by (first | assumption | rfl)) (by (first | assumption | rfl)) (by (first | assumption | rfl))

theorem v142 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v142 (F := Ideal) x0 x1 x2 x5 x6 i = ((dp X c t g r s * (1 / (sm X c t g r * sm X c t g r)) : ℝ) : EReal) := by
  rw [val_main_v142_apply, v138 X x0 x1 x2 x3 x4 x5 x6 H (i) c t g r s (by (first | assumption | rfl)) (by (first | assumption | rfl)) (by (first | assumption | rfl)) (by (first | assumption | rfl)) (by (first | assumption | rfl)), v141 X x0 x1 x2 x3 x4 x5 x6 H (i) c t g r s (by (first | assumption | rfl)) (by (first | assumption | rfl)) (by (first | assumption | rfl)) (by (first | assumption | rfl)) (by (first | assumption | rfl))]
  exact (EReal.coe_mul _ _).symm

theorem v143 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v143 (F := Ideal) x0 x1 x2 x5 x6 i = ((dp X c t g r s * (1 / (sm X c t g r * sm X c t g r)) * ex X c t g r s : ℝ) : EReal) := by
  rw [val_main_v143_apply, v142 X x0 x1 x2 x3 x4 x5 x6 H (i) c t g r s (by (first | assumption | rfl)) (by (first | assumption | rfl)) (by (first | assumption | rfl)) (by (first | assumption | rfl)) (by (first | assumption | rfl)), v35 X x0 x1 x2 x3 x4 x5 x6 H (i) c t g r s (by (first | assumption | rfl)) (by (first | assumption | rfl)) (by (first | assumption | rfl)) (by (first | assumption | rfl)) (by (first | assumption | rfl))]
  exact (EReal.coe_mul _ _).symm

theorem v144 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v144 (F := Ideal) x0 x1 x2 x5 x6 i = ((∑ s, dp X c t g r s * (1 / (sm X c t g r * sm X c t g r)) * ex X c t g r s : ℝ) : EReal) := by
  rw [val_main_v144_apply, Finset.sum_congr rfl fun k _ => v143 X x0 x1 x2 x3 x4 x5 x6 H (idx_main_v144 i k) c t g r k (by (first | assumption | rfl)) (by (first | assumption | rfl)) (by (first | assumption | rfl)) (by (first | assumption | rfl)) (by (first | assumption | rfl)), coe_sum]
  exact (congrArg (· + _) Ideal.ofBits_zero_f32).trans (zero_add _)

theorem v145 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v145 (F := Ideal) x0 x1 x2 x5 x6 i = ((∑ s, dp X c t g r s * (1 / (sm X c t g r * sm X c t g r)) * ex X c t g r s : ℝ) : EReal) := by
  rw [val_main_v145_apply]
  exact v144 X x0 x1 x2 x3 x4 x5 x6 H (idx_main_v145 i) c t g r (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega)))

theorem v146 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v146 (F := Ideal) x0 x1 x2 x5 x6 i = ((-∑ s, dp X c t g r s * (1 / (sm X c t g r * sm X c t g r)) * ex X c t g r s : ℝ) : EReal) := by
  rw [val_main_v146_apply, v145 X x0 x1 x2 x3 x4 x5 x6 H (i) c t g r (by (first | assumption | rfl)) (by (first | assumption | rfl)) (by (first | assumption | rfl)) (by (first | assumption | rfl))]
  exact (EReal.coe_neg _).symm

theorem v147 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v147 (F := Ideal) x0 x1 x2 x3 x4 x5 x6 i = ((dsm X c t g r : ℝ) : EReal) := by
  rw [val_main_v147_apply, v136 X x0 x1 x2 x3 x4 x5 x6 H (i) c t g r (by (first | assumption | rfl)) (by (first | assumption | rfl)) (by (first | assumption | rfl)) (by (first | assumption | rfl)), v146 X x0 x1 x2 x3 x4 x5 x6 H (i) c t g r (by (first | assumption | rfl)) (by (first | assumption | rfl)) (by (first | assumption | rfl)) (by (first | assumption | rfl))]
  exact (EReal.coe_add _ _).symm

theorem v148 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v148 (F := Ideal) x0 x1 i = ((sm X c t g r : ℝ) : EReal) := by
  rw [val_main_v148_apply]
  exact v37 X x0 x1 x2 x3 x4 x5 x6 H (idx_main_v148 i) c t g r (by (first | assumption | rfl)) (by (first | assumption | rfl)) (by (first | assumption | rfl)) (by (first | assumption | rfl))

theorem v149 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v149 (F := Ideal) x0 x1 x2 x5 x6 i = ((dp X c t g r s / sm X c t g r : ℝ) : EReal) := by
  rw [val_main_v149_apply, v138 X x0 x1 x2 x3 x4 x5 x6 H (i) c t g r s (by (first | assumption | rfl)) (by (first | assumption | rfl)) (by (first | assumption | rfl)) (by (first | assumption | rfl)) (by (first | assumption | rfl)), v148 X x0 x1 x2 x3 x4 x5 x6 H (i) c t g r s (by (first | assumption | rfl)) (by (first | assumption | rfl)) (by (first | assumption | rfl)) (by (first | assumption | rfl)) (by (first | assumption | rfl))]
  exact div_real _ _ ((sm_pos X c t g r).ne')

theorem v150 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v150 (F := Ideal) x0 x1 x2 x3 x4 x5 x6 i = ((dsm X c t g r : ℝ) : EReal) := by
  rw [val_main_v150_apply, Fin.sum_univ_one, v147 X x0 x1 x2 x3 x4 x5 x6 H (idx_main_v150 i 0) c t g r (by (first | assumption | rfl)) (by (first | assumption | rfl)) (by (first | assumption | rfl)) (by (first | assumption | rfl))]
  exact (congrArg (· + _) Ideal.ofBits_zero_f32).trans (zero_add _)

theorem v151 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v151 (F := Ideal) x0 x1 x2 x3 x4 x5 x6 i = ((dsm X c t g r : ℝ) : EReal) := by
  rw [val_main_v151_apply]
  exact v150 X x0 x1 x2 x3 x4 x5 x6 H (idx_main_v151 i) c t g r (by (first | assumption | rfl)) (by (first | assumption | rfl)) (by (first | assumption | rfl)) (by (first | assumption | rfl))

theorem v152 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v152 (F := Ideal) x0 x1 x2 x3 x4 x5 x6 i = ((dp X c t g r s / sm X c t g r + dsm X c t g r : ℝ) : EReal) := by
  rw [val_main_v152_apply, v149 X x0 x1 x2 x3 x4 x5 x6 H (i) c t g r s (by (first | assumption | rfl)) (by (first | assumption | rfl)) (by (first | assumption | rfl)) (by (first | assumption | rfl)) (by (first | assumption | rfl)), v151 X x0 x1 x2 x3 x4 x5 x6 H (i) c t g r s (by (first | assumption | rfl)) (by (first | assumption | rfl)) (by (first | assumption | rfl)) (by (first | assumption | rfl)) (by (first | assumption | rfl))]
  exact (EReal.coe_add _ _).symm

theorem v153 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v153 (F := Ideal) x0 x1 x2 x3 x4 x5 x6 i = ((de X c t g r s : ℝ) : EReal) := by
  rw [val_main_v153_apply, v152 X x0 x1 x2 x3 x4 x5 x6 H (i) c t g r s (by (first | assumption | rfl)) (by (first | assumption | rfl)) (by (first | assumption | rfl)) (by (first | assumption | rfl)) (by (first | assumption | rfl)), v35 X x0 x1 x2 x3 x4 x5 x6 H (i) c t g r s (by (first | assumption | rfl)) (by (first | assumption | rfl)) (by (first | assumption | rfl)) (by (first | assumption | rfl)) (by (first | assumption | rfl))]
  exact (EReal.coe_mul _ _).symm

theorem v154 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v154 (F := Ideal) x0 x1 x2 x3 x4 x5 x6 i = ((-de X c t g r s : ℝ) : EReal) := by
  rw [val_main_v154_apply, v153 X x0 x1 x2 x3 x4 x5 x6 H (i) c t g r s (by (first | assumption | rfl)) (by (first | assumption | rfl)) (by (first | assumption | rfl)) (by (first | assumption | rfl)) (by (first | assumption | rfl))]
  exact (EReal.coe_neg _).symm

theorem v155 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v155 (F := Ideal) x0 x1 x2 x3 x4 x5 x6 i = ((∑ s, -de X c t g r s : ℝ) : EReal) := by
  rw [val_main_v155_apply, Finset.sum_congr rfl fun k _ => v154 X x0 x1 x2 x3 x4 x5 x6 H (idx_main_v155 i k) c t g r k (by (first | assumption | rfl)) (by (first | assumption | rfl)) (by (first | assumption | rfl)) (by (first | assumption | rfl)) (by (first | assumption | rfl)), coe_sum]
  exact (congrArg (· + _) Ideal.ofBits_zero_f32).trans (zero_add _)

theorem v156 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v156 (F := Ideal) x0 x1 x2 x3 x4 x5 x6 i = ((∑ s, -de X c t g r s : ℝ) : EReal) := by
  rw [val_main_v156_apply]
  exact v155 X x0 x1 x2 x3 x4 x5 x6 H (idx_main_v156 i) c t g r (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega))) (by (first | assumption | rfl | (have bc := c.isLt; have bt := t.isLt; have bg := g.isLt; have br := r.isLt; have u := (i 4).isLt; dsimp at u ⊢; omega)))

theorem v157 (H : Reads X x0 x1 x2 x3 x4 x5 x6) (i : S16x4x4x256x1.Idx) (c : Fin 16) (t : Fin 256) (g : Fin 4) (r : Fin 4) (h0 : (i 0).val = c.val) (h1 : (i 1).val = g.val) (h2 : (i 2).val = r.val) (h3 : (i 3).val = t.val) :
    val_main_v157 (F := Ideal) x0 x1 x2 x3 x4 x5 x6 i = ((0 : ℝ) : EReal) := by
  rw [val_main_v157_apply, v135 X x0 x1 x2 x3 x4 x5 x6 H (i) c t g r (by (first | assumption | rfl)) (by (first | assumption | rfl)) (by (first | assumption | rfl)) (by (first | assumption | rfl)), v156 X x0 x1 x2 x3 x4 x5 x6 H (i) c t g r (by (first | assumption | rfl)) (by (first | assumption | rfl)) (by (first | assumption | rfl)) (by (first | assumption | rfl))]
  exact (EReal.coe_add _ _).symm.trans (congrArg _ (no_mx X c t g r))

theorem v158 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v158 (F := Ideal) x0 x1 x2 x3 x4 x5 x6 i = ((0 : ℝ) : EReal) := by
  rw [val_main_v158_apply, Fin.sum_univ_one, v157 X x0 x1 x2 x3 x4 x5 x6 H (idx_main_v158 i 0) c t g r (by (first | assumption | rfl)) (by (first | assumption | rfl)) (by (first | assumption | rfl)) (by (first | assumption | rfl))]
  exact (congrArg (· + _) Ideal.ofBits_zero_f32).trans (zero_add _)

theorem v159 (H : Reads X x0 x1 x2 x3 x4 x5 x6) (i : S16x4x4x256.Idx) (c : Fin 16) (t : Fin 256) (g : Fin 4) (r : Fin 4) (h0 : (i 0).val = c.val) (h1 : (i 1).val = g.val) (h2 : (i 2).val = r.val) (h3 : (i 3).val = t.val) :
    val_main_v159 (F := Ideal) x0 x1 x2 x3 x4 x5 x6 i = ((0 : ℝ) : EReal) := by
  rw [val_main_v159_apply, v158 X x0 x1 x2 x3 x4 x5 x6 H (i) c t g r (by (first | assumption | rfl)) (by (first | assumption | rfl)) (by (first | assumption | rfl)) (by (first | assumption | rfl)), v31 X x0 x1 x2 x3 x4 x5 x6 H (i) c t g r (by (first | assumption | rfl)) (by (first | assumption | rfl)) (by (first | assumption | rfl)) (by (first | assumption | rfl))]
  exact (div_real _ _ (cnt_pos X c t g r).ne').trans (congrArg _ (zero_div _))

theorem v160 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v160 (F := Ideal) x0 x1 x2 x3 x4 x5 x6 i = ((0 : ℝ) : EReal) := by
  rw [val_main_v160_apply]
  exact v159 X x0 x1 x2 x3 x4 x5 x6 H (idx_main_v160 i) c t g r (by (first | assumption | rfl)) (by (first | assumption | rfl)) (by (first | assumption | rfl)) (by (first | assumption | rfl))

theorem v161 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v161 (F := Ideal) x0 x1 x2 x3 x4 x5 x6 i = ((0 : ℝ) : EReal) := by
  rw [val_main_v161_apply, v160 X x0 x1 x2 x3 x4 x5 x6 H (i) c t g r s (by (first | assumption | rfl)) (by (first | assumption | rfl)) (by (first | assumption | rfl)) (by (first | assumption | rfl)) (by (first | assumption | rfl)), v30 X x0 x1 x2 x3 x4 x5 x6 H (i) c t g r s (by (first | assumption | rfl)) (by (first | assumption | rfl)) (by (first | assumption | rfl)) (by (first | assumption | rfl)) (by (first | assumption | rfl))]
  exact (EReal.coe_mul _ _).symm.trans (congrArg _ (zero_mul _))

theorem v162 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v162 (F := Ideal) x0 x1 x2 x3 x4 x5 x6 i = ((de X c t g r s : ℝ) : EReal) := by
  rw [val_main_v162_apply, v153 X x0 x1 x2 x3 x4 x5 x6 H (i) c t g r s (by (first | assumption | rfl)) (by (first | assumption | rfl)) (by (first | assumption | rfl)) (by (first | assumption | rfl)) (by (first | assumption | rfl)), v161 X x0 x1 x2 x3 x4 x5 x6 H (i) c t g r s (by (first | assumption | rfl)) (by (first | assumption | rfl)) (by (first | assumption | rfl)) (by (first | assumption | rfl)) (by (first | assumption | rfl))]
  exact (EReal.coe_add _ _).symm.trans (congrArg _ (add_zero _))

theorem v163 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v163 (F := Ideal) x0 x1 x2 x3 x4 x5 x6 i = ((de X c t g r s : ℝ) : EReal) := by
  rw [val_main_v163_apply, v25_1 i t s h3 h4, v162 X x0 x1 x2 x3 x4 x5 x6 H (i) c t g r s (by (first | assumption | rfl)) (by (first | assumption | rfl)) (by (first | assumption | rfl)) (by (first | assumption | rfl)) (by (first | assumption | rfl)), val_main_call1_v0_apply, val_main_call1_cst_apply]
  by_cases h : sees t s
  · rw [if_pos h]; exact if_pos rfl
  · rw [if_neg h]; refine (if_neg (by decide)).trans (Ideal.ofBits_zero_f32.trans ?_)
    rw [de_eq, pr_unseen X c t g r s h, zero_mul]; rfl

theorem v164 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v164 (F := Ideal)  i = ((kap : ℝ) : EReal) := by
  rw [val_main_v164_apply]
  exact kap_eq

theorem v165 (H : Reads X x0 x1 x2 x3 x4 x5 x6) (i : S16x4x4x256x256.Idx) (c : Fin 16) (t : Fin 256) (g : Fin 4) (r : Fin 4) (s : Fin 256) (h0 : (i 0).val = c.val) (h1 : (i 1).val = g.val) (h2 : (i 2).val = r.val) (h3 : (i 3).val = t.val) (h4 : (i 4).val = s.val) :
    val_main_v165 (F := Ideal) x0 x1 x2 x3 x4 x5 x6 i = ((ds X c t g r s : ℝ) : EReal) := by
  rw [val_main_v165_apply, v163 X x0 x1 x2 x3 x4 x5 x6 H (i) c t g r s (by (first | assumption | rfl)) (by (first | assumption | rfl)) (by (first | assumption | rfl)) (by (first | assumption | rfl)) (by (first | assumption | rfl)), v164 X x0 x1 x2 x3 x4 x5 x6 H (i) c t g r s (by (first | assumption | rfl)) (by (first | assumption | rfl)) (by (first | assumption | rfl)) (by (first | assumption | rfl)) (by (first | assumption | rfl))]
  rw [de_eq]; exact (EReal.coe_mul _ _).symm

theorem v166 (H : Reads X x0 x1 x2 x3 x4 x5 x6) (i : S16x4x256x256x4.Idx) (c : Fin 16) (t : Fin 256) (g : Fin 4) (r : Fin 4) (s : Fin 256) (h0 : (i 0).val = c.val) (h1 : (i 1).val = g.val) (h2 : (i 2).val = s.val) (h3 : (i 3).val = t.val) (h4 : (i 4).val = r.val) :
    val_main_v166 (F := Ideal) x0 x1 x2 x3 x4 x5 x6 i = ((ds X c t g r s : ℝ) : EReal) := by
  rw [val_main_v166_apply]
  exact v165 X x0 x1 x2 x3 x4 x5 x6 H (idx_main_v166 i) c t g r s (by (first | assumption | rfl)) (by (first | assumption | rfl)) (by (first | assumption | rfl)) (by (first | assumption | rfl)) (by (first | assumption | rfl))

theorem v167 (H : Reads X x0 x1 x2 x3 x4 x5 x6) (i : S16x4x256x4x128.Idx) (c : Fin 16) (t : Fin 256) (g : Fin 4) (r : Fin 4) (e : Fin 128) (h0 : (i 0).val = c.val) (h1 : (i 1).val = g.val) (h2 : (i 2).val = t.val) (h3 : (i 3).val = r.val) (h4 : (i 4).val = e.val) :
    val_main_v167 (F := Ideal) x0 x1 x2 x3 x4 x5 x6 i = ((gq X c t g r e : ℝ) : EReal) := by
  rw [val_main_v167_apply, Finset.sum_congr rfl fun k _ => (congrArg₂ (· * ·) (v166 X x0 x1 x2 x3 x4 x5 x6 H (lidx_main_v167 i k) c t g r k (by (first | assumption | rfl)) (by (first | assumption | rfl)) (by (first | assumption | rfl)) (by (first | assumption | rfl)) (by (first | assumption | rfl))) (v7 X x0 x1 x2 x3 x4 x5 x6 H (ridx_main_v167 i k) c g k e (by (first | assumption | rfl)) (by (first | assumption | rfl)) (by (first | assumption | rfl)) (by (first | assumption | rfl)))).trans (EReal.coe_mul _ _).symm, coe_sum]
  rfl

theorem v168 (H : Reads X x0 x1 x2 x3 x4 x5 x6) (i : S16x256x4x4x128.Idx) (c : Fin 16) (t : Fin 256) (g : Fin 4) (r : Fin 4) (e : Fin 128) (h0 : (i 0).val = c.val) (h1 : (i 1).val = t.val) (h2 : (i 2).val = g.val) (h3 : (i 3).val = r.val) (h4 : (i 4).val = e.val) :
    val_main_v168 (F := Ideal) x0 x1 x2 x3 x4 x5 x6 i = ((gq X c t g r e : ℝ) : EReal) := by
  rw [val_main_v168_apply]
  exact v167 X x0 x1 x2 x3 x4 x5 x6 H (idx_main_v168 i) c t g r e (by (first | assumption | rfl)) (by (first | assumption | rfl)) (by (first | assumption | rfl)) (by (first | assumption | rfl)) (by (first | assumption | rfl))

theorem v169 (H : Reads X x0 x1 x2 x3 x4 x5 x6) (i : S16x4x256x128.Idx) (c : Fin 16) (g : Fin 4) (s : Fin 256) (e : Fin 128) (h0 : (i 0).val = c.val) (h1 : (i 1).val = g.val) (h2 : (i 2).val = s.val) (h3 : (i 3).val = e.val) :
    val_main_v169 (F := Ideal) x0 x1 x2 x3 x4 x5 x6 i = ((gk X c g s e : ℝ) : EReal) := by
  unfold val_main_v169
  have ea := (fun (i : S16x4x256x256x4.Idx) (t : Fin 256) (r : Fin 4) (k0 : (i 0).val = c.val) (k1 : (i 1).val = g.val) (k2 : (i 2).val = s.val) (k3 : (i 3).val = t.val) (k4 : (i 4).val = r.val) => v166 X x0 x1 x2 x3 x4 x5 x6 H i c t g r s k0 k1 k2 k3 k4)
  have eb := (fun (i : S16x256x4x4x128.Idx) (t : Fin 256) (r : Fin 4) (k0 : (i 0).val = c.val) (k1 : (i 1).val = t.val) (k2 : (i 2).val = g.val) (k3 : (i 3).val = r.val) (k4 : (i 4).val = e.val) => v6 X x0 x1 x2 x3 x4 x5 x6 H i c t g r e k0 k1 k2 k3 k4)
  revert ea eb
  generalize val_main_v166 (F := Ideal) x0 x1 x2 x3 x4 x5 x6 = ya
  generalize val_main_v6 (F := Ideal) x0 = yb
  intro ea eb
  simp only [Host.dotGeneral]
  rw [Ideal.dotGeneral_apply, ValueIdx.sum_contr2 dot_S16x4x256x256x4_S16x256x4x4x128_S16x4x256x128_34_13_2_4_01_02 256 4 rfl rfl rfl]
  rw [Finset.sum_congr rfl fun a _ => (Finset.sum_congr rfl fun b _ => (congrArg₂ (· * ·) (ea _ a b (by (first | assumption | rfl)) (by (first | assumption | rfl)) (by (first | assumption | rfl)) (by (first | assumption | rfl)) (by (first | assumption | rfl)) ) (eb _ a b (by (first | assumption | rfl)) (by (first | assumption | rfl)) (by (first | assumption | rfl)) (by (first | assumption | rfl)) (by (first | assumption | rfl)) )).trans (EReal.coe_mul _ _).symm).trans (coe_sum _ _), coe_sum]
  rfl

theorem v170 (H : Reads X x0 x1 x2 x3 x4 x5 x6) (i : S16x256x4x128.Idx) (c : Fin 16) (g : Fin 4) (s : Fin 256) (e : Fin 128) (h0 : (i 0).val = c.val) (h1 : (i 1).val = s.val) (h2 : (i 2).val = g.val) (h3 : (i 3).val = e.val) :
    val_main_v170 (F := Ideal) x0 x1 x2 x3 x4 x5 x6 i = ((gk X c g s e : ℝ) : EReal) := by
  rw [val_main_v170_apply]
  exact v169 X x0 x1 x2 x3 x4 x5 x6 H (idx_main_v170 i) c g s e (by (first | assumption | rfl)) (by (first | assumption | rfl)) (by (first | assumption | rfl)) (by (first | assumption | rfl))

theorem v171 (H : Reads X x0 x1 x2 x3 x4 x5 x6) (i : S4096x512.Idx) (c : Fin 16) (g : Fin 4) (s : Fin 256) (e : Fin 128) (h0 : (i 0).val = 256 * c.val + s.val) (h1 : (i 1).val = 128 * g.val + e.val) :
    val_main_v171 (F := Ideal) x0 x1 x2 x5 x6 i = ((gv X c g s e : ℝ) : EReal) := by
  rw [val_main_v171_apply]
  exact v140 X x0 x1 x2 x3 x4 x5 x6 H (idx_main_v171 i) c g s e (by (first | assumption | rfl | (have bc := c.isLt; have bg := g.isLt; have bs := s.isLt; have be := e.isLt; dsimp only; omega))) (by (first | assumption | rfl | (have bc := c.isLt; have bg := g.isLt; have bs := s.isLt; have be := e.isLt; dsimp only; omega))) (by (first | assumption | rfl | (have bc := c.isLt; have bg := g.isLt; have bs := s.isLt; have be := e.isLt; dsimp only; omega))) (by (first | assumption | rfl | (have bc := c.isLt; have bg := g.isLt; have bs := s.isLt; have be := e.isLt; dsimp only; omega)))

theorem v172 (H : Reads X x0 x1 x2 x3 x4 x5 x6) (i : S4096x512.Idx) (c : Fin 16) (g : Fin 4) (s : Fin 256) (e : Fin 128) (h0 : (i 0).val = 256 * c.val + s.val) (h1 : (i 1).val = 128 * g.val + e.val) :
    val_main_v172 (F := Ideal) x0 x1 x2 x3 x4 x5 x6 i = ((gk X c g s e : ℝ) : EReal) := by
  rw [val_main_v172_apply]
  exact v170 X x0 x1 x2 x3 x4 x5 x6 H (idx_main_v172 i) c g s e (by (first | assumption | rfl | (have bc := c.isLt; have bg := g.isLt; have bs := s.isLt; have be := e.isLt; dsimp only; omega))) (by (first | assumption | rfl | (have bc := c.isLt; have bg := g.isLt; have bs := s.isLt; have be := e.isLt; dsimp only; omega))) (by (first | assumption | rfl | (have bc := c.isLt; have bg := g.isLt; have bs := s.isLt; have be := e.isLt; dsimp only; omega))) (by (first | assumption | rfl | (have bc := c.isLt; have bg := g.isLt; have bs := s.isLt; have be := e.isLt; dsimp only; omega)))

theorem v173 (H : Reads X x0 x1 x2 x3 x4 x5 x6) (i : S4096x2048.Idx) (c : Fin 16) (t : Fin 256) (g : Fin 4) (r : Fin 4) (e : Fin 128) (h0 : (i 0).val = 256 * c.val + t.val) (h1 : (i 1).val = 512 * g.val + 128 * r.val + e.val) :
    val_main_v173 (F := Ideal) x0 x1 x2 x3 x4 x5 x6 i = ((gq X c t g r e : ℝ) : EReal) := by
  rw [val_main_v173_apply]
  exact v168 X x0 x1 x2 x3 x4 x5 x6 H (idx_main_v173 i) c t g r e (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega))) (by (first | assumption | rfl | (have bc := c.isLt; have bt := t.isLt; have bg := g.isLt; have br := r.isLt; have be := e.isLt; dsimp only; omega)))

theorem v175 (H : Reads X x0 x1 x2 x3 x4 x5 x6) (i : S4096x2048.Idx) (c : Fin 16) (t : Fin 256) (g : Fin 4) (r : Fin 4) (e : Fin 128) (h0 : (i 0).val = 256 * c.val + t.val) (h1 : (i 1).val = 512 * g.val + 128 * r.val + e.val) :
    val_main_v175 (F := Ideal) x0 x1 x2 x3 x4 x5 x6 i = ((gq X c t g r e : ℝ) : EReal) := by
  rw [val_main_v175_apply, v173 X x0 x1 x2 x3 x4 x5 x6 H (i) c t g r e (by (first | assumption | rfl)) (by (first | assumption | rfl))]
  rfl

end Cert.Att
-- ==== Proof.Results.lean ====
module

public import proofs.«01_k».proof.Proof.KerOut
public import proofs.«01_k».proof.Proof.RefValB

@[expose] public section

set_option maxRecDepth 16384

noncomputable section

namespace Cert.Att

open Idealize.ShloMosaic Idealize.ShloMosaic.TcCoe Idealize.SL.Sem Cert.KernelIdeal Cert.KernelIdeal.Gen
open Cert.ReferenceIdeal.Read
open scoped BigOperators

/-! ## The three results, and the reference's -/

theorem back_k (f : Vec Ideal S16x256x512 .f32) (i : S4096x512.Idx) :
    shapeCast S4096x512 f shapeCasts_S16x256x512_S4096x512 i = f (ix3 ⟨(i 0).val / 256, by have : (i 0).val < 4096 := (i 0).isLt; omega⟩ ⟨(i 0).val % 256, by omega⟩ (i 1)) := by
  have h0 : (i 0).val < 4096 := (i 0).isLt
  have h1 : (i 1).val < 512 := (i 1).isLt
  pointwise
theorem back_q (f : Vec Ideal S16x256x6144 .bf16) (i : S4096x6144.Idx) :
    shapeCast S4096x6144 f shapeCasts_S16x256x6144_S4096x6144 i = f (ix3 ⟨(i 0).val / 256, by have : (i 0).val < 4096 := (i 0).isLt; omega⟩ ⟨(i 0).val % 256, by omega⟩ (i 1)) := by
  have h0 : (i 0).val < 4096 := (i 0).isLt
  have h1 : (i 1).val < 6144 := (i 1).isLt
  pointwise

variable (X : Data) (m : (ℓ : Loc nD τ sig) → Buf (Elt Ideal) ℓ) (d : Dev nD) (R : ReadsM m d X)

/-- What the lines after the call leave in the three results. -/
theorem tail_90 : Pipeline.afterTail₀ cfgs (dats m) 0 (V0 m) [hostOps1] d main_v90 = shapeCast S4096x6144 ((dats m 0 d).arrAt 10 cfg0.N) shapeCasts_S16x256x6144_S4096x6144 := by
  unfold Pipeline.afterTail₀
  simp only [hostOps1, List.flatten_cons, List.flatten_nil, List.append_nil, List.cons_append, List.nil_append]
  after_results_simp
  exact congrArg (fun f => shapeCast S4096x6144 f shapeCasts_S16x256x6144_S4096x6144) (Pipeline.Dat.withArrays_arrAt (dats m 0 d) sharedIn0 (V0 m d) (A_eq m d) 10)
theorem tail_91 : Pipeline.afterTail₀ cfgs (dats m) 0 (V0 m) [hostOps1] d main_v91 = shapeCast S4096x512 ((dats m 0 d).arrAt 11 cfg0.N) shapeCasts_S16x256x512_S4096x512 := by
  unfold Pipeline.afterTail₀
  simp only [hostOps1, List.flatten_cons, List.flatten_nil, List.append_nil, List.cons_append, List.nil_append]
  after_results_simp
  exact congrArg (fun f => shapeCast S4096x512 f shapeCasts_S16x256x512_S4096x512) (Pipeline.Dat.withArrays_arrAt (dats m 0 d) sharedIn0 (V0 m d) (A_eq m d) 11)
theorem tail_92 : Pipeline.afterTail₀ cfgs (dats m) 0 (V0 m) [hostOps1] d main_v92 = shapeCast S4096x512 ((dats m 0 d).arrAt 12 cfg0.N) shapeCasts_S16x256x512_S4096x512 := by
  unfold Pipeline.afterTail₀
  simp only [hostOps1, List.flatten_cons, List.flatten_nil, List.append_nil, List.cons_append, List.nil_append]
  after_results_simp
  exact congrArg (fun f => shapeCast S4096x512 f shapeCasts_S16x256x512_S4096x512) (Pipeline.Dat.withArrays_arrAt (dats m 0 d) sharedIn0 (V0 m d) (A_eq m d) 12)

section
variable {x0 : (⟨S4096x6144, .bf16⟩ : BufTy).Contents (Elt Ideal)} {x1 : (⟨S4096x1024, .bf16⟩ : BufTy).Contents (Elt Ideal)} {x2 : (⟨S4096x2048, .f32⟩ : BufTy).Contents (Elt Ideal)} {x3 x4 : (⟨S4096x2048, .bf16⟩ : BufTy).Contents (Elt Ideal)} {x5 x6 : (⟨S4096x16, .f32⟩ : BufTy).Contents (Elt Ideal)}
  (H : Reads X x0 x1 x2 x3 x4 x5 x6)
include H

theorem res_k : shapeCast S4096x512 (GK X : Vec Ideal S16x256x512 .f32) shapeCasts_S16x256x512_S4096x512 = val_main_v172 (F := Ideal) x0 x1 x2 x3 x4 x5 x6 := by
  funext i
  have h0 : (i 0).val < 4096 := (i 0).isLt
  have h1 : (i 1).val < 512 := (i 1).isLt
  rw [back_k]
  exact (v172 X x0 x1 x2 x3 x4 x5 x6 H i ⟨(i 0).val / 256, by omega⟩ ⟨(i 1).val / 128, by omega⟩ ⟨(i 0).val % 256, by omega⟩ ⟨(i 1).val % 128, by omega⟩
    (by dsimp only; omega) (by dsimp only; omega)).symm
theorem res_v : shapeCast S4096x512 (GV X : Vec Ideal S16x256x512 .f32) shapeCasts_S16x256x512_S4096x512 = val_main_v171 (F := Ideal) x0 x1 x2 x5 x6 := by
  funext i
  have h0 : (i 0).val < 4096 := (i 0).isLt
  have h1 : (i 1).val < 512 := (i 1).isLt
  rw [back_k]
  exact (v171 X x0 x1 x2 x3 x4 x5 x6 H i ⟨(i 0).val / 256, by omega⟩ ⟨(i 1).val / 128, by omega⟩ ⟨(i 0).val % 256, by omega⟩ ⟨(i 1).val % 128, by omega⟩
    (by dsimp only; omega) (by dsimp only; omega)).symm
theorem res_q (x7 : (⟨S4096x6144, .bf16⟩ : BufTy).Contents (Elt Ideal)) (f : Vec Ideal S16x256x6144 .bf16)
    (hf : ∀ i : S16x256x6144.Idx, f i = if (i 2).val / 2048 = 2 then GQ X i else shapeCast S16x256x6144 x7 shapeCasts_S4096x6144_S16x256x6144 i) :
    shapeCast S4096x6144 f shapeCasts_S16x256x6144_S4096x6144 = val_main_v176 (F := Ideal) x0 x1 x2 x3 x4 x5 x6 x7 := by
  funext i
  obtain ⟨n, k, rfl⟩ : ∃ (n : Fin 4096) (k : Fin 6144), i = ix2 n k := ⟨i 0, i 1, by funext a; match a with | ⟨0, _⟩ => rfl | ⟨1, _⟩ => rfl⟩
  rw [back_q, hf]
  have b0 : n.val < 4096 := n.isLt
  have b1 : k.val < 6144 := k.isLt
  unfold val_main_v176
  by_cases hk : k.val / 2048 = 2
  · refine (if_pos hk).trans ?_
    rw [concatenate_pair_apply_right (s₁ := Cert.ReferenceIdeal.S4096x4096) (s₂ := Cert.ReferenceIdeal.S4096x2048) 1 _ _ _ (ix2 n k) rfl rfl (ix2 n (⟨k.val - 4096, by omega⟩ : Fin 2048))
      (fun a => by match a with | ⟨0, _⟩ => exact fun _ => rfl | ⟨1, _⟩ => exact fun h => absurd rfl h) (by show (k.val - 4096) + 4096 = k.val; omega)]
    rw [v175 X x0 x1 x2 x3 x4 x5 x6 H _ ⟨n.val / 256, by omega⟩ ⟨n.val % 256, by omega⟩ ⟨k.val % 2048 / 512, by omega⟩ ⟨k.val % 512 / 128, by omega⟩ ⟨k.val % 128, by omega⟩
      (by show n.val = 256 * (n.val / 256) + n.val % 256; omega) (by show k.val - 4096 = 512 * (k.val % 2048 / 512) + 128 * (k.val % 512 / 128) + k.val % 128; omega)]
    rfl
  · refine (if_neg hk).trans ?_
    rw [concatenate_pair_apply_left (s₁ := Cert.ReferenceIdeal.S4096x4096) (s₂ := Cert.ReferenceIdeal.S4096x2048) 1 _ _ _ (ix2 n k) rfl (ix2 n (⟨k.val, by omega⟩ : Fin 4096))
      (fun a => by match a with | ⟨0, _⟩ => rfl | ⟨1, _⟩ => rfl), val_main_v174_apply]
    refine (cast3q x7 ⟨n.val / 256, by omega⟩ ⟨n.val % 256, by omega⟩ k).trans (congrArg x7 (funext fun a => Fin.ext ?_))
    match a with
    | ⟨0, _⟩ => show 256 * (n.val / 256) + n.val % 256 = n.val; omega
    | ⟨1, _⟩ => rfl
end

end Cert.Att
-- ==== Proof.lean ====
module

public import proofs.«01_k».proof.Proof.FfnAlg
public import proofs.«01_k».proof.Proof.QkvAlg
public import proofs.«01_k».proof.Proof.GluOutAlg
public import proofs.«01_k».proof.Proof.AdamwTwoAlg
public import proofs.«01_k».proof.Proof.AdamwOneAlg
public import proofs.«01_k».proof.Defs
public import proofs.«01_k».proof.Proof.FloatSteps
public import proofs.«01_k».proof.Proof.Results
public import proofs.«01_k».proof.Proof.PreVal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The three results of the kernel, in the extended reals, are the reference's. -/
theorem run_ideal (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_finite := Cert.Att.preFacts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v90) = Cert.ReferenceIdeal.Read.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v91) = Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v92) = Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) := by
  refine (θ_run Cert.KernelIdeal.defs _ _).mono (fun r h c => ?_) (Cert.Att.runs m g)
  have R := Cert.Att.reads_of _ _ _ _ _ _ _ _ (hP := Cert.Att.preFacts) (hpre c)
  refine ⟨?_, ?_, ?_⟩
  · refine ((h.1 c).2 Cert.KernelIdeal.main_v90 (Pipeline.mem_restRefs_of Cert.KernelIdeal.main_v90 (by decide) (by decide))).trans ((Cert.Att.tail_90 m c).trans (Cert.Att.res_q _ R _ _ fun i => ?_))
    rw [Cert.Att.arr_10 _ m c R]
    show (if (i 2).val / 2048 = 2 then _ else _) = _
    rw [Cert.Att.A_eq]
    exact congrArg (fun f : Vec Ideal Cert.KernelIdeal.S16x256x6144 .bf16 => if (i 2).val / 2048 = 2 then _ else f i) (Cert.Att.V89 m c)
  · exact ((h.1 c).2 Cert.KernelIdeal.main_v91 (Pipeline.mem_restRefs_of Cert.KernelIdeal.main_v91 (by decide) (by decide))).trans ((Cert.Att.tail_91 m c).trans ((congrArg (fun f => shapeCast _ f _) (Cert.Att.arr_11 _ m c R)).trans (Cert.Att.res_k _ R)))
  · exact ((h.1 c).2 Cert.KernelIdeal.main_v92 (Pipeline.mem_restRefs_of Cert.KernelIdeal.main_v92 (by decide) (by decide))).trans ((Cert.Att.tail_92 m c).trans ((congrArg (fun f => shapeCast _ f _) (Cert.Att.arr_12 _ m c R)).trans (Cert.Att.res_v _ R)))

theorem same_176 {x0 y0 : Vec Ideal Cert.ReferenceIdeal.S4096x6144 .bf16} {x1 y1 : Vec Ideal Cert.ReferenceIdeal.S4096x1024 .bf16} {x2 y2 : Vec Ideal Cert.ReferenceIdeal.S4096x2048 .f32} {x3 y3 : Vec Ideal Cert.ReferenceIdeal.S4096x2048 .bf16} {x4 y4 : Vec Ideal Cert.ReferenceIdeal.S4096x2048 .bf16} {x5 y5 : Vec Ideal Cert.ReferenceIdeal.S4096x16 .f32} {x6 y6 : Vec Ideal Cert.ReferenceIdeal.S4096x16 .f32} {x7 y7 : Vec Ideal Cert.ReferenceIdeal.S4096x6144 .bf16}
    (e0 : y0 = x0) (e1 : y1 = x1) (e2 : y2 = x2) (e3 : y3 = x3) (e4 : y4 = x4) (e5 : y5 = x5) (e6 : y6 = x6) (e7 : y7 = x7) :
    Cert.ReferenceIdeal.Read.val_main_v176 (F := Ideal) y0 y1 y2 y3 y4 y5 y6 y7 = Cert.ReferenceIdeal.Read.val_main_v176 (F := Ideal) x0 x1 x2 x3 x4 x5 x6 x7 := by
  subst e0 e1 e2 e3 e4 e5 e6 e7; rfl
theorem same_172 {x0 y0 : Vec Ideal Cert.ReferenceIdeal.S4096x6144 .bf16} {x1 y1 : Vec Ideal Cert.ReferenceIdeal.S4096x1024 .bf16} {x2 y2 : Vec Ideal Cert.ReferenceIdeal.S4096x2048 .f32} {x3 y3 : Vec Ideal Cert.ReferenceIdeal.S4096x2048 .bf16} {x4 y4 : Vec Ideal Cert.ReferenceIdeal.S4096x2048 .bf16} {x5 y5 : Vec Ideal Cert.ReferenceIdeal.S4096x16 .f32} {x6 y6 : Vec Ideal Cert.ReferenceIdeal.S4096x16 .f32}
    (e0 : y0 = x0) (e1 : y1 = x1) (e2 : y2 = x2) (e3 : y3 = x3) (e4 : y4 = x4) (e5 : y5 = x5) (e6 : y6 = x6) :
    Cert.ReferenceIdeal.Read.val_main_v172 (F := Ideal) y0 y1 y2 y3 y4 y5 y6 = Cert.ReferenceIdeal.Read.val_main_v172 (F := Ideal) x0 x1 x2 x3 x4 x5 x6 := by
  subst e0 e1 e2 e3 e4 e5 e6; rfl
theorem same_171 {x0 y0 : Vec Ideal Cert.ReferenceIdeal.S4096x6144 .bf16} {x1 y1 : Vec Ideal Cert.ReferenceIdeal.S4096x1024 .bf16} {x2 y2 : Vec Ideal Cert.ReferenceIdeal.S4096x2048 .f32} {x5 y5 : Vec Ideal Cert.ReferenceIdeal.S4096x16 .f32} {x6 y6 : Vec Ideal Cert.ReferenceIdeal.S4096x16 .f32}
    (e0 : y0 = x0) (e1 : y1 = x1) (e2 : y2 = x2) (e5 : y5 = x5) (e6 : y6 = x6) :
    Cert.ReferenceIdeal.Read.val_main_v171 (F := Ideal) y0 y1 y2 y5 y6 = Cert.ReferenceIdeal.Read.val_main_v171 (F := Ideal) x0 x1 x2 x5 x6 := by
  subst e0 e1 e2 e5 e6; rfl

theorem algebraic : Cert.algebraic_KernelIdeal_ReferenceIdeal (hKernelIdeal := Cert.KernelIdeal.Gen.facts) (hReferenceIdeal := Cert.ReferenceIdeal.Gen.facts) (hPre_finite := Cert.Att.preFacts) := by
  intro m g m' g' hpre hagree
  refine ⟨fun c => Cert.ReferenceIdeal.Read.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h.1 c).1, (h.1 c).2.1, (h.1 c).2.2, h.2.1 c⟩)
      (θ_run_and (run_ideal m g hpre) (Cert.Att.unchanged m g))
  · refine (θ_run Cert.ReferenceIdeal.defs _ _).mono (fun r h c => ?_) (Cert.ReferenceIdeal.Value.run (F := Ideal) m' g')
    obtain ⟨e0, e1, e2, e3, e4, e5, e6, e7⟩ := hagree c
    refine ⟨(h c).1.trans ((Cert.ReferenceIdeal.Read.val_main_v176_eq (launchContents m' c)).trans ?_),
      (h c).2.1.trans ((Cert.ReferenceIdeal.Read.val_main_v172_eq (launchContents m' c)).trans ?_),
      (h c).2.2.1.trans ((Cert.ReferenceIdeal.Read.val_main_v171_eq (launchContents m' c)).trans ?_), (h c).2.2.2⟩
    · exact same_176 e0 e1 e2 e3 e4 e5 e6 e7
    · exact same_172 e0 e1 e2 e3 e4 e5 e6
    · exact same_171 e0 e1 e2 e5 e6

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Qkv.Gen.facts, Cert.QkvIdeal.Gen.facts, Cert.QkvReferenceIdeal.Gen.facts, Cert.GluOut.Gen.facts,
  Cert.GluOutIdeal.Gen.facts, Cert.GluOutReferenceIdeal.Gen.facts, Cert.AdamwOne.Gen.facts, Cert.AdamwOneIdeal.Gen.facts,
  Cert.AdamwOneReferenceIdeal.Gen.facts, Cert.AdamwTwo.Gen.facts, Cert.AdamwTwoIdeal.Gen.facts, Cert.AdamwTwoReferenceIdeal.Gen.facts, Cert.Att.preFacts, Cert.Pre_ffn_finite.Gen.facts,
  fun m g _ => Cert.AttK.unchanged (F := Bits) m g,
  fun m g _ => Cert.Att.unchanged (F := Ideal) m g,
  fun m g _ => Cert.Att.unchanged (F := Ideal) m g,
  fun m g _ => (θ_run Cert.ReferenceIdeal.defs _ _).mono (fun r h => ⟨fun c => (h c).2.2.2, Idealize.ShloMosaic.sem_eq_zero_of_no_sems (by decide) r.2⟩)
    (Cert.ReferenceIdeal.Value.run (F := Ideal) m g),
  fun m g _ => Cert.Ffn.Gen.frame (F := Bits) m g,
  fun m g _ => Cert.FfnIdeal.Gen.frame (F := Ideal) m g,
  fun m g _ => Cert.FfnIdeal.Gen.frame (F := Ideal) m g,
  fun m g _ => (θ_run Cert.FfnReferenceIdeal.defs _ _).mono (fun r h => ⟨fun c => (h c).2.2.2.2, Idealize.ShloMosaic.sem_eq_zero_of_no_sems (by decide) r.2⟩)
    (Cert.FfnReferenceIdeal.Value.run (F := Ideal) m g),
  fun m g _ => Cert.Qkv.Gen.frame (F := Bits) m g,
  fun m g _ => Cert.QkvIdeal.Gen.frame (F := Ideal) m g,
  fun m g _ => (θ_run Cert.QkvReferenceIdeal.defs _ _).mono (fun r h => ⟨fun c => (h c).2.2.2.2.2.2, Idealize.ShloMosaic.sem_eq_zero_of_no_sems (by decide) r.2⟩)
    (Cert.QkvReferenceIdeal.Value.run (F := Ideal) m g),
  fun m g _ => Cert.GluOut.Gen.frame (F := Bits) m g,
  fun m g _ => Cert.GluOutIdeal.Gen.frame (F := Ideal) m g,
  fun m g _ => (θ_run Cert.GluOutReferenceIdeal.defs _ _).mono (fun r h => ⟨fun c => (h c).2.2.2.2.2, Idealize.ShloMosaic.sem_eq_zero_of_no_sems (by decide) r.2⟩)
    (Cert.GluOutReferenceIdeal.Value.run (F := Ideal) m g),
  fun m g _ => Cert.AdamwOne.Gen.frame (F := Bits) m g,
  fun m g _ => Cert.AdamwOneIdeal.Gen.frame (F := Ideal) m g,
  fun m g _ => (θ_run Cert.AdamwOneReferenceIdeal.defs _ _).mono (fun r h => ⟨fun c => (h c).2.2.2.2.2.2.2.2.2.2.2.2.2.2.2.2, Idealize.ShloMosaic.sem_eq_zero_of_no_sems (by decide) r.2⟩)
    (Cert.AdamwOneReferenceIdeal.Value.run (F := Ideal) m g),
  fun m g _ => Cert.AdamwTwo.Gen.frame (F := Bits) m g,
  fun m g _ => Cert.AdamwTwoIdeal.Gen.frame (F := Ideal) m g,
  fun m g _ => (θ_run Cert.AdamwTwoReferenceIdeal.defs _ _).mono (fun r h => ⟨fun c => (h c).2.2.2.2.2.2.2.2, Idealize.ShloMosaic.sem_eq_zero_of_no_sems (by decide) r.2⟩)
    (Cert.AdamwTwoReferenceIdeal.Value.run (F := Ideal) m g),
  IdealRules.named_const.statement Cert.KernelIdeal.κ "mask" .f32 0xF149F2CA#32 ⊥ rfl,
  algebraic,
  trivial,
  Cert.Ff.algebraic,
  trivial,
  Cert.Qk.algebraic,
  trivial,
  Cert.Go.algebraic,
  trivial,
  Cert.Aw1.algebraic,
  trivial,
  Cert.Aw2.algebraic⟩

end Cert.Proof

end
